-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8)
      ∧ r.2.mem ((c.tc : Thread Cert.Kernel24.nD Cert.Kernel24.τ).loc Cert.Kernel24.main_arg9) = m ((c.tc : Thread Cert.Kernel24.nD Cert.Kernel24.τ).loc Cert.Kernel24.main_arg9)
      ∧ r.2.mem ((c.tc : Thread Cert.Kernel24.nD Cert.Kernel24.τ).loc Cert.Kernel24.main_arg10) = m ((c.tc : Thread Cert.Kernel24.nD Cert.Kernel24.τ).loc Cert.Kernel24.main_arg10)
      ∧ r.2.mem ((c.tc : Thread Cert.Kernel24.nD Cert.Kernel24.τ).loc Cert.Kernel24.main_arg11) = m ((c.tc : Thread Cert.Kernel24.nD Cert.Kernel24.τ).loc Cert.Kernel24.main_arg11)
      ∧ r.2.mem ((c.tc : Thread Cert.Kernel24.nD Cert.Kernel24.τ).loc Cert.Kernel24.main_arg12) = m ((c.tc : Thread Cert.Kernel24.nD Cert.Kernel24.τ).loc Cert.Kernel24.main_arg12)
      ∧ r.2.mem ((c.tc : Thread Cert.Kernel24.nD Cert.Kernel24.τ).loc Cert.Kernel24.main_arg13) = m ((c.tc : Thread Cert.Kernel24.nD Cert.Kernel24.τ).loc Cert.Kernel24.main_arg13)
      ∧ r.2.mem ((c.tc : Thread Cert.Kernel24.nD Cert.Kernel24.τ).loc Cert.Kernel24.main_arg14) = m ((c.tc : Thread Cert.Kernel24.nD Cert.Kernel24.τ).loc Cert.Kernel24.main_arg14)
      ∧ r.2.mem ((c.tc : Thread Cert.Kernel24.nD Cert.Kernel24.τ).loc Cert.Kernel24.main_arg15) = m ((c.tc : Thread Cert.Kernel24.nD Cert.Kernel24.τ).loc Cert.Kernel24.main_arg15)
      ∧ r.2.mem ((c.tc : Thread Cert.Kernel24.nD Cert.Kernel24.τ).loc Cert.Kernel24.main_arg16) = m ((c.tc : Thread Cert.Kernel24.nD Cert.Kernel24.τ).loc Cert.Kernel24.main_arg16)
      ∧ r.2.mem ((c.tc : Thread Cert.Kernel24.nD Cert.Kernel24.τ).loc Cert.Kernel24.main_arg17) = m ((c.tc : Thread Cert.Kernel24.nD Cert.Kernel24.τ).loc Cert.Kernel24.main_arg17)
      ∧ r.2.mem ((c.tc : Thread Cert.Kernel24.nD Cert.Kernel24.τ).loc Cert.Kernel24.main_arg18) = m ((c.tc : Thread Cert.Kernel24.nD Cert.Kernel24.τ).loc Cert.Kernel24.main_arg18)
      ∧ r.2.mem ((c.tc : Thread Cert.Kernel24.nD Cert.Kernel24.τ).loc Cert.Kernel24.main_arg19) = m ((c.tc : Thread Cert.Kernel24.nD Cert.Kernel24.τ).loc Cert.Kernel24.main_arg19))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
      ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9)
      ∧ r.2.mem ((c.tc : Thread Cert.Kernel24Ideal.nD Cert.Kernel24Ideal.τ).loc Cert.Kernel24Ideal.main_arg10) = m ((c.tc : Thread Cert.Kernel24Ideal.nD Cert.Kernel24Ideal.τ).loc Cert.Kernel24Ideal.main_arg10)
      ∧ r.2.mem ((c.tc : Thread Cert.Kernel24Ideal.nD Cert.Kernel24Ideal.τ).loc Cert.Kernel24Ideal.main_arg11) = m ((c.tc : Thread Cert.Kernel24Ideal.nD Cert.Kernel24Ideal.τ).loc Cert.Kernel24Ideal.main_arg11)
      ∧ r.2.mem ((c.tc : Thread Cert.Kernel24Ideal.nD Cert.Kernel24Ideal.τ).loc Cert.Kernel24Ideal.main_arg12) = m ((c.tc : Thread Cert.Kernel24Ideal.nD Cert.Kernel24Ideal.τ).loc Cert.Kernel24Ideal.main_arg12)
      ∧ r.2.mem ((c.tc : Thread Cert.Kernel24Ideal.nD Cert.Kernel24Ideal.τ).loc Cert.Kernel24Ideal.main_arg13) = m ((c.tc : Thread Cert.Kernel24Ideal.nD Cert.Kernel24Ideal.τ).loc Cert.Kernel24Ideal.main_arg13)
      ∧ r.2.mem ((c.tc : Thread Cert.Kernel24Ideal.nD Cert.Kernel24Ideal.τ).loc Cert.Kernel24Ideal.main_arg14) = m ((c.tc : Thread Cert.Kernel24Ideal.nD Cert.Kernel24Ideal.τ).loc Cert.Kernel24Ideal.main_arg14)
      ∧ r.2.mem ((c.tc : Thread Cert.Kernel24Ideal.nD Cert.Kernel24Ideal.τ).loc Cert.Kernel24Ideal.main_arg15) = m ((c.tc : Thread Cert.Kernel24Ideal.nD Cert.Kernel24Ideal.τ).loc Cert.Kernel24Ideal.main_arg15)
      ∧ r.2.mem ((c.tc : Thread Cert.Kernel24Ideal.nD Cert.Kernel24Ideal.τ).loc Cert.Kernel24Ideal.main_arg16) = m ((c.tc : Thread Cert.Kernel24Ideal.nD Cert.Kernel24Ideal.τ).loc Cert.Kernel24Ideal.main_arg16)
      ∧ r.2.mem ((c.tc : Thread Cert.Kernel24Ideal.nD Cert.Kernel24Ideal.τ).loc Cert.Kernel24Ideal.main_arg17) = m ((c.tc : Thread Cert.Kernel24Ideal.nD Cert.Kernel24Ideal.τ).loc Cert.Kernel24Ideal.main_arg17)
      ∧ r.2.mem ((c.tc : Thread Cert.Kernel24Ideal.nD Cert.Kernel24Ideal.τ).loc Cert.Kernel24Ideal.main_arg18) = m ((c.tc : Thread Cert.Kernel24Ideal.nD Cert.Kernel24Ideal.τ).loc Cert.Kernel24Ideal.main_arg18)
      ∧ r.2.mem ((c.tc : Thread Cert.Kernel24Ideal.nD Cert.Kernel24Ideal.τ).loc Cert.Kernel24Ideal.main_arg19) = m ((c.tc : Thread Cert.Kernel24Ideal.nD Cert.Kernel24Ideal.τ).loc Cert.Kernel24Ideal.main_arg19))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9)
      ∧ r.2.mem ((c.tc : Thread Cert.Reference24Ideal.nD Cert.Reference24Ideal.τ).loc Cert.Reference24Ideal.main_arg10) = m ((c.tc : Thread Cert.Reference24Ideal.nD Cert.Reference24Ideal.τ).loc Cert.Reference24Ideal.main_arg10)
      ∧ r.2.mem ((c.tc : Thread Cert.Reference24Ideal.nD Cert.Reference24Ideal.τ).loc Cert.Reference24Ideal.main_arg11) = m ((c.tc : Thread Cert.Reference24Ideal.nD Cert.Reference24Ideal.τ).loc Cert.Reference24Ideal.main_arg11)
      ∧ r.2.mem ((c.tc : Thread Cert.Reference24Ideal.nD Cert.Reference24Ideal.τ).loc Cert.Reference24Ideal.main_arg12) = m ((c.tc : Thread Cert.Reference24Ideal.nD Cert.Reference24Ideal.τ).loc Cert.Reference24Ideal.main_arg12)
      ∧ r.2.mem ((c.tc : Thread Cert.Reference24Ideal.nD Cert.Reference24Ideal.τ).loc Cert.Reference24Ideal.main_arg13) = m ((c.tc : Thread Cert.Reference24Ideal.nD Cert.Reference24Ideal.τ).loc Cert.Reference24Ideal.main_arg13)
      ∧ r.2.mem ((c.tc : Thread Cert.Reference24Ideal.nD Cert.Reference24Ideal.τ).loc Cert.Reference24Ideal.main_arg14) = m ((c.tc : Thread Cert.Reference24Ideal.nD Cert.Reference24Ideal.τ).loc Cert.Reference24Ideal.main_arg14)
      ∧ r.2.mem ((c.tc : Thread Cert.Reference24Ideal.nD Cert.Reference24Ideal.τ).loc Cert.Reference24Ideal.main_arg15) = m ((c.tc : Thread Cert.Reference24Ideal.nD Cert.Reference24Ideal.τ).loc Cert.Reference24Ideal.main_arg15)
      ∧ r.2.mem ((c.tc : Thread Cert.Reference24Ideal.nD Cert.Reference24Ideal.τ).loc Cert.Reference24Ideal.main_arg16) = m ((c.tc : Thread Cert.Reference24Ideal.nD Cert.Reference24Ideal.τ).loc Cert.Reference24Ideal.main_arg16)
      ∧ r.2.mem ((c.tc : Thread Cert.Reference24Ideal.nD Cert.Reference24Ideal.τ).loc Cert.Reference24Ideal.main_arg17) = m ((c.tc : Thread Cert.Reference24Ideal.nD Cert.Reference24Ideal.τ).loc Cert.Reference24Ideal.main_arg17)
      ∧ r.2.mem ((c.tc : Thread Cert.Reference24Ideal.nD Cert.Reference24Ideal.τ).loc Cert.Reference24Ideal.main_arg18) = m ((c.tc : Thread Cert.Reference24Ideal.nD Cert.Reference24Ideal.τ).loc Cert.Reference24Ideal.main_arg18)
      ∧ r.2.mem ((c.tc : Thread Cert.Reference24Ideal.nD Cert.Reference24Ideal.τ).loc Cert.Reference24Ideal.main_arg19) = m ((c.tc : Thread Cert.Reference24Ideal.nD Cert.Reference24Ideal.τ).loc Cert.Reference24Ideal.main_arg19))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8)
      ∧ r.2.mem ((c.tc : Thread Cert.Kernel25.nD Cert.Kernel25.τ).loc Cert.Kernel25.main_arg9) = m ((c.tc : Thread Cert.Kernel25.nD Cert.Kernel25.τ).loc Cert.Kernel25.main_arg9)
      ∧ r.2.mem ((c.tc : Thread Cert.Kernel25.nD Cert.Kernel25.τ).loc Cert.Kernel25.main_arg10) = m ((c.tc : Thread Cert.Kernel25.nD Cert.Kernel25.τ).loc Cert.Kernel25.main_arg10)
      ∧ r.2.mem ((c.tc : Thread Cert.Kernel25.nD Cert.Kernel25.τ).loc Cert.Kernel25.main_arg11) = m ((c.tc : Thread Cert.Kernel25.nD Cert.Kernel25.τ).loc Cert.Kernel25.main_arg11)
      ∧ r.2.mem ((c.tc : Thread Cert.Kernel25.nD Cert.Kernel25.τ).loc Cert.Kernel25.main_arg12) = m ((c.tc : Thread Cert.Kernel25.nD Cert.Kernel25.τ).loc Cert.Kernel25.main_arg12)
      ∧ r.2.mem ((c.tc : Thread Cert.Kernel25.nD Cert.Kernel25.τ).loc Cert.Kernel25.main_arg13) = m ((c.tc : Thread Cert.Kernel25.nD Cert.Kernel25.τ).loc Cert.Kernel25.main_arg13)
      ∧ r.2.mem ((c.tc : Thread Cert.Kernel25.nD Cert.Kernel25.τ).loc Cert.Kernel25.main_arg14) = m ((c.tc : Thread Cert.Kernel25.nD Cert.Kernel25.τ).loc Cert.Kernel25.main_arg14)
      ∧ r.2.mem ((c.tc : Thread Cert.Kernel25.nD Cert.Kernel25.τ).loc Cert.Kernel25.main_arg15) = m ((c.tc : Thread Cert.Kernel25.nD Cert.Kernel25.τ).loc Cert.Kernel25.main_arg15)
      ∧ r.2.mem ((c.tc : Thread Cert.Kernel25.nD Cert.Kernel25.τ).loc Cert.Kernel25.main_arg16) = m ((c.tc : Thread Cert.Kernel25.nD Cert.Kernel25.τ).loc Cert.Kernel25.main_arg16)
      ∧ r.2.mem ((c.tc : Thread Cert.Kernel25.nD Cert.Kernel25.τ).loc Cert.Kernel25.main_arg17) = m ((c.tc : Thread Cert.Kernel25.nD Cert.Kernel25.τ).loc Cert.Kernel25.main_arg17)
      ∧ r.2.mem ((c.tc : Thread Cert.Kernel25.nD Cert.Kernel25.τ).loc Cert.Kernel25.main_arg18) = m ((c.tc : Thread Cert.Kernel25.nD Cert.Kernel25.τ).loc Cert.Kernel25.main_arg18)
      ∧ r.2.mem ((c.tc : Thread Cert.Kernel25.nD Cert.Kernel25.τ).loc Cert.Kernel25.main_arg19) = m ((c.tc : Thread Cert.Kernel25.nD Cert.Kernel25.τ).loc Cert.Kernel25.main_arg19)
      ∧ r.2.mem ((c.tc : Thread Cert.Kernel25.nD Cert.Kernel25.τ).loc Cert.Kernel25.main_arg20) = m ((c.tc : Thread Cert.Kernel25.nD Cert.Kernel25.τ).loc Cert.Kernel25.main_arg20)
      ∧ r.2.mem ((c.tc : Thread Cert.Kernel25.nD Cert.Kernel25.τ).loc Cert.Kernel25.main_arg21) = m ((c.tc : Thread Cert.Kernel25.nD Cert.Kernel25.τ).loc Cert.Kernel25.main_arg21)
      ∧ r.2.mem ((c.tc : Thread Cert.Kernel25.nD Cert.Kernel25.τ).loc Cert.Kernel25.main_arg22) = m ((c.tc : Thread Cert.Kernel25.nD Cert.Kernel25.τ).loc Cert.Kernel25.main_arg22)
      ∧ r.2.mem ((c.tc : Thread Cert.Kernel25.nD Cert.Kernel25.τ).loc Cert.Kernel25.main_arg23) = m ((c.tc : Thread Cert.Kernel25.nD Cert.Kernel25.τ).loc Cert.Kernel25.main_arg23)
      ∧ r.2.mem ((c.tc : Thread Cert.Kernel25.nD Cert.Kernel25.τ).loc Cert.Kernel25.main_arg24) = m ((c.tc : Thread Cert.Kernel25.nD Cert.Kernel25.τ).loc Cert.Kernel25.main_arg24)
      ∧ r.2.mem ((c.tc : Thread Cert.Kernel25.nD Cert.Kernel25.τ).loc Cert.Kernel25.main_arg25) = m ((c.tc : Thread Cert.Kernel25.nD Cert.Kernel25.τ).loc Cert.Kernel25.main_arg25)
      ∧ r.2.mem ((c.tc : Thread Cert.Kernel25.nD Cert.Kernel25.τ).loc Cert.Kernel25.main_arg26) = m ((c.tc : Thread Cert.Kernel25.nD Cert.Kernel25.τ).loc Cert.Kernel25.main_arg26)
      ∧ r.2.mem ((c.tc : Thread Cert.Kernel25.nD Cert.Kernel25.τ).loc Cert.Kernel25.main_arg27) = m ((c.tc : Thread Cert.Kernel25.nD Cert.Kernel25.τ).loc Cert.Kernel25.main_arg27)
      ∧ r.2.mem ((c.tc : Thread Cert.Kernel25.nD Cert.Kernel25.τ).loc Cert.Kernel25.main_arg28) = m ((c.tc : Thread Cert.Kernel25.nD Cert.Kernel25.τ).loc Cert.Kernel25.main_arg28)
      ∧ r.2.mem ((c.tc : Thread Cert.Kernel25.nD Cert.Kernel25.τ).loc Cert.Kernel25.main_arg29) = m ((c.tc : Thread Cert.Kernel25.nD Cert.Kernel25.τ).loc Cert.Kernel25.main_arg29)
      ∧ r.2.mem ((c.tc : Thread Cert.Kernel25.nD Cert.Kernel25.τ).loc Cert.Kernel25.main_arg30) = m ((c.tc : Thread Cert.Kernel25.nD Cert.Kernel25.τ).loc Cert.Kernel25.main_arg30)
      ∧ r.2.mem ((c.tc : Thread Cert.Kernel25.nD Cert.Kernel25.τ).loc Cert.Kernel25.main_arg31) = m ((c.tc : Thread Cert.Kernel25.nD Cert.Kernel25.τ).loc Cert.Kernel25.main_arg31)
      ∧ r.2.mem ((c.tc : Thread Cert.Kernel25.nD Cert.Kernel25.τ).loc Cert.Kernel25.main_arg32) = m ((c.tc : Thread Cert.Kernel25.nD Cert.Kernel25.τ).loc Cert.Kernel25.main_arg32)
      ∧ r.2.mem ((c.tc : Thread Cert.Kernel25.nD Cert.Kernel25.τ).loc Cert.Kernel25.main_arg33) = m ((c.tc : Thread Cert.Kernel25.nD Cert.Kernel25.τ).loc Cert.Kernel25.main_arg33))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
      ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9)
      ∧ r.2.mem ((c.tc : Thread Cert.Kernel25Ideal.nD Cert.Kernel25Ideal.τ).loc Cert.Kernel25Ideal.main_arg10) = m ((c.tc : Thread Cert.Kernel25Ideal.nD Cert.Kernel25Ideal.τ).loc Cert.Kernel25Ideal.main_arg10)
      ∧ r.2.mem ((c.tc : Thread Cert.Kernel25Ideal.nD Cert.Kernel25Ideal.τ).loc Cert.Kernel25Ideal.main_arg11) = m ((c.tc : Thread Cert.Kernel25Ideal.nD Cert.Kernel25Ideal.τ).loc Cert.Kernel25Ideal.main_arg11)
      ∧ r.2.mem ((c.tc : Thread Cert.Kernel25Ideal.nD Cert.Kernel25Ideal.τ).loc Cert.Kernel25Ideal.main_arg12) = m ((c.tc : Thread Cert.Kernel25Ideal.nD Cert.Kernel25Ideal.τ).loc Cert.Kernel25Ideal.main_arg12)
      ∧ r.2.mem ((c.tc : Thread Cert.Kernel25Ideal.nD Cert.Kernel25Ideal.τ).loc Cert.Kernel25Ideal.main_arg13) = m ((c.tc : Thread Cert.Kernel25Ideal.nD Cert.Kernel25Ideal.τ).loc Cert.Kernel25Ideal.main_arg13)
      ∧ r.2.mem ((c.tc : Thread Cert.Kernel25Ideal.nD Cert.Kernel25Ideal.τ).loc Cert.Kernel25Ideal.main_arg14) = m ((c.tc : Thread Cert.Kernel25Ideal.nD Cert.Kernel25Ideal.τ).loc Cert.Kernel25Ideal.main_arg14)
      ∧ r.2.mem ((c.tc : Thread Cert.Kernel25Ideal.nD Cert.Kernel25Ideal.τ).loc Cert.Kernel25Ideal.main_arg15) = m ((c.tc : Thread Cert.Kernel25Ideal.nD Cert.Kernel25Ideal.τ).loc Cert.Kernel25Ideal.main_arg15)
      ∧ r.2.mem ((c.tc : Thread Cert.Kernel25Ideal.nD Cert.Kernel25Ideal.τ).loc Cert.Kernel25Ideal.main_arg16) = m ((c.tc : Thread Cert.Kernel25Ideal.nD Cert.Kernel25Ideal.τ).loc Cert.Kernel25Ideal.main_arg16)
      ∧ r.2.mem ((c.tc : Thread Cert.Kernel25Ideal.nD Cert.Kernel25Ideal.τ).loc Cert.Kernel25Ideal.main_arg17) = m ((c.tc : Thread Cert.Kernel25Ideal.nD Cert.Kernel25Ideal.τ).loc Cert.Kernel25Ideal.main_arg17)
      ∧ r.2.mem ((c.tc : Thread Cert.Kernel25Ideal.nD Cert.Kernel25Ideal.τ).loc Cert.Kernel25Ideal.main_arg18) = m ((c.tc : Thread Cert.Kernel25Ideal.nD Cert.Kernel25Ideal.τ).loc Cert.Kernel25Ideal.main_arg18)
      ∧ r.2.mem ((c.tc : Thread Cert.Kernel25Ideal.nD Cert.Kernel25Ideal.τ).loc Cert.Kernel25Ideal.main_arg19) = m ((c.tc : Thread Cert.Kernel25Ideal.nD Cert.Kernel25Ideal.τ).loc Cert.Kernel25Ideal.main_arg19)
      ∧ r.2.mem ((c.tc : Thread Cert.Kernel25Ideal.nD Cert.Kernel25Ideal.τ).loc Cert.Kernel25Ideal.main_arg20) = m ((c.tc : Thread Cert.Kernel25Ideal.nD Cert.Kernel25Ideal.τ).loc Cert.Kernel25Ideal.main_arg20)
      ∧ r.2.mem ((c.tc : Thread Cert.Kernel25Ideal.nD Cert.Kernel25Ideal.τ).loc Cert.Kernel25Ideal.main_arg21) = m ((c.tc : Thread Cert.Kernel25Ideal.nD Cert.Kernel25Ideal.τ).loc Cert.Kernel25Ideal.main_arg21)
      ∧ r.2.mem ((c.tc : Thread Cert.Kernel25Ideal.nD Cert.Kernel25Ideal.τ).loc Cert.Kernel25Ideal.main_arg22) = m ((c.tc : Thread Cert.Kernel25Ideal.nD Cert.Kernel25Ideal.τ).loc Cert.Kernel25Ideal.main_arg22)
      ∧ r.2.mem ((c.tc : Thread Cert.Kernel25Ideal.nD Cert.Kernel25Ideal.τ).loc Cert.Kernel25Ideal.main_arg23) = m ((c.tc : Thread Cert.Kernel25Ideal.nD Cert.Kernel25Ideal.τ).loc Cert.Kernel25Ideal.main_arg23)
      ∧ r.2.mem ((c.tc : Thread Cert.Kernel25Ideal.nD Cert.Kernel25Ideal.τ).loc Cert.Kernel25Ideal.main_arg24) = m ((c.tc : Thread Cert.Kernel25Ideal.nD Cert.Kernel25Ideal.τ).loc Cert.Kernel25Ideal.main_arg24)
      ∧ r.2.mem ((c.tc : Thread Cert.Kernel25Ideal.nD Cert.Kernel25Ideal.τ).loc Cert.Kernel25Ideal.main_arg25) = m ((c.tc : Thread Cert.Kernel25Ideal.nD Cert.Kernel25Ideal.τ).loc Cert.Kernel25Ideal.main_arg25)
      ∧ r.2.mem ((c.tc : Thread Cert.Kernel25Ideal.nD Cert.Kernel25Ideal.τ).loc Cert.Kernel25Ideal.main_arg26) = m ((c.tc : Thread Cert.Kernel25Ideal.nD Cert.Kernel25Ideal.τ).loc Cert.Kernel25Ideal.main_arg26)
      ∧ r.2.mem ((c.tc : Thread Cert.Kernel25Ideal.nD Cert.Kernel25Ideal.τ).loc Cert.Kernel25Ideal.main_arg27) = m ((c.tc : Thread Cert.Kernel25Ideal.nD Cert.Kernel25Ideal.τ).loc Cert.Kernel25Ideal.main_arg27)
      ∧ r.2.mem ((c.tc : Thread Cert.Kernel25Ideal.nD Cert.Kernel25Ideal.τ).loc Cert.Kernel25Ideal.main_arg28) = m ((c.tc : Thread Cert.Kernel25Ideal.nD Cert.Kernel25Ideal.τ).loc Cert.Kernel25Ideal.main_arg28)
      ∧ r.2.mem ((c.tc : Thread Cert.Kernel25Ideal.nD Cert.Kernel25Ideal.τ).loc Cert.Kernel25Ideal.main_arg29) = m ((c.tc : Thread Cert.Kernel25Ideal.nD Cert.Kernel25Ideal.τ).loc Cert.Kernel25Ideal.main_arg29)
      ∧ r.2.mem ((c.tc : Thread Cert.Kernel25Ideal.nD Cert.Kernel25Ideal.τ).loc Cert.Kernel25Ideal.main_arg30) = m ((c.tc : Thread Cert.Kernel25Ideal.nD Cert.Kernel25Ideal.τ).loc Cert.Kernel25Ideal.main_arg30)
      ∧ r.2.mem ((c.tc : Thread Cert.Kernel25Ideal.nD Cert.Kernel25Ideal.τ).loc Cert.Kernel25Ideal.main_arg31) = m ((c.tc : Thread Cert.Kernel25Ideal.nD Cert.Kernel25Ideal.τ).loc Cert.Kernel25Ideal.main_arg31)
      ∧ r.2.mem ((c.tc : Thread Cert.Kernel25Ideal.nD Cert.Kernel25Ideal.τ).loc Cert.Kernel25Ideal.main_arg32) = m ((c.tc : Thread Cert.Kernel25Ideal.nD Cert.Kernel25Ideal.τ).loc Cert.Kernel25Ideal.main_arg32)
      ∧ r.2.mem ((c.tc : Thread Cert.Kernel25Ideal.nD Cert.Kernel25Ideal.τ).loc Cert.Kernel25Ideal.main_arg33) = m ((c.tc : Thread Cert.Kernel25Ideal.nD Cert.Kernel25Ideal.τ).loc Cert.Kernel25Ideal.main_arg33))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9)
      ∧ r.2.mem ((c.tc : Thread Cert.Reference25Ideal.nD Cert.Reference25Ideal.τ).loc Cert.Reference25Ideal.main_arg10) = m ((c.tc : Thread Cert.Reference25Ideal.nD Cert.Reference25Ideal.τ).loc Cert.Reference25Ideal.main_arg10)
      ∧ r.2.mem ((c.tc : Thread Cert.Reference25Ideal.nD Cert.Reference25Ideal.τ).loc Cert.Reference25Ideal.main_arg11) = m ((c.tc : Thread Cert.Reference25Ideal.nD Cert.Reference25Ideal.τ).loc Cert.Reference25Ideal.main_arg11)
      ∧ r.2.mem ((c.tc : Thread Cert.Reference25Ideal.nD Cert.Reference25Ideal.τ).loc Cert.Reference25Ideal.main_arg12) = m ((c.tc : Thread Cert.Reference25Ideal.nD Cert.Reference25Ideal.τ).loc Cert.Reference25Ideal.main_arg12)
      ∧ r.2.mem ((c.tc : Thread Cert.Reference25Ideal.nD Cert.Reference25Ideal.τ).loc Cert.Reference25Ideal.main_arg13) = m ((c.tc : Thread Cert.Reference25Ideal.nD Cert.Reference25Ideal.τ).loc Cert.Reference25Ideal.main_arg13)
      ∧ r.2.mem ((c.tc : Thread Cert.Reference25Ideal.nD Cert.Reference25Ideal.τ).loc Cert.Reference25Ideal.main_arg14) = m ((c.tc : Thread Cert.Reference25Ideal.nD Cert.Reference25Ideal.τ).loc Cert.Reference25Ideal.main_arg14)
      ∧ r.2.mem ((c.tc : Thread Cert.Reference25Ideal.nD Cert.Reference25Ideal.τ).loc Cert.Reference25Ideal.main_arg15) = m ((c.tc : Thread Cert.Reference25Ideal.nD Cert.Reference25Ideal.τ).loc Cert.Reference25Ideal.main_arg15)
      ∧ r.2.mem ((c.tc : Thread Cert.Reference25Ideal.nD Cert.Reference25Ideal.τ).loc Cert.Reference25Ideal.main_arg16) = m ((c.tc : Thread Cert.Reference25Ideal.nD Cert.Reference25Ideal.τ).loc Cert.Reference25Ideal.main_arg16)
      ∧ r.2.mem ((c.tc : Thread Cert.Reference25Ideal.nD Cert.Reference25Ideal.τ).loc Cert.Reference25Ideal.main_arg17) = m ((c.tc : Thread Cert.Reference25Ideal.nD Cert.Reference25Ideal.τ).loc Cert.Reference25Ideal.main_arg17)
      ∧ r.2.mem ((c.tc : Thread Cert.Reference25Ideal.nD Cert.Reference25Ideal.τ).loc Cert.Reference25Ideal.main_arg18) = m ((c.tc : Thread Cert.Reference25Ideal.nD Cert.Reference25Ideal.τ).loc Cert.Reference25Ideal.main_arg18)
      ∧ r.2.mem ((c.tc : Thread Cert.Reference25Ideal.nD Cert.Reference25Ideal.τ).loc Cert.Reference25Ideal.main_arg19) = m ((c.tc : Thread Cert.Reference25Ideal.nD Cert.Reference25Ideal.τ).loc Cert.Reference25Ideal.main_arg19)
      ∧ r.2.mem ((c.tc : Thread Cert.Reference25Ideal.nD Cert.Reference25Ideal.τ).loc Cert.Reference25Ideal.main_arg20) = m ((c.tc : Thread Cert.Reference25Ideal.nD Cert.Reference25Ideal.τ).loc Cert.Reference25Ideal.main_arg20)
      ∧ r.2.mem ((c.tc : Thread Cert.Reference25Ideal.nD Cert.Reference25Ideal.τ).loc Cert.Reference25Ideal.main_arg21) = m ((c.tc : Thread Cert.Reference25Ideal.nD Cert.Reference25Ideal.τ).loc Cert.Reference25Ideal.main_arg21)
      ∧ r.2.mem ((c.tc : Thread Cert.Reference25Ideal.nD Cert.Reference25Ideal.τ).loc Cert.Reference25Ideal.main_arg22) = m ((c.tc : Thread Cert.Reference25Ideal.nD Cert.Reference25Ideal.τ).loc Cert.Reference25Ideal.main_arg22)
      ∧ r.2.mem ((c.tc : Thread Cert.Reference25Ideal.nD Cert.Reference25Ideal.τ).loc Cert.Reference25Ideal.main_arg23) = m ((c.tc : Thread Cert.Reference25Ideal.nD Cert.Reference25Ideal.τ).loc Cert.Reference25Ideal.main_arg23)
      ∧ r.2.mem ((c.tc : Thread Cert.Reference25Ideal.nD Cert.Reference25Ideal.τ).loc Cert.Reference25Ideal.main_arg24) = m ((c.tc : Thread Cert.Reference25Ideal.nD Cert.Reference25Ideal.τ).loc Cert.Reference25Ideal.main_arg24)
      ∧ r.2.mem ((c.tc : Thread Cert.Reference25Ideal.nD Cert.Reference25Ideal.τ).loc Cert.Reference25Ideal.main_arg25) = m ((c.tc : Thread Cert.Reference25Ideal.nD Cert.Reference25Ideal.τ).loc Cert.Reference25Ideal.main_arg25)
      ∧ r.2.mem ((c.tc : Thread Cert.Reference25Ideal.nD Cert.Reference25Ideal.τ).loc Cert.Reference25Ideal.main_arg26) = m ((c.tc : Thread Cert.Reference25Ideal.nD Cert.Reference25Ideal.τ).loc Cert.Reference25Ideal.main_arg26)
      ∧ r.2.mem ((c.tc : Thread Cert.Reference25Ideal.nD Cert.Reference25Ideal.τ).loc Cert.Reference25Ideal.main_arg27) = m ((c.tc : Thread Cert.Reference25Ideal.nD Cert.Reference25Ideal.τ).loc Cert.Reference25Ideal.main_arg27)
      ∧ r.2.mem ((c.tc : Thread Cert.Reference25Ideal.nD Cert.Reference25Ideal.τ).loc Cert.Reference25Ideal.main_arg28) = m ((c.tc : Thread Cert.Reference25Ideal.nD Cert.Reference25Ideal.τ).loc Cert.Reference25Ideal.main_arg28)
      ∧ r.2.mem ((c.tc : Thread Cert.Reference25Ideal.nD Cert.Reference25Ideal.τ).loc Cert.Reference25Ideal.main_arg29) = m ((c.tc : Thread Cert.Reference25Ideal.nD Cert.Reference25Ideal.τ).loc Cert.Reference25Ideal.main_arg29)
      ∧ r.2.mem ((c.tc : Thread Cert.Reference25Ideal.nD Cert.Reference25Ideal.τ).loc Cert.Reference25Ideal.main_arg30) = m ((c.tc : Thread Cert.Reference25Ideal.nD Cert.Reference25Ideal.τ).loc Cert.Reference25Ideal.main_arg30)
      ∧ r.2.mem ((c.tc : Thread Cert.Reference25Ideal.nD Cert.Reference25Ideal.τ).loc Cert.Reference25Ideal.main_arg31) = m ((c.tc : Thread Cert.Reference25Ideal.nD Cert.Reference25Ideal.τ).loc Cert.Reference25Ideal.main_arg31)
      ∧ r.2.mem ((c.tc : Thread Cert.Reference25Ideal.nD Cert.Reference25Ideal.τ).loc Cert.Reference25Ideal.main_arg32) = m ((c.tc : Thread Cert.Reference25Ideal.nD Cert.Reference25Ideal.τ).loc Cert.Reference25Ideal.main_arg32)
      ∧ r.2.mem ((c.tc : Thread Cert.Reference25Ideal.nD Cert.Reference25Ideal.τ).loc Cert.Reference25Ideal.main_arg33) = m ((c.tc : Thread Cert.Reference25Ideal.nD Cert.Reference25Ideal.τ).loc Cert.Reference25Ideal.main_arg33))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v5) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)) (v4 : (c : Dev Cert.Kernel21Ideal.nD) → Buf (Elt Ideal) ((c.tc : Thread Cert.Kernel21Ideal.nD Cert.Kernel21Ideal.τ).loc Cert.Kernel21Ideal.main_v0_4)) (v5 : (c : Dev Cert.Kernel21Ideal.nD) → Buf (Elt Ideal) ((c.tc : Thread Cert.Kernel21Ideal.nD Cert.Kernel21Ideal.τ).loc Cert.Kernel21Ideal.main_v0_5)) (v6 : (c : Dev Cert.Kernel21Ideal.nD) → Buf (Elt Ideal) ((c.tc : Thread Cert.Kernel21Ideal.nD Cert.Kernel21Ideal.τ).loc Cert.Kernel21Ideal.main_v0_6)) (v7 : (c : Dev Cert.Kernel21Ideal.nD) → Buf (Elt Ideal) ((c.tc : Thread Cert.Kernel21Ideal.nD Cert.Kernel21Ideal.τ).loc Cert.Kernel21Ideal.main_v0_7)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_v0_4) = v4 c
          ∧ r.2.mem ((c.tc : Thread Cert.Kernel21Ideal.nD Cert.Kernel21Ideal.τ).loc Cert.Kernel21Ideal.main_v0_5) = v5 c
          ∧ r.2.mem ((c.tc : Thread Cert.Kernel21Ideal.nD Cert.Kernel21Ideal.τ).loc Cert.Kernel21Ideal.main_v0_6) = v6 c
          ∧ r.2.mem ((c.tc : Thread Cert.Kernel21Ideal.nD Cert.Kernel21Ideal.τ).loc Cert.Kernel21Ideal.main_v0_7) = v7 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg1) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg5) = v4 c
          ∧ r.2.mem ((c.tc : Thread Cert.Reference21Ideal.nD Cert.Reference21Ideal.τ).loc Cert.Reference21Ideal.main_v47) = v5 c
          ∧ r.2.mem ((c.tc : Thread Cert.Reference21Ideal.nD Cert.Reference21Ideal.τ).loc Cert.Reference21Ideal.main_v28) = v6 c
          ∧ r.2.mem ((c.tc : Thread Cert.Reference21Ideal.nD Cert.Reference21Ideal.τ).loc Cert.Reference21Ideal.main_v34) = v7 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v3_0)) (v1 : (c : Dev Cert.Kernel22Ideal.nD) → Buf (Elt Ideal) ((c.tc : Thread Cert.Kernel22Ideal.nD Cert.Kernel22Ideal.τ).loc Cert.Kernel22Ideal.main_v3_1)) (v2 : (c : Dev Cert.Kernel22Ideal.nD) → Buf (Elt Ideal) ((c.tc : Thread Cert.Kernel22Ideal.nD Cert.Kernel22Ideal.τ).loc Cert.Kernel22Ideal.main_v3_2)) (v3 : (c : Dev Cert.Kernel22Ideal.nD) → Buf (Elt Ideal) ((c.tc : Thread Cert.Kernel22Ideal.nD Cert.Kernel22Ideal.τ).loc Cert.Kernel22Ideal.main_v3_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3_0) = v0 c
          ∧ r.2.mem ((c.tc : Thread Cert.Kernel22Ideal.nD Cert.Kernel22Ideal.τ).loc Cert.Kernel22Ideal.main_v3_1) = v1 c
          ∧ r.2.mem ((c.tc : Thread Cert.Kernel22Ideal.nD Cert.Kernel22Ideal.τ).loc Cert.Kernel22Ideal.main_v3_2) = v2 c
          ∧ r.2.mem ((c.tc : Thread Cert.Kernel22Ideal.nD Cert.Kernel22Ideal.τ).loc Cert.Kernel22Ideal.main_v3_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v26) = v0 c
          ∧ r.2.mem ((c.tc : Thread Cert.Reference22Ideal.nD Cert.Reference22Ideal.τ).loc Cert.Reference22Ideal.main_v27) = v1 c
          ∧ r.2.mem ((c.tc : Thread Cert.Reference22Ideal.nD Cert.Reference22Ideal.τ).loc Cert.Reference22Ideal.main_v28) = v2 c
          ∧ r.2.mem ((c.tc : Thread Cert.Reference22Ideal.nD Cert.Reference22Ideal.τ).loc Cert.Reference22Ideal.main_v29) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v34) = v0 c
          ∧ r.2.mem ((c.tc : Thread Cert.Reference23Ideal.nD Cert.Reference23Ideal.τ).loc Cert.Reference23Ideal.main_v35) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)
      ∧ m' ((c.tc : Thread Cert.Reference24Ideal.nD Cert.Reference24Ideal.τ).loc Cert.Reference24Ideal.main_arg9) = m ((c.tc : Thread Cert.Kernel24Ideal.nD Cert.Kernel24Ideal.τ).loc Cert.Kernel24Ideal.main_arg9)
      ∧ m' ((c.tc : Thread Cert.Reference24Ideal.nD Cert.Reference24Ideal.τ).loc Cert.Reference24Ideal.main_arg10) = m ((c.tc : Thread Cert.Kernel24Ideal.nD Cert.Kernel24Ideal.τ).loc Cert.Kernel24Ideal.main_arg10)
      ∧ m' ((c.tc : Thread Cert.Reference24Ideal.nD Cert.Reference24Ideal.τ).loc Cert.Reference24Ideal.main_arg11) = m ((c.tc : Thread Cert.Kernel24Ideal.nD Cert.Kernel24Ideal.τ).loc Cert.Kernel24Ideal.main_arg11)
      ∧ m' ((c.tc : Thread Cert.Reference24Ideal.nD Cert.Reference24Ideal.τ).loc Cert.Reference24Ideal.main_arg12) = m ((c.tc : Thread Cert.Kernel24Ideal.nD Cert.Kernel24Ideal.τ).loc Cert.Kernel24Ideal.main_arg12)
      ∧ m' ((c.tc : Thread Cert.Reference24Ideal.nD Cert.Reference24Ideal.τ).loc Cert.Reference24Ideal.main_arg13) = m ((c.tc : Thread Cert.Kernel24Ideal.nD Cert.Kernel24Ideal.τ).loc Cert.Kernel24Ideal.main_arg13)
      ∧ m' ((c.tc : Thread Cert.Reference24Ideal.nD Cert.Reference24Ideal.τ).loc Cert.Reference24Ideal.main_arg14) = m ((c.tc : Thread Cert.Kernel24Ideal.nD Cert.Kernel24Ideal.τ).loc Cert.Kernel24Ideal.main_arg14)
      ∧ m' ((c.tc : Thread Cert.Reference24Ideal.nD Cert.Reference24Ideal.τ).loc Cert.Reference24Ideal.main_arg15) = m ((c.tc : Thread Cert.Kernel24Ideal.nD Cert.Kernel24Ideal.τ).loc Cert.Kernel24Ideal.main_arg15)
      ∧ m' ((c.tc : Thread Cert.Reference24Ideal.nD Cert.Reference24Ideal.τ).loc Cert.Reference24Ideal.main_arg16) = m ((c.tc : Thread Cert.Kernel24Ideal.nD Cert.Kernel24Ideal.τ).loc Cert.Kernel24Ideal.main_arg16)
      ∧ m' ((c.tc : Thread Cert.Reference24Ideal.nD Cert.Reference24Ideal.τ).loc Cert.Reference24Ideal.main_arg17) = m ((c.tc : Thread Cert.Kernel24Ideal.nD Cert.Kernel24Ideal.τ).loc Cert.Kernel24Ideal.main_arg17)
      ∧ m' ((c.tc : Thread Cert.Reference24Ideal.nD Cert.Reference24Ideal.τ).loc Cert.Reference24Ideal.main_arg18) = m ((c.tc : Thread Cert.Kernel24Ideal.nD Cert.Kernel24Ideal.τ).loc Cert.Kernel24Ideal.main_arg18)
      ∧ m' ((c.tc : Thread Cert.Reference24Ideal.nD Cert.Reference24Ideal.τ).loc Cert.Reference24Ideal.main_arg19) = m ((c.tc : Thread Cert.Kernel24Ideal.nD Cert.Kernel24Ideal.τ).loc Cert.Kernel24Ideal.main_arg19)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)) (v4 : (c : Dev Cert.Kernel24Ideal.nD) → Buf (Elt Ideal) ((c.tc : Thread Cert.Kernel24Ideal.nD Cert.Kernel24Ideal.τ).loc Cert.Kernel24Ideal.main_v0_4)) (v5 : (c : Dev Cert.Kernel24Ideal.nD) → Buf (Elt Ideal) ((c.tc : Thread Cert.Kernel24Ideal.nD Cert.Kernel24Ideal.τ).loc Cert.Kernel24Ideal.main_v0_5)) (v6 : (c : Dev Cert.Kernel24Ideal.nD) → Buf (Elt Ideal) ((c.tc : Thread Cert.Kernel24Ideal.nD Cert.Kernel24Ideal.τ).loc Cert.Kernel24Ideal.main_v0_6)) (v7 : (c : Dev Cert.Kernel24Ideal.nD) → Buf (Elt Ideal) ((c.tc : Thread Cert.Kernel24Ideal.nD Cert.Kernel24Ideal.τ).loc Cert.Kernel24Ideal.main_v0_7)) (v8 : (c : Dev Cert.Kernel24Ideal.nD) → Buf (Elt Ideal) ((c.tc : Thread Cert.Kernel24Ideal.nD Cert.Kernel24Ideal.τ).loc Cert.Kernel24Ideal.main_v0_8)) (v9 : (c : Dev Cert.Kernel24Ideal.nD) → Buf (Elt Ideal) ((c.tc : Thread Cert.Kernel24Ideal.nD Cert.Kernel24Ideal.τ).loc Cert.Kernel24Ideal.main_v0_9)) (v10 : (c : Dev Cert.Kernel24Ideal.nD) → Buf (Elt Ideal) ((c.tc : Thread Cert.Kernel24Ideal.nD Cert.Kernel24Ideal.τ).loc Cert.Kernel24Ideal.main_v0_10)) (v11 : (c : Dev Cert.Kernel24Ideal.nD) → Buf (Elt Ideal) ((c.tc : Thread Cert.Kernel24Ideal.nD Cert.Kernel24Ideal.τ).loc Cert.Kernel24Ideal.main_v0_11)) (v12 : (c : Dev Cert.Kernel24Ideal.nD) → Buf (Elt Ideal) ((c.tc : Thread Cert.Kernel24Ideal.nD Cert.Kernel24Ideal.τ).loc Cert.Kernel24Ideal.main_v0_12)) (v13 : (c : Dev Cert.Kernel24Ideal.nD) → Buf (Elt Ideal) ((c.tc : Thread Cert.Kernel24Ideal.nD Cert.Kernel24Ideal.τ).loc Cert.Kernel24Ideal.main_v0_13)) (v14 : (c : Dev Cert.Kernel24Ideal.nD) → Buf (Elt Ideal) ((c.tc : Thread Cert.Kernel24Ideal.nD Cert.Kernel24Ideal.τ).loc Cert.Kernel24Ideal.main_v0_14)) (v15 : (c : Dev Cert.Kernel24Ideal.nD) → Buf (Elt Ideal) ((c.tc : Thread Cert.Kernel24Ideal.nD Cert.Kernel24Ideal.τ).loc Cert.Kernel24Ideal.main_v0_15)) (v16 : (c : Dev Cert.Kernel24Ideal.nD) → Buf (Elt Ideal) ((c.tc : Thread Cert.Kernel24Ideal.nD Cert.Kernel24Ideal.τ).loc Cert.Kernel24Ideal.main_v0_16)) (v17 : (c : Dev Cert.Kernel24Ideal.nD) → Buf (Elt Ideal) ((c.tc : Thread Cert.Kernel24Ideal.nD Cert.Kernel24Ideal.τ).loc Cert.Kernel24Ideal.main_v0_17)) (v18 : (c : Dev Cert.Kernel24Ideal.nD) → Buf (Elt Ideal) ((c.tc : Thread Cert.Kernel24Ideal.nD Cert.Kernel24Ideal.τ).loc Cert.Kernel24Ideal.main_v0_18)) (v19 : (c : Dev Cert.Kernel24Ideal.nD) → Buf (Elt Ideal) ((c.tc : Thread Cert.Kernel24Ideal.nD Cert.Kernel24Ideal.τ).loc Cert.Kernel24Ideal.main_v0_19)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_v0_4) = v4 c
          ∧ r.2.mem ((c.tc : Thread Cert.Kernel24Ideal.nD Cert.Kernel24Ideal.τ).loc Cert.Kernel24Ideal.main_v0_5) = v5 c
          ∧ r.2.mem ((c.tc : Thread Cert.Kernel24Ideal.nD Cert.Kernel24Ideal.τ).loc Cert.Kernel24Ideal.main_v0_6) = v6 c
          ∧ r.2.mem ((c.tc : Thread Cert.Kernel24Ideal.nD Cert.Kernel24Ideal.τ).loc Cert.Kernel24Ideal.main_v0_7) = v7 c
          ∧ r.2.mem ((c.tc : Thread Cert.Kernel24Ideal.nD Cert.Kernel24Ideal.τ).loc Cert.Kernel24Ideal.main_v0_8) = v8 c
          ∧ r.2.mem ((c.tc : Thread Cert.Kernel24Ideal.nD Cert.Kernel24Ideal.τ).loc Cert.Kernel24Ideal.main_v0_9) = v9 c
          ∧ r.2.mem ((c.tc : Thread Cert.Kernel24Ideal.nD Cert.Kernel24Ideal.τ).loc Cert.Kernel24Ideal.main_v0_10) = v10 c
          ∧ r.2.mem ((c.tc : Thread Cert.Kernel24Ideal.nD Cert.Kernel24Ideal.τ).loc Cert.Kernel24Ideal.main_v0_11) = v11 c
          ∧ r.2.mem ((c.tc : Thread Cert.Kernel24Ideal.nD Cert.Kernel24Ideal.τ).loc Cert.Kernel24Ideal.main_v0_12) = v12 c
          ∧ r.2.mem ((c.tc : Thread Cert.Kernel24Ideal.nD Cert.Kernel24Ideal.τ).loc Cert.Kernel24Ideal.main_v0_13) = v13 c
          ∧ r.2.mem ((c.tc : Thread Cert.Kernel24Ideal.nD Cert.Kernel24Ideal.τ).loc Cert.Kernel24Ideal.main_v0_14) = v14 c
          ∧ r.2.mem ((c.tc : Thread Cert.Kernel24Ideal.nD Cert.Kernel24Ideal.τ).loc Cert.Kernel24Ideal.main_v0_15) = v15 c
          ∧ r.2.mem ((c.tc : Thread Cert.Kernel24Ideal.nD Cert.Kernel24Ideal.τ).loc Cert.Kernel24Ideal.main_v0_16) = v16 c
          ∧ r.2.mem ((c.tc : Thread Cert.Kernel24Ideal.nD Cert.Kernel24Ideal.τ).loc Cert.Kernel24Ideal.main_v0_17) = v17 c
          ∧ r.2.mem ((c.tc : Thread Cert.Kernel24Ideal.nD Cert.Kernel24Ideal.τ).loc Cert.Kernel24Ideal.main_v0_18) = v18 c
          ∧ r.2.mem ((c.tc : Thread Cert.Kernel24Ideal.nD Cert.Kernel24Ideal.τ).loc Cert.Kernel24Ideal.main_v0_19) = v19 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
          ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9)
          ∧ r.2.mem ((c.tc : Thread Cert.Kernel24Ideal.nD Cert.Kernel24Ideal.τ).loc Cert.Kernel24Ideal.main_arg10) = m ((c.tc : Thread Cert.Kernel24Ideal.nD Cert.Kernel24Ideal.τ).loc Cert.Kernel24Ideal.main_arg10)
          ∧ r.2.mem ((c.tc : Thread Cert.Kernel24Ideal.nD Cert.Kernel24Ideal.τ).loc Cert.Kernel24Ideal.main_arg11) = m ((c.tc : Thread Cert.Kernel24Ideal.nD Cert.Kernel24Ideal.τ).loc Cert.Kernel24Ideal.main_arg11)
          ∧ r.2.mem ((c.tc : Thread Cert.Kernel24Ideal.nD Cert.Kernel24Ideal.τ).loc Cert.Kernel24Ideal.main_arg12) = m ((c.tc : Thread Cert.Kernel24Ideal.nD Cert.Kernel24Ideal.τ).loc Cert.Kernel24Ideal.main_arg12)
          ∧ r.2.mem ((c.tc : Thread Cert.Kernel24Ideal.nD Cert.Kernel24Ideal.τ).loc Cert.Kernel24Ideal.main_arg13) = m ((c.tc : Thread Cert.Kernel24Ideal.nD Cert.Kernel24Ideal.τ).loc Cert.Kernel24Ideal.main_arg13)
          ∧ r.2.mem ((c.tc : Thread Cert.Kernel24Ideal.nD Cert.Kernel24Ideal.τ).loc Cert.Kernel24Ideal.main_arg14) = m ((c.tc : Thread Cert.Kernel24Ideal.nD Cert.Kernel24Ideal.τ).loc Cert.Kernel24Ideal.main_arg14)
          ∧ r.2.mem ((c.tc : Thread Cert.Kernel24Ideal.nD Cert.Kernel24Ideal.τ).loc Cert.Kernel24Ideal.main_arg15) = m ((c.tc : Thread Cert.Kernel24Ideal.nD Cert.Kernel24Ideal.τ).loc Cert.Kernel24Ideal.main_arg15)
          ∧ r.2.mem ((c.tc : Thread Cert.Kernel24Ideal.nD Cert.Kernel24Ideal.τ).loc Cert.Kernel24Ideal.main_arg16) = m ((c.tc : Thread Cert.Kernel24Ideal.nD Cert.Kernel24Ideal.τ).loc Cert.Kernel24Ideal.main_arg16)
          ∧ r.2.mem ((c.tc : Thread Cert.Kernel24Ideal.nD Cert.Kernel24Ideal.τ).loc Cert.Kernel24Ideal.main_arg17) = m ((c.tc : Thread Cert.Kernel24Ideal.nD Cert.Kernel24Ideal.τ).loc Cert.Kernel24Ideal.main_arg17)
          ∧ r.2.mem ((c.tc : Thread Cert.Kernel24Ideal.nD Cert.Kernel24Ideal.τ).loc Cert.Kernel24Ideal.main_arg18) = m ((c.tc : Thread Cert.Kernel24Ideal.nD Cert.Kernel24Ideal.τ).loc Cert.Kernel24Ideal.main_arg18)
          ∧ r.2.mem ((c.tc : Thread Cert.Kernel24Ideal.nD Cert.Kernel24Ideal.τ).loc Cert.Kernel24Ideal.main_arg19) = m ((c.tc : Thread Cert.Kernel24Ideal.nD Cert.Kernel24Ideal.τ).loc Cert.Kernel24Ideal.main_arg19))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_arg1) = v0 c
          ∧ r.2.mem ((c.tc : Thread Cert.Reference24Ideal.nD Cert.Reference24Ideal.τ).loc Cert.Reference24Ideal.main_v23) = v1 c
          ∧ r.2.mem ((c.tc : Thread Cert.Reference24Ideal.nD Cert.Reference24Ideal.τ).loc Cert.Reference24Ideal.main_v4) = v2 c
          ∧ r.2.mem ((c.tc : Thread Cert.Reference24Ideal.nD Cert.Reference24Ideal.τ).loc Cert.Reference24Ideal.main_v10) = v3 c
          ∧ r.2.mem ((c.tc : Thread Cert.Reference24Ideal.nD Cert.Reference24Ideal.τ).loc Cert.Reference24Ideal.main_arg5) = v4 c
          ∧ r.2.mem ((c.tc : Thread Cert.Reference24Ideal.nD Cert.Reference24Ideal.τ).loc Cert.Reference24Ideal.main_v47) = v5 c
          ∧ r.2.mem ((c.tc : Thread Cert.Reference24Ideal.nD Cert.Reference24Ideal.τ).loc Cert.Reference24Ideal.main_v28) = v6 c
          ∧ r.2.mem ((c.tc : Thread Cert.Reference24Ideal.nD Cert.Reference24Ideal.τ).loc Cert.Reference24Ideal.main_v34) = v7 c
          ∧ r.2.mem ((c.tc : Thread Cert.Reference24Ideal.nD Cert.Reference24Ideal.τ).loc Cert.Reference24Ideal.main_arg9) = v8 c
          ∧ r.2.mem ((c.tc : Thread Cert.Reference24Ideal.nD Cert.Reference24Ideal.τ).loc Cert.Reference24Ideal.main_v71) = v9 c
          ∧ r.2.mem ((c.tc : Thread Cert.Reference24Ideal.nD Cert.Reference24Ideal.τ).loc Cert.Reference24Ideal.main_v52) = v10 c
          ∧ r.2.mem ((c.tc : Thread Cert.Reference24Ideal.nD Cert.Reference24Ideal.τ).loc Cert.Reference24Ideal.main_v58) = v11 c
          ∧ r.2.mem ((c.tc : Thread Cert.Reference24Ideal.nD Cert.Reference24Ideal.τ).loc Cert.Reference24Ideal.main_arg13) = v12 c
          ∧ r.2.mem ((c.tc : Thread Cert.Reference24Ideal.nD Cert.Reference24Ideal.τ).loc Cert.Reference24Ideal.main_v95) = v13 c
          ∧ r.2.mem ((c.tc : Thread Cert.Reference24Ideal.nD Cert.Reference24Ideal.τ).loc Cert.Reference24Ideal.main_v76) = v14 c
          ∧ r.2.mem ((c.tc : Thread Cert.Reference24Ideal.nD Cert.Reference24Ideal.τ).loc Cert.Reference24Ideal.main_v82) = v15 c
          ∧ r.2.mem ((c.tc : Thread Cert.Reference24Ideal.nD Cert.Reference24Ideal.τ).loc Cert.Reference24Ideal.main_arg17) = v16 c
          ∧ r.2.mem ((c.tc : Thread Cert.Reference24Ideal.nD Cert.Reference24Ideal.τ).loc Cert.Reference24Ideal.main_v119) = v17 c
          ∧ r.2.mem ((c.tc : Thread Cert.Reference24Ideal.nD Cert.Reference24Ideal.τ).loc Cert.Reference24Ideal.main_v100) = v18 c
          ∧ r.2.mem ((c.tc : Thread Cert.Reference24Ideal.nD Cert.Reference24Ideal.τ).loc Cert.Reference24Ideal.main_v106) = v19 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8)
          ∧ r.2.mem ((c.tc : Thread Cert.Reference24Ideal.nD Cert.Reference24Ideal.τ).loc Cert.Reference24Ideal.main_arg9) = m' ((c.tc : Thread Cert.Reference24Ideal.nD Cert.Reference24Ideal.τ).loc Cert.Reference24Ideal.main_arg9)
          ∧ r.2.mem ((c.tc : Thread Cert.Reference24Ideal.nD Cert.Reference24Ideal.τ).loc Cert.Reference24Ideal.main_arg10) = m' ((c.tc : Thread Cert.Reference24Ideal.nD Cert.Reference24Ideal.τ).loc Cert.Reference24Ideal.main_arg10)
          ∧ r.2.mem ((c.tc : Thread Cert.Reference24Ideal.nD Cert.Reference24Ideal.τ).loc Cert.Reference24Ideal.main_arg11) = m' ((c.tc : Thread Cert.Reference24Ideal.nD Cert.Reference24Ideal.τ).loc Cert.Reference24Ideal.main_arg11)
          ∧ r.2.mem ((c.tc : Thread Cert.Reference24Ideal.nD Cert.Reference24Ideal.τ).loc Cert.Reference24Ideal.main_arg12) = m' ((c.tc : Thread Cert.Reference24Ideal.nD Cert.Reference24Ideal.τ).loc Cert.Reference24Ideal.main_arg12)
          ∧ r.2.mem ((c.tc : Thread Cert.Reference24Ideal.nD Cert.Reference24Ideal.τ).loc Cert.Reference24Ideal.main_arg13) = m' ((c.tc : Thread Cert.Reference24Ideal.nD Cert.Reference24Ideal.τ).loc Cert.Reference24Ideal.main_arg13)
          ∧ r.2.mem ((c.tc : Thread Cert.Reference24Ideal.nD Cert.Reference24Ideal.τ).loc Cert.Reference24Ideal.main_arg14) = m' ((c.tc : Thread Cert.Reference24Ideal.nD Cert.Reference24Ideal.τ).loc Cert.Reference24Ideal.main_arg14)
          ∧ r.2.mem ((c.tc : Thread Cert.Reference24Ideal.nD Cert.Reference24Ideal.τ).loc Cert.Reference24Ideal.main_arg15) = m' ((c.tc : Thread Cert.Reference24Ideal.nD Cert.Reference24Ideal.τ).loc Cert.Reference24Ideal.main_arg15)
          ∧ r.2.mem ((c.tc : Thread Cert.Reference24Ideal.nD Cert.Reference24Ideal.τ).loc Cert.Reference24Ideal.main_arg16) = m' ((c.tc : Thread Cert.Reference24Ideal.nD Cert.Reference24Ideal.τ).loc Cert.Reference24Ideal.main_arg16)
          ∧ r.2.mem ((c.tc : Thread Cert.Reference24Ideal.nD Cert.Reference24Ideal.τ).loc Cert.Reference24Ideal.main_arg17) = m' ((c.tc : Thread Cert.Reference24Ideal.nD Cert.Reference24Ideal.τ).loc Cert.Reference24Ideal.main_arg17)
          ∧ r.2.mem ((c.tc : Thread Cert.Reference24Ideal.nD Cert.Reference24Ideal.τ).loc Cert.Reference24Ideal.main_arg18) = m' ((c.tc : Thread Cert.Reference24Ideal.nD Cert.Reference24Ideal.τ).loc Cert.Reference24Ideal.main_arg18)
          ∧ r.2.mem ((c.tc : Thread Cert.Reference24Ideal.nD Cert.Reference24Ideal.τ).loc Cert.Reference24Ideal.main_arg19) = m' ((c.tc : Thread Cert.Reference24Ideal.nD Cert.Reference24Ideal.τ).loc Cert.Reference24Ideal.main_arg19))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)
      ∧ m' ((c.tc : Thread Cert.Reference25Ideal.nD Cert.Reference25Ideal.τ).loc Cert.Reference25Ideal.main_arg9) = m ((c.tc : Thread Cert.Kernel25Ideal.nD Cert.Kernel25Ideal.τ).loc Cert.Kernel25Ideal.main_arg9)
      ∧ m' ((c.tc : Thread Cert.Reference25Ideal.nD Cert.Reference25Ideal.τ).loc Cert.Reference25Ideal.main_arg10) = m ((c.tc : Thread Cert.Kernel25Ideal.nD Cert.Kernel25Ideal.τ).loc Cert.Kernel25Ideal.main_arg10)
      ∧ m' ((c.tc : Thread Cert.Reference25Ideal.nD Cert.Reference25Ideal.τ).loc Cert.Reference25Ideal.main_arg11) = m ((c.tc : Thread Cert.Kernel25Ideal.nD Cert.Kernel25Ideal.τ).loc Cert.Kernel25Ideal.main_arg11)
      ∧ m' ((c.tc : Thread Cert.Reference25Ideal.nD Cert.Reference25Ideal.τ).loc Cert.Reference25Ideal.main_arg12) = m ((c.tc : Thread Cert.Kernel25Ideal.nD Cert.Kernel25Ideal.τ).loc Cert.Kernel25Ideal.main_arg12)
      ∧ m' ((c.tc : Thread Cert.Reference25Ideal.nD Cert.Reference25Ideal.τ).loc Cert.Reference25Ideal.main_arg13) = m ((c.tc : Thread Cert.Kernel25Ideal.nD Cert.Kernel25Ideal.τ).loc Cert.Kernel25Ideal.main_arg13)
      ∧ m' ((c.tc : Thread Cert.Reference25Ideal.nD Cert.Reference25Ideal.τ).loc Cert.Reference25Ideal.main_arg14) = m ((c.tc : Thread Cert.Kernel25Ideal.nD Cert.Kernel25Ideal.τ).loc Cert.Kernel25Ideal.main_arg14)
      ∧ m' ((c.tc : Thread Cert.Reference25Ideal.nD Cert.Reference25Ideal.τ).loc Cert.Reference25Ideal.main_arg15) = m ((c.tc : Thread Cert.Kernel25Ideal.nD Cert.Kernel25Ideal.τ).loc Cert.Kernel25Ideal.main_arg15)
      ∧ m' ((c.tc : Thread Cert.Reference25Ideal.nD Cert.Reference25Ideal.τ).loc Cert.Reference25Ideal.main_arg16) = m ((c.tc : Thread Cert.Kernel25Ideal.nD Cert.Kernel25Ideal.τ).loc Cert.Kernel25Ideal.main_arg16)
      ∧ m' ((c.tc : Thread Cert.Reference25Ideal.nD Cert.Reference25Ideal.τ).loc Cert.Reference25Ideal.main_arg17) = m ((c.tc : Thread Cert.Kernel25Ideal.nD Cert.Kernel25Ideal.τ).loc Cert.Kernel25Ideal.main_arg17)
      ∧ m' ((c.tc : Thread Cert.Reference25Ideal.nD Cert.Reference25Ideal.τ).loc Cert.Reference25Ideal.main_arg18) = m ((c.tc : Thread Cert.Kernel25Ideal.nD Cert.Kernel25Ideal.τ).loc Cert.Kernel25Ideal.main_arg18)
      ∧ m' ((c.tc : Thread Cert.Reference25Ideal.nD Cert.Reference25Ideal.τ).loc Cert.Reference25Ideal.main_arg19) = m ((c.tc : Thread Cert.Kernel25Ideal.nD Cert.Kernel25Ideal.τ).loc Cert.Kernel25Ideal.main_arg19)
      ∧ m' ((c.tc : Thread Cert.Reference25Ideal.nD Cert.Reference25Ideal.τ).loc Cert.Reference25Ideal.main_arg20) = m ((c.tc : Thread Cert.Kernel25Ideal.nD Cert.Kernel25Ideal.τ).loc Cert.Kernel25Ideal.main_arg20)
      ∧ m' ((c.tc : Thread Cert.Reference25Ideal.nD Cert.Reference25Ideal.τ).loc Cert.Reference25Ideal.main_arg21) = m ((c.tc : Thread Cert.Kernel25Ideal.nD Cert.Kernel25Ideal.τ).loc Cert.Kernel25Ideal.main_arg21)
      ∧ m' ((c.tc : Thread Cert.Reference25Ideal.nD Cert.Reference25Ideal.τ).loc Cert.Reference25Ideal.main_arg22) = m ((c.tc : Thread Cert.Kernel25Ideal.nD Cert.Kernel25Ideal.τ).loc Cert.Kernel25Ideal.main_arg22)
      ∧ m' ((c.tc : Thread Cert.Reference25Ideal.nD Cert.Reference25Ideal.τ).loc Cert.Reference25Ideal.main_arg23) = m ((c.tc : Thread Cert.Kernel25Ideal.nD Cert.Kernel25Ideal.τ).loc Cert.Kernel25Ideal.main_arg23)
      ∧ m' ((c.tc : Thread Cert.Reference25Ideal.nD Cert.Reference25Ideal.τ).loc Cert.Reference25Ideal.main_arg24) = m ((c.tc : Thread Cert.Kernel25Ideal.nD Cert.Kernel25Ideal.τ).loc Cert.Kernel25Ideal.main_arg24)
      ∧ m' ((c.tc : Thread Cert.Reference25Ideal.nD Cert.Reference25Ideal.τ).loc Cert.Reference25Ideal.main_arg25) = m ((c.tc : Thread Cert.Kernel25Ideal.nD Cert.Kernel25Ideal.τ).loc Cert.Kernel25Ideal.main_arg25)
      ∧ m' ((c.tc : Thread Cert.Reference25Ideal.nD Cert.Reference25Ideal.τ).loc Cert.Reference25Ideal.main_arg26) = m ((c.tc : Thread Cert.Kernel25Ideal.nD Cert.Kernel25Ideal.τ).loc Cert.Kernel25Ideal.main_arg26)
      ∧ m' ((c.tc : Thread Cert.Reference25Ideal.nD Cert.Reference25Ideal.τ).loc Cert.Reference25Ideal.main_arg27) = m ((c.tc : Thread Cert.Kernel25Ideal.nD Cert.Kernel25Ideal.τ).loc Cert.Kernel25Ideal.main_arg27)
      ∧ m' ((c.tc : Thread Cert.Reference25Ideal.nD Cert.Reference25Ideal.τ).loc Cert.Reference25Ideal.main_arg28) = m ((c.tc : Thread Cert.Kernel25Ideal.nD Cert.Kernel25Ideal.τ).loc Cert.Kernel25Ideal.main_arg28)
      ∧ m' ((c.tc : Thread Cert.Reference25Ideal.nD Cert.Reference25Ideal.τ).loc Cert.Reference25Ideal.main_arg29) = m ((c.tc : Thread Cert.Kernel25Ideal.nD Cert.Kernel25Ideal.τ).loc Cert.Kernel25Ideal.main_arg29)
      ∧ m' ((c.tc : Thread Cert.Reference25Ideal.nD Cert.Reference25Ideal.τ).loc Cert.Reference25Ideal.main_arg30) = m ((c.tc : Thread Cert.Kernel25Ideal.nD Cert.Kernel25Ideal.τ).loc Cert.Kernel25Ideal.main_arg30)
      ∧ m' ((c.tc : Thread Cert.Reference25Ideal.nD Cert.Reference25Ideal.τ).loc Cert.Reference25Ideal.main_arg31) = m ((c.tc : Thread Cert.Kernel25Ideal.nD Cert.Kernel25Ideal.τ).loc Cert.Kernel25Ideal.main_arg31)
      ∧ m' ((c.tc : Thread Cert.Reference25Ideal.nD Cert.Reference25Ideal.τ).loc Cert.Reference25Ideal.main_arg32) = m ((c.tc : Thread Cert.Kernel25Ideal.nD Cert.Kernel25Ideal.τ).loc Cert.Kernel25Ideal.main_arg32)
      ∧ m' ((c.tc : Thread Cert.Reference25Ideal.nD Cert.Reference25Ideal.τ).loc Cert.Reference25Ideal.main_arg33) = m ((c.tc : Thread Cert.Kernel25Ideal.nD Cert.Kernel25Ideal.τ).loc Cert.Kernel25Ideal.main_arg33)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)) (v4 : (c : Dev Cert.Kernel25Ideal.nD) → Buf (Elt Ideal) ((c.tc : Thread Cert.Kernel25Ideal.nD Cert.Kernel25Ideal.τ).loc Cert.Kernel25Ideal.main_v0_4)) (v5 : (c : Dev Cert.Kernel25Ideal.nD) → Buf (Elt Ideal) ((c.tc : Thread Cert.Kernel25Ideal.nD Cert.Kernel25Ideal.τ).loc Cert.Kernel25Ideal.main_v0_5)) (v6 : (c : Dev Cert.Kernel25Ideal.nD) → Buf (Elt Ideal) ((c.tc : Thread Cert.Kernel25Ideal.nD Cert.Kernel25Ideal.τ).loc Cert.Kernel25Ideal.main_v0_6)) (v7 : (c : Dev Cert.Kernel25Ideal.nD) → Buf (Elt Ideal) ((c.tc : Thread Cert.Kernel25Ideal.nD Cert.Kernel25Ideal.τ).loc Cert.Kernel25Ideal.main_v0_7)) (v8 : (c : Dev Cert.Kernel25Ideal.nD) → Buf (Elt Ideal) ((c.tc : Thread Cert.Kernel25Ideal.nD Cert.Kernel25Ideal.τ).loc Cert.Kernel25Ideal.main_v0_8)) (v9 : (c : Dev Cert.Kernel25Ideal.nD) → Buf (Elt Ideal) ((c.tc : Thread Cert.Kernel25Ideal.nD Cert.Kernel25Ideal.τ).loc Cert.Kernel25Ideal.main_v0_9)) (v10 : (c : Dev Cert.Kernel25Ideal.nD) → Buf (Elt Ideal) ((c.tc : Thread Cert.Kernel25Ideal.nD Cert.Kernel25Ideal.τ).loc Cert.Kernel25Ideal.main_v0_10)) (v11 : (c : Dev Cert.Kernel25Ideal.nD) → Buf (Elt Ideal) ((c.tc : Thread Cert.Kernel25Ideal.nD Cert.Kernel25Ideal.τ).loc Cert.Kernel25Ideal.main_v0_11)) (v12 : (c : Dev Cert.Kernel25Ideal.nD) → Buf (Elt Ideal) ((c.tc : Thread Cert.Kernel25Ideal.nD Cert.Kernel25Ideal.τ).loc Cert.Kernel25Ideal.main_v0_12)) (v13 : (c : Dev Cert.Kernel25Ideal.nD) → Buf (Elt Ideal) ((c.tc : Thread Cert.Kernel25Ideal.nD Cert.Kernel25Ideal.τ).loc Cert.Kernel25Ideal.main_v0_13)) (v14 : (c : Dev Cert.Kernel25Ideal.nD) → Buf (Elt Ideal) ((c.tc : Thread Cert.Kernel25Ideal.nD Cert.Kernel25Ideal.τ).loc Cert.Kernel25Ideal.main_v0_14)) (v15 : (c : Dev Cert.Kernel25Ideal.nD) → Buf (Elt Ideal) ((c.tc : Thread Cert.Kernel25Ideal.nD Cert.Kernel25Ideal.τ).loc Cert.Kernel25Ideal.main_v0_15)) (v16 : (c : Dev Cert.Kernel25Ideal.nD) → Buf (Elt Ideal) ((c.tc : Thread Cert.Kernel25Ideal.nD Cert.Kernel25Ideal.τ).loc Cert.Kernel25Ideal.main_v0_16)) (v17 : (c : Dev Cert.Kernel25Ideal.nD) → Buf (Elt Ideal) ((c.tc : Thread Cert.Kernel25Ideal.nD Cert.Kernel25Ideal.τ).loc Cert.Kernel25Ideal.main_v0_17)) (v18 : (c : Dev Cert.Kernel25Ideal.nD) → Buf (Elt Ideal) ((c.tc : Thread Cert.Kernel25Ideal.nD Cert.Kernel25Ideal.τ).loc Cert.Kernel25Ideal.main_v0_18)) (v19 : (c : Dev Cert.Kernel25Ideal.nD) → Buf (Elt Ideal) ((c.tc : Thread Cert.Kernel25Ideal.nD Cert.Kernel25Ideal.τ).loc Cert.Kernel25Ideal.main_v0_19)) (v20 : (c : Dev Cert.Kernel25Ideal.nD) → Buf (Elt Ideal) ((c.tc : Thread Cert.Kernel25Ideal.nD Cert.Kernel25Ideal.τ).loc Cert.Kernel25Ideal.main_v0_20)) (v21 : (c : Dev Cert.Kernel25Ideal.nD) → Buf (Elt Ideal) ((c.tc : Thread Cert.Kernel25Ideal.nD Cert.Kernel25Ideal.τ).loc Cert.Kernel25Ideal.main_v0_21)) (v22 : (c : Dev Cert.Kernel25Ideal.nD) → Buf (Elt Ideal) ((c.tc : Thread Cert.Kernel25Ideal.nD Cert.Kernel25Ideal.τ).loc Cert.Kernel25Ideal.main_v0_22)) (v23 : (c : Dev Cert.Kernel25Ideal.nD) → Buf (Elt Ideal) ((c.tc : Thread Cert.Kernel25Ideal.nD Cert.Kernel25Ideal.τ).loc Cert.Kernel25Ideal.main_v0_23)) (v24 : (c : Dev Cert.Kernel25Ideal.nD) → Buf (Elt Ideal) ((c.tc : Thread Cert.Kernel25Ideal.nD Cert.Kernel25Ideal.τ).loc Cert.Kernel25Ideal.main_v0_24)) (v25 : (c : Dev Cert.Kernel25Ideal.nD) → Buf (Elt Ideal) ((c.tc : Thread Cert.Kernel25Ideal.nD Cert.Kernel25Ideal.τ).loc Cert.Kernel25Ideal.main_v0_25)) (v26 : (c : Dev Cert.Kernel25Ideal.nD) → Buf (Elt Ideal) ((c.tc : Thread Cert.Kernel25Ideal.nD Cert.Kernel25Ideal.τ).loc Cert.Kernel25Ideal.main_v0_26)) (v27 : (c : Dev Cert.Kernel25Ideal.nD) → Buf (Elt Ideal) ((c.tc : Thread Cert.Kernel25Ideal.nD Cert.Kernel25Ideal.τ).loc Cert.Kernel25Ideal.main_v0_27)) (v28 : (c : Dev Cert.Kernel25Ideal.nD) → Buf (Elt Ideal) ((c.tc : Thread Cert.Kernel25Ideal.nD Cert.Kernel25Ideal.τ).loc Cert.Kernel25Ideal.main_v0_28)) (v29 : (c : Dev Cert.Kernel25Ideal.nD) → Buf (Elt Ideal) ((c.tc : Thread Cert.Kernel25Ideal.nD Cert.Kernel25Ideal.τ).loc Cert.Kernel25Ideal.main_v0_29)) (v30 : (c : Dev Cert.Kernel25Ideal.nD) → Buf (Elt Ideal) ((c.tc : Thread Cert.Kernel25Ideal.nD Cert.Kernel25Ideal.τ).loc Cert.Kernel25Ideal.main_v0_30)) (v31 : (c : Dev Cert.Kernel25Ideal.nD) → Buf (Elt Ideal) ((c.tc : Thread Cert.Kernel25Ideal.nD Cert.Kernel25Ideal.τ).loc Cert.Kernel25Ideal.main_v0_31)) (v32 : (c : Dev Cert.Kernel25Ideal.nD) → Buf (Elt Ideal) ((c.tc : Thread Cert.Kernel25Ideal.nD Cert.Kernel25Ideal.τ).loc Cert.Kernel25Ideal.main_v0_32)) (v33 : (c : Dev Cert.Kernel25Ideal.nD) → Buf (Elt Ideal) ((c.tc : Thread Cert.Kernel25Ideal.nD Cert.Kernel25Ideal.τ).loc Cert.Kernel25Ideal.main_v0_33)) (v34 : (c : Dev Cert.Kernel25Ideal.nD) → Buf (Elt Ideal) ((c.tc : Thread Cert.Kernel25Ideal.nD Cert.Kernel25Ideal.τ).loc Cert.Kernel25Ideal.main_v0_34)) (v35 : (c : Dev Cert.Kernel25Ideal.nD) → Buf (Elt Ideal) ((c.tc : Thread Cert.Kernel25Ideal.nD Cert.Kernel25Ideal.τ).loc Cert.Kernel25Ideal.main_v0_35)) (v36 : (c : Dev Cert.Kernel25Ideal.nD) → Buf (Elt Ideal) ((c.tc : Thread Cert.Kernel25Ideal.nD Cert.Kernel25Ideal.τ).loc Cert.Kernel25Ideal.main_v0_36)) (v37 : (c : Dev Cert.Kernel25Ideal.nD) → Buf (Elt Ideal) ((c.tc : Thread Cert.Kernel25Ideal.nD Cert.Kernel25Ideal.τ).loc Cert.Kernel25Ideal.main_v0_37)) (v38 : (c : Dev Cert.Kernel25Ideal.nD) → Buf (Elt Ideal) ((c.tc : Thread Cert.Kernel25Ideal.nD Cert.Kernel25Ideal.τ).loc Cert.Kernel25Ideal.main_v0_38)) (v39 : (c : Dev Cert.Kernel25Ideal.nD) → Buf (Elt Ideal) ((c.tc : Thread Cert.Kernel25Ideal.nD Cert.Kernel25Ideal.τ).loc Cert.Kernel25Ideal.main_v0_39)) (v40 : (c : Dev Cert.Kernel25Ideal.nD) → Buf (Elt Ideal) ((c.tc : Thread Cert.Kernel25Ideal.nD Cert.Kernel25Ideal.τ).loc Cert.Kernel25Ideal.main_v0_40)) (v41 : (c : Dev Cert.Kernel25Ideal.nD) → Buf (Elt Ideal) ((c.tc : Thread Cert.Kernel25Ideal.nD Cert.Kernel25Ideal.τ).loc Cert.Kernel25Ideal.main_v0_41)) (v42 : (c : Dev Cert.Kernel25Ideal.nD) → Buf (Elt Ideal) ((c.tc : Thread Cert.Kernel25Ideal.nD Cert.Kernel25Ideal.τ).loc Cert.Kernel25Ideal.main_v0_42)) (v43 : (c : Dev Cert.Kernel25Ideal.nD) → Buf (Elt Ideal) ((c.tc : Thread Cert.Kernel25Ideal.nD Cert.Kernel25Ideal.τ).loc Cert.Kernel25Ideal.main_v0_43)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_v0_4) = v4 c
          ∧ r.2.mem ((c.tc : Thread Cert.Kernel25Ideal.nD Cert.Kernel25Ideal.τ).loc Cert.Kernel25Ideal.main_v0_5) = v5 c
          ∧ r.2.mem ((c.tc : Thread Cert.Kernel25Ideal.nD Cert.Kernel25Ideal.τ).loc Cert.Kernel25Ideal.main_v0_6) = v6 c
          ∧ r.2.mem ((c.tc : Thread Cert.Kernel25Ideal.nD Cert.Kernel25Ideal.τ).loc Cert.Kernel25Ideal.main_v0_7) = v7 c
          ∧ r.2.mem ((c.tc : Thread Cert.Kernel25Ideal.nD Cert.Kernel25Ideal.τ).loc Cert.Kernel25Ideal.main_v0_8) = v8 c
          ∧ r.2.mem ((c.tc : Thread Cert.Kernel25Ideal.nD Cert.Kernel25Ideal.τ).loc Cert.Kernel25Ideal.main_v0_9) = v9 c
          ∧ r.2.mem ((c.tc : Thread Cert.Kernel25Ideal.nD Cert.Kernel25Ideal.τ).loc Cert.Kernel25Ideal.main_v0_10) = v10 c
          ∧ r.2.mem ((c.tc : Thread Cert.Kernel25Ideal.nD Cert.Kernel25Ideal.τ).loc Cert.Kernel25Ideal.main_v0_11) = v11 c
          ∧ r.2.mem ((c.tc : Thread Cert.Kernel25Ideal.nD Cert.Kernel25Ideal.τ).loc Cert.Kernel25Ideal.main_v0_12) = v12 c
          ∧ r.2.mem ((c.tc : Thread Cert.Kernel25Ideal.nD Cert.Kernel25Ideal.τ).loc Cert.Kernel25Ideal.main_v0_13) = v13 c
          ∧ r.2.mem ((c.tc : Thread Cert.Kernel25Ideal.nD Cert.Kernel25Ideal.τ).loc Cert.Kernel25Ideal.main_v0_14) = v14 c
          ∧ r.2.mem ((c.tc : Thread Cert.Kernel25Ideal.nD Cert.Kernel25Ideal.τ).loc Cert.Kernel25Ideal.main_v0_15) = v15 c
          ∧ r.2.mem ((c.tc : Thread Cert.Kernel25Ideal.nD Cert.Kernel25Ideal.τ).loc Cert.Kernel25Ideal.main_v0_16) = v16 c
          ∧ r.2.mem ((c.tc : Thread Cert.Kernel25Ideal.nD Cert.Kernel25Ideal.τ).loc Cert.Kernel25Ideal.main_v0_17) = v17 c
          ∧ r.2.mem ((c.tc : Thread Cert.Kernel25Ideal.nD Cert.Kernel25Ideal.τ).loc Cert.Kernel25Ideal.main_v0_18) = v18 c
          ∧ r.2.mem ((c.tc : Thread Cert.Kernel25Ideal.nD Cert.Kernel25Ideal.τ).loc Cert.Kernel25Ideal.main_v0_19) = v19 c
          ∧ r.2.mem ((c.tc : Thread Cert.Kernel25Ideal.nD Cert.Kernel25Ideal.τ).loc Cert.Kernel25Ideal.main_v0_20) = v20 c
          ∧ r.2.mem ((c.tc : Thread Cert.Kernel25Ideal.nD Cert.Kernel25Ideal.τ).loc Cert.Kernel25Ideal.main_v0_21) = v21 c
          ∧ r.2.mem ((c.tc : Thread Cert.Kernel25Ideal.nD Cert.Kernel25Ideal.τ).loc Cert.Kernel25Ideal.main_v0_22) = v22 c
          ∧ r.2.mem ((c.tc : Thread Cert.Kernel25Ideal.nD Cert.Kernel25Ideal.τ).loc Cert.Kernel25Ideal.main_v0_23) = v23 c
          ∧ r.2.mem ((c.tc : Thread Cert.Kernel25Ideal.nD Cert.Kernel25Ideal.τ).loc Cert.Kernel25Ideal.main_v0_24) = v24 c
          ∧ r.2.mem ((c.tc : Thread Cert.Kernel25Ideal.nD Cert.Kernel25Ideal.τ).loc Cert.Kernel25Ideal.main_v0_25) = v25 c
          ∧ r.2.mem ((c.tc : Thread Cert.Kernel25Ideal.nD Cert.Kernel25Ideal.τ).loc Cert.Kernel25Ideal.main_v0_26) = v26 c
          ∧ r.2.mem ((c.tc : Thread Cert.Kernel25Ideal.nD Cert.Kernel25Ideal.τ).loc Cert.Kernel25Ideal.main_v0_27) = v27 c
          ∧ r.2.mem ((c.tc : Thread Cert.Kernel25Ideal.nD Cert.Kernel25Ideal.τ).loc Cert.Kernel25Ideal.main_v0_28) = v28 c
          ∧ r.2.mem ((c.tc : Thread Cert.Kernel25Ideal.nD Cert.Kernel25Ideal.τ).loc Cert.Kernel25Ideal.main_v0_29) = v29 c
          ∧ r.2.mem ((c.tc : Thread Cert.Kernel25Ideal.nD Cert.Kernel25Ideal.τ).loc Cert.Kernel25Ideal.main_v0_30) = v30 c
          ∧ r.2.mem ((c.tc : Thread Cert.Kernel25Ideal.nD Cert.Kernel25Ideal.τ).loc Cert.Kernel25Ideal.main_v0_31) = v31 c
          ∧ r.2.mem ((c.tc : Thread Cert.Kernel25Ideal.nD Cert.Kernel25Ideal.τ).loc Cert.Kernel25Ideal.main_v0_32) = v32 c
          ∧ r.2.mem ((c.tc : Thread Cert.Kernel25Ideal.nD Cert.Kernel25Ideal.τ).loc Cert.Kernel25Ideal.main_v0_33) = v33 c
          ∧ r.2.mem ((c.tc : Thread Cert.Kernel25Ideal.nD Cert.Kernel25Ideal.τ).loc Cert.Kernel25Ideal.main_v0_34) = v34 c
          ∧ r.2.mem ((c.tc : Thread Cert.Kernel25Ideal.nD Cert.Kernel25Ideal.τ).loc Cert.Kernel25Ideal.main_v0_35) = v35 c
          ∧ r.2.mem ((c.tc : Thread Cert.Kernel25Ideal.nD Cert.Kernel25Ideal.τ).loc Cert.Kernel25Ideal.main_v0_36) = v36 c
          ∧ r.2.mem ((c.tc : Thread Cert.Kernel25Ideal.nD Cert.Kernel25Ideal.τ).loc Cert.Kernel25Ideal.main_v0_37) = v37 c
          ∧ r.2.mem ((c.tc : Thread Cert.Kernel25Ideal.nD Cert.Kernel25Ideal.τ).loc Cert.Kernel25Ideal.main_v0_38) = v38 c
          ∧ r.2.mem ((c.tc : Thread Cert.Kernel25Ideal.nD Cert.Kernel25Ideal.τ).loc Cert.Kernel25Ideal.main_v0_39) = v39 c
          ∧ r.2.mem ((c.tc : Thread Cert.Kernel25Ideal.nD Cert.Kernel25Ideal.τ).loc Cert.Kernel25Ideal.main_v0_40) = v40 c
          ∧ r.2.mem ((c.tc : Thread Cert.Kernel25Ideal.nD Cert.Kernel25Ideal.τ).loc Cert.Kernel25Ideal.main_v0_41) = v41 c
          ∧ r.2.mem ((c.tc : Thread Cert.Kernel25Ideal.nD Cert.Kernel25Ideal.τ).loc Cert.Kernel25Ideal.main_v0_42) = v42 c
          ∧ r.2.mem ((c.tc : Thread Cert.Kernel25Ideal.nD Cert.Kernel25Ideal.τ).loc Cert.Kernel25Ideal.main_v0_43) = v43 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
          ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9)
          ∧ r.2.mem ((c.tc : Thread Cert.Kernel25Ideal.nD Cert.Kernel25Ideal.τ).loc Cert.Kernel25Ideal.main_arg10) = m ((c.tc : Thread Cert.Kernel25Ideal.nD Cert.Kernel25Ideal.τ).loc Cert.Kernel25Ideal.main_arg10)
          ∧ r.2.mem ((c.tc : Thread Cert.Kernel25Ideal.nD Cert.Kernel25Ideal.τ).loc Cert.Kernel25Ideal.main_arg11) = m ((c.tc : Thread Cert.Kernel25Ideal.nD Cert.Kernel25Ideal.τ).loc Cert.Kernel25Ideal.main_arg11)
          ∧ r.2.mem ((c.tc : Thread Cert.Kernel25Ideal.nD Cert.Kernel25Ideal.τ).loc Cert.Kernel25Ideal.main_arg12) = m ((c.tc : Thread Cert.Kernel25Ideal.nD Cert.Kernel25Ideal.τ).loc Cert.Kernel25Ideal.main_arg12)
          ∧ r.2.mem ((c.tc : Thread Cert.Kernel25Ideal.nD Cert.Kernel25Ideal.τ).loc Cert.Kernel25Ideal.main_arg13) = m ((c.tc : Thread Cert.Kernel25Ideal.nD Cert.Kernel25Ideal.τ).loc Cert.Kernel25Ideal.main_arg13)
          ∧ r.2.mem ((c.tc : Thread Cert.Kernel25Ideal.nD Cert.Kernel25Ideal.τ).loc Cert.Kernel25Ideal.main_arg14) = m ((c.tc : Thread Cert.Kernel25Ideal.nD Cert.Kernel25Ideal.τ).loc Cert.Kernel25Ideal.main_arg14)
          ∧ r.2.mem ((c.tc : Thread Cert.Kernel25Ideal.nD Cert.Kernel25Ideal.τ).loc Cert.Kernel25Ideal.main_arg15) = m ((c.tc : Thread Cert.Kernel25Ideal.nD Cert.Kernel25Ideal.τ).loc Cert.Kernel25Ideal.main_arg15)
          ∧ r.2.mem ((c.tc : Thread Cert.Kernel25Ideal.nD Cert.Kernel25Ideal.τ).loc Cert.Kernel25Ideal.main_arg16) = m ((c.tc : Thread Cert.Kernel25Ideal.nD Cert.Kernel25Ideal.τ).loc Cert.Kernel25Ideal.main_arg16)
          ∧ r.2.mem ((c.tc : Thread Cert.Kernel25Ideal.nD Cert.Kernel25Ideal.τ).loc Cert.Kernel25Ideal.main_arg17) = m ((c.tc : Thread Cert.Kernel25Ideal.nD Cert.Kernel25Ideal.τ).loc Cert.Kernel25Ideal.main_arg17)
          ∧ r.2.mem ((c.tc : Thread Cert.Kernel25Ideal.nD Cert.Kernel25Ideal.τ).loc Cert.Kernel25Ideal.main_arg18) = m ((c.tc : Thread Cert.Kernel25Ideal.nD Cert.Kernel25Ideal.τ).loc Cert.Kernel25Ideal.main_arg18)
          ∧ r.2.mem ((c.tc : Thread Cert.Kernel25Ideal.nD Cert.Kernel25Ideal.τ).loc Cert.Kernel25Ideal.main_arg19) = m ((c.tc : Thread Cert.Kernel25Ideal.nD Cert.Kernel25Ideal.τ).loc Cert.Kernel25Ideal.main_arg19)
          ∧ r.2.mem ((c.tc : Thread Cert.Kernel25Ideal.nD Cert.Kernel25Ideal.τ).loc Cert.Kernel25Ideal.main_arg20) = m ((c.tc : Thread Cert.Kernel25Ideal.nD Cert.Kernel25Ideal.τ).loc Cert.Kernel25Ideal.main_arg20)
          ∧ r.2.mem ((c.tc : Thread Cert.Kernel25Ideal.nD Cert.Kernel25Ideal.τ).loc Cert.Kernel25Ideal.main_arg21) = m ((c.tc : Thread Cert.Kernel25Ideal.nD Cert.Kernel25Ideal.τ).loc Cert.Kernel25Ideal.main_arg21)
          ∧ r.2.mem ((c.tc : Thread Cert.Kernel25Ideal.nD Cert.Kernel25Ideal.τ).loc Cert.Kernel25Ideal.main_arg22) = m ((c.tc : Thread Cert.Kernel25Ideal.nD Cert.Kernel25Ideal.τ).loc Cert.Kernel25Ideal.main_arg22)
          ∧ r.2.mem ((c.tc : Thread Cert.Kernel25Ideal.nD Cert.Kernel25Ideal.τ).loc Cert.Kernel25Ideal.main_arg23) = m ((c.tc : Thread Cert.Kernel25Ideal.nD Cert.Kernel25Ideal.τ).loc Cert.Kernel25Ideal.main_arg23)
          ∧ r.2.mem ((c.tc : Thread Cert.Kernel25Ideal.nD Cert.Kernel25Ideal.τ).loc Cert.Kernel25Ideal.main_arg24) = m ((c.tc : Thread Cert.Kernel25Ideal.nD Cert.Kernel25Ideal.τ).loc Cert.Kernel25Ideal.main_arg24)
          ∧ r.2.mem ((c.tc : Thread Cert.Kernel25Ideal.nD Cert.Kernel25Ideal.τ).loc Cert.Kernel25Ideal.main_arg25) = m ((c.tc : Thread Cert.Kernel25Ideal.nD Cert.Kernel25Ideal.τ).loc Cert.Kernel25Ideal.main_arg25)
          ∧ r.2.mem ((c.tc : Thread Cert.Kernel25Ideal.nD Cert.Kernel25Ideal.τ).loc Cert.Kernel25Ideal.main_arg26) = m ((c.tc : Thread Cert.Kernel25Ideal.nD Cert.Kernel25Ideal.τ).loc Cert.Kernel25Ideal.main_arg26)
          ∧ r.2.mem ((c.tc : Thread Cert.Kernel25Ideal.nD Cert.Kernel25Ideal.τ).loc Cert.Kernel25Ideal.main_arg27) = m ((c.tc : Thread Cert.Kernel25Ideal.nD Cert.Kernel25Ideal.τ).loc Cert.Kernel25Ideal.main_arg27)
          ∧ r.2.mem ((c.tc : Thread Cert.Kernel25Ideal.nD Cert.Kernel25Ideal.τ).loc Cert.Kernel25Ideal.main_arg28) = m ((c.tc : Thread Cert.Kernel25Ideal.nD Cert.Kernel25Ideal.τ).loc Cert.Kernel25Ideal.main_arg28)
          ∧ r.2.mem ((c.tc : Thread Cert.Kernel25Ideal.nD Cert.Kernel25Ideal.τ).loc Cert.Kernel25Ideal.main_arg29) = m ((c.tc : Thread Cert.Kernel25Ideal.nD Cert.Kernel25Ideal.τ).loc Cert.Kernel25Ideal.main_arg29)
          ∧ r.2.mem ((c.tc : Thread Cert.Kernel25Ideal.nD Cert.Kernel25Ideal.τ).loc Cert.Kernel25Ideal.main_arg30) = m ((c.tc : Thread Cert.Kernel25Ideal.nD Cert.Kernel25Ideal.τ).loc Cert.Kernel25Ideal.main_arg30)
          ∧ r.2.mem ((c.tc : Thread Cert.Kernel25Ideal.nD Cert.Kernel25Ideal.τ).loc Cert.Kernel25Ideal.main_arg31) = m ((c.tc : Thread Cert.Kernel25Ideal.nD Cert.Kernel25Ideal.τ).loc Cert.Kernel25Ideal.main_arg31)
          ∧ r.2.mem ((c.tc : Thread Cert.Kernel25Ideal.nD Cert.Kernel25Ideal.τ).loc Cert.Kernel25Ideal.main_arg32) = m ((c.tc : Thread Cert.Kernel25Ideal.nD Cert.Kernel25Ideal.τ).loc Cert.Kernel25Ideal.main_arg32)
          ∧ r.2.mem ((c.tc : Thread Cert.Kernel25Ideal.nD Cert.Kernel25Ideal.τ).loc Cert.Kernel25Ideal.main_arg33) = m ((c.tc : Thread Cert.Kernel25Ideal.nD Cert.Kernel25Ideal.τ).loc Cert.Kernel25Ideal.main_arg33))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_v25) = v4 c
          ∧ r.2.mem ((c.tc : Thread Cert.Reference25Ideal.nD Cert.Reference25Ideal.τ).loc Cert.Reference25Ideal.main_v49) = v5 c
          ∧ r.2.mem ((c.tc : Thread Cert.Reference25Ideal.nD Cert.Reference25Ideal.τ).loc Cert.Reference25Ideal.main_v30) = v6 c
          ∧ r.2.mem ((c.tc : Thread Cert.Reference25Ideal.nD Cert.Reference25Ideal.τ).loc Cert.Reference25Ideal.main_v36) = v7 c
          ∧ r.2.mem ((c.tc : Thread Cert.Reference25Ideal.nD Cert.Reference25Ideal.τ).loc Cert.Reference25Ideal.main_v50) = v8 c
          ∧ r.2.mem ((c.tc : Thread Cert.Reference25Ideal.nD Cert.Reference25Ideal.τ).loc Cert.Reference25Ideal.main_v74) = v9 c
          ∧ r.2.mem ((c.tc : Thread Cert.Reference25Ideal.nD Cert.Reference25Ideal.τ).loc Cert.Reference25Ideal.main_v55) = v10 c
          ∧ r.2.mem ((c.tc : Thread Cert.Reference25Ideal.nD Cert.Reference25Ideal.τ).loc Cert.Reference25Ideal.main_v61) = v11 c
          ∧ r.2.mem ((c.tc : Thread Cert.Reference25Ideal.nD Cert.Reference25Ideal.τ).loc Cert.Reference25Ideal.main_v75) = v12 c
          ∧ r.2.mem ((c.tc : Thread Cert.Reference25Ideal.nD Cert.Reference25Ideal.τ).loc Cert.Reference25Ideal.main_v99) = v13 c
          ∧ r.2.mem ((c.tc : Thread Cert.Reference25Ideal.nD Cert.Reference25Ideal.τ).loc Cert.Reference25Ideal.main_v80) = v14 c
          ∧ r.2.mem ((c.tc : Thread Cert.Reference25Ideal.nD Cert.Reference25Ideal.τ).loc Cert.Reference25Ideal.main_v86) = v15 c
          ∧ r.2.mem ((c.tc : Thread Cert.Reference25Ideal.nD Cert.Reference25Ideal.τ).loc Cert.Reference25Ideal.main_v100) = v16 c
          ∧ r.2.mem ((c.tc : Thread Cert.Reference25Ideal.nD Cert.Reference25Ideal.τ).loc Cert.Reference25Ideal.main_v124) = v17 c
          ∧ r.2.mem ((c.tc : Thread Cert.Reference25Ideal.nD Cert.Reference25Ideal.τ).loc Cert.Reference25Ideal.main_v105) = v18 c
          ∧ r.2.mem ((c.tc : Thread Cert.Reference25Ideal.nD Cert.Reference25Ideal.τ).loc Cert.Reference25Ideal.main_v111) = v19 c
          ∧ r.2.mem ((c.tc : Thread Cert.Reference25Ideal.nD Cert.Reference25Ideal.τ).loc Cert.Reference25Ideal.main_v125) = v20 c
          ∧ r.2.mem ((c.tc : Thread Cert.Reference25Ideal.nD Cert.Reference25Ideal.τ).loc Cert.Reference25Ideal.main_v149) = v21 c
          ∧ r.2.mem ((c.tc : Thread Cert.Reference25Ideal.nD Cert.Reference25Ideal.τ).loc Cert.Reference25Ideal.main_v130) = v22 c
          ∧ r.2.mem ((c.tc : Thread Cert.Reference25Ideal.nD Cert.Reference25Ideal.τ).loc Cert.Reference25Ideal.main_v136) = v23 c
          ∧ r.2.mem ((c.tc : Thread Cert.Reference25Ideal.nD Cert.Reference25Ideal.τ).loc Cert.Reference25Ideal.main_v150) = v24 c
          ∧ r.2.mem ((c.tc : Thread Cert.Reference25Ideal.nD Cert.Reference25Ideal.τ).loc Cert.Reference25Ideal.main_v174) = v25 c
          ∧ r.2.mem ((c.tc : Thread Cert.Reference25Ideal.nD Cert.Reference25Ideal.τ).loc Cert.Reference25Ideal.main_v155) = v26 c
          ∧ r.2.mem ((c.tc : Thread Cert.Reference25Ideal.nD Cert.Reference25Ideal.τ).loc Cert.Reference25Ideal.main_v161) = v27 c
          ∧ r.2.mem ((c.tc : Thread Cert.Reference25Ideal.nD Cert.Reference25Ideal.τ).loc Cert.Reference25Ideal.main_v175) = v28 c
          ∧ r.2.mem ((c.tc : Thread Cert.Reference25Ideal.nD Cert.Reference25Ideal.τ).loc Cert.Reference25Ideal.main_v199) = v29 c
          ∧ r.2.mem ((c.tc : Thread Cert.Reference25Ideal.nD Cert.Reference25Ideal.τ).loc Cert.Reference25Ideal.main_v180) = v30 c
          ∧ r.2.mem ((c.tc : Thread Cert.Reference25Ideal.nD Cert.Reference25Ideal.τ).loc Cert.Reference25Ideal.main_v186) = v31 c
          ∧ r.2.mem ((c.tc : Thread Cert.Reference25Ideal.nD Cert.Reference25Ideal.τ).loc Cert.Reference25Ideal.main_v200) = v32 c
          ∧ r.2.mem ((c.tc : Thread Cert.Reference25Ideal.nD Cert.Reference25Ideal.τ).loc Cert.Reference25Ideal.main_v224) = v33 c
          ∧ r.2.mem ((c.tc : Thread Cert.Reference25Ideal.nD Cert.Reference25Ideal.τ).loc Cert.Reference25Ideal.main_v205) = v34 c
          ∧ r.2.mem ((c.tc : Thread Cert.Reference25Ideal.nD Cert.Reference25Ideal.τ).loc Cert.Reference25Ideal.main_v211) = v35 c
          ∧ r.2.mem ((c.tc : Thread Cert.Reference25Ideal.nD Cert.Reference25Ideal.τ).loc Cert.Reference25Ideal.main_v225) = v36 c
          ∧ r.2.mem ((c.tc : Thread Cert.Reference25Ideal.nD Cert.Reference25Ideal.τ).loc Cert.Reference25Ideal.main_v249) = v37 c
          ∧ r.2.mem ((c.tc : Thread Cert.Reference25Ideal.nD Cert.Reference25Ideal.τ).loc Cert.Reference25Ideal.main_v230) = v38 c
          ∧ r.2.mem ((c.tc : Thread Cert.Reference25Ideal.nD Cert.Reference25Ideal.τ).loc Cert.Reference25Ideal.main_v236) = v39 c
          ∧ r.2.mem ((c.tc : Thread Cert.Reference25Ideal.nD Cert.Reference25Ideal.τ).loc Cert.Reference25Ideal.main_v250) = v40 c
          ∧ r.2.mem ((c.tc : Thread Cert.Reference25Ideal.nD Cert.Reference25Ideal.τ).loc Cert.Reference25Ideal.main_v274) = v41 c
          ∧ r.2.mem ((c.tc : Thread Cert.Reference25Ideal.nD Cert.Reference25Ideal.τ).loc Cert.Reference25Ideal.main_v255) = v42 c
          ∧ r.2.mem ((c.tc : Thread Cert.Reference25Ideal.nD Cert.Reference25Ideal.τ).loc Cert.Reference25Ideal.main_v261) = v43 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8)
          ∧ r.2.mem ((c.tc : Thread Cert.Reference25Ideal.nD Cert.Reference25Ideal.τ).loc Cert.Reference25Ideal.main_arg9) = m' ((c.tc : Thread Cert.Reference25Ideal.nD Cert.Reference25Ideal.τ).loc Cert.Reference25Ideal.main_arg9)
          ∧ r.2.mem ((c.tc : Thread Cert.Reference25Ideal.nD Cert.Reference25Ideal.τ).loc Cert.Reference25Ideal.main_arg10) = m' ((c.tc : Thread Cert.Reference25Ideal.nD Cert.Reference25Ideal.τ).loc Cert.Reference25Ideal.main_arg10)
          ∧ r.2.mem ((c.tc : Thread Cert.Reference25Ideal.nD Cert.Reference25Ideal.τ).loc Cert.Reference25Ideal.main_arg11) = m' ((c.tc : Thread Cert.Reference25Ideal.nD Cert.Reference25Ideal.τ).loc Cert.Reference25Ideal.main_arg11)
          ∧ r.2.mem ((c.tc : Thread Cert.Reference25Ideal.nD Cert.Reference25Ideal.τ).loc Cert.Reference25Ideal.main_arg12) = m' ((c.tc : Thread Cert.Reference25Ideal.nD Cert.Reference25Ideal.τ).loc Cert.Reference25Ideal.main_arg12)
          ∧ r.2.mem ((c.tc : Thread Cert.Reference25Ideal.nD Cert.Reference25Ideal.τ).loc Cert.Reference25Ideal.main_arg13) = m' ((c.tc : Thread Cert.Reference25Ideal.nD Cert.Reference25Ideal.τ).loc Cert.Reference25Ideal.main_arg13)
          ∧ r.2.mem ((c.tc : Thread Cert.Reference25Ideal.nD Cert.Reference25Ideal.τ).loc Cert.Reference25Ideal.main_arg14) = m' ((c.tc : Thread Cert.Reference25Ideal.nD Cert.Reference25Ideal.τ).loc Cert.Reference25Ideal.main_arg14)
          ∧ r.2.mem ((c.tc : Thread Cert.Reference25Ideal.nD Cert.Reference25Ideal.τ).loc Cert.Reference25Ideal.main_arg15) = m' ((c.tc : Thread Cert.Reference25Ideal.nD Cert.Reference25Ideal.τ).loc Cert.Reference25Ideal.main_arg15)
          ∧ r.2.mem ((c.tc : Thread Cert.Reference25Ideal.nD Cert.Reference25Ideal.τ).loc Cert.Reference25Ideal.main_arg16) = m' ((c.tc : Thread Cert.Reference25Ideal.nD Cert.Reference25Ideal.τ).loc Cert.Reference25Ideal.main_arg16)
          ∧ r.2.mem ((c.tc : Thread Cert.Reference25Ideal.nD Cert.Reference25Ideal.τ).loc Cert.Reference25Ideal.main_arg17) = m' ((c.tc : Thread Cert.Reference25Ideal.nD Cert.Reference25Ideal.τ).loc Cert.Reference25Ideal.main_arg17)
          ∧ r.2.mem ((c.tc : Thread Cert.Reference25Ideal.nD Cert.Reference25Ideal.τ).loc Cert.Reference25Ideal.main_arg18) = m' ((c.tc : Thread Cert.Reference25Ideal.nD Cert.Reference25Ideal.τ).loc Cert.Reference25Ideal.main_arg18)
          ∧ r.2.mem ((c.tc : Thread Cert.Reference25Ideal.nD Cert.Reference25Ideal.τ).loc Cert.Reference25Ideal.main_arg19) = m' ((c.tc : Thread Cert.Reference25Ideal.nD Cert.Reference25Ideal.τ).loc Cert.Reference25Ideal.main_arg19)
          ∧ r.2.mem ((c.tc : Thread Cert.Reference25Ideal.nD Cert.Reference25Ideal.τ).loc Cert.Reference25Ideal.main_arg20) = m' ((c.tc : Thread Cert.Reference25Ideal.nD Cert.Reference25Ideal.τ).loc Cert.Reference25Ideal.main_arg20)
          ∧ r.2.mem ((c.tc : Thread Cert.Reference25Ideal.nD Cert.Reference25Ideal.τ).loc Cert.Reference25Ideal.main_arg21) = m' ((c.tc : Thread Cert.Reference25Ideal.nD Cert.Reference25Ideal.τ).loc Cert.Reference25Ideal.main_arg21)
          ∧ r.2.mem ((c.tc : Thread Cert.Reference25Ideal.nD Cert.Reference25Ideal.τ).loc Cert.Reference25Ideal.main_arg22) = m' ((c.tc : Thread Cert.Reference25Ideal.nD Cert.Reference25Ideal.τ).loc Cert.Reference25Ideal.main_arg22)
          ∧ r.2.mem ((c.tc : Thread Cert.Reference25Ideal.nD Cert.Reference25Ideal.τ).loc Cert.Reference25Ideal.main_arg23) = m' ((c.tc : Thread Cert.Reference25Ideal.nD Cert.Reference25Ideal.τ).loc Cert.Reference25Ideal.main_arg23)
          ∧ r.2.mem ((c.tc : Thread Cert.Reference25Ideal.nD Cert.Reference25Ideal.τ).loc Cert.Reference25Ideal.main_arg24) = m' ((c.tc : Thread Cert.Reference25Ideal.nD Cert.Reference25Ideal.τ).loc Cert.Reference25Ideal.main_arg24)
          ∧ r.2.mem ((c.tc : Thread Cert.Reference25Ideal.nD Cert.Reference25Ideal.τ).loc Cert.Reference25Ideal.main_arg25) = m' ((c.tc : Thread Cert.Reference25Ideal.nD Cert.Reference25Ideal.τ).loc Cert.Reference25Ideal.main_arg25)
          ∧ r.2.mem ((c.tc : Thread Cert.Reference25Ideal.nD Cert.Reference25Ideal.τ).loc Cert.Reference25Ideal.main_arg26) = m' ((c.tc : Thread Cert.Reference25Ideal.nD Cert.Reference25Ideal.τ).loc Cert.Reference25Ideal.main_arg26)
          ∧ r.2.mem ((c.tc : Thread Cert.Reference25Ideal.nD Cert.Reference25Ideal.τ).loc Cert.Reference25Ideal.main_arg27) = m' ((c.tc : Thread Cert.Reference25Ideal.nD Cert.Reference25Ideal.τ).loc Cert.Reference25Ideal.main_arg27)
          ∧ r.2.mem ((c.tc : Thread Cert.Reference25Ideal.nD Cert.Reference25Ideal.τ).loc Cert.Reference25Ideal.main_arg28) = m' ((c.tc : Thread Cert.Reference25Ideal.nD Cert.Reference25Ideal.τ).loc Cert.Reference25Ideal.main_arg28)
          ∧ r.2.mem ((c.tc : Thread Cert.Reference25Ideal.nD Cert.Reference25Ideal.τ).loc Cert.Reference25Ideal.main_arg29) = m' ((c.tc : Thread Cert.Reference25Ideal.nD Cert.Reference25Ideal.τ).loc Cert.Reference25Ideal.main_arg29)
          ∧ r.2.mem ((c.tc : Thread Cert.Reference25Ideal.nD Cert.Reference25Ideal.τ).loc Cert.Reference25Ideal.main_arg30) = m' ((c.tc : Thread Cert.Reference25Ideal.nD Cert.Reference25Ideal.τ).loc Cert.Reference25Ideal.main_arg30)
          ∧ r.2.mem ((c.tc : Thread Cert.Reference25Ideal.nD Cert.Reference25Ideal.τ).loc Cert.Reference25Ideal.main_arg31) = m' ((c.tc : Thread Cert.Reference25Ideal.nD Cert.Reference25Ideal.τ).loc Cert.Reference25Ideal.main_arg31)
          ∧ r.2.mem ((c.tc : Thread Cert.Reference25Ideal.nD Cert.Reference25Ideal.τ).loc Cert.Reference25Ideal.main_arg32) = m' ((c.tc : Thread Cert.Reference25Ideal.nD Cert.Reference25Ideal.τ).loc Cert.Reference25Ideal.main_arg32)
          ∧ r.2.mem ((c.tc : Thread Cert.Reference25Ideal.nD Cert.Reference25Ideal.τ).loc Cert.Reference25Ideal.main_arg33) = m' ((c.tc : Thread Cert.Reference25Ideal.nD Cert.Reference25Ideal.τ).loc Cert.Reference25Ideal.main_arg33))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v12) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v12) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S2048x1024 : Shape := ⟨2, ![2048, 1024]⟩
abbrev S256x1024 : Shape := ⟨2, ![256, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S2048x1024 .bf16) (main_arg1 : FVec F S256x1024 .bf16) (main_arg2 : FVec F S256x1024 .bf16) (main_arg3 : FVec F S2048x1024 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S256x1024 .f32 := (extf .f32 · bitsLt_bf16_f32) main_arg1
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  let main_c_1 : IVec S_ 1 := constantI S_ 1 1#1
  let main_v9 : IVec S_ 1 := (fun x v => Host.reduce IntOp.andi x v reducesTo_S256x1024_S_d0_1 h_S_) main_v8 main_c_1
  let main_v10 : IVec S_ 1 := andi main_v4 main_v9
  main_v10
-- ==== Kernel.lean ====
abbrev S2048x1024 : Shape := ⟨2, ![2048, 1024]⟩
abbrev S256x1024 : Shape := ⟨2, ![256, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 7
  | .vmem => 16
  | .smem => 0
  | _ => 0

abbrev bufTy : (tb : Table) → Fin (tcTables nBuf tb) → BufTy
  | .hbm, ⟨0, _⟩ => ⟨S2048x1024, .bf16⟩
  | .hbm, ⟨1, _⟩ => ⟨S256x1024, .bf16⟩
  | .hbm, ⟨2, _⟩ => ⟨S256x1024, .bf16⟩
  | .hbm, ⟨3, _⟩ => ⟨S2048x1024, .bf16⟩
  | .hbm, ⟨4, _⟩ => ⟨S2048x1024, .bf16⟩
  | .hbm, ⟨5, _⟩ => ⟨S256x1024, .bf16⟩
  | .hbm, ⟨6, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .f32⟩
  | .local _ .vmem, ⟨15, _⟩ => ⟨S256x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_27 : BitVec 32 := 0#32
  let v45 : BitVec 1 := Scalar.cmpi .eq arg1 c0_i32_27
  let v46 : BitVec 32 := Scalar.extui v45
  let c0_i32_28 : BitVec 32 := 0#32
  let v47 : BitVec 1 := Scalar.cmpi .ne v46 c0_i32_28
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2048x1024 : Shape := ⟨2, ![2048, 1024]⟩
abbrev S256x1024 : Shape := ⟨2, ![256, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩

abbrev nBuf : Space → Nat
  | .hbm => 87
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x1024, .bf16⟩
  | .hbm, ⟨2, _⟩ => ⟨S256x1024, .bf16⟩
  | .hbm, ⟨3, _⟩ => ⟨S2048x1024, .bf16⟩
  | .hbm, ⟨4, _⟩ => ⟨S2048x1024, .f32⟩
  | .hbm, ⟨5, _⟩ => ⟨S2048x4x256, .f32⟩
  | .hbm, ⟨6, _⟩ => ⟨S256x1024, .f32⟩
  | .hbm, ⟨7, _⟩ => ⟨S256x4x256, .f32⟩
  | .hbm, ⟨8, _⟩ => ⟨S256x1024, .f32⟩
  | .hbm, ⟨9, _⟩ => ⟨S256x4x256, .f32⟩
  | .hbm, ⟨10, _⟩ => ⟨S4x2048x256, .f32⟩
  | .hbm, ⟨11, _⟩ => ⟨S_, .f32⟩
  | .hbm, ⟨12, _⟩ => ⟨S4x2048x256, .f32⟩
  | .hbm, ⟨13, _⟩ => ⟨S4x2048x256, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S4x2048x256, .f32⟩
  | .hbm, ⟨18, _⟩ => ⟨S4x2048x256, .i1⟩
  | .hbm, ⟨19, _⟩ => ⟨S4x2048x256, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .i1⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | .hbm, ⟨38, _⟩ => ⟨S4x2048, .f32⟩
  | .hbm, ⟨39, _⟩ => ⟨S4x2048x1, .f32⟩
  | .hbm, ⟨40, _⟩ => ⟨S4x2048x256, .f32⟩
  | .hbm, ⟨41, _⟩ => ⟨S4x2048x256, .f32⟩
  | .hbm, ⟨42, _⟩ => ⟨S4x2048x256, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S4x2048x256, .f32⟩
  | .hbm, ⟨47, _⟩ => ⟨S4x2048x256, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x256x2048, .f32⟩
  | .hbm, ⟨53, _⟩ => ⟨S2048x4x256, .f32⟩
  | .hbm, ⟨54, _⟩ => ⟨S2048x1024, .f32⟩
  | .hbm, ⟨55, _⟩ => ⟨S2048x4x256, .f32⟩
  | .hbm, ⟨56, _⟩ => ⟨S4x256x2048, .f32⟩
  | .hbm, ⟨57, _⟩ => ⟨S4x2048x256, .f32⟩
  | .hbm, ⟨58, _⟩ => ⟨S4x256x256, .f32⟩
  | .hbm, ⟨59, _⟩ => ⟨S256x4x256, .f32⟩
  | .hbm, ⟨60, _⟩ => ⟨S4x2048x256, .f32⟩
  | .hbm, ⟨61, _⟩ => ⟨S4x2048x256, .f32⟩
  | .hbm, ⟨62, _⟩ => ⟨S4x2048x256, .f32⟩
  | .hbm, ⟨63, _⟩ => ⟨S_, .f32⟩
  | .hbm, ⟨64, _⟩ => ⟨S4x2048, .f32⟩
  | .hbm, ⟨65, _⟩ => ⟨S4x2048x1, .f32⟩
  | .hbm, ⟨66, _⟩ => ⟨S4x2048x1, .f32⟩
  | .hbm, ⟨67, _⟩ => ⟨S4x2048x256, .f32⟩
  | .hbm, ⟨68, _⟩ => ⟨S4x2048x256, .f32⟩
  | .hbm, ⟨69, _⟩ => ⟨S_, .f32⟩
  | .hbm, ⟨70, _⟩ => ⟨S4x2048, .f32⟩
  | .hbm, ⟨71, _⟩ => ⟨S4x2048x256, .f32⟩
  | .hbm, ⟨72, _⟩ => ⟨S4x2048x256, .f32⟩
  | .hbm, ⟨73, _⟩ => ⟨S4x2048x256, .f32⟩
  | .hbm, ⟨74, _⟩ => ⟨S_, .f32⟩
  | .hbm, ⟨75, _⟩ => ⟨S4x2048x256, .f32⟩
  | .hbm, ⟨76, _⟩ => ⟨S4x2048x256, .f32⟩
  | .hbm, ⟨77, _⟩ => ⟨S4x256x256, .f32⟩
  | .hbm, ⟨78, _⟩ => ⟨S256x4x256, .f32⟩
  | .hbm, ⟨79, _⟩ => ⟨S4x2048x256, .f32⟩
  | .hbm, ⟨80, _⟩ => ⟨S2048x4x256, .f32⟩
  | .hbm, ⟨81, _⟩ => ⟨S2048x1024, .f32⟩
  | .hbm, ⟨82, _⟩ => ⟨S2048x1024, .bf16⟩
  | .hbm, ⟨83, _⟩ => ⟨S256x1024, .f32⟩
  | .hbm, ⟨84, _⟩ => ⟨S256x1024, .bf16⟩
  | .hbm, ⟨85, _⟩ => ⟨S256x1024, .f32⟩
  | .hbm, ⟨86, _⟩ => ⟨S256x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel2.lean ====
abbrev S2048x1024 : Shape := ⟨2, ![2048, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S2048x4096 : Shape := ⟨2, ![2048, 4096]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S1024x4096, .bf16⟩
  | .hbm, ⟨3, _⟩ => ⟨S1024x4x1024, .bf16⟩
  | .hbm, ⟨4, _⟩ => ⟨S4x1024x1024, .bf16⟩
  | .hbm, ⟨5, _⟩ => ⟨S2048x4096, .bf16⟩
  | .hbm, ⟨6, _⟩ => ⟨S2048x4096, .bf16⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S2048x1024, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .bf16⟩
  | .hbm, ⟨9, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel3.lean ====
abbrev S2048x4096 : Shape := ⟨2, ![2048, 4096]⟩
abbrev S4096x1024 : Shape := ⟨2, ![4096, 1024]⟩
abbrev S4x1024x1024 : Shape := ⟨3, ![4, 1024, 1024]⟩
abbrev S2048x1024 : Shape := ⟨2, ![2048, 1024]⟩
abbrev S1024x4096 : Shape := ⟨2, ![1024, 4096]⟩
abbrev S4x1024x512 : Shape := ⟨3, ![4, 1024, 512]⟩
abbrev S1024x512 : Shape := ⟨2, ![1024, 512]⟩
abbrev S1024x1024 : Shape := ⟨2, ![1024, 1024]⟩
abbrev S1x1024x512 : Shape := ⟨3, ![1, 1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .f32⟩
  | .hbm, ⟨2, _⟩ => ⟨S4096x1024, .bf16⟩
  | .hbm, ⟨3, _⟩ => ⟨S4x1024x1024, .bf16⟩
  | .hbm, ⟨4, _⟩ => ⟨S2048x1024, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x512, .bf16⟩
  | .local _ .vmem, ⟨3, _⟩ => ⟨S4x1024x512, .bf16⟩
  | .local _ .vmem, ⟨4, _⟩ => ⟨S1024x512, .f32⟩
  | .local _ .vmem, ⟨5, _⟩ => ⟨S1024x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x4096 : Shape := ⟨2, ![2048, 4096]⟩
abbrev S4096x1024 : Shape := ⟨2, ![4096, 1024]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .f32⟩
  | .hbm, ⟨2, _⟩ => ⟨S2048x4096, .f32⟩
  | .hbm, ⟨3, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S2048x512 : Shape := ⟨2, ![2048, 512]⟩
abbrev S512x1024 : Shape := ⟨2, ![512, 1024]⟩

abbrev nBuf : Space → Nat
  | .hbm => 9
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S2048x1024, .bf16⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S2048x4096, .bf16⟩
  | .hbm, ⟨8, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .bf16⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S2048x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S2048x4096 : Shape := ⟨2, ![2048, 4096]⟩
abbrev S4096x1024 : Shape := ⟨2, ![4096, 1024]⟩
abbrev S2048x1024 : Shape := ⟨2, ![2048, 1024]⟩
abbrev S4x1024x1024 : Shape := ⟨3, ![4, 1024, 1024]⟩
abbrev S_ : Shape := ⟨0, ![]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 12
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .bf16⟩
  | .hbm, ⟨3, _⟩ => ⟨S4096x1024, .bf16⟩
  | .hbm, ⟨4, _⟩ => ⟨S4x1024x1024, .bf16⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .bf16⟩
  | .hbm, ⟨10, _⟩ => ⟨S2048x4096, .bf16⟩
  | .hbm, ⟨11, _⟩ => ⟨S2048x4096, .bf16⟩
  | .local _ .vmem, ⟨0, _⟩ => ⟨S2048x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .bf16⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x1024, .f32⟩
  | .hbm, ⟨16, _⟩ => ⟨S2048x1024, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | .hbm, ⟨22, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel6.lean ====
abbrev S2048x1024 : Shape := ⟨2, ![2048, 1024]⟩
abbrev S2048x4096 : Shape := ⟨2, ![2048, 4096]⟩
abbrev S4x1024x1024 : Shape := ⟨3, ![4, 1024, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4x1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x4x1024, .bf16⟩
  | .hbm, ⟨11, _⟩ => ⟨S4x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S2048x4096 : Shape := ⟨2, ![2048, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S2048x1024 : Shape := ⟨2, ![2048, 1024]⟩
abbrev S4x512x1024 : Shape := ⟨3, ![4, 512, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .f32⟩
  | .hbm, ⟨2, _⟩ => ⟨S1024x4096, .bf16⟩
  | .hbm, ⟨3, _⟩ => ⟨S1024x4x1024, .bf16⟩
  | .hbm, ⟨4, _⟩ => ⟨S4x1024x1024, .bf16⟩
  | .hbm, ⟨5, _⟩ => ⟨S2048x1024, .f32⟩
  | .local _ .vmem, ⟨0, _⟩ => ⟨S1024x4096, .bf16⟩
  | .local _ .vmem, ⟨1, _⟩ => ⟨S1024x4096, .bf16⟩
  | .local _ .vmem, ⟨2, _⟩ => ⟨S4x512x1024, .bf16⟩
  | .local _ .vmem, ⟨3, _⟩ => ⟨S4x512x1024, .bf16⟩
  | .local _ .vmem, ⟨4, _⟩ => ⟨S1024x512, .f32⟩
  | .local _ .vmem, ⟨5, _⟩ => ⟨S1024x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x4096 : Shape := ⟨2, ![2048, 4096]⟩
abbrev S1024x4096 : Shape := ⟨2, ![1024, 4096]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .f32⟩
  | .hbm, ⟨2, _⟩ => ⟨S_, .f32⟩
  | .hbm, ⟨3, _⟩ => ⟨S2048x1024, .f32⟩
  | .hbm, ⟨4, _⟩ => ⟨S2048x4096, .f32⟩
  | .hbm, ⟨5, _⟩ => ⟨S2048x4096, .f32⟩
  | .hbm, ⟨6, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S2048x1024 : Shape := ⟨2, ![2048, 1024]⟩
abbrev S3200x1024 : Shape := ⟨2, ![3200, 1024]⟩
abbrev S2048x3072 : Shape := ⟨2, ![2048, 3072]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S3200x1024, .bf16⟩
  | .hbm, ⟨2, _⟩ => ⟨S2048x3072, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x1024 : Shape := ⟨2, ![2048, 1024]⟩
abbrev S3200x1024 : Shape := ⟨2, ![3200, 1024]⟩
abbrev S3072x1024 : Shape := ⟨2, ![3072, 1024]⟩
abbrev S1024x3072 : Shape := ⟨2, ![1024, 3072]⟩
abbrev S2048x3072 : Shape := ⟨2, ![2048, 3072]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3200x1024, .bf16⟩
  | .hbm, ⟨2, _⟩ => ⟨S3072x1024, .bf16⟩
  | .hbm, ⟨3, _⟩ => ⟨S1024x3072, .bf16⟩
  | .hbm, ⟨4, _⟩ => ⟨S2048x1024, .f32⟩
  | .hbm, ⟨5, _⟩ => ⟨S1024x3072, .f32⟩
  | .hbm, ⟨6, _⟩ => ⟨S2048x3072, .f32⟩
  | .hbm, ⟨7, _⟩ => ⟨S2048x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S2048x1024 : Shape := ⟨2, ![2048, 1024]⟩
abbrev S3200x1024 : Shape := ⟨2, ![3200, 1024]⟩
abbrev S2048x128 : Shape := ⟨2, ![2048, 128]⟩
abbrev S128x1024 : Shape := ⟨2, ![128, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S3200x1024, .bf16⟩
  | .hbm, ⟨2, _⟩ => ⟨S2048x128, .f32⟩
  | .local _ .vmem, ⟨0, _⟩ => ⟨S2048x1024, .bf16⟩
  | .local _ .vmem, ⟨1, _⟩ => ⟨S128x1024, .bf16⟩
  | .local _ .vmem, ⟨2, _⟩ => ⟨S2048x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference9Ideal.lean ====
abbrev S2048x1024 : Shape := ⟨2, ![2048, 1024]⟩
abbrev S3200x1024 : Shape := ⟨2, ![3200, 1024]⟩
abbrev S128x1024 : Shape := ⟨2, ![128, 1024]⟩
abbrev S1024x128 : Shape := ⟨2, ![1024, 128]⟩
abbrev S2048x128 : Shape := ⟨2, ![2048, 128]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3200x1024, .bf16⟩
  | .hbm, ⟨2, _⟩ => ⟨S128x1024, .bf16⟩
  | .hbm, ⟨3, _⟩ => ⟨S1024x128, .bf16⟩
  | .hbm, ⟨4, _⟩ => ⟨S2048x1024, .f32⟩
  | .hbm, ⟨5, _⟩ => ⟨S1024x128, .f32⟩
  | .hbm, ⟨6, _⟩ => ⟨S2048x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S2048x1024 : Shape := ⟨2, ![2048, 1024]⟩
abbrev S1024x1024 : Shape := ⟨2, ![1024, 1024]⟩
abbrev S4x256x1024 : Shape := ⟨3, ![4, 256, 1024]⟩
abbrev S4x256x512 : Shape := ⟨3, ![4, 256, 512]⟩
abbrev S2048x512 : Shape := ⟨2, ![2048, 512]⟩
abbrev S2048x256 : Shape := ⟨2, ![2048, 256]⟩
abbrev S1x256x512 : Shape := ⟨3, ![1, 256, 512]⟩
abbrev S256x512 : Shape := ⟨2, ![256, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S1024x1024, .bf16⟩
  | .hbm, ⟨3, _⟩ => ⟨S4x256x1024, .bf16⟩
  | .hbm, ⟨4, _⟩ => ⟨S2048x1024, .f32⟩
  | .local _ .vmem, ⟨0, _⟩ => ⟨S2048x1024, .bf16⟩
  | .local _ .vmem, ⟨1, _⟩ => ⟨S4x256x512, .bf16⟩
  | .local _ .vmem, ⟨2, _⟩ => ⟨S4x256x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x1024 : Shape := ⟨2, ![2048, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩
abbrev S4x256x1024 : Shape := ⟨3, ![4, 256, 1024]⟩
abbrev S4x256x512 : Shape := ⟨3, ![4, 256, 512]⟩
abbrev S2048x512 : Shape := ⟨2, ![2048, 512]⟩
abbrev S2048x256 : Shape := ⟨2, ![2048, 256]⟩
abbrev S1x256x512 : Shape := ⟨3, ![1, 256, 512]⟩
abbrev S256x512 : Shape := ⟨2, ![256, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S1024x1024, .bf16⟩
  | .hbm, ⟨3, _⟩ => ⟨S4x256x1024, .bf16⟩
  | .hbm, ⟨4, _⟩ => ⟨S2048x1024, .bf16⟩
  | .local _ .vmem, ⟨0, _⟩ => ⟨S2048x1024, .bf16⟩
  | .local _ .vmem, ⟨1, _⟩ => ⟨S4x256x512, .bf16⟩
  | .local _ .vmem, ⟨2, _⟩ => ⟨S4x256x512, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S256x1024 : Shape := ⟨2, ![256, 1024]⟩
abbrev S1024x1024 : Shape := ⟨2, ![1024, 1024]⟩
abbrev S4x256x1024 : Shape := ⟨3, ![4, 256, 1024]⟩
abbrev S4x256x512 : Shape := ⟨3, ![4, 256, 512]⟩
abbrev S256x512 : Shape := ⟨2, ![256, 512]⟩
abbrev S256x256 : Shape := ⟨2, ![256, 256]⟩
abbrev S1x256x512 : Shape := ⟨3, ![1, 256, 512]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S1024x1024, .f32⟩
  | .hbm, ⟨2, _⟩ => ⟨S1024x1024, .bf16⟩
  | .hbm, ⟨3, _⟩ => ⟨S4x256x1024, .bf16⟩
  | .hbm, ⟨4, _⟩ => ⟨S256x1024, .bf16⟩
  | .local _ .vmem, ⟨0, _⟩ => ⟨S256x1024, .bf16⟩
  | .local _ .vmem, ⟨1, _⟩ => ⟨S4x256x512, .bf16⟩
  | .local _ .vmem, ⟨2, _⟩ => ⟨S4x256x512, .bf16⟩
  | .local _ .vmem, ⟨3, _⟩ => ⟨S256x512, .bf16⟩
  | .local _ .vmem, ⟨4, _⟩ => ⟨S256x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S256x1024 : Shape := ⟨2, ![256, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .f32⟩
  | .hbm, ⟨2, _⟩ => ⟨S256x1024, .f32⟩
  | .hbm, ⟨3, _⟩ => ⟨S256x1024, .f32⟩
  | .hbm, ⟨4, _⟩ => ⟨S256x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S2048x1024 : Shape := ⟨2, ![2048, 1024]⟩
abbrev S1024x1024 : Shape := ⟨2, ![1024, 1024]⟩
abbrev S4x256x1024 : Shape := ⟨3, ![4, 256, 1024]⟩
abbrev S1x256x1024 : Shape := ⟨3, ![1, 256, 1024]⟩
abbrev S2048x256 : Shape := ⟨2, ![2048, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S1024x1024, .bf16⟩
  | .hbm, ⟨3, _⟩ => ⟨S4x256x1024, .bf16⟩
  | .hbm, ⟨4, _⟩ => ⟨S2048x1024, .bf16⟩
  | .local _ .vmem, ⟨0, _⟩ => ⟨S2048x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S2048x256, .bf16⟩
  | .local _ .vmem, ⟨4, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S2048x1024 : Shape := ⟨2, ![2048, 1024]⟩
abbrev S1024x1024 : Shape := ⟨2, ![1024, 1024]⟩
abbrev S4x256x1024 : Shape := ⟨3, ![4, 256, 1024]⟩
abbrev S1x256x1024 : Shape := ⟨3, ![1, 256, 1024]⟩
abbrev S2048x256 : Shape := ⟨2, ![2048, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S1024x1024, .bf16⟩
  | .hbm, ⟨3, _⟩ => ⟨S4x256x1024, .bf16⟩
  | .hbm, ⟨4, _⟩ => ⟨S2048x1024, .f32⟩
  | .local _ .vmem, ⟨0, _⟩ => ⟨S2048x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S2048x256, .f32⟩
  | .local _ .vmem, ⟨4, _⟩ => ⟨S2048x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S256x1024 : Shape := ⟨2, ![256, 1024]⟩
abbrev S1024x1024 : Shape := ⟨2, ![1024, 1024]⟩
abbrev S256x512 : Shape := ⟨2, ![256, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S1024x1024, .bf16⟩
  | .local _ .vmem, ⟨0, _⟩ => ⟨S256x1024, .bf16⟩
  | .local _ .vmem, ⟨1, _⟩ => ⟨S256x512, .bf16⟩
  | .local _ .vmem, ⟨2, _⟩ => ⟨S256x512, .bf16⟩
  | .local _ .vmem, ⟨3, _⟩ => ⟨S1024x512, .bf16⟩
  | .local _ .vmem, ⟨4, _⟩ => ⟨S1024x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S256x1024 : Shape := ⟨2, ![256, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S_, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S256x1024 : Shape := ⟨2, ![256, 1024]⟩
abbrev S1024x1024 : Shape := ⟨2, ![1024, 1024]⟩
abbrev S4x256x1024 : Shape := ⟨3, ![4, 256, 1024]⟩
abbrev S1x256x1024 : Shape := ⟨3, ![1, 256, 1024]⟩
abbrev S256x256 : Shape := ⟨2, ![256, 256]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S1024x1024, .f32⟩
  | .hbm, ⟨2, _⟩ => ⟨S1024x1024, .bf16⟩
  | .hbm, ⟨3, _⟩ => ⟨S4x256x1024, .bf16⟩
  | .hbm, ⟨4, _⟩ => ⟨S256x1024, .f32⟩
  | .local _ .vmem, ⟨0, _⟩ => ⟨S256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S256x256, .f32⟩
  | .local _ .vmem, ⟨4, _⟩ => ⟨S256x256, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S256x1024 : Shape := ⟨2, ![256, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .f32⟩
  | .hbm, ⟨2, _⟩ => ⟨S_, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S2048x3200 : Shape := ⟨2, ![2048, 3200]⟩
abbrev S2048x1024 : Shape := ⟨2, ![2048, 1024]⟩
abbrev S3200x1024 : Shape := ⟨2, ![3200, 1024]⟩
abbrev S2048x640 : Shape := ⟨2, ![2048, 640]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x3200, .bf16⟩
  | .hbm, ⟨1, _⟩ => ⟨S2048x1024, .bf16⟩
  | .hbm, ⟨2, _⟩ => ⟨S3200x1024, .bf16⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S640x1024, .bf16⟩
  | .local _ .vmem, ⟨4, _⟩ => ⟨S640x1024, .bf16⟩
  | _, _ => ⟨S2048x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S2048x3200 : Shape := ⟨2, ![2048, 3200]⟩
abbrev S2048x1024 : Shape := ⟨2, ![2048, 1024]⟩
abbrev S_ : Shape := ⟨0, ![]⟩
abbrev S1024x3200 : Shape := ⟨2, ![1024, 3200]⟩
abbrev S3200x1024 : Shape := ⟨2, ![3200, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x3200, .bf16⟩
  | .hbm, ⟨1, _⟩ => ⟨S2048x1024, .bf16⟩
  | .hbm, ⟨2, _⟩ => ⟨S_, .f32⟩
  | .hbm, ⟨3, _⟩ => ⟨S1024x3200, .f32⟩
  | .hbm, ⟨4, _⟩ => ⟨S2048x1024, .f32⟩
  | .hbm, ⟨5, _⟩ => ⟨S2048x3200, .f32⟩
  | .hbm, ⟨6, _⟩ => ⟨S2048x3200, .f32⟩
  | .hbm, ⟨7, _⟩ => ⟨S3200x1024, .f32⟩
  | .hbm, ⟨8, _⟩ => ⟨S1024x3200, .f32⟩
  | .hbm, ⟨9, _⟩ => ⟨S3200x1024, .f32⟩
  | .hbm, ⟨10, _⟩ => ⟨S3200x1024, .bf16⟩
  | _, _ => ⟨S2048x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel19.lean ====
abbrev S2048x3200 : Shape := ⟨2, ![2048, 3200]⟩
abbrev S3200x1024 : Shape := ⟨2, ![3200, 1024]⟩
abbrev S2048x1024 : Shape := ⟨2, ![2048, 1024]⟩
abbrev S1024x3200 : Shape := ⟨2, ![1024, 3200]⟩
abbrev S3200x512 : Shape := ⟨2, ![3200, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x3200, .bf16⟩
  | .hbm, ⟨1, _⟩ => ⟨S3200x1024, .bf16⟩
  | .hbm, ⟨2, _⟩ => ⟨S2048x1024, .f32⟩
  | .local _ .vmem, ⟨0, _⟩ => ⟨S1024x3200, .bf16⟩
  | .local _ .vmem, ⟨1, _⟩ => ⟨S1024x3200, .bf16⟩
  | .local _ .vmem, ⟨2, _⟩ => ⟨S3200x512, .bf16⟩
  | .local _ .vmem, ⟨3, _⟩ => ⟨S3200x512, .bf16⟩
  | .local _ .vmem, ⟨4, _⟩ => ⟨S1024x512, .f32⟩
  | .local _ .vmem, ⟨5, _⟩ => ⟨S1024x512, .f32⟩
  | _, _ => ⟨S2048x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3200x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S2048x3200 : Shape := ⟨2, ![2048, 3200]⟩
abbrev S3200x1024 : Shape := ⟨2, ![3200, 1024]⟩
abbrev S1024x3200 : Shape := ⟨2, ![1024, 3200]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x3200, .bf16⟩
  | .hbm, ⟨1, _⟩ => ⟨S3200x1024, .bf16⟩
  | .hbm, ⟨2, _⟩ => ⟨S1024x3200, .bf16⟩
  | .hbm, ⟨3, _⟩ => ⟨S_, .f32⟩
  | .hbm, ⟨4, _⟩ => ⟨S2048x1024, .f32⟩
  | .hbm, ⟨5, _⟩ => ⟨S1024x3200, .f32⟩
  | .hbm, ⟨6, _⟩ => ⟨S2048x3200, .f32⟩
  | .hbm, ⟨7, _⟩ => ⟨S2048x3200, .f32⟩
  | .hbm, ⟨8, _⟩ => ⟨S2048x1024, .f32⟩
  | _, _ => ⟨S2048x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S2048x1024 : Shape := ⟨2, ![2048, 1024]⟩
abbrev S256x1024 : Shape := ⟨2, ![256, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S256x1024, .bf16⟩
  | .hbm, ⟨2, _⟩ => ⟨S256x1024, .bf16⟩
  | .hbm, ⟨3, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference20Ideal.lean ====
abbrev S2048x1024 : Shape := ⟨2, ![2048, 1024]⟩
abbrev S256x1024 : Shape := ⟨2, ![256, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x1024, .bf16⟩
  | .hbm, ⟨2, _⟩ => ⟨S256x1024, .bf16⟩
  | .hbm, ⟨3, _⟩ => ⟨S2048x1024, .f32⟩
  | .hbm, ⟨4, _⟩ => ⟨S2048x4x256, .f32⟩
  | .hbm, ⟨5, _⟩ => ⟨S256x1024, .f32⟩
  | .hbm, ⟨6, _⟩ => ⟨S256x4x256, .f32⟩
  | .hbm, ⟨7, _⟩ => ⟨S4x2048x256, .f32⟩
  | .hbm, ⟨8, _⟩ => ⟨S_, .f32⟩
  | .hbm, ⟨9, _⟩ => ⟨S4x2048x256, .f32⟩
  | .hbm, ⟨10, _⟩ => ⟨S4x2048x256, .f32⟩
  | .hbm, ⟨11, _⟩ => ⟨S_, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048x1, .f32⟩
  | .hbm, ⟨17, _⟩ => ⟨S4x2048x256, .f32⟩
  | .hbm, ⟨18, _⟩ => ⟨S4x2048x256, .f32⟩
  | .hbm, ⟨19, _⟩ => ⟨S4x2048x256, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S4x2048x256, .f32⟩
  | .hbm, ⟨24, _⟩ => ⟨S4x2048x256, .f32⟩
  | .hbm, ⟨25, _⟩ => ⟨S256x1024, .f32⟩
  | .hbm, ⟨26, _⟩ => ⟨S256x4x256, .f32⟩
  | .hbm, ⟨27, _⟩ => ⟨S4x256x2048, .f32⟩
  | .hbm, ⟨28, _⟩ => ⟨S2048x4x256, .f32⟩
  | .hbm, ⟨29, _⟩ => ⟨S2048x1024, .f32⟩
  | .hbm, ⟨30, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel21.lean ====
abbrev S1024x1024 : Shape := ⟨2, ![1024, 1024]⟩
abbrev S256x1024 : Shape := ⟨2, ![256, 1024]⟩

abbrev nBuf : Space → Nat
  | .hbm => 16
  | .vmem => 32
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference21Ideal.lean ====
abbrev S1024x1024 : Shape := ⟨2, ![1024, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S_, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S_, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S_, .f32⟩
  | .hbm, ⟨57, _⟩ => ⟨S1024x1024, .f32⟩
  | .hbm, ⟨58, _⟩ => ⟨S1024x1024, .f32⟩
  | .hbm, ⟨59, _⟩ => ⟨S_, .f32⟩
  | .hbm, ⟨60, _⟩ => ⟨S1024x1024, .f32⟩
  | .hbm, ⟨61, _⟩ => ⟨S1024x1024, .f32⟩
  | .hbm, ⟨62, _⟩ => ⟨S1024x1024, .f32⟩
  | .hbm, ⟨63, _⟩ => ⟨S_, .f32⟩
  | .hbm, ⟨64, _⟩ => ⟨S1024x1024, .f32⟩
  | .hbm, ⟨65, _⟩ => ⟨S1024x1024, .f32⟩
  | .hbm, ⟨66, _⟩ => ⟨S1024x1024, .f32⟩
  | .hbm, ⟨67, _⟩ => ⟨S_, .f32⟩
  | .hbm, ⟨68, _⟩ => ⟨S1024x1024, .f32⟩
  | .hbm, ⟨69, _⟩ => ⟨S1024x1024, .f32⟩
  | .hbm, ⟨70, _⟩ => ⟨S1024x1024, .f32⟩
  | .hbm, ⟨71, _⟩ => ⟨S_, .f32⟩
  | .hbm, ⟨72, _⟩ => ⟨S1024x1024, .f32⟩
  | .hbm, ⟨73, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel22.lean ====
abbrev S1024x770 : Shape := ⟨2, ![1024, 770]⟩
abbrev S800x1024 : Shape := ⟨2, ![800, 1024]⟩
abbrev S770x1024 : Shape := ⟨2, ![770, 1024]⟩
abbrev S770x512 : Shape := ⟨2, ![770, 512]⟩
abbrev S800x512 : Shape := ⟨2, ![800, 512]⟩

abbrev nBuf : Space → Nat
  | .hbm => 11
  | .vmem => 16
  | .smem => 0
  | _ => 0

abbrev bufTy : (tb : Table) → Fin (tcTables nBuf tb) → BufTy
  | .hbm, ⟨0, _⟩ => ⟨S1024x770, .f32⟩
  | .hbm, ⟨1, _⟩ => ⟨S800x1024, .f32⟩
  | .hbm, ⟨2, _⟩ => ⟨S1024x770, .f32⟩
  | .hbm, ⟨3, _⟩ => ⟨S1024x770, .f32⟩
  | .hbm, ⟨4, _⟩ => ⟨S770x1024, .f32⟩
  | .hbm, ⟨5, _⟩ => ⟨S770x1024, .f32⟩
  | .hbm, ⟨6, _⟩ => ⟨S770x1024, .f32⟩
  | .hbm, ⟨7, _⟩ => ⟨S770x1024, .f32⟩
  | .hbm, ⟨8, _⟩ => ⟨S770x1024, .f32⟩
  | .hbm, ⟨9, _⟩ => ⟨S770x1024, .f32⟩
  | .hbm, ⟨10, _⟩ => ⟨S770x1024, .f32⟩
  | .local _ .vmem, ⟨0, _⟩ => ⟨S770x512, .f32⟩
  | .local _ .vmem, ⟨1, _⟩ => ⟨S770x512, .f32⟩
  | .local _ .vmem, ⟨2, _⟩ => ⟨S800x512, .f32⟩
  | .local _ .vmem, ⟨3, _⟩ => ⟨S800x512, .f32⟩
  | .local _ .vmem, ⟨4, _⟩ => ⟨S770x512, .f32⟩
  | .local _ .vmem, ⟨5, _⟩ => ⟨S770x512, .f32⟩
  | .local _ .vmem, ⟨6, _⟩ => ⟨S770x512, .f32⟩
  | .local _ .vmem, ⟨7, _⟩ => ⟨S770x512, .f32⟩
  | .local _ .vmem, ⟨8, _⟩ => ⟨S770x512, .f32⟩
  | .local _ .vmem, ⟨9, _⟩ => ⟨S770x512, .f32⟩
  | .local _ .vmem, ⟨10, _⟩ => ⟨S770x512, .f32⟩
  | .local _ .vmem, ⟨11, _⟩ => ⟨S770x512, .f32⟩
  | .local _ .vmem, ⟨12, _⟩ => ⟨S770x512, .f32⟩
  | .local _ .vmem, ⟨13, _⟩ => ⟨S770x512, .f32⟩
  | .local _ .vmem, ⟨14, _⟩ => ⟨S770x512, .f32⟩
  | .local _ .vmem, ⟨15, _⟩ => ⟨S770x512, .f32⟩
  | _, _ => ⟨S1024x770, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S770x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S770x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S770x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S770x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S770x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S770x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S770x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S1024x770 : Shape := ⟨2, ![1024, 770]⟩
abbrev S800x1024 : Shape := ⟨2, ![800, 1024]⟩
abbrev S770x1024 : Shape := ⟨2, ![770, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1024x770, .f32⟩
  | .hbm, ⟨1, _⟩ => ⟨S800x1024, .f32⟩
  | .hbm, ⟨2, _⟩ => ⟨S1024x770, .f32⟩
  | .hbm, ⟨3, _⟩ => ⟨S1024x770, .f32⟩
  | .hbm, ⟨4, _⟩ => ⟨S770x1024, .f32⟩
  | .hbm, ⟨5, _⟩ => ⟨S1024x770, .f32⟩
  | .hbm, ⟨6, _⟩ => ⟨S_, .f32⟩
  | .hbm, ⟨7, _⟩ => ⟨S1024x770, .f32⟩
  | .hbm, ⟨8, _⟩ => ⟨S1024x770, .f32⟩
  | .hbm, ⟨9, _⟩ => ⟨S_, .f32⟩
  | .hbm, ⟨10, _⟩ => ⟨S1024x770, .f32⟩
  | .hbm, ⟨11, _⟩ => ⟨S1024x770, .f32⟩
  | .hbm, ⟨12, _⟩ => ⟨S1024x770, .f32⟩
  | .hbm, ⟨13, _⟩ => ⟨S_, .f32⟩
  | .hbm, ⟨14, _⟩ => ⟨S1024x770, .f32⟩
  | .hbm, ⟨15, _⟩ => ⟨S1024x770, .f32⟩
  | .hbm, ⟨16, _⟩ => ⟨S1024x770, .f32⟩
  | .hbm, ⟨17, _⟩ => ⟨S_, .f32⟩
  | .hbm, ⟨18, _⟩ => ⟨S1024x770, .f32⟩
  | .hbm, ⟨19, _⟩ => ⟨S1024x770, .f32⟩
  | .hbm, ⟨20, _⟩ => ⟨S1024x770, .f32⟩
  | .hbm, ⟨21, _⟩ => ⟨S_, .f32⟩
  | .hbm, ⟨22, _⟩ => ⟨S1024x770, .f32⟩
  | .hbm, ⟨23, _⟩ => ⟨S1024x770, .f32⟩
  | .hbm, ⟨24, _⟩ => ⟨S_, .f32⟩
  | .hbm, ⟨25, _⟩ => ⟨S1024x770, .f32⟩
  | .hbm, ⟨26, _⟩ => ⟨S1024x770, .f32⟩
  | .hbm, ⟨27, _⟩ => ⟨S1024x770, .f32⟩
  | .hbm, ⟨28, _⟩ => ⟨S_, .f32⟩
  | .hbm, ⟨29, _⟩ => ⟨S1024x770, .f32⟩
  | .hbm, ⟨30, _⟩ => ⟨S1024x770, .f32⟩
  | .hbm, ⟨31, _⟩ => ⟨S1024x770, .f32⟩
  | .hbm, ⟨32, _⟩ => ⟨S_, .f32⟩
  | .hbm, ⟨33, _⟩ => ⟨S1024x770, .f32⟩
  | .hbm, ⟨34, _⟩ => ⟨S1024x770, .f32⟩
  | .hbm, ⟨35, _⟩ => ⟨S1024x770, .f32⟩
  | .hbm, ⟨36, _⟩ => ⟨S_, .f32⟩
  | .hbm, ⟨37, _⟩ => ⟨S1024x770, .f32⟩
  | .hbm, ⟨38, _⟩ => ⟨S1024x770, .f32⟩
  | .hbm, ⟨39, _⟩ => ⟨S770x1024, .f32⟩
  | .hbm, ⟨40, _⟩ => ⟨S770x1024, .f32⟩
  | .hbm, ⟨41, _⟩ => ⟨S770x1024, .f32⟩
  | .hbm, ⟨42, _⟩ => ⟨S770x1024, .f32⟩
  | _, _ => ⟨S1024x770, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel23.lean ====
abbrev S2048x1024 : Shape := ⟨2, ![2048, 1024]⟩
abbrev S1x1024 : Shape := ⟨2, ![1, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference23Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S8x1024 : Shape := ⟨2, ![8, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .i32⟩
  | .hbm, ⟨48, _⟩ => ⟨S_, .f32⟩
  | .hbm, ⟨49, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_call0_v0 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel24.lean ====
abbrev S256x1024 : Shape := ⟨2, ![256, 1024]⟩
abbrev S64x1024 : Shape := ⟨2, ![64, 1024]⟩

abbrev nBuf : Space → Nat
  | .hbm => 40
  | .vmem => 80
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S256x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | .local _ .vmem, ⟨32, _⟩ => ⟨S64x1024, .f32⟩
  | .local _ .vmem, ⟨33, _⟩ => ⟨S64x1024, .f32⟩
  | .local _ .vmem, ⟨34, _⟩ => ⟨S64x1024, .f32⟩
  | .local _ .vmem, ⟨35, _⟩ => ⟨S64x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S64x1024, .f32⟩
  | .local _ .vmem, ⟨42, _⟩ => ⟨S64x1024, .f32⟩
  | .local _ .vmem, ⟨43, _⟩ => ⟨S64x1024, .f32⟩
  | .local _ .vmem, ⟨44, _⟩ => ⟨S64x1024, .f32⟩
  | .local _ .vmem, ⟨45, _⟩ => ⟨S64x1024, .f32⟩
  | .local _ .vmem, ⟨46, _⟩ => ⟨S64x1024, .f32⟩
  | .local _ .vmem, ⟨47, _⟩ => ⟨S64x1024, .f32⟩
  | .local _ .vmem, ⟨48, _⟩ => ⟨S64x1024, .f32⟩
  | .local _ .vmem, ⟨49, _⟩ => ⟨S64x1024, .f32⟩
  | .local _ .vmem, ⟨50, _⟩ => ⟨S64x1024, .f32⟩
  | .local _ .vmem, ⟨51, _⟩ => ⟨S64x1024, .f32⟩
  | .local _ .vmem, ⟨52, _⟩ => ⟨S64x1024, .f32⟩
  | .local _ .vmem, ⟨53, _⟩ => ⟨S64x1024, .f32⟩
  | .local _ .vmem, ⟨54, _⟩ => ⟨S64x1024, .f32⟩
  | .local _ .vmem, ⟨55, _⟩ => ⟨S64x1024, .f32⟩
  | .local _ .vmem, ⟨56, _⟩ => ⟨S64x1024, .f32⟩
  | .local _ .vmem, ⟨57, _⟩ => ⟨S64x1024, .f32⟩
  | .local _ .vmem, ⟨58, _⟩ => ⟨S64x1024, .f32⟩
  | .local _ .vmem, ⟨59, _⟩ => ⟨S64x1024, .f32⟩
  | .local _ .vmem, ⟨60, _⟩ => ⟨S64x1024, .f32⟩
  | .local _ .vmem, ⟨61, _⟩ => ⟨S64x1024, .f32⟩
  | .local _ .vmem, ⟨62, _⟩ => ⟨S64x1024, .f32⟩
  | .local _ .vmem, ⟨63, _⟩ => ⟨S64x1024, .f32⟩
  | .local _ .vmem, ⟨64, _⟩ => ⟨S64x1024, .f32⟩
  | .local _ .vmem, ⟨65, _⟩ => ⟨S64x1024, .f32⟩
  | .local _ .vmem, ⟨66, _⟩ => ⟨S64x1024, .f32⟩
  | .local _ .vmem, ⟨67, _⟩ => ⟨S64x1024, .f32⟩
  | .local _ .vmem, ⟨68, _⟩ => ⟨S64x1024, .f32⟩
  | .local _ .vmem, ⟨69, _⟩ => ⟨S64x1024, .f32⟩
  | .local _ .vmem, ⟨70, _⟩ => ⟨S64x1024, .f32⟩
  | .local _ .vmem, ⟨71, _⟩ => ⟨S64x1024, .f32⟩
  | .local _ .vmem, ⟨72, _⟩ => ⟨S64x1024, .f32⟩
  | .local _ .vmem, ⟨73, _⟩ => ⟨S64x1024, .f32⟩
  | .local _ .vmem, ⟨74, _⟩ => ⟨S64x1024, .f32⟩
  | .local _ .vmem, ⟨75, _⟩ => ⟨S64x1024, .f32⟩
  | .local _ .vmem, ⟨76, _⟩ => ⟨S64x1024, .f32⟩
  | .local _ .vmem, ⟨77, _⟩ => ⟨S64x1024, .f32⟩
  | .local _ .vmem, ⟨78, _⟩ => ⟨S64x1024, .f32⟩
  | .local _ .vmem, ⟨79, _⟩ => ⟨S64x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_v0_4 : Ref sig .tc := ⟨.hbm, 24, rfl⟩
abbrev main_v0_5 : Ref sig .tc := ⟨.hbm, 25, rfl⟩
abbrev main_v0_6 : Ref sig .tc := ⟨.hbm, 26, rfl⟩
abbrev main_v0_7 : Ref sig .tc := ⟨.hbm, 27, rfl⟩
abbrev main_v0_8 : Ref sig .tc := ⟨.hbm, 28, rfl⟩
abbrev main_v0_9 : Ref sig .tc := ⟨.hbm, 29, rfl⟩
abbrev main_v0_10 : Ref sig .tc := ⟨.hbm, 30, rfl⟩
abbrev main_v0_11 : Ref sig .tc := ⟨.hbm, 31, rfl⟩
abbrev main_v0_12 : Ref sig .tc := ⟨.hbm, 32, rfl⟩
abbrev main_v0_13 : Ref sig .tc := ⟨.hbm, 33, rfl⟩
abbrev main_v0_14 : Ref sig .tc := ⟨.hbm, 34, rfl⟩
abbrev main_v0_15 : Ref sig .tc := ⟨.hbm, 35, rfl⟩
abbrev main_v0_16 : Ref sig .tc := ⟨.hbm, 36, rfl⟩
abbrev main_v0_17 : Ref sig .tc := ⟨.hbm, 37, rfl⟩
abbrev main_v0_18 : Ref sig .tc := ⟨.hbm, 38, rfl⟩
abbrev main_v0_19 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_24 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_25 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_26 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_27 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_28 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_29 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_30 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_31 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_32 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_33 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_34 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_35 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_36 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_37 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_38 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_39 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S64x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S64x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S64x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S64x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S64x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S64x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S64x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S64x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S64x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S64x1024 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S64x1024 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S64x1024 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S64x1024 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S64x1024 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S64x1024 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S64x1024 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S64x1024 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]
-- ==== Reference24Ideal.lean ====
abbrev S256x1024 : Shape := ⟨2, ![256, 1024]⟩
abbrev S_ : Shape := ⟨0, ![]⟩

abbrev nBuf : Space → Nat
  | .hbm => 185
  | .vmem => 0
  | .smem => 0
  | _ => 0

abbrev hbmTy0_0 (i : Nat) : BufTy := match i % 128 with
  | 0 => ⟨S256x1024, .f32⟩
  | 1 => ⟨S256x1024, .f32⟩
  | 2 => ⟨S256x1024, .f32⟩
  | 3 => ⟨S256x1024, .f32⟩
  | 4 => ⟨S256x1024, .f32⟩
  | 5 => ⟨S256x1024, .f32⟩
  | 6 => ⟨S256x1024, .f32⟩
  | 7 => ⟨S256x1024, .f32⟩
  | 8 => ⟨S256x1024, .f32⟩
  | 9 => ⟨S256x1024, .f32⟩
  | 10 => ⟨S256x1024, .f32⟩
  | 11 => ⟨S256x1024, .f32⟩
  | 12 => ⟨S256x1024, .f32⟩
  | 13 => ⟨S256x1024, .f32⟩
  | 14 => ⟨S256x1024, .f32⟩
  | 15 => ⟨S256x1024, .f32⟩
  | 16 => ⟨S256x1024, .f32⟩
  | 17 => ⟨S256x1024, .f32⟩
  | 18 => ⟨S256x1024, .f32⟩
  | 19 => ⟨S256x1024, .f32⟩
  | 20 => ⟨S_, .f32⟩
  | 21 => ⟨S256x1024, .f32⟩
  | 22 => ⟨S256x1024, .f32⟩
  | 23 => ⟨S_, .f32⟩
  | 24 => ⟨S256x1024, .f32⟩
  | 25 => ⟨S256x1024, .f32⟩
  | 26 => ⟨S256x1024, .f32⟩
  | 27 => ⟨S_, .f32⟩
  | 28 => ⟨S256x1024, .f32⟩
  | 29 => ⟨S256x1024, .f32⟩
  | 30 => ⟨S256x1024, .f32⟩
  | 31 => ⟨S_, .f32⟩
  | 32 => ⟨S256x1024, .f32⟩
  | 33 => ⟨S256x1024, .f32⟩
  | 34 => ⟨S256x1024, .f32⟩
  | 35 => ⟨S_, .f32⟩
  | 36 => ⟨S256x1024, .f32⟩
  | 37 => ⟨S256x1024, .f32⟩
  | 38 => ⟨S_, .f32⟩
  | 39 => ⟨S256x1024, .f32⟩
  | 40 => ⟨S256x1024, .f32⟩
  | 41 => ⟨S256x1024, .f32⟩
  | 42 => ⟨S_, .f32⟩
  | 43 => ⟨S256x1024, .f32⟩
  | 44 => ⟨S256x1024, .f32⟩
  | 45 => ⟨S256x1024, .f32⟩
  | 46 => ⟨S_, .f32⟩
  | 47 => ⟨S256x1024, .f32⟩
  | 48 => ⟨S256x1024, .f32⟩
  | 49 => ⟨S256x1024, .f32⟩
  | 50 => ⟨S_, .f32⟩
  | 51 => ⟨S256x1024, .f32⟩
  | 52 => ⟨S256x1024, .f32⟩
  | 53 => ⟨S_, .f32⟩
  | 54 => ⟨S256x1024, .f32⟩
  | 55 => ⟨S256x1024, .f32⟩
  | 56 => ⟨S_, .f32⟩
  | 57 => ⟨S256x1024, .f32⟩
  | 58 => ⟨S256x1024, .f32⟩
  | 59 => ⟨S256x1024, .f32⟩
  | 60 => ⟨S_, .f32⟩
  | 61 => ⟨S256x1024, .f32⟩
  | 62 => ⟨S256x1024, .f32⟩
  | 63 => ⟨S256x1024, .f32⟩
  | 64 => ⟨S_, .f32⟩
  | 65 => ⟨S256x1024, .f32⟩
  | 66 => ⟨S256x1024, .f32⟩
  | 67 => ⟨S256x1024, .f32⟩
  | 68 => ⟨S_, .f32⟩
  | 69 => ⟨S256x1024, .f32⟩
  | 70 => ⟨S256x1024, .f32⟩
  | 71 => ⟨S_, .f32⟩
  | 72 => ⟨S256x1024, .f32⟩
  | 73 => ⟨S256x1024, .f32⟩
  | 74 => ⟨S256x1024, .f32⟩
  | 75 => ⟨S_, .f32⟩
  | 76 => ⟨S256x1024, .f32⟩
  | 77 => ⟨S256x1024, .f32⟩
  | 78 => ⟨S256x1024, .f32⟩
  | 79 => ⟨S_, .f32⟩
  | 80 => ⟨S256x1024, .f32⟩
  | 81 => ⟨S256x1024, .f32⟩
  | 82 => ⟨S256x1024, .f32⟩
  | 83 => ⟨S_, .f32⟩
  | 84 => ⟨S256x1024, .f32⟩
  | 85 => ⟨S256x1024, .f32⟩
  | 86 => ⟨S_, .f32⟩
  | 87 => ⟨S256x1024, .f32⟩
  | 88 => ⟨S256x1024, .f32⟩
  | 89 => ⟨S_, .f32⟩
  | 90 => ⟨S256x1024, .f32⟩
  | 91 => ⟨S256x1024, .f32⟩
  | 92 => ⟨S256x1024, .f32⟩
  | 93 => ⟨S_, .f32⟩
  | 94 => ⟨S256x1024, .f32⟩
  | 95 => ⟨S256x1024, .f32⟩
  | 96 => ⟨S256x1024, .f32⟩
  | 97 => ⟨S_, .f32⟩
  | 98 => ⟨S256x1024, .f32⟩
  | 99 => ⟨S256x1024, .f32⟩
  | 100 => ⟨S256x1024, .f32⟩
  | 101 => ⟨S_, .f32⟩
  | 102 => ⟨S256x1024, .f32⟩
  | 103 => ⟨S256x1024, .f32⟩
  | 104 => ⟨S_, .f32⟩
  | 105 => ⟨S256x1024, .f32⟩
  | 106 => ⟨S256x1024, .f32⟩
  | 107 => ⟨S256x1024, .f32⟩
  | 108 => ⟨S_, .f32⟩
  | 109 => ⟨S256x1024, .f32⟩
  | 110 => ⟨S256x1024, .f32⟩
  | 111 => ⟨S256x1024, .f32⟩
  | 112 => ⟨S_, .f32⟩
  | 113 => ⟨S256x1024, .f32⟩
  | 114 => ⟨S256x1024, .f32⟩
  | 115 => ⟨S256x1024, .f32⟩
  | 116 => ⟨S_, .f32⟩
  | 117 => ⟨S256x1024, .f32⟩
  | 118 => ⟨S256x1024, .f32⟩
  | 119 => ⟨S_, .f32⟩
  | 120 => ⟨S256x1024, .f32⟩
  | 121 => ⟨S256x1024, .f32⟩
  | 122 => ⟨S_, .f32⟩
  | 123 => ⟨S256x1024, .f32⟩
  | 124 => ⟨S256x1024, .f32⟩
  | 125 => ⟨S256x1024, .f32⟩
  | 126 => ⟨S_, .f32⟩
  | 127 => ⟨S256x1024, .f32⟩
  | _ => ⟨S256x1024, .f32⟩

abbrev hbmTy0_1 (i : Nat) : BufTy := match i % 128 with
  | 0 => ⟨S256x1024, .f32⟩
  | 1 => ⟨S256x1024, .f32⟩
  | 2 => ⟨S_, .f32⟩
  | 3 => ⟨S256x1024, .f32⟩
  | 4 => ⟨S256x1024, .f32⟩
  | 5 => ⟨S256x1024, .f32⟩
  | 6 => ⟨S_, .f32⟩
  | 7 => ⟨S256x1024, .f32⟩
  | 8 => ⟨S256x1024, .f32⟩
  | 9 => ⟨S_, .f32⟩
  | 10 => ⟨S256x1024, .f32⟩
  | 11 => ⟨S256x1024, .f32⟩
  | 12 => ⟨S256x1024, .f32⟩
  | 13 => ⟨S_, .f32⟩
  | 14 => ⟨S256x1024, .f32⟩
  | 15 => ⟨S256x1024, .f32⟩
  | 16 => ⟨S256x1024, .f32⟩
  | 17 => ⟨S_, .f32⟩
  | 18 => ⟨S256x1024, .f32⟩
  | 19 => ⟨S256x1024, .f32⟩
  | 20 => ⟨S256x1024, .f32⟩
  | 21 => ⟨S_, .f32⟩
  | 22 => ⟨S256x1024, .f32⟩
  | 23 => ⟨S256x1024, .f32⟩
  | 24 => ⟨S_, .f32⟩
  | 25 => ⟨S256x1024, .f32⟩
  | 26 => ⟨S256x1024, .f32⟩
  | 27 => ⟨S_, .f32⟩
  | 28 => ⟨S256x1024, .f32⟩
  | 29 => ⟨S256x1024, .f32⟩
  | 30 => ⟨S256x1024, .f32⟩
  | 31 => ⟨S_, .f32⟩
  | 32 => ⟨S256x1024, .f32⟩
  | 33 => ⟨S256x1024, .f32⟩
  | 34 => ⟨S256x1024, .f32⟩
  | 35 => ⟨S_, .f32⟩
  | 36 => ⟨S256x1024, .f32⟩
  | 37 => ⟨S256x1024, .f32⟩
  | 38 => ⟨S256x1024, .f32⟩
  | 39 => ⟨S_, .f32⟩
  | 40 => ⟨S256x1024, .f32⟩
  | 41 => ⟨S256x1024, .f32⟩
  | 42 => ⟨S_, .f32⟩
  | 43 => ⟨S256x1024, .f32⟩
  | 44 => ⟨S256x1024, .f32⟩
  | 45 => ⟨S256x1024, .f32⟩
  | 46 => ⟨S_, .f32⟩
  | 47 => ⟨S256x1024, .f32⟩
  | 48 => ⟨S256x1024, .f32⟩
  | 49 => ⟨S256x1024, .f32⟩
  | 50 => ⟨S_, .f32⟩
  | 51 => ⟨S256x1024, .f32⟩
  | 52 => ⟨S256x1024, .f32⟩
  | 53 => ⟨S256x1024, .f32⟩
  | 54 => ⟨S_, .f32⟩
  | 55 => ⟨S256x1024, .f32⟩
  | 56 => ⟨S256x1024, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_v23 : Ref sig .tc := ⟨.hbm, 52, rfl⟩
abbrev main_cst_8 : Ref sig .tc := ⟨.hbm, 53, rfl⟩
abbrev main_v24 : Ref sig .tc := ⟨.hbm, 54, rfl⟩
abbrev main_v25 : Ref sig .tc := ⟨.hbm, 55, rfl⟩
abbrev main_cst_9 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_10 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_11 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_12 : Ref sig .tc := ⟨.hbm, 68, rfl⟩
abbrev main_v35 : Ref sig .tc := ⟨.hbm, 69, rfl⟩
abbrev main_v36 : Ref sig .tc := ⟨.hbm, 70, rfl⟩
abbrev main_cst_13 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_14 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_15 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_16 : Ref sig .tc := ⟨.hbm, 83, rfl⟩
abbrev main_v46 : Ref sig .tc := ⟨.hbm, 84, rfl⟩
abbrev main_v47 : Ref sig .tc := ⟨.hbm, 85, rfl⟩
abbrev main_cst_17 : Ref sig .tc := ⟨.hbm, 86, rfl⟩
abbrev main_v48 : Ref sig .tc := ⟨.hbm, 87, rfl⟩
abbrev main_v49 : Ref sig .tc := ⟨.hbm, 88, rfl⟩
abbrev main_cst_18 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_19 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_20 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_21 : Ref sig .tc := ⟨.hbm, 101, rfl⟩
abbrev main_v59 : Ref sig .tc := ⟨.hbm, 102, rfl⟩
abbrev main_v60 : Ref sig .tc := ⟨.hbm, 103, rfl⟩
abbrev main_cst_22 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_23 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_24 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_25 : Ref sig .tc := ⟨.hbm, 116, rfl⟩
abbrev main_v70 : Ref sig .tc := ⟨.hbm, 117, rfl⟩
abbrev main_v71 : Ref sig .tc := ⟨.hbm, 118, rfl⟩
abbrev main_cst_26 : Ref sig .tc := ⟨.hbm, 119, rfl⟩
abbrev main_v72 : Ref sig .tc := ⟨.hbm, 120, rfl⟩
abbrev main_v73 : Ref sig .tc := ⟨.hbm, 121, rfl⟩
abbrev main_cst_27 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_28 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_29 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_30 : Ref sig .tc := ⟨.hbm, 134, rfl⟩
abbrev main_v83 : Ref sig .tc := ⟨.hbm, 135, rfl⟩
abbrev main_v84 : Ref sig .tc := ⟨.hbm, 136, rfl⟩
abbrev main_cst_31 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_32 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_33 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_34 : Ref sig .tc := ⟨.hbm, 149, rfl⟩
abbrev main_v94 : Ref sig .tc := ⟨.hbm, 150, rfl⟩
abbrev main_v95 : Ref sig .tc := ⟨.hbm, 151, rfl⟩
abbrev main_cst_35 : Ref sig .tc := ⟨.hbm, 152, rfl⟩
abbrev main_v96 : Ref sig .tc := ⟨.hbm, 153, rfl⟩
abbrev main_v97 : Ref sig .tc := ⟨.hbm, 154, rfl⟩
abbrev main_cst_36 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_37 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_38 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_39 : Ref sig .tc := ⟨.hbm, 167, rfl⟩
abbrev main_v107 : Ref sig .tc := ⟨.hbm, 168, rfl⟩
abbrev main_v108 : Ref sig .tc := ⟨.hbm, 169, rfl⟩
abbrev main_cst_40 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_41 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_cst_42 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_43 : Ref sig .tc := ⟨.hbm, 182, rfl⟩
abbrev main_v118 : Ref sig .tc := ⟨.hbm, 183, rfl⟩
abbrev main_v119 : Ref sig .tc := ⟨.hbm, 184, rfl⟩

abbrev nD : Nat := 1
abbrev τ : Topo := Topo.v7x

variable {F : FTy → Type} [FloatOps F]
-- ==== Kernel25.lean ====
abbrev S24x1024 : Shape := ⟨2, ![24, 1024]⟩
abbrev S1x1024 : Shape := ⟨2, ![1, 1024]⟩
abbrev S1x512 : Shape := ⟨2, ![1, 512]⟩
abbrev S1x8 : Shape := ⟨2, ![1, 8]⟩
abbrev S8x257 : Shape := ⟨2, ![8, 257]⟩

abbrev nBuf : Space → Nat
  | .hbm => 78
  | .vmem => 78
  | .smem => 0
  | _ => 0

abbrev bufTy : (tb : Table) → Fin (tcTables nBuf tb) → BufTy
  | .hbm, ⟨0, _⟩ => ⟨S24x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x512, .f32⟩
  | .hbm, ⟨9, _⟩ => ⟨S1x512, .f32⟩
  | .hbm, ⟨10, _⟩ => ⟨S1x8, .f32⟩
  | .hbm, ⟨11, _⟩ => ⟨S8x257, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x512, .f32⟩
  | .hbm, ⟨20, _⟩ => ⟨S1x512, .f32⟩
  | .hbm, ⟨21, _⟩ => ⟨S1x8, .f32⟩
  | .hbm, ⟨22, _⟩ => ⟨S8x257, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x512, .f32⟩
  | .hbm, ⟨31, _⟩ => ⟨S1x512, .f32⟩
  | .hbm, ⟨32, _⟩ => ⟨S1x8, .f32⟩
  | .hbm, ⟨33, _⟩ => ⟨S8x257, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x512, .f32⟩
  | .hbm, ⟨63, _⟩ => ⟨S1x512, .f32⟩
  | .hbm, ⟨64, _⟩ => ⟨S1x512, .f32⟩
  | .hbm, ⟨65, _⟩ => ⟨S1x512, .f32⟩
  | .hbm, ⟨66, _⟩ => ⟨S1x512, .f32⟩
  | .hbm, ⟨67, _⟩ => ⟨S1x512, .f32⟩
  | .hbm, ⟨68, _⟩ => ⟨S1x512, .f32⟩
  | .hbm, ⟨69, _⟩ => ⟨S1x512, .f32⟩
  | .hbm, ⟨70, _⟩ => ⟨S1x8, .f32⟩
  | .hbm, ⟨71, _⟩ => ⟨S1x8, .f32⟩
  | .hbm, ⟨72, _⟩ => ⟨S1x8, .f32⟩
  | .hbm, ⟨73, _⟩ => ⟨S1x8, .f32⟩
  | .hbm, ⟨74, _⟩ => ⟨S8x257, .f32⟩
  | .hbm, ⟨75, _⟩ => ⟨S8x257, .f32⟩
  | .hbm, ⟨76, _⟩ => ⟨S8x257, .f32⟩
  | .hbm, ⟨77, _⟩ => ⟨S8x257, .f32⟩
  | .local _ .vmem, ⟨0, _⟩ => ⟨S24x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x512, .f32⟩
  | .local _ .vmem, ⟨9, _⟩ => ⟨S1x512, .f32⟩
  | .local _ .vmem, ⟨10, _⟩ => ⟨S1x8, .f32⟩
  | .local _ .vmem, ⟨11, _⟩ => ⟨S8x257, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x512, .f32⟩
  | .local _ .vmem, ⟨20, _⟩ => ⟨S1x512, .f32⟩
  | .local _ .vmem, ⟨21, _⟩ => ⟨S1x8, .f32⟩
  | .local _ .vmem, ⟨22, _⟩ => ⟨S8x257, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x512, .f32⟩
  | .local _ .vmem, ⟨31, _⟩ => ⟨S1x512, .f32⟩
  | .local _ .vmem, ⟨32, _⟩ => ⟨S1x8, .f32⟩
  | .local _ .vmem, ⟨33, _⟩ => ⟨S8x257, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | .local _ .vmem, ⟨56, _⟩ => ⟨S1x1024, .f32⟩
  | .local _ .vmem, ⟨57, _⟩ => ⟨S1x1024, .f32⟩
  | .local _ .vmem, ⟨58, _⟩ => ⟨S1x1024, .f32⟩
  | .local _ .vmem, ⟨59, _⟩ => ⟨S1x1024, .f32⟩
  | .local _ .vmem, ⟨60, _⟩ => ⟨S1x1024, .f32⟩
  | .local _ .vmem, ⟨61, _⟩ => ⟨S1x1024, .f32⟩
  | .local _ .vmem, ⟨62, _⟩ => ⟨S1x512, .f32⟩
  | .local _ .vmem, ⟨63, _⟩ => ⟨S1x512, .f32⟩
  | .local _ .vmem, ⟨64, _⟩ => ⟨S1x512, .f32⟩
  | .local _ .vmem, ⟨65, _⟩ => ⟨S1x512, .f32⟩
  | .local _ .vmem, ⟨66, _⟩ => ⟨S1x512, .f32⟩
  | .local _ .vmem, ⟨67, _⟩ => ⟨S1x512, .f32⟩
  | .local _ .vmem, ⟨68, _⟩ => ⟨S1x512, .f32⟩
  | .local _ .vmem, ⟨69, _⟩ => ⟨S1x512, .f32⟩
  | .local _ .vmem, ⟨70, _⟩ => ⟨S1x8, .f32⟩
  | .local _ .vmem, ⟨71, _⟩ => ⟨S1x8, .f32⟩
  | .local _ .vmem, ⟨72, _⟩ => ⟨S1x8, .f32⟩
  | .local _ .vmem, ⟨73, _⟩ => ⟨S1x8, .f32⟩
  | .local _ .vmem, ⟨74, _⟩ => ⟨S8x257, .f32⟩
  | .local _ .vmem, ⟨75, _⟩ => ⟨S8x257, .f32⟩
  | .local _ .vmem, ⟨76, _⟩ => ⟨S8x257, .f32⟩
  | .local _ .vmem, ⟨77, _⟩ => ⟨S8x257, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0_0 : Ref sig .tc := ⟨.hbm, 34, rfl⟩
abbrev main_v0_1 : Ref sig .tc := ⟨.hbm, 35, rfl⟩
abbrev main_v0_2 : Ref sig .tc := ⟨.hbm, 36, rfl⟩
abbrev main_v0_3 : Ref sig .tc := ⟨.hbm, 37, rfl⟩
abbrev main_v0_4 : Ref sig .tc := ⟨.hbm, 38, rfl⟩
abbrev main_v0_5 : Ref sig .tc := ⟨.hbm, 39, rfl⟩
abbrev main_v0_6 : Ref sig .tc := ⟨.hbm, 40, rfl⟩
abbrev main_v0_7 : Ref sig .tc := ⟨.hbm, 41, rfl⟩
abbrev main_v0_8 : Ref sig .tc := ⟨.hbm, 42, rfl⟩
abbrev main_v0_9 : Ref sig .tc := ⟨.hbm, 43, rfl⟩
abbrev main_v0_10 : Ref sig .tc := ⟨.hbm, 44, rfl⟩
abbrev main_v0_11 : Ref sig .tc := ⟨.hbm, 45, rfl⟩
abbrev main_v0_12 : Ref sig .tc := ⟨.hbm, 46, rfl⟩
abbrev main_v0_13 : Ref sig .tc := ⟨.hbm, 47, rfl⟩
abbrev main_v0_14 : Ref sig .tc := ⟨.hbm, 48, rfl⟩
abbrev main_v0_15 : Ref sig .tc := ⟨.hbm, 49, rfl⟩
abbrev main_v0_16 : Ref sig .tc := ⟨.hbm, 50, rfl⟩
abbrev main_v0_17 : Ref sig .tc := ⟨.hbm, 51, rfl⟩
abbrev main_v0_18 : Ref sig .tc := ⟨.hbm, 52, rfl⟩
abbrev main_v0_19 : Ref sig .tc := ⟨.hbm, 53, rfl⟩
abbrev main_v0_20 : Ref sig .tc := ⟨.hbm, 54, rfl⟩
abbrev main_v0_21 : Ref sig .tc := ⟨.hbm, 55, rfl⟩
abbrev main_v0_22 : Ref sig .tc := ⟨.hbm, 56, rfl⟩
abbrev main_v0_23 : Ref sig .tc := ⟨.hbm, 57, rfl⟩
abbrev main_v0_24 : Ref sig .tc := ⟨.hbm, 58, rfl⟩
abbrev main_v0_25 : Ref sig .tc := ⟨.hbm, 59, rfl⟩
abbrev main_v0_26 : Ref sig .tc := ⟨.hbm, 60, rfl⟩
abbrev main_v0_27 : Ref sig .tc := ⟨.hbm, 61, rfl⟩
abbrev main_v0_28 : Ref sig .tc := ⟨.hbm, 62, rfl⟩
abbrev main_v0_29 : Ref sig .tc := ⟨.hbm, 63, rfl⟩
abbrev main_v0_30 : Ref sig .tc := ⟨.hbm, 64, rfl⟩
abbrev main_v0_31 : Ref sig .tc := ⟨.hbm, 65, rfl⟩
abbrev main_v0_32 : Ref sig .tc := ⟨.hbm, 66, rfl⟩
abbrev main_v0_33 : Ref sig .tc := ⟨.hbm, 67, rfl⟩
abbrev main_v0_34 : Ref sig .tc := ⟨.hbm, 68, rfl⟩
abbrev main_v0_35 : Ref sig .tc := ⟨.hbm, 69, rfl⟩
abbrev main_v0_36 : Ref sig .tc := ⟨.hbm, 70, rfl⟩
abbrev main_v0_37 : Ref sig .tc := ⟨.hbm, 71, rfl⟩
abbrev main_v0_38 : Ref sig .tc := ⟨.hbm, 72, rfl⟩
abbrev main_v0_39 : Ref sig .tc := ⟨.hbm, 73, rfl⟩
abbrev main_v0_40 : Ref sig .tc := ⟨.hbm, 74, rfl⟩
abbrev main_v0_41 : Ref sig .tc := ⟨.hbm, 75, rfl⟩
abbrev main_v0_42 : Ref sig .tc := ⟨.hbm, 76, rfl⟩
abbrev main_v0_43 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77

abbrev nD : Nat := 1
abbrev τ : Topo := Topo.v7x

variable {F : FTy → Type} [FloatOps F]

abbrev grid0 : Pipeline.Grid := .none

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x257 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x8 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S8x257 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x8 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S8x257 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x1024 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x512 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x512 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x512 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x512 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x512 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x512 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x512 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x512 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S1x8 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1x8 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S1x8 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S1x8 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S8x257 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S8x257 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S8x257 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S8x257 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))
-- ==== Reference25Ideal.lean ====
abbrev S24x1024 : Shape := ⟨2, ![24, 1024]⟩
abbrev S1x1024 : Shape := ⟨2, ![1, 1024]⟩
abbrev S1x512 : Shape := ⟨2, ![1, 512]⟩
abbrev S1x8 : Shape := ⟨2, ![1, 8]⟩
abbrev S8x257 : Shape := ⟨2, ![8, 257]⟩
abbrev S_ : Shape := ⟨0, ![]⟩

abbrev nBuf : Space → Nat
  | .hbm => 408
  | .vmem => 0
  | .smem => 0
  | _ => 0

abbrev hbmTy0_0 (i : Nat) : BufTy := match i % 128 with
  | 0 => ⟨S24x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x512, .f32⟩
  | 9 => ⟨S1x512, .f32⟩
  | 10 => ⟨S1x8, .f32⟩
  | 11 => ⟨S8x257, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x512, .f32⟩
  | 20 => ⟨S1x512, .f32⟩
  | 21 => ⟨S1x8, .f32⟩
  | 22 => ⟨S8x257, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x512, .f32⟩
  | 31 => ⟨S1x512, .f32⟩
  | 32 => ⟨S1x8, .f32⟩
  | 33 => ⟨S8x257, .f32⟩
  | 34 => ⟨S1x1024, .f32⟩
  | 35 => ⟨S_, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S_, .f32⟩
  | 107 => ⟨S1x1024, .f32⟩
  | 108 => ⟨S1x1024, .f32⟩
  | 109 => ⟨S1x1024, .f32⟩
  | 110 => ⟨S_, .f32⟩
  | 111 => ⟨S1x1024, .f32⟩
  | 112 => ⟨S1x1024, .f32⟩
  | 113 => ⟨S1x1024, .f32⟩
  | 114 => ⟨S_, .f32⟩
  | 115 => ⟨S1x1024, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S24x1024, .f32⟩

abbrev hbmTy0_1 (i : Nat) : BufTy := match i % 128 with
  | 0 => ⟨S1x1024, .f32⟩
  | 1 => ⟨S_, .f32⟩
  | 2 => ⟨S1x1024, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S_, .f32⟩
  | 21 => ⟨S1x1024, .f32⟩
  | 22 => ⟨S1x1024, .f32⟩
  | 23 => ⟨S1x1024, .f32⟩
  | 24 => ⟨S_, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S_, .f32⟩
  | 115 => ⟨S1x1024, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S24x1024, .f32⟩

abbrev hbmTy0_2 (i : Nat) : BufTy := match i % 128 with
  | 0 => ⟨S1x1024, .f32⟩
  | 1 => ⟨S_, .f32⟩
  | 2 => ⟨S1x1024, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x512, .f32⟩
  | 17 => ⟨S_, .f32⟩
  | 18 => ⟨S1x512, .f32⟩
  | 19 => ⟨S1x512, .f32⟩
  | 20 => ⟨S_, .f32⟩
  | 21 => ⟨S1x512, .f32⟩
  | 22 => ⟨S1x512, .f32⟩
  | 23 => ⟨S1x512, .f32⟩
  | 24 => ⟨S_, .f32⟩
  | 25 => ⟨S1x512, .f32⟩
  | 26 => ⟨S1x512, .f32⟩
  | 27 => ⟨S1x512, .f32⟩
  | 28 => ⟨S_, .f32⟩
  | 29 => ⟨S1x512, .f32⟩
  | 30 => ⟨S1x512, .f32⟩
  | 31 => ⟨S1x512, .f32⟩
  | 32 => ⟨S_, .f32⟩
  | 33 => ⟨S1x512, .f32⟩
  | 34 => ⟨S1x512, .f32⟩
  | 35 => ⟨S_, .f32⟩
  | 36 => ⟨S1x512, .f32⟩
  | 37 => ⟨S1x512, .f32⟩
  | 38 => ⟨S1x512, .f32⟩
  | 39 => ⟨S_, .f32⟩
  | 40 => ⟨S1x512, .f32⟩
  | 41 => ⟨S1x512, .f32⟩
  | 42 => ⟨S1x512, .f32⟩
  | 43 => ⟨S_, .f32⟩
  | 44 => ⟨S1x512, .f32⟩
  | 45 => ⟨S1x512, .f32⟩
  | 46 => ⟨S1x512, .f32⟩
  | 47 => ⟨S_, .f32⟩
  | 48 => ⟨S1x512, .f32⟩
  | 49 => ⟨S1x512, .f32⟩
  | 50 => ⟨S1x512, .f32⟩
  | 51 => ⟨S_, .f32⟩
  | 52 => ⟨S1x512, .f32⟩
  | 53 => ⟨S1x512, .f32⟩
  | 54 => ⟨S_, .f32⟩
  | 55 => ⟨S1x512, .f32⟩
  | 56 => ⟨S1x512, .f32⟩
  | 57 => ⟨S1x512, .f32⟩
  | 58 => ⟨S_, .f32⟩
  | 59 => ⟨S1x512, .f32⟩
  | 60 => ⟨S1x512, .f32⟩
  | 61 => ⟨S1x512, .f32⟩
  | 62 => ⟨S_, .f32⟩
  | 63 => ⟨S1x512, .f32⟩
  | 64 => ⟨S1x512, .f32⟩
  | 65 => ⟨S1x512, .f32⟩
  | 66 => ⟨S_, .f32⟩
  | 67 => ⟨S1x512, .f32⟩
  | 68 => ⟨S1x512, .f32⟩
  | 69 => ⟨S_, .f32⟩
  | 70 => ⟨S1x512, .f32⟩
  | 71 => ⟨S1x512, .f32⟩
  | 72 => ⟨S1x512, .f32⟩
  | 73 => ⟨S_, .f32⟩
  | 74 => ⟨S1x512, .f32⟩
  | 75 => ⟨S1x512, .f32⟩
  | 76 => ⟨S1x512, .f32⟩
  | 77 => ⟨S_, .f32⟩
  | 78 => ⟨S1x512, .f32⟩
  | 79 => ⟨S1x512, .f32⟩
  | 80 => ⟨S1x512, .f32⟩
  | 81 => ⟨S_, .f32⟩
  | 82 => ⟨S1x512, .f32⟩
  | 83 => ⟨S1x512, .f32⟩
  | 84 => ⟨S1x8, .f32⟩
  | 85 => ⟨S_, .f32⟩
  | 86 => ⟨S1x8, .f32⟩
  | 87 => ⟨S1x8, .f32⟩
  | 88 => ⟨S_, .f32⟩
  | 89 => ⟨S1x8, .f32⟩
  | 90 => ⟨S1x8, .f32⟩
  | 91 => ⟨S1x8, .f32⟩
  | 92 => ⟨S_, .f32⟩
  | 93 => ⟨S1x8, .f32⟩
  | 94 => ⟨S1x8, .f32⟩
  | 95 => ⟨S1x8, .f32⟩
  | 96 => ⟨S_, .f32⟩
  | 97 => ⟨S1x8, .f32⟩
  | 98 => ⟨S1x8, .f32⟩
  | 99 => ⟨S1x8, .f32⟩
  | 100 => ⟨S_, .f32⟩
  | 101 => ⟨S1x8, .f32⟩
  | 102 => ⟨S1x8, .f32⟩
  | 103 => ⟨S_, .f32⟩
  | 104 => ⟨S1x8, .f32⟩
  | 105 => ⟨S1x8, .f32⟩
  | 106 => ⟨S1x8, .f32⟩
  | 107 => ⟨S_, .f32⟩
  | 108 => ⟨S1x8, .f32⟩
  | 109 => ⟨S1x8, .f32⟩
  | 110 => ⟨S1x8, .f32⟩
  | 111 => ⟨S_, .f32⟩
  | 112 => ⟨S1x8, .f32⟩
  | 113 => ⟨S1x8, .f32⟩
  | 114 => ⟨S1x8, .f32⟩
  | 115 => ⟨S_, .f32⟩
  | 116 => ⟨S1x8, .f32⟩
  | 117 => ⟨S1x8, .f32⟩
  | 118 => ⟨S8x257, .f32⟩
  | 119 => ⟨S_, .f32⟩
  | 120 => ⟨S8x257, .f32⟩
  | 121 => ⟨S8x257, .f32⟩
  | 122 => ⟨S_, .f32⟩
  | 123 => ⟨S8x257, .f32⟩
  | 124 => ⟨S8x257, .f32⟩
  | 125 => ⟨S8x257, .f32⟩
  | 126 => ⟨S_, .f32⟩
  | 127 => ⟨S8x257, .f32⟩
  | _ => ⟨S24x1024, .f32⟩

abbrev hbmTy0_3 (i : Nat) : BufTy := match i % 128 with
  | 0 => ⟨S8x257, .f32⟩
  | 1 => ⟨S8x257, .f32⟩
  | 2 => ⟨S_, .f32⟩
  | 3 => ⟨S8x257, .f32⟩
  | 4 => ⟨S8x257, .f32⟩
  | 5 => ⟨S8x257, .f32⟩
  | 6 => ⟨S_, .f32⟩
  | 7 => ⟨S8x257, .f32⟩
  | 8 => ⟨S8x257, .f32⟩
  | 9 => ⟨S_, .f32⟩
  | 10 => ⟨S8x257, .f32⟩
  | 11 => ⟨S8x257, .f32⟩
  | 12 => ⟨S8x257, .f32⟩
  | 13 => ⟨S_, .f32⟩
  | 14 => ⟨S8x257, .f32⟩
  | 15 => ⟨S8x257, .f32⟩
  | 16 => ⟨S8x257, .f32⟩
  | 17 => ⟨S_, .f32⟩
  | 18 => ⟨S8x257, .f32⟩
  | 19 => ⟨S8x257, .f32⟩
  | 20 => ⟨S8x257, .f32⟩
  | 21 => ⟨S_, .f32⟩
  | 22 => ⟨S8x257, .f32⟩
  | 23 => ⟨S8x257, .f32⟩
  | _ => ⟨S24x1024, .f32⟩

abbrev hbmTy (i : Nat) : BufTy := match i / 128 with
  | 0 => hbmTy0_0 i
  | 1 => hbmTy0_1 i
  | 2 => hbmTy0_2 i
  | 3 => hbmTy0_3 i
  | _ => ⟨S24x1024, .f32⟩

abbrev bufTy : (tb : Table) → Fin (tcTables nBuf tb) → BufTy
  | .hbm, ⟨i, _⟩ => hbmTy i
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_v2 : Ref sig .tc := ⟨.hbm, 37, rfl⟩
abbrev main_cst_0 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_cst_1 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_cst_2 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_3 : Ref sig .tc := ⟨.hbm, 50, rfl⟩
abbrev main_v12 : Ref sig .tc := ⟨.hbm, 51, rfl⟩
abbrev main_v13 : Ref sig .tc := ⟨.hbm, 52, rfl⟩
abbrev main_cst_4 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_5 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_6 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_cst_7 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_cst_8 : Ref sig .tc := ⟨.hbm, 69, rfl⟩
abbrev main_v26 : Ref sig .tc := ⟨.hbm, 70, rfl⟩
abbrev main_v27 : Ref sig .tc := ⟨.hbm, 71, rfl⟩
abbrev main_cst_9 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_10 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_11 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_cst_12 : Ref sig .tc := ⟨.hbm, 84, rfl⟩
abbrev main_v37 : Ref sig .tc := ⟨.hbm, 85, rfl⟩
abbrev main_v38 : Ref sig .tc := ⟨.hbm, 86, rfl⟩
abbrev main_cst_13 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_14 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_15 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_16 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_cst_17 : Ref sig .tc := ⟨.hbm, 103, rfl⟩
abbrev main_v51 : Ref sig .tc := ⟨.hbm, 104, rfl⟩
abbrev main_v52 : Ref sig .tc := ⟨.hbm, 105, rfl⟩
abbrev main_cst_18 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_19 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_cst_20 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_cst_21 : Ref sig .tc := ⟨.hbm, 118, rfl⟩
abbrev main_v62 : Ref sig .tc := ⟨.hbm, 119, rfl⟩
abbrev main_v63 : Ref sig .tc := ⟨.hbm, 120, rfl⟩
abbrev main_cst_22 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_cst_23 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_cst_24 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_cst_25 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_cst_26 : Ref sig .tc := ⟨.hbm, 137, rfl⟩
abbrev main_v76 : Ref sig .tc := ⟨.hbm, 138, rfl⟩
abbrev main_v77 : Ref sig .tc := ⟨.hbm, 139, rfl⟩
abbrev main_cst_27 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_cst_28 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_cst_29 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_cst_30 : Ref sig .tc := ⟨.hbm, 152, rfl⟩
abbrev main_v87 : Ref sig .tc := ⟨.hbm, 153, rfl⟩
abbrev main_v88 : Ref sig .tc := ⟨.hbm, 154, rfl⟩
abbrev main_cst_31 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_cst_32 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_cst_33 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_cst_34 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_35 : Ref sig .tc := ⟨.hbm, 171, rfl⟩
abbrev main_v101 : Ref sig .tc := ⟨.hbm, 172, rfl⟩
abbrev main_v102 : Ref sig .tc := ⟨.hbm, 173, rfl⟩
abbrev main_cst_36 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_cst_37 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_cst_38 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_39 : Ref sig .tc := ⟨.hbm, 186, rfl⟩
abbrev main_v112 : Ref sig .tc := ⟨.hbm, 187, rfl⟩
abbrev main_v113 : Ref sig .tc := ⟨.hbm, 188, rfl⟩
abbrev main_cst_40 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_cst_41 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_cst_42 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_cst_43 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_cst_44 : Ref sig .tc := ⟨.hbm, 205, rfl⟩
abbrev main_v126 : Ref sig .tc := ⟨.hbm, 206, rfl⟩
abbrev main_v127 : Ref sig .tc := ⟨.hbm, 207, rfl⟩
abbrev main_cst_45 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_46 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_cst_47 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_cst_48 : Ref sig .tc := ⟨.hbm, 220, rfl⟩
abbrev main_v137 : Ref sig .tc := ⟨.hbm, 221, rfl⟩
abbrev main_v138 : Ref sig .tc := ⟨.hbm, 222, rfl⟩
abbrev main_cst_49 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_50 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_cst_51 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_cst_52 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_cst_53 : Ref sig .tc := ⟨.hbm, 239, rfl⟩
abbrev main_v151 : Ref sig .tc := ⟨.hbm, 240, rfl⟩
abbrev main_v152 : Ref sig .tc := ⟨.hbm, 241, rfl⟩
abbrev main_cst_54 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_cst_55 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_cst_56 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_cst_57 : Ref sig .tc := ⟨.hbm, 254, rfl⟩
abbrev main_v162 : Ref sig .tc := ⟨.hbm, 255, rfl⟩
abbrev main_v163 : Ref sig .tc := ⟨.hbm, 256, rfl⟩
abbrev main_cst_58 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_cst_59 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_cst_60 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_cst_61 : Ref sig .tc := ⟨.hbm, 269, rfl⟩
abbrev main_v173 : Ref sig .tc := ⟨.hbm, 270, rfl⟩
abbrev main_v174 : Ref sig .tc := ⟨.hbm, 271, rfl⟩
abbrev main_v175 : Ref sig .tc := ⟨.hbm, 272, rfl⟩
abbrev main_cst_62 : Ref sig .tc := ⟨.hbm, 273, rfl⟩
abbrev main_v176 : Ref sig .tc := ⟨.hbm, 274, rfl⟩
abbrev main_v177 : Ref sig .tc := ⟨.hbm, 275, rfl⟩
abbrev main_cst_63 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_cst_64 : Ref sig .tc := ⟨.hbm, 280, rfl⟩
abbrev main_v181 : Ref sig .tc := ⟨.hbm, 281, rfl⟩
abbrev main_v182 : Ref sig .tc := ⟨.hbm, 282, rfl⟩
abbrev main_v183 : Ref sig .tc := ⟨.hbm, 283, rfl⟩
abbrev main_cst_65 : Ref sig .tc := ⟨.hbm, 284, rfl⟩
abbrev main_v184 : Ref sig .tc := ⟨.hbm, 285, rfl⟩
abbrev main_v185 : Ref sig .tc := ⟨.hbm, 286, rfl⟩
abbrev main_v186 : Ref sig .tc := ⟨.hbm, 287, rfl⟩
abbrev main_cst_66 : Ref sig .tc := ⟨.hbm, 288, rfl⟩
abbrev main_v187 : Ref sig .tc := ⟨.hbm, 289, rfl⟩
abbrev main_v188 : Ref sig .tc := ⟨.hbm, 290, rfl⟩
abbrev main_cst_67 : Ref sig .tc := ⟨.hbm, 291, rfl⟩
abbrev main_v189 : Ref sig .tc := ⟨.hbm, 292, rfl⟩
abbrev main_v190 : Ref sig .tc := ⟨.hbm, 293, rfl⟩
abbrev main_v191 : Ref sig .tc := ⟨.hbm, 294, rfl⟩
abbrev main_cst_68 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_cst_69 : Ref sig .tc := ⟨.hbm, 299, rfl⟩
abbrev main_v195 : Ref sig .tc := ⟨.hbm, 300, rfl⟩
abbrev main_v196 : Ref sig .tc := ⟨.hbm, 301, rfl⟩
abbrev main_v197 : Ref sig .tc := ⟨.hbm, 302, rfl⟩
abbrev main_cst_70 : Ref sig .tc := ⟨.hbm, 303, rfl⟩
abbrev main_v198 : Ref sig .tc := ⟨.hbm, 304, rfl⟩
abbrev main_v199 : Ref sig .tc := ⟨.hbm, 305, rfl⟩
abbrev main_v200 : Ref sig .tc := ⟨.hbm, 306, rfl⟩
abbrev main_cst_71 : Ref sig .tc := ⟨.hbm, 307, rfl⟩
abbrev main_v201 : Ref sig .tc := ⟨.hbm, 308, rfl⟩
abbrev main_v202 : Ref sig .tc := ⟨.hbm, 309, rfl⟩
abbrev main_cst_72 : Ref sig .tc := ⟨.hbm, 310, rfl⟩
abbrev main_v203 : Ref sig .tc := ⟨.hbm, 311, rfl⟩
abbrev main_v204 : Ref sig .tc := ⟨.hbm, 312, rfl⟩
abbrev main_v205 : Ref sig .tc := ⟨.hbm, 313, rfl⟩
abbrev main_cst_73 : Ref sig .tc := ⟨.hbm, 314, rfl⟩
abbrev main_v206 : Ref sig .tc := ⟨.hbm, 315, rfl⟩
abbrev main_v207 : Ref sig .tc := ⟨.hbm, 316, rfl⟩
abbrev main_v208 : Ref sig .tc := ⟨.hbm, 317, rfl⟩
abbrev main_cst_74 : Ref sig .tc := ⟨.hbm, 318, rfl⟩
abbrev main_v209 : Ref sig .tc := ⟨.hbm, 319, rfl⟩
abbrev main_v210 : Ref sig .tc := ⟨.hbm, 320, rfl⟩
abbrev main_v211 : Ref sig .tc := ⟨.hbm, 321, rfl⟩
abbrev main_cst_75 : Ref sig .tc := ⟨.hbm, 322, rfl⟩
abbrev main_v212 : Ref sig .tc := ⟨.hbm, 323, rfl⟩
abbrev main_v213 : Ref sig .tc := ⟨.hbm, 324, rfl⟩
abbrev main_cst_76 : Ref sig .tc := ⟨.hbm, 325, rfl⟩
abbrev main_v214 : Ref sig .tc := ⟨.hbm, 326, rfl⟩
abbrev main_v215 : Ref sig .tc := ⟨.hbm, 327, rfl⟩
abbrev main_v216 : Ref sig .tc := ⟨.hbm, 328, rfl⟩
abbrev main_cst_77 : Ref sig .tc := ⟨.hbm, 329, rfl⟩
abbrev main_v217 : Ref sig .tc := ⟨.hbm, 330, rfl⟩
abbrev main_v218 : Ref sig .tc := ⟨.hbm, 331, rfl⟩
abbrev main_v219 : Ref sig .tc := ⟨.hbm, 332, rfl⟩
abbrev main_cst_78 : Ref sig .tc := ⟨.hbm, 333, rfl⟩
abbrev main_v220 : Ref sig .tc := ⟨.hbm, 334, rfl⟩
abbrev main_v221 : Ref sig .tc := ⟨.hbm, 335, rfl⟩
abbrev main_v222 : Ref sig .tc := ⟨.hbm, 336, rfl⟩
abbrev main_cst_79 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_cst_80 : Ref sig .tc := ⟨.hbm, 341, rfl⟩
abbrev main_v226 : Ref sig .tc := ⟨.hbm, 342, rfl⟩
abbrev main_v227 : Ref sig .tc := ⟨.hbm, 343, rfl⟩
abbrev main_cst_81 : Ref sig .tc := ⟨.hbm, 344, rfl⟩
abbrev main_v228 : Ref sig .tc := ⟨.hbm, 345, rfl⟩
abbrev main_v229 : Ref sig .tc := ⟨.hbm, 346, rfl⟩
abbrev main_v230 : Ref sig .tc := ⟨.hbm, 347, rfl⟩
abbrev main_cst_82 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_cst_83 : Ref sig .tc := ⟨.hbm, 352, rfl⟩
abbrev main_v234 : Ref sig .tc := ⟨.hbm, 353, rfl⟩
abbrev main_v235 : Ref sig .tc := ⟨.hbm, 354, rfl⟩
abbrev main_v236 : Ref sig .tc := ⟨.hbm, 355, rfl⟩
abbrev main_cst_84 : Ref sig .tc := ⟨.hbm, 356, rfl⟩
abbrev main_v237 : Ref sig .tc := ⟨.hbm, 357, rfl⟩
abbrev main_v238 : Ref sig .tc := ⟨.hbm, 358, rfl⟩
abbrev main_cst_85 : Ref sig .tc := ⟨.hbm, 359, rfl⟩
abbrev main_v239 : Ref sig .tc := ⟨.hbm, 360, rfl⟩
abbrev main_v240 : Ref sig .tc := ⟨.hbm, 361, rfl⟩
abbrev main_v241 : Ref sig .tc := ⟨.hbm, 362, rfl⟩
abbrev main_cst_86 : Ref sig .tc := ⟨.hbm, 363, rfl⟩
abbrev main_v242 : Ref sig .tc := ⟨.hbm, 364, rfl⟩
abbrev main_v243 : Ref sig .tc := ⟨.hbm, 365, rfl⟩
abbrev main_v244 : Ref sig .tc := ⟨.hbm, 366, rfl⟩
abbrev main_cst_87 : Ref sig .tc := ⟨.hbm, 367, rfl⟩
abbrev main_v245 : Ref sig .tc := ⟨.hbm, 368, rfl⟩
abbrev main_v246 : Ref sig .tc := ⟨.hbm, 369, rfl⟩
abbrev main_v247 : Ref sig .tc := ⟨.hbm, 370, rfl⟩
abbrev main_cst_88 : Ref sig .tc := ⟨.hbm, 371, rfl⟩
abbrev main_v248 : Ref sig .tc := ⟨.hbm, 372, rfl⟩
abbrev main_v249 : Ref sig .tc := ⟨.hbm, 373, rfl⟩
abbrev main_v250 : Ref sig .tc := ⟨.hbm, 374, rfl⟩
abbrev main_cst_89 : Ref sig .tc := ⟨.hbm, 375, rfl⟩
abbrev main_v251 : Ref sig .tc := ⟨.hbm, 376, rfl⟩
abbrev main_v252 : Ref sig .tc := ⟨.hbm, 377, rfl⟩
abbrev main_cst_90 : Ref sig .tc := ⟨.hbm, 378, rfl⟩
abbrev main_v253 : Ref sig .tc := ⟨.hbm, 379, rfl⟩
abbrev main_v254 : Ref sig .tc := ⟨.hbm, 380, rfl⟩
abbrev main_v255 : Ref sig .tc := ⟨.hbm, 381, rfl⟩
abbrev main_cst_91 : Ref sig .tc := ⟨.hbm, 382, rfl⟩
abbrev main_v256 : Ref sig .tc := ⟨.hbm, 383, rfl⟩
abbrev main_v257 : Ref sig .tc := ⟨.hbm, 384, rfl⟩
abbrev main_v258 : Ref sig .tc := ⟨.hbm, 385, rfl⟩
abbrev main_cst_92 : Ref sig .tc := ⟨.hbm, 386, rfl⟩
abbrev main_v259 : Ref sig .tc := ⟨.hbm, 387, rfl⟩
abbrev main_v260 : Ref sig .tc := ⟨.hbm, 388, rfl⟩
abbrev main_v261 : Ref sig .tc := ⟨.hbm, 389, rfl⟩
abbrev main_cst_93 : Ref sig .tc := ⟨.hbm, 390, rfl⟩
abbrev main_v262 : Ref sig .tc := ⟨.hbm, 391, rfl⟩
abbrev main_v263 : Ref sig .tc := ⟨.hbm, 392, rfl⟩
abbrev main_cst_94 : Ref sig .tc := ⟨.hbm, 393, rfl⟩
abbrev main_v264 : Ref sig .tc := ⟨.hbm, 394, rfl⟩
abbrev main_v265 : Ref sig .tc := ⟨.hbm, 395, rfl⟩
abbrev main_v266 : Ref sig .tc := ⟨.hbm, 396, rfl⟩
abbrev main_cst_95 : Ref sig .tc := ⟨.hbm, 397, rfl⟩
abbrev main_v267 : Ref sig .tc := ⟨.hbm, 398, rfl⟩
abbrev main_v268 : Ref sig .tc := ⟨.hbm, 399, rfl⟩
abbrev main_v269 : Ref sig .tc := ⟨.hbm, 400, rfl⟩
abbrev main_cst_96 : Ref sig .tc := ⟨.hbm, 401, rfl⟩
abbrev main_v270 : Ref sig .tc := ⟨.hbm, 402, rfl⟩
abbrev main_v271 : Ref sig .tc := ⟨.hbm, 403, rfl⟩
abbrev main_v272 : Ref sig .tc := ⟨.hbm, 404, rfl⟩
abbrev main_cst_97 : Ref sig .tc := ⟨.hbm, 405, rfl⟩
abbrev main_v273 : Ref sig .tc := ⟨.hbm, 406, rfl⟩
abbrev main_v274 : Ref sig .tc := ⟨.hbm, 407, rfl⟩

abbrev nD : Nat := 1
abbrev τ : Topo := Topo.v7x

variable {F : FTy → Type} [FloatOps F]
-- ==== Kernel26.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference26Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel27.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference27Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.OptSmallI.lean ====
module

public import proofs.«01_k».proof.Proof.Gen.Kernel25Ideal.Launch
public import proofs.«01_k».proof.Proof.Gen.Kernel25Ideal.Skeleton
public import proofs.«01_k».proof.Proof.Gen.Kernel25Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

/-! The run of the optimiser on the small parameters: what each block holds after a step, and that the arguments are left as they were. -/

namespace Cert.Kernel25Ideal.Opt

open Cert.Kernel25Ideal Cert.Kernel25Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resources of the machine. -/
abbrev Res (F : FTy → Type) := MT nD τ sig Unit (Elt F) ℕ (UR sig nD τ) ℕ

/-! ## What a block holds after the body -/

/-- The whole of a block. -/
abbrev allS1x1024 : Rect S1x1024 := Rect.unit (s := S1x1024) ![0, 0] S1x1024.size inb_S1x1024_S1x1024_0_0

theorem in_allS1x1024 (p : Vec F S1x1024 .f32) (y : S1x1024.Idx) : ∃ q ∈ ([⟨allS1x1024, p⟩] : List (View.Piece (Elt F) S1x1024 .f32)), y ∈ q.1.set :=
  View.cover_of_tiled [⟨allS1x1024, p⟩] S1x1024.size (by rfl) y

/-- The gradient, as it came. -/
def cpS1x1024 (g : Vec F S1x1024 .f32) : Vec F S1x1024 .f32 := View.canon [⟨allS1x1024, g⟩]
/-- The step of the weight `w`. -/
def stS1x1024 (g w m v : Vec F S1x1024 .f32) : Vec F S1x1024 .f32 :=
  View.canon [⟨allS1x1024, k0_pay3 g (View.ld w allS1x1024) (View.ld m allS1x1024) (View.ld v allS1x1024)⟩]
/-- The first moment. -/
def moS1x1024 (g m : Vec F S1x1024 .f32) : Vec F S1x1024 .f32 := View.canon [⟨allS1x1024, k0_pay1 g (View.ld m allS1x1024)⟩]
/-- The second moment. -/
def vaS1x1024 (g v : Vec F S1x1024 .f32) : Vec F S1x1024 .f32 := View.canon [⟨allS1x1024, k0_pay2 g (View.ld v allS1x1024)⟩]

/-- The whole of a block. -/
abbrev allS1x512 : Rect S1x512 := Rect.unit (s := S1x512) ![0, 0] S1x512.size inb_S1x512_S1x512_0_0

theorem in_allS1x512 (p : Vec F S1x512 .f32) (y : S1x512.Idx) : ∃ q ∈ ([⟨allS1x512, p⟩] : List (View.Piece (Elt F) S1x512 .f32)), y ∈ q.1.set :=
  View.cover_of_tiled [⟨allS1x512, p⟩] S1x512.size (by rfl) y

/-- The gradient, as it came. -/
def cpS1x512 (g : Vec F S1x512 .f32) : Vec F S1x512 .f32 := View.canon [⟨allS1x512, g⟩]
/-- The step of the weight `w`. -/
def stS1x512 (g w m v : Vec F S1x512 .f32) : Vec F S1x512 .f32 :=
  View.canon [⟨allS1x512, k0_pay24 g (View.ld w allS1x512) (View.ld m allS1x512) (View.ld v allS1x512)⟩]
/-- The first moment. -/
def moS1x512 (g m : Vec F S1x512 .f32) : Vec F S1x512 .f32 := View.canon [⟨allS1x512, k0_pay22 g (View.ld m allS1x512)⟩]
/-- The second moment. -/
def vaS1x512 (g v : Vec F S1x512 .f32) : Vec F S1x512 .f32 := View.canon [⟨allS1x512, k0_pay23 g (View.ld v allS1x512)⟩]

/-- The whole of a block. -/
abbrev allS1x8 : Rect S1x8 := Rect.unit (s := S1x8) ![0, 0] S1x8.size inb_S1x8_S1x8_0_0

theorem in_allS1x8 (p : Vec F S1x8 .f32) (y : S1x8.Idx) : ∃ q ∈ ([⟨allS1x8, p⟩] : List (View.Piece (Elt F) S1x8 .f32)), y ∈ q.1.set :=
  View.cover_of_tiled [⟨allS1x8, p⟩] S1x8.size (by rfl) y

/-- The gradient, as it came. -/
def cpS1x8 (g : Vec F S1x8 .f32) : Vec F S1x8 .f32 := View.canon [⟨allS1x8, g⟩]
/-- The step of the weight `w`. -/
def stS1x8 (g w m v : Vec F S1x8 .f32) : Vec F S1x8 .f32 :=
  View.canon [⟨allS1x8, k0_pay30 g (View.ld w allS1x8) (View.ld m allS1x8) (View.ld v allS1x8)⟩]
/-- The first moment. -/
def moS1x8 (g m : Vec F S1x8 .f32) : Vec F S1x8 .f32 := View.canon [⟨allS1x8, k0_pay28 g (View.ld m allS1x8)⟩]
/-- The second moment. -/
def vaS1x8 (g v : Vec F S1x8 .f32) : Vec F S1x8 .f32 := View.canon [⟨allS1x8, k0_pay29 g (View.ld v allS1x8)⟩]

/-- The whole of a block. -/
abbrev allS8x257 : Rect S8x257 := Rect.unit (s := S8x257) ![0, 0] S8x257.size inb_S8x257_S8x257_0_0

theorem in_allS8x257 (p : Vec F S8x257 .f32) (y : S8x257.Idx) : ∃ q ∈ ([⟨allS8x257, p⟩] : List (View.Piece (Elt F) S8x257 .f32)), y ∈ q.1.set :=
  View.cover_of_tiled [⟨allS8x257, p⟩] S8x257.size (by rfl) y

/-- The gradient, as it came. -/
def cpS8x257 (g : Vec F S8x257 .f32) : Vec F S8x257 .f32 := View.canon [⟨allS8x257, g⟩]
/-- The step of the weight `w`. -/
def stS8x257 (g w m v : Vec F S8x257 .f32) : Vec F S8x257 .f32 :=
  View.canon [⟨allS8x257, k0_pay33 g (View.ld w allS8x257) (View.ld m allS8x257) (View.ld v allS8x257)⟩]
/-- The first moment. -/
def moS8x257 (g m : Vec F S8x257 .f32) : Vec F S8x257 .f32 := View.canon [⟨allS8x257, k0_pay31 g (View.ld m allS8x257)⟩]
/-- The second moment. -/
def vaS8x257 (g v : Vec F S8x257 .f32) : Vec F S8x257 .f32 := View.canon [⟨allS8x257, k0_pay32 g (View.ld v allS8x257)⟩]

/-- The place of parameter 0 in the packed gradient. -/
abbrev slot0 : Rect S24x1024 := Rect.unit (s := S24x1024) ![0, 0] S1x1024.size inb_S24x1024_S1x1024_0_0

/-- The place of parameter 1 in the packed gradient. -/
abbrev slot1 : Rect S24x1024 := Rect.unit (s := S24x1024) ![1, 0] S1x1024.size inb_S24x1024_S1x1024_1_0

/-- The place of parameter 2 in the packed gradient. -/
abbrev slot2 : Rect S24x1024 := Rect.unit (s := S24x1024) ![2, 0] S1x1024.size inb_S24x1024_S1x1024_2_0

/-- The place of parameter 3 in the packed gradient. -/
abbrev slot3 : Rect S24x1024 := Rect.unit (s := S24x1024) ![3, 0] S1x1024.size inb_S24x1024_S1x1024_3_0

/-- The place of parameter 4 in the packed gradient. -/
abbrev slot4 : Rect S24x1024 := Rect.unit (s := S24x1024) ![4, 0] S1x1024.size inb_S24x1024_S1x1024_4_0

/-- The place of parameter 5 in the packed gradient. -/
abbrev slot5 : Rect S24x1024 := Rect.unit (s := S24x1024) ![5, 0] S1x1024.size inb_S24x1024_S1x1024_5_0

/-- The place of parameter 6 in the packed gradient. -/
abbrev slot6 : Rect S24x1024 := Rect.unit (s := S24x1024) ![6, 0] S1x1024.size inb_S24x1024_S1x1024_6_0

/-- The place of parameter 7 in the packed gradient. -/
abbrev slot7 : Rect S24x1024 := Rect.unit (s := S24x1024) ![7, 0] S1x512.size inb_S24x1024_S1x512_7_0

/-- The place of parameter 8 in the packed gradient. -/
abbrev slot8 : Rect S24x1024 := Rect.unit (s := S24x1024) ![7, 512] S1x512.size inb_S24x1024_S1x512_7_512

/-- The place of parameter 9 in the packed gradient. -/
abbrev slot9 : Rect S24x1024 := Rect.unit (s := S24x1024) ![8, 0] S1x8.size inb_S24x1024_S1x8_8_0

/-- The place of parameter 10 in the packed gradient. -/
abbrev slot10 : Rect S24x1024 := Rect.unit (s := S24x1024) ![16, 0] S8x257.size inb_S24x1024_S8x257_16_0

/-! ## The body -/

section
variable (c : Dev nD)

/-- The blocks that come in, each at its contents. -/
def Ins (a0 : Memref sig .tc .vmem S24x1024 .f32) (a1 a2 a3 a4 a5 a6 a7 : Memref sig .tc .vmem S1x1024 .f32) (a8 a9 : Memref sig .tc .vmem S1x512 .f32) (a10 : Memref sig .tc .vmem S1x8 .f32) (a11 : Memref sig .tc .vmem S8x257 .f32) (a12 a13 a14 a15 a16 a17 a18 : Memref sig .tc .vmem S1x1024 .f32) (a19 a20 : Memref sig .tc .vmem S1x512 .f32) (a21 : Memref sig .tc .vmem S1x8 .f32) (a22 : Memref sig .tc .vmem S8x257 .f32) (a23 a24 a25 a26 a27 a28 a29 : Memref sig .tc .vmem S1x1024 .f32) (a30 a31 : Memref sig .tc .vmem S1x512 .f32) (a32 : Memref sig .tc .vmem S1x8 .f32) (a33 : Memref sig .tc .vmem S8x257 .f32)
    (x0 : Vec F S24x1024 .f32) (x1 x2 x3 x4 x5 x6 x7 : Vec F S1x1024 .f32) (x8 x9 : Vec F S1x512 .f32) (x10 : Vec F S1x8 .f32) (x11 : Vec F S8x257 .f32) (x12 x13 x14 x15 x16 x17 x18 : Vec F S1x1024 .f32) (x19 x20 : Vec F S1x512 .f32) (x21 : Vec F S1x8 .f32) (x22 : Vec F S8x257 .f32) (x23 x24 x25 x26 x27 x28 x29 : Vec F S1x1024 .f32) (x30 x31 : Vec F S1x512 .f32) (x32 : Vec F S1x8 .f32) (x33 : Vec F S8x257 .f32) : sProp (Res F) :=
  iprop(owns (c : Thread nD τ) a0 fullShare x0 ∗ owns (c : Thread nD τ) a1 fullShare x1 ∗ owns (c : Thread nD τ) a2 fullShare x2
      ∗ owns (c : Thread nD τ) a3 fullShare x3 ∗ owns (c : Thread nD τ) a4 fullShare x4 ∗ owns (c : Thread nD τ) a5 fullShare x5
      ∗ owns (c : Thread nD τ) a6 fullShare x6 ∗ owns (c : Thread nD τ) a7 fullShare x7 ∗ owns (c : Thread nD τ) a8 fullShare x8
      ∗ owns (c : Thread nD τ) a9 fullShare x9 ∗ owns (c : Thread nD τ) a10 fullShare x10 ∗ owns (c : Thread nD τ) a11 fullShare x11
      ∗ owns (c : Thread nD τ) a12 fullShare x12 ∗ owns (c : Thread nD τ) a13 fullShare x13 ∗ owns (c : Thread nD τ) a14 fullShare x14
      ∗ owns (c : Thread nD τ) a15 fullShare x15 ∗ owns (c : Thread nD τ) a16 fullShare x16 ∗ owns (c : Thread nD τ) a17 fullShare x17
      ∗ owns (c : Thread nD τ) a18 fullShare x18 ∗ owns (c : Thread nD τ) a19 fullShare x19 ∗ owns (c : Thread nD τ) a20 fullShare x20
      ∗ owns (c : Thread nD τ) a21 fullShare x21 ∗ owns (c : Thread nD τ) a22 fullShare x22 ∗ owns (c : Thread nD τ) a23 fullShare x23
      ∗ owns (c : Thread nD τ) a24 fullShare x24 ∗ owns (c : Thread nD τ) a25 fullShare x25 ∗ owns (c : Thread nD τ) a26 fullShare x26
      ∗ owns (c : Thread nD τ) a27 fullShare x27 ∗ owns (c : Thread nD τ) a28 fullShare x28 ∗ owns (c : Thread nD τ) a29 fullShare x29
      ∗ owns (c : Thread nD τ) a30 fullShare x30 ∗ owns (c : Thread nD τ) a31 fullShare x31 ∗ owns (c : Thread nD τ) a32 fullShare x32
      ∗ owns (c : Thread nD τ) a33 fullShare x33)

/-- The blocks that go out, before the body. -/
def Any (F : FTy → Type) [FloatOps F] (a34 a35 a36 a37 a38 a39 a40 a41 a42 a43 a44 a45 a46 a47 a48 a49 a50 a51 a52 a53
      a54 a55 a56 a57 a58 a59 a60 a61 : Memref sig .tc .vmem S1x1024 .f32) (a62 a63 a64 a65 a66 a67 a68 a69 : Memref sig .tc .vmem S1x512 .f32) (a70 a71 a72 a73 : Memref sig .tc .vmem S1x8 .f32) (a74 a75 a76 a77 : Memref sig .tc .vmem S8x257 .f32) : sProp (Res F) :=
  iprop((∃ x : Vec F S1x1024 .f32, owns (c : Thread nD τ) a34 fullShare x) ∗ (∃ x : Vec F S1x1024 .f32, owns (c : Thread nD τ) a35 fullShare x)
      ∗ (∃ x : Vec F S1x1024 .f32, owns (c : Thread nD τ) a36 fullShare x) ∗ (∃ x : Vec F S1x1024 .f32, owns (c : Thread nD τ) a37 fullShare x)
      ∗ (∃ x : Vec F S1x1024 .f32, owns (c : Thread nD τ) a38 fullShare x) ∗ (∃ x : Vec F S1x1024 .f32, owns (c : Thread nD τ) a39 fullShare x)
      ∗ (∃ x : Vec F S1x1024 .f32, owns (c : Thread nD τ) a40 fullShare x) ∗ (∃ x : Vec F S1x1024 .f32, owns (c : Thread nD τ) a41 fullShare x)
      ∗ (∃ x : Vec F S1x1024 .f32, owns (c : Thread nD τ) a42 fullShare x) ∗ (∃ x : Vec F S1x1024 .f32, owns (c : Thread nD τ) a43 fullShare x)
      ∗ (∃ x : Vec F S1x1024 .f32, owns (c : Thread nD τ) a44 fullShare x) ∗ (∃ x : Vec F S1x1024 .f32, owns (c : Thread nD τ) a45 fullShare x)
      ∗ (∃ x : Vec F S1x1024 .f32, owns (c : Thread nD τ) a46 fullShare x) ∗ (∃ x : Vec F S1x1024 .f32, owns (c : Thread nD τ) a47 fullShare x)
      ∗ (∃ x : Vec F S1x1024 .f32, owns (c : Thread nD τ) a48 fullShare x) ∗ (∃ x : Vec F S1x1024 .f32, owns (c : Thread nD τ) a49 fullShare x)
      ∗ (∃ x : Vec F S1x1024 .f32, owns (c : Thread nD τ) a50 fullShare x) ∗ (∃ x : Vec F S1x1024 .f32, owns (c : Thread nD τ) a51 fullShare x)
      ∗ (∃ x : Vec F S1x1024 .f32, owns (c : Thread nD τ) a52 fullShare x) ∗ (∃ x : Vec F S1x1024 .f32, owns (c : Thread nD τ) a53 fullShare x)
      ∗ (∃ x : Vec F S1x1024 .f32, owns (c : Thread nD τ) a54 fullShare x) ∗ (∃ x : Vec F S1x1024 .f32, owns (c : Thread nD τ) a55 fullShare x)
      ∗ (∃ x : Vec F S1x1024 .f32, owns (c : Thread nD τ) a56 fullShare x) ∗ (∃ x : Vec F S1x1024 .f32, owns (c : Thread nD τ) a57 fullShare x)
      ∗ (∃ x : Vec F S1x1024 .f32, owns (c : Thread nD τ) a58 fullShare x) ∗ (∃ x : Vec F S1x1024 .f32, owns (c : Thread nD τ) a59 fullShare x)
      ∗ (∃ x : Vec F S1x1024 .f32, owns (c : Thread nD τ) a60 fullShare x) ∗ (∃ x : Vec F S1x1024 .f32, owns (c : Thread nD τ) a61 fullShare x)
      ∗ (∃ x : Vec F S1x512 .f32, owns (c : Thread nD τ) a62 fullShare x) ∗ (∃ x : Vec F S1x512 .f32, owns (c : Thread nD τ) a63 fullShare x)
      ∗ (∃ x : Vec F S1x512 .f32, owns (c : Thread nD τ) a64 fullShare x) ∗ (∃ x : Vec F S1x512 .f32, owns (c : Thread nD τ) a65 fullShare x)
      ∗ (∃ x : Vec F S1x512 .f32, owns (c : Thread nD τ) a66 fullShare x) ∗ (∃ x : Vec F S1x512 .f32, owns (c : Thread nD τ) a67 fullShare x)
      ∗ (∃ x : Vec F S1x512 .f32, owns (c : Thread nD τ) a68 fullShare x) ∗ (∃ x : Vec F S1x512 .f32, owns (c : Thread nD τ) a69 fullShare x)
      ∗ (∃ x : Vec F S1x8 .f32, owns (c : Thread nD τ) a70 fullShare x) ∗ (∃ x : Vec F S1x8 .f32, owns (c : Thread nD τ) a71 fullShare x)
      ∗ (∃ x : Vec F S1x8 .f32, owns (c : Thread nD τ) a72 fullShare x) ∗ (∃ x : Vec F S1x8 .f32, owns (c : Thread nD τ) a73 fullShare x)
      ∗ (∃ x : Vec F S8x257 .f32, owns (c : Thread nD τ) a74 fullShare x) ∗ (∃ x : Vec F S8x257 .f32, owns (c : Thread nD τ) a75 fullShare x)
      ∗ (∃ x : Vec F S8x257 .f32, owns (c : Thread nD τ) a76 fullShare x) ∗ (∃ x : Vec F S8x257 .f32, owns (c : Thread nD τ) a77 fullShare x))

/-- The blocks that go out, after the body. -/
def Outs (a34 a35 a36 a37 a38 a39 a40 a41 a42 a43 a44 a45 a46 a47 a48 a49 a50 a51 a52 a53
      a54 a55 a56 a57 a58 a59 a60 a61 : Memref sig .tc .vmem S1x1024 .f32) (a62 a63 a64 a65 a66 a67 a68 a69 : Memref sig .tc .vmem S1x512 .f32) (a70 a71 a72 a73 : Memref sig .tc .vmem S1x8 .f32) (a74 a75 a76 a77 : Memref sig .tc .vmem S8x257 .f32)
    (x0 : Vec F S24x1024 .f32) (x1 x2 x3 x4 x5 x6 x7 : Vec F S1x1024 .f32) (x8 x9 : Vec F S1x512 .f32) (x10 : Vec F S1x8 .f32) (x11 : Vec F S8x257 .f32) (x12 x13 x14 x15 x16 x17 x18 : Vec F S1x1024 .f32) (x19 x20 : Vec F S1x512 .f32) (x21 : Vec F S1x8 .f32) (x22 : Vec F S8x257 .f32) (x23 x24 x25 x26 x27 x28 x29 : Vec F S1x1024 .f32) (x30 x31 : Vec F S1x512 .f32) (x32 : Vec F S1x8 .f32) (x33 : Vec F S8x257 .f32) : sProp (Res F) :=
  iprop(owns (c : Thread nD τ) a34 fullShare (cpS1x1024 (View.ld (x0) slot0))
      ∗ owns (c : Thread nD τ) a35 fullShare (stS1x1024 (View.ld (x0) slot0) (x1) (x12) (x23))
      ∗ owns (c : Thread nD τ) a36 fullShare (moS1x1024 (View.ld (x0) slot0) (x12))
      ∗ owns (c : Thread nD τ) a37 fullShare (vaS1x1024 (View.ld (x0) slot0) (x23))
      ∗ owns (c : Thread nD τ) a38 fullShare (cpS1x1024 (View.ld (x0) slot1))
      ∗ owns (c : Thread nD τ) a39 fullShare (stS1x1024 (View.ld (x0) slot1) (x2) (x13) (x24))
      ∗ owns (c : Thread nD τ) a40 fullShare (moS1x1024 (View.ld (x0) slot1) (x13))
      ∗ owns (c : Thread nD τ) a41 fullShare (vaS1x1024 (View.ld (x0) slot1) (x24))
      ∗ owns (c : Thread nD τ) a42 fullShare (cpS1x1024 (View.ld (x0) slot2))
      ∗ owns (c : Thread nD τ) a43 fullShare (stS1x1024 (View.ld (x0) slot2) (x3) (x14) (x25))
      ∗ owns (c : Thread nD τ) a44 fullShare (moS1x1024 (View.ld (x0) slot2) (x14))
      ∗ owns (c : Thread nD τ) a45 fullShare (vaS1x1024 (View.ld (x0) slot2) (x25))
      ∗ owns (c : Thread nD τ) a46 fullShare (cpS1x1024 (View.ld (x0) slot3))
      ∗ owns (c : Thread nD τ) a47 fullShare (stS1x1024 (View.ld (x0) slot3) (x4) (x15) (x26))
      ∗ owns (c : Thread nD τ) a48 fullShare (moS1x1024 (View.ld (x0) slot3) (x15))
      ∗ owns (c : Thread nD τ) a49 fullShare (vaS1x1024 (View.ld (x0) slot3) (x26))
      ∗ owns (c : Thread nD τ) a50 fullShare (cpS1x1024 (View.ld (x0) slot4))
      ∗ owns (c : Thread nD τ) a51 fullShare (stS1x1024 (View.ld (x0) slot4) (x5) (x16) (x27))
      ∗ owns (c : Thread nD τ) a52 fullShare (moS1x1024 (View.ld (x0) slot4) (x16))
      ∗ owns (c : Thread nD τ) a53 fullShare (vaS1x1024 (View.ld (x0) slot4) (x27))
      ∗ owns (c : Thread nD τ) a54 fullShare (cpS1x1024 (View.ld (x0) slot5))
      ∗ owns (c : Thread nD τ) a55 fullShare (stS1x1024 (View.ld (x0) slot5) (x6) (x17) (x28))
      ∗ owns (c : Thread nD τ) a56 fullShare (moS1x1024 (View.ld (x0) slot5) (x17))
      ∗ owns (c : Thread nD τ) a57 fullShare (vaS1x1024 (View.ld (x0) slot5) (x28))
      ∗ owns (c : Thread nD τ) a58 fullShare (cpS1x1024 (View.ld (x0) slot6))
      ∗ owns (c : Thread nD τ) a59 fullShare (stS1x1024 (View.ld (x0) slot6) (x7) (x18) (x29))
      ∗ owns (c : Thread nD τ) a60 fullShare (moS1x1024 (View.ld (x0) slot6) (x18))
      ∗ owns (c : Thread nD τ) a61 fullShare (vaS1x1024 (View.ld (x0) slot6) (x29))
      ∗ owns (c : Thread nD τ) a62 fullShare (cpS1x512 (View.ld (x0) slot7))
      ∗ owns (c : Thread nD τ) a63 fullShare (stS1x512 (View.ld (x0) slot7) (x8) (x19) (x30))
      ∗ owns (c : Thread nD τ) a64 fullShare (moS1x512 (View.ld (x0) slot7) (x19))
      ∗ owns (c : Thread nD τ) a65 fullShare (vaS1x512 (View.ld (x0) slot7) (x30))
      ∗ owns (c : Thread nD τ) a66 fullShare (cpS1x512 (View.ld (x0) slot8))
      ∗ owns (c : Thread nD τ) a67 fullShare (stS1x512 (View.ld (x0) slot8) (x9) (x20) (x31))
      ∗ owns (c : Thread nD τ) a68 fullShare (moS1x512 (View.ld (x0) slot8) (x20))
      ∗ owns (c : Thread nD τ) a69 fullShare (vaS1x512 (View.ld (x0) slot8) (x31))
      ∗ owns (c : Thread nD τ) a70 fullShare (cpS1x8 (View.ld (x0) slot9))
      ∗ owns (c : Thread nD τ) a71 fullShare (stS1x8 (View.ld (x0) slot9) (x10) (x21) (x32))
      ∗ owns (c : Thread nD τ) a72 fullShare (moS1x8 (View.ld (x0) slot9) (x21))
      ∗ owns (c : Thread nD τ) a73 fullShare (vaS1x8 (View.ld (x0) slot9) (x32))
      ∗ owns (c : Thread nD τ) a74 fullShare (cpS8x257 (View.ld (x0) slot10))
      ∗ owns (c : Thread nD τ) a75 fullShare (stS8x257 (View.ld (x0) slot10) (x11) (x22) (x33))
      ∗ owns (c : Thread nD τ) a76 fullShare (moS8x257 (View.ld (x0) slot10) (x22))
      ∗ owns (c : Thread nD τ) a77 fullShare (vaS8x257 (View.ld (x0) slot10) (x33)))
end

set_option maxHeartbeats 8000000 in
/-- The body reads the blocks that come in and fills those that go out. -/
theorem body (c : Dev nD) (E : Set ℕ) (a0 : Memref sig .tc .vmem S24x1024 .f32) (a1 a2 a3 a4 a5 a6 a7 : Memref sig .tc .vmem S1x1024 .f32) (a8 a9 : Memref sig .tc .vmem S1x512 .f32) (a10 : Memref sig .tc .vmem S1x8 .f32) (a11 : Memref sig .tc .vmem S8x257 .f32) (a12 a13 a14 a15 a16 a17 a18 : Memref sig .tc .vmem S1x1024 .f32) (a19 a20 : Memref sig .tc .vmem S1x512 .f32) (a21 : Memref sig .tc .vmem S1x8 .f32) (a22 : Memref sig .tc .vmem S8x257 .f32) (a23 a24 a25 a26 a27 a28 a29 : Memref sig .tc .vmem S1x1024 .f32) (a30 a31 : Memref sig .tc .vmem S1x512 .f32) (a32 : Memref sig .tc .vmem S1x8 .f32) (a33 : Memref sig .tc .vmem S8x257 .f32) (a34 a35 a36 a37 a38 a39 a40 a41 a42 a43 a44 a45 a46 a47 a48 a49 a50 a51 a52 a53
      a54 a55 a56 a57 a58 a59 a60 a61 : Memref sig .tc .vmem S1x1024 .f32) (a62 a63 a64 a65 a66 a67 a68 a69 : Memref sig .tc .vmem S1x512 .f32) (a70 a71 a72 a73 : Memref sig .tc .vmem S1x8 .f32) (a74 a75 a76 a77 : Memref sig .tc .vmem S8x257 .f32)
    (h0 : a0.IsWhole) (h1 : a1.IsWhole) (h2 : a2.IsWhole) (h3 : a3.IsWhole) (h4 : a4.IsWhole) (h5 : a5.IsWhole)
      (h6 : a6.IsWhole) (h7 : a7.IsWhole) (h8 : a8.IsWhole) (h9 : a9.IsWhole) (h10 : a10.IsWhole) (h11 : a11.IsWhole)
      (h12 : a12.IsWhole) (h13 : a13.IsWhole) (h14 : a14.IsWhole) (h15 : a15.IsWhole) (h16 : a16.IsWhole) (h17 : a17.IsWhole)
      (h18 : a18.IsWhole) (h19 : a19.IsWhole) (h20 : a20.IsWhole) (h21 : a21.IsWhole) (h22 : a22.IsWhole) (h23 : a23.IsWhole)
      (h24 : a24.IsWhole) (h25 : a25.IsWhole) (h26 : a26.IsWhole) (h27 : a27.IsWhole) (h28 : a28.IsWhole) (h29 : a29.IsWhole)
      (h30 : a30.IsWhole) (h31 : a31.IsWhole) (h32 : a32.IsWhole) (h33 : a33.IsWhole) (h34 : a34.IsWhole) (h35 : a35.IsWhole)
      (h36 : a36.IsWhole) (h37 : a37.IsWhole) (h38 : a38.IsWhole) (h39 : a39.IsWhole) (h40 : a40.IsWhole) (h41 : a41.IsWhole)
      (h42 : a42.IsWhole) (h43 : a43.IsWhole) (h44 : a44.IsWhole) (h45 : a45.IsWhole) (h46 : a46.IsWhole) (h47 : a47.IsWhole)
      (h48 : a48.IsWhole) (h49 : a49.IsWhole) (h50 : a50.IsWhole) (h51 : a51.IsWhole) (h52 : a52.IsWhole) (h53 : a53.IsWhole)
      (h54 : a54.IsWhole) (h55 : a55.IsWhole) (h56 : a56.IsWhole) (h57 : a57.IsWhole) (h58 : a58.IsWhole) (h59 : a59.IsWhole)
      (h60 : a60.IsWhole) (h61 : a61.IsWhole) (h62 : a62.IsWhole) (h63 : a63.IsWhole) (h64 : a64.IsWhole) (h65 : a65.IsWhole)
      (h66 : a66.IsWhole) (h67 : a67.IsWhole) (h68 : a68.IsWhole) (h69 : a69.IsWhole) (h70 : a70.IsWhole) (h71 : a71.IsWhole)
      (h72 : a72.IsWhole) (h73 : a73.IsWhole) (h74 : a74.IsWhole) (h75 : a75.IsWhole) (h76 : a76.IsWhole) (h77 : a77.IsWhole)
    (x0 : Vec F S24x1024 .f32) (x1 x2 x3 x4 x5 x6 x7 : Vec F S1x1024 .f32) (x8 x9 : Vec F S1x512 .f32) (x10 : Vec F S1x8 .f32) (x11 : Vec F S8x257 .f32) (x12 x13 x14 x15 x16 x17 x18 : Vec F S1x1024 .f32) (x19 x20 : Vec F S1x512 .f32) (x21 : Vec F S1x8 .f32) (x22 : Vec F S8x257 .f32) (x23 x24 x25 x26 x27 x28 x29 : Vec F S1x1024 .f32) (x30 x31 : Vec F S1x512 .f32) (x32 : Vec F S1x8 .f32) (x33 : Vec F S8x257 .f32) (K : PUnit → sProp (Res F)) :
    iprop(Ins c a0 a1 a2 a3 a4 a5 a6 a7 a8 a9 a10 a11
      a12 a13 a14 a15 a16 a17 a18 a19 a20 a21 a22 a23
      a24 a25 a26 a27 a28 a29 a30 a31 a32 a33 x0 x1 x2 x3 x4 x5 x6 x7 x8 x9 x10 x11
      x12 x13 x14 x15 x16 x17 x18 x19 x20 x21 x22 x23
      x24 x25 x26 x27 x28 x29 x30 x31 x32 x33 ∗ Any c F a34 a35 a36 a37 a38 a39 a40 a41 a42 a43 a44 a45
      a46 a47 a48 a49 a50 a51 a52 a53 a54 a55 a56 a57
      a58 a59 a60 a61 a62 a63 a64 a65 a66 a67 a68 a69
      a70 a71 a72 a73 a74 a75 a76 a77
      ∗ (iprop(Ins c a0 a1 a2 a3 a4 a5 a6 a7 a8 a9 a10 a11
      a12 a13 a14 a15 a16 a17 a18 a19 a20 a21 a22 a23
      a24 a25 a26 a27 a28 a29 a30 a31 a32 a33 x0 x1 x2 x3 x4 x5 x6 x7 x8 x9 x10 x11
      x12 x13 x14 x15 x16 x17 x18 x19 x20 x21 x22 x23
      x24 x25 x26 x27 x28 x29 x30 x31 x32 x33 ∗ Outs c a34 a35 a36 a37 a38 a39 a40 a41 a42 a43 a44 a45
      a46 a47 a48 a49 a50 a51 a52 a53 a54 a55 a56 a57
      a58 a59 a60 a61 a62 a63 a64 a65 a66 a67 a68 a69
      a70 a71 a72 a73 a74 a75 a76 a77 x0 x1 x2 x3 x4 x5 x6 x7 x8 x9 x10 x11
      x12 x13 x14 x15 x16 x17 x18 x19 x20 x21 x22 x23
      x24 x25 x26 x27 x28 x29 x30 x31 x32 x33) -∗ K ⟨⟩))
    ⊢ wp frame (wpE (defs₀ (F := F)) Variants.none c none) E
      (cc0_small_adamw a0 h0 a1 h1 a2 h2 a3 h3 a4 h4 a5 h5 a6 h6 a7 h7 a8 h8 a9 h9 a10 h10 a11 h11
      a12 h12 a13 h13 a14 h14 a15 h15 a16 h16 a17 h17 a18 h18 a19 h19 a20 h20 a21 h21 a22 h22 a23 h23
      a24 h24 a25 h25 a26 h26 a27 h27 a28 h28 a29 h29 a30 h30 a31 h31 a32 h32 a33 h33 a34 h34 a35 h35
      a36 h36 a37 h37 a38 h38 a39 h39 a40 h40 a41 h41 a42 h42 a43 h43 a44 h44 a45 h45 a46 h46 a47 h47
      a48 h48 a49 h49 a50 h50 a51 h51 a52 h52 a53 h53 a54 h54 a55 h55 a56 h56 a57 h57 a58 h58 a59 h59
      a60 h60 a61 h61 a62 h62 a63 h63 a64 h64 a65 h65 a66 h66 a67 h67 a68 h68 a69 h69 a70 h70 a71 h71
      a72 h72 a73 h73 a74 h74 a75 h75 a76 h76 a77 h77) K := by
  simp only [cc0_small_adamw_eq_skeleton]
  unfold cc0_small_adamw_skel
  simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton]
  unfold Ins Any Outs owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
      ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩,
      ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩,
      ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩,
      ⟨%f28, %e28, H28⟩, ⟨%f29, %e29, H29⟩, ⟨%f30, %e30, H30⟩, ⟨%f31, %e31, H31⟩, ⟨%f32, %e32, H32⟩, ⟨%f33, %e33, H33⟩⟩,
    ⟨⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩,
      ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩,
      ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩,
      ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩,
      ⟨%d62, %f62, -, H62⟩, ⟨%d63, %f63, -, H63⟩, ⟨%d64, %f64, -, H64⟩, ⟨%d65, %f65, -, H65⟩, ⟨%d66, %f66, -, H66⟩, ⟨%d67, %f67, -, H67⟩, ⟨%d68, %f68, -, H68⟩,
      ⟨%d69, %f69, -, H69⟩, ⟨%d70, %f70, -, H70⟩, ⟨%d71, %f71, -, H71⟩, ⟨%d72, %f72, -, H72⟩, ⟨%d73, %f73, -, H73⟩, ⟨%d74, %f74, -, H74⟩, ⟨%d75, %f75, -, H75⟩,
      ⟨%d76, %f76, -, H76⟩, ⟨%d77, %f77, -, H77⟩⟩, Hk⟩
  subst e0 e1 e2 e3 e4 e5 e6 e7 e8 e9 e10 e11 e12 e13 e14 e15 e16 e17 e18 e19
      e20 e21 e22 e23 e24 e25 e26 e27 e28 e29 e30 e31 e32 e33
  sl_exec
  sl_step
  iapply Hk
  isplitl [H0 H1 H2 H3 H4 H5 H6 H7 H8 H9 H10 H11 H12 H13 H14 H15 H16 H17 H18 H19
      H20 H21 H22 H23 H24 H25 H26 H27 H28 H29 H30 H31 H32 H33]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists f14; isplitr; · ipureintro; rfl
      iexact H14
    isplitl [H15]
    · iexists f15; isplitr; · ipureintro; rfl
      iexact H15
    isplitl [H16]
    · iexists f16; isplitr; · ipureintro; rfl
      iexact H16
    isplitl [H17]
    · iexists f17; isplitr; · ipureintro; rfl
      iexact H17
    isplitl [H18]
    · iexists f18; isplitr; · ipureintro; rfl
      iexact H18
    isplitl [H19]
    · iexists f19; isplitr; · ipureintro; rfl
      iexact H19
    isplitl [H20]
    · iexists f20; isplitr; · ipureintro; rfl
      iexact H20
    isplitl [H21]
    · iexists f21; isplitr; · ipureintro; rfl
      iexact H21
    isplitl [H22]
    · iexists f22; isplitr; · ipureintro; rfl
      iexact H22
    isplitl [H23]
    · iexists f23; isplitr; · ipureintro; rfl
      iexact H23
    isplitl [H24]
    · iexists f24; isplitr; · ipureintro; rfl
      iexact H24
    isplitl [H25]
    · iexists f25; isplitr; · ipureintro; rfl
      iexact H25
    isplitl [H26]
    · iexists f26; isplitr; · ipureintro; rfl
      iexact H26
    isplitl [H27]
    · iexists f27; isplitr; · ipureintro; rfl
      iexact H27
    isplitl [H28]
    · iexists f28; isplitr; · ipureintro; rfl
      iexact H28
    isplitl [H29]
    · iexists f29; isplitr; · ipureintro; rfl
      iexact H29
    isplitl [H30]
    · iexists f30; isplitr; · ipureintro; rfl
      iexact H30
    isplitl [H31]
    · iexists f31; isplitr; · ipureintro; rfl
      iexact H31
    isplitl [H32]
    · iexists f32; isplitr; · ipureintro; rfl
      iexact H32
    iexists f33; isplitr; · ipureintro; rfl
    iexact H33
  isplitl [H34]
  · iexists _; isplitr; rotate_left; · iexact H34
    ipureintro; exact View.read_writes_eq_canon _ _ _ (in_allS1x1024 _)
  isplitl [H35]
  · iexists _; isplitr; rotate_left; · iexact H35
    ipureintro; exact View.read_writes_eq_canon _ _ _ (in_allS1x1024 _)
  isplitl [H36]
  · iexists _; isplitr; rotate_left; · iexact H36
    ipureintro; exact View.read_writes_eq_canon _ _ _ (in_allS1x1024 _)
  isplitl [H37]
  · iexists _; isplitr; rotate_left; · iexact H37
    ipureintro; exact View.read_writes_eq_canon _ _ _ (in_allS1x1024 _)
  isplitl [H38]
  · iexists _; isplitr; rotate_left; · iexact H38
    ipureintro; exact View.read_writes_eq_canon _ _ _ (in_allS1x1024 _)
  isplitl [H39]
  · iexists _; isplitr; rotate_left; · iexact H39
    ipureintro; exact View.read_writes_eq_canon _ _ _ (in_allS1x1024 _)
  isplitl [H40]
  · iexists _; isplitr; rotate_left; · iexact H40
    ipureintro; exact View.read_writes_eq_canon _ _ _ (in_allS1x1024 _)
  isplitl [H41]
  · iexists _; isplitr; rotate_left; · iexact H41
    ipureintro; exact View.read_writes_eq_canon _ _ _ (in_allS1x1024 _)
  isplitl [H42]
  · iexists _; isplitr; rotate_left; · iexact H42
    ipureintro; exact View.read_writes_eq_canon _ _ _ (in_allS1x1024 _)
  isplitl [H43]
  · iexists _; isplitr; rotate_left; · iexact H43
    ipureintro; exact View.read_writes_eq_canon _ _ _ (in_allS1x1024 _)
  isplitl [H44]
  · iexists _; isplitr; rotate_left; · iexact H44
    ipureintro; exact View.read_writes_eq_canon _ _ _ (in_allS1x1024 _)
  isplitl [H45]
  · iexists _; isplitr; rotate_left; · iexact H45
    ipureintro; exact View.read_writes_eq_canon _ _ _ (in_allS1x1024 _)
  isplitl [H46]
  · iexists _; isplitr; rotate_left; · iexact H46
    ipureintro; exact View.read_writes_eq_canon _ _ _ (in_allS1x1024 _)
  isplitl [H47]
  · iexists _; isplitr; rotate_left; · iexact H47
    ipureintro; exact View.read_writes_eq_canon _ _ _ (in_allS1x1024 _)
  isplitl [H48]
  · iexists _; isplitr; rotate_left; · iexact H48
    ipureintro; exact View.read_writes_eq_canon _ _ _ (in_allS1x1024 _)
  isplitl [H49]
  · iexists _; isplitr; rotate_left; · iexact H49
    ipureintro; exact View.read_writes_eq_canon _ _ _ (in_allS1x1024 _)
  isplitl [H50]
  · iexists _; isplitr; rotate_left; · iexact H50
    ipureintro; exact View.read_writes_eq_canon _ _ _ (in_allS1x1024 _)
  isplitl [H51]
  · iexists _; isplitr; rotate_left; · iexact H51
    ipureintro; exact View.read_writes_eq_canon _ _ _ (in_allS1x1024 _)
  isplitl [H52]
  · iexists _; isplitr; rotate_left; · iexact H52
    ipureintro; exact View.read_writes_eq_canon _ _ _ (in_allS1x1024 _)
  isplitl [H53]
  · iexists _; isplitr; rotate_left; · iexact H53
    ipureintro; exact View.read_writes_eq_canon _ _ _ (in_allS1x1024 _)
  isplitl [H54]
  · iexists _; isplitr; rotate_left; · iexact H54
    ipureintro; exact View.read_writes_eq_canon _ _ _ (in_allS1x1024 _)
  isplitl [H55]
  · iexists _; isplitr; rotate_left; · iexact H55
    ipureintro; exact View.read_writes_eq_canon _ _ _ (in_allS1x1024 _)
  isplitl [H56]
  · iexists _; isplitr; rotate_left; · iexact H56
    ipureintro; exact View.read_writes_eq_canon _ _ _ (in_allS1x1024 _)
  isplitl [H57]
  · iexists _; isplitr; rotate_left; · iexact H57
    ipureintro; exact View.read_writes_eq_canon _ _ _ (in_allS1x1024 _)
  isplitl [H58]
  · iexists _; isplitr; rotate_left; · iexact H58
    ipureintro; exact View.read_writes_eq_canon _ _ _ (in_allS1x1024 _)
  isplitl [H59]
  · iexists _; isplitr; rotate_left; · iexact H59
    ipureintro; exact View.read_writes_eq_canon _ _ _ (in_allS1x1024 _)
  isplitl [H60]
  · iexists _; isplitr; rotate_left; · iexact H60
    ipureintro; exact View.read_writes_eq_canon _ _ _ (in_allS1x1024 _)
  isplitl [H61]
  · iexists _; isplitr; rotate_left; · iexact H61
    ipureintro; exact View.read_writes_eq_canon _ _ _ (in_allS1x1024 _)
  isplitl [H62]
  · iexists _; isplitr; rotate_left; · iexact H62
    ipureintro; exact View.read_writes_eq_canon _ _ _ (in_allS1x512 _)
  isplitl [H63]
  · iexists _; isplitr; rotate_left; · iexact H63
    ipureintro; exact View.read_writes_eq_canon _ _ _ (in_allS1x512 _)
  isplitl [H64]
  · iexists _; isplitr; rotate_left; · iexact H64
    ipureintro; exact View.read_writes_eq_canon _ _ _ (in_allS1x512 _)
  isplitl [H65]
  · iexists _; isplitr; rotate_left; · iexact H65
    ipureintro; exact View.read_writes_eq_canon _ _ _ (in_allS1x512 _)
  isplitl [H66]
  · iexists _; isplitr; rotate_left; · iexact H66
    ipureintro; exact View.read_writes_eq_canon _ _ _ (in_allS1x512 _)
  isplitl [H67]
  · iexists _; isplitr; rotate_left; · iexact H67
    ipureintro; exact View.read_writes_eq_canon _ _ _ (in_allS1x512 _)
  isplitl [H68]
  · iexists _; isplitr; rotate_left; · iexact H68
    ipureintro; exact View.read_writes_eq_canon _ _ _ (in_allS1x512 _)
  isplitl [H69]
  · iexists _; isplitr; rotate_left; · iexact H69
    ipureintro; exact View.read_writes_eq_canon _ _ _ (in_allS1x512 _)
  isplitl [H70]
  · iexists _; isplitr; rotate_left; · iexact H70
    ipureintro; exact View.read_writes_eq_canon _ _ _ (in_allS1x8 _)
  isplitl [H71]
  · iexists _; isplitr; rotate_left; · iexact H71
    ipureintro; exact View.read_writes_eq_canon _ _ _ (in_allS1x8 _)
  isplitl [H72]
  · iexists _; isplitr; rotate_left; · iexact H72
    ipureintro; exact View.read_writes_eq_canon _ _ _ (in_allS1x8 _)
  isplitl [H73]
  · iexists _; isplitr; rotate_left; · iexact H73
    ipureintro; exact View.read_writes_eq_canon _ _ _ (in_allS1x8 _)
  isplitl [H74]
  · iexists _; isplitr; rotate_left; · iexact H74
    ipureintro; exact View.read_writes_eq_canon _ _ _ (in_allS8x257 _)
  isplitl [H75]
  · iexists _; isplitr; rotate_left; · iexact H75
    ipureintro; exact View.read_writes_eq_canon _ _ _ (in_allS8x257 _)
  isplitl [H76]
  · iexists _; isplitr; rotate_left; · iexact H76
    ipureintro; exact View.read_writes_eq_canon _ _ _ (in_allS8x257 _)
  iexists _; isplitr; rotate_left; · iexact H77
  ipureintro; exact View.read_writes_eq_canon _ _ _ (in_allS8x257 _)

/-! ## The pipeline -/

section
variable (m : (ℓ : Loc nD τ sig) → Buf (Elt F) ℓ) (ρ : Dev nD → PrngReg)

/-- The arrays at the start. -/
abbrev init (c : Dev nD) (b : Ref sig .tc) : Buf (Elt F) ((c : Thread nD τ).loc b) := m ((c : Thread nD τ).loc b)

set_option maxHeartbeats 2000000 in
theorem enter (𝒱 : Variants) : Pipeline.HMain (Ix := Unit) (Name := ℕ) (U := UR sig nD τ) (Lvl := ℕ) cfgs 0 defs₀ 𝒱 m (main (F := F)) (init m) :=
  Pipeline.hmain_region cfgs 0 defs₀ 𝒱 m main fun c => (main_chain c).trans rfl

/-- The block of window `w` at point `t`, as the array starts. -/
def blk (c : Dev nD) (w : Fin cfg0.W) (t : Fin cfg0.N) : ((cfg0.win w).xblock (cfg0.grid.coords t)).Idx → Elt F (cfg0.win w).elt :=
  ((cfg0.win w).blk t).view.read (Elt F) (init m c (Pipeline.arrRef spec0 w))

/-- What the pipeline holds on each core. -/
def dat (_ : Fin 1) (c : Dev nD) : Dat τ (Elt F) Unit ℕ (UR sig nD τ) ℕ cfg0 c where
  A w := init m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => blk m c 8 t
    | ⟨9, _⟩ => blk m c 9 t
    | ⟨10, _⟩ => blk m c 10 t
    | ⟨11, _⟩ => blk m c 11 t
    | ⟨12, _⟩ => blk m c 12 t
    | ⟨13, _⟩ => blk m c 13 t
    | ⟨14, _⟩ => blk m c 14 t
    | ⟨15, _⟩ => blk m c 15 t
    | ⟨16, _⟩ => blk m c 16 t
    | ⟨17, _⟩ => blk m c 17 t
    | ⟨18, _⟩ => blk m c 18 t
    | ⟨19, _⟩ => blk m c 19 t
    | ⟨20, _⟩ => blk m c 20 t
    | ⟨21, _⟩ => blk m c 21 t
    | ⟨22, _⟩ => blk m c 22 t
    | ⟨23, _⟩ => blk m c 23 t
    | ⟨24, _⟩ => blk m c 24 t
    | ⟨25, _⟩ => blk m c 25 t
    | ⟨26, _⟩ => blk m c 26 t
    | ⟨27, _⟩ => blk m c 27 t
    | ⟨28, _⟩ => blk m c 28 t
    | ⟨29, _⟩ => blk m c 29 t
    | ⟨30, _⟩ => blk m c 30 t
    | ⟨31, _⟩ => blk m c 31 t
    | ⟨32, _⟩ => blk m c 32 t
    | ⟨33, _⟩ => blk m c 33 t
    | ⟨34, _⟩ => cpS1x1024 (View.ld (blk m c 0 t) slot0)
    | ⟨35, _⟩ => stS1x1024 (View.ld (blk m c 0 t) slot0) (blk m c 1 t) (blk m c 12 t) (blk m c 23 t)
    | ⟨36, _⟩ => moS1x1024 (View.ld (blk m c 0 t) slot0) (blk m c 12 t)
    | ⟨37, _⟩ => vaS1x1024 (View.ld (blk m c 0 t) slot0) (blk m c 23 t)
    | ⟨38, _⟩ => cpS1x1024 (View.ld (blk m c 0 t) slot1)
    | ⟨39, _⟩ => stS1x1024 (View.ld (blk m c 0 t) slot1) (blk m c 2 t) (blk m c 13 t) (blk m c 24 t)
    | ⟨40, _⟩ => moS1x1024 (View.ld (blk m c 0 t) slot1) (blk m c 13 t)
    | ⟨41, _⟩ => vaS1x1024 (View.ld (blk m c 0 t) slot1) (blk m c 24 t)
    | ⟨42, _⟩ => cpS1x1024 (View.ld (blk m c 0 t) slot2)
    | ⟨43, _⟩ => stS1x1024 (View.ld (blk m c 0 t) slot2) (blk m c 3 t) (blk m c 14 t) (blk m c 25 t)
    | ⟨44, _⟩ => moS1x1024 (View.ld (blk m c 0 t) slot2) (blk m c 14 t)
    | ⟨45, _⟩ => vaS1x1024 (View.ld (blk m c 0 t) slot2) (blk m c 25 t)
    | ⟨46, _⟩ => cpS1x1024 (View.ld (blk m c 0 t) slot3)
    | ⟨47, _⟩ => stS1x1024 (View.ld (blk m c 0 t) slot3) (blk m c 4 t) (blk m c 15 t) (blk m c 26 t)
    | ⟨48, _⟩ => moS1x1024 (View.ld (blk m c 0 t) slot3) (blk m c 15 t)
    | ⟨49, _⟩ => vaS1x1024 (View.ld (blk m c 0 t) slot3) (blk m c 26 t)
    | ⟨50, _⟩ => cpS1x1024 (View.ld (blk m c 0 t) slot4)
    | ⟨51, _⟩ => stS1x1024 (View.ld (blk m c 0 t) slot4) (blk m c 5 t) (blk m c 16 t) (blk m c 27 t)
    | ⟨52, _⟩ => moS1x1024 (View.ld (blk m c 0 t) slot4) (blk m c 16 t)
    | ⟨53, _⟩ => vaS1x1024 (View.ld (blk m c 0 t) slot4) (blk m c 27 t)
    | ⟨54, _⟩ => cpS1x1024 (View.ld (blk m c 0 t) slot5)
    | ⟨55, _⟩ => stS1x1024 (View.ld (blk m c 0 t) slot5) (blk m c 6 t) (blk m c 17 t) (blk m c 28 t)
    | ⟨56, _⟩ => moS1x1024 (View.ld (blk m c 0 t) slot5) (blk m c 17 t)
    | ⟨57, _⟩ => vaS1x1024 (View.ld (blk m c 0 t) slot5) (blk m c 28 t)
    | ⟨58, _⟩ => cpS1x1024 (View.ld (blk m c 0 t) slot6)
    | ⟨59, _⟩ => stS1x1024 (View.ld (blk m c 0 t) slot6) (blk m c 7 t) (blk m c 18 t) (blk m c 29 t)
    | ⟨60, _⟩ => moS1x1024 (View.ld (blk m c 0 t) slot6) (blk m c 18 t)
    | ⟨61, _⟩ => vaS1x1024 (View.ld (blk m c 0 t) slot6) (blk m c 29 t)
    | ⟨62, _⟩ => cpS1x512 (View.ld (blk m c 0 t) slot7)
    | ⟨63, _⟩ => stS1x512 (View.ld (blk m c 0 t) slot7) (blk m c 8 t) (blk m c 19 t) (blk m c 30 t)
    | ⟨64, _⟩ => moS1x512 (View.ld (blk m c 0 t) slot7) (blk m c 19 t)
    | ⟨65, _⟩ => vaS1x512 (View.ld (blk m c 0 t) slot7) (blk m c 30 t)
    | ⟨66, _⟩ => cpS1x512 (View.ld (blk m c 0 t) slot8)
    | ⟨67, _⟩ => stS1x512 (View.ld (blk m c 0 t) slot8) (blk m c 9 t) (blk m c 20 t) (blk m c 31 t)
    | ⟨68, _⟩ => moS1x512 (View.ld (blk m c 0 t) slot8) (blk m c 20 t)
    | ⟨69, _⟩ => vaS1x512 (View.ld (blk m c 0 t) slot8) (blk m c 31 t)
    | ⟨70, _⟩ => cpS1x8 (View.ld (blk m c 0 t) slot9)
    | ⟨71, _⟩ => stS1x8 (View.ld (blk m c 0 t) slot9) (blk m c 10 t) (blk m c 21 t) (blk m c 32 t)
    | ⟨72, _⟩ => moS1x8 (View.ld (blk m c 0 t) slot9) (blk m c 21 t)
    | ⟨73, _⟩ => vaS1x8 (View.ld (blk m c 0 t) slot9) (blk m c 32 t)
    | ⟨74, _⟩ => cpS8x257 (View.ld (blk m c 0 t) slot10)
    | ⟨75, _⟩ => stS8x257 (View.ld (blk m c 0 t) slot10) (blk m c 11 t) (blk m c 22 t) (blk m c 33 t)
    | ⟨76, _⟩ => moS8x257 (View.ld (blk m c 0 t) slot10) (blk m c 22 t)
    | ⟨77, _⟩ => vaS8x257 (View.ld (blk m c 0 t) slot10) (blk m c 33 t)
    | ⟨_ + 78, h⟩ => absurd h (Nat.not_lt.2 (Nat.le_add_left _ _))
  Φ _ := Pipeline.ΦA spec0 c
  q _ := fullShare
  owed _ := 0

theorem dat_A (c : Dev nD) (w : Fin cfg0.W) : (dat m 0 c).A w = init m c (Pipeline.arrRef spec0 w) := by
  dsimp only [dat]

theorem after0 (c : Dev nD) (t : Fin cfg0.N) : (dat m 0 c).after 0 t = blk m c 0 t := by dsimp only [dat]
theorem after1 (c : Dev nD) (t : Fin cfg0.N) : (dat m 0 c).after 1 t = blk m c 1 t := by dsimp only [dat]
theorem after2 (c : Dev nD) (t : Fin cfg0.N) : (dat m 0 c).after 2 t = blk m c 2 t := by dsimp only [dat]
theorem after3 (c : Dev nD) (t : Fin cfg0.N) : (dat m 0 c).after 3 t = blk m c 3 t := by dsimp only [dat]
theorem after4 (c : Dev nD) (t : Fin cfg0.N) : (dat m 0 c).after 4 t = blk m c 4 t := by dsimp only [dat]
theorem after5 (c : Dev nD) (t : Fin cfg0.N) : (dat m 0 c).after 5 t = blk m c 5 t := by dsimp only [dat]
theorem after6 (c : Dev nD) (t : Fin cfg0.N) : (dat m 0 c).after 6 t = blk m c 6 t := by dsimp only [dat]
theorem after7 (c : Dev nD) (t : Fin cfg0.N) : (dat m 0 c).after 7 t = blk m c 7 t := by dsimp only [dat]
theorem after8 (c : Dev nD) (t : Fin cfg0.N) : (dat m 0 c).after 8 t = blk m c 8 t := by dsimp only [dat]
theorem after9 (c : Dev nD) (t : Fin cfg0.N) : (dat m 0 c).after 9 t = blk m c 9 t := by dsimp only [dat]
theorem after10 (c : Dev nD) (t : Fin cfg0.N) : (dat m 0 c).after 10 t = blk m c 10 t := by dsimp only [dat]
theorem after11 (c : Dev nD) (t : Fin cfg0.N) : (dat m 0 c).after 11 t = blk m c 11 t := by dsimp only [dat]
theorem after12 (c : Dev nD) (t : Fin cfg0.N) : (dat m 0 c).after 12 t = blk m c 12 t := by dsimp only [dat]
theorem after13 (c : Dev nD) (t : Fin cfg0.N) : (dat m 0 c).after 13 t = blk m c 13 t := by dsimp only [dat]
theorem after14 (c : Dev nD) (t : Fin cfg0.N) : (dat m 0 c).after 14 t = blk m c 14 t := by dsimp only [dat]
theorem after15 (c : Dev nD) (t : Fin cfg0.N) : (dat m 0 c).after 15 t = blk m c 15 t := by dsimp only [dat]
theorem after16 (c : Dev nD) (t : Fin cfg0.N) : (dat m 0 c).after 16 t = blk m c 16 t := by dsimp only [dat]
theorem after17 (c : Dev nD) (t : Fin cfg0.N) : (dat m 0 c).after 17 t = blk m c 17 t := by dsimp only [dat]
theorem after18 (c : Dev nD) (t : Fin cfg0.N) : (dat m 0 c).after 18 t = blk m c 18 t := by dsimp only [dat]
theorem after19 (c : Dev nD) (t : Fin cfg0.N) : (dat m 0 c).after 19 t = blk m c 19 t := by dsimp only [dat]
theorem after20 (c : Dev nD) (t : Fin cfg0.N) : (dat m 0 c).after 20 t = blk m c 20 t := by dsimp only [dat]
theorem after21 (c : Dev nD) (t : Fin cfg0.N) : (dat m 0 c).after 21 t = blk m c 21 t := by dsimp only [dat]
theorem after22 (c : Dev nD) (t : Fin cfg0.N) : (dat m 0 c).after 22 t = blk m c 22 t := by dsimp only [dat]
theorem after23 (c : Dev nD) (t : Fin cfg0.N) : (dat m 0 c).after 23 t = blk m c 23 t := by dsimp only [dat]
theorem after24 (c : Dev nD) (t : Fin cfg0.N) : (dat m 0 c).after 24 t = blk m c 24 t := by dsimp only [dat]
theorem after25 (c : Dev nD) (t : Fin cfg0.N) : (dat m 0 c).after 25 t = blk m c 25 t := by dsimp only [dat]
theorem after26 (c : Dev nD) (t : Fin cfg0.N) : (dat m 0 c).after 26 t = blk m c 26 t := by dsimp only [dat]
theorem after27 (c : Dev nD) (t : Fin cfg0.N) : (dat m 0 c).after 27 t = blk m c 27 t := by dsimp only [dat]
theorem after28 (c : Dev nD) (t : Fin cfg0.N) : (dat m 0 c).after 28 t = blk m c 28 t := by dsimp only [dat]
theorem after29 (c : Dev nD) (t : Fin cfg0.N) : (dat m 0 c).after 29 t = blk m c 29 t := by dsimp only [dat]
theorem after30 (c : Dev nD) (t : Fin cfg0.N) : (dat m 0 c).after 30 t = blk m c 30 t := by dsimp only [dat]
theorem after31 (c : Dev nD) (t : Fin cfg0.N) : (dat m 0 c).after 31 t = blk m c 31 t := by dsimp only [dat]
theorem after32 (c : Dev nD) (t : Fin cfg0.N) : (dat m 0 c).after 32 t = blk m c 32 t := by dsimp only [dat]
theorem after33 (c : Dev nD) (t : Fin cfg0.N) : (dat m 0 c).after 33 t = blk m c 33 t := by dsimp only [dat]
theorem after34 (c : Dev nD) (t : Fin cfg0.N) : (dat m 0 c).after 34 t = cpS1x1024 (View.ld (blk m c 0 t) slot0) := by dsimp only [dat]
theorem after35 (c : Dev nD) (t : Fin cfg0.N) : (dat m 0 c).after 35 t = stS1x1024 (View.ld (blk m c 0 t) slot0) (blk m c 1 t) (blk m c 12 t) (blk m c 23 t) := by dsimp only [dat]
theorem after36 (c : Dev nD) (t : Fin cfg0.N) : (dat m 0 c).after 36 t = moS1x1024 (View.ld (blk m c 0 t) slot0) (blk m c 12 t) := by dsimp only [dat]
theorem after37 (c : Dev nD) (t : Fin cfg0.N) : (dat m 0 c).after 37 t = vaS1x1024 (View.ld (blk m c 0 t) slot0) (blk m c 23 t) := by dsimp only [dat]
theorem after38 (c : Dev nD) (t : Fin cfg0.N) : (dat m 0 c).after 38 t = cpS1x1024 (View.ld (blk m c 0 t) slot1) := by dsimp only [dat]
theorem after39 (c : Dev nD) (t : Fin cfg0.N) : (dat m 0 c).after 39 t = stS1x1024 (View.ld (blk m c 0 t) slot1) (blk m c 2 t) (blk m c 13 t) (blk m c 24 t) := by dsimp only [dat]
theorem after40 (c : Dev nD) (t : Fin cfg0.N) : (dat m 0 c).after 40 t = moS1x1024 (View.ld (blk m c 0 t) slot1) (blk m c 13 t) := by dsimp only [dat]
theorem after41 (c : Dev nD) (t : Fin cfg0.N) : (dat m 0 c).after 41 t = vaS1x1024 (View.ld (blk m c 0 t) slot1) (blk m c 24 t) := by dsimp only [dat]
theorem after42 (c : Dev nD) (t : Fin cfg0.N) : (dat m 0 c).after 42 t = cpS1x1024 (View.ld (blk m c 0 t) slot2) := by dsimp only [dat]
theorem after43 (c : Dev nD) (t : Fin cfg0.N) : (dat m 0 c).after 43 t = stS1x1024 (View.ld (blk m c 0 t) slot2) (blk m c 3 t) (blk m c 14 t) (blk m c 25 t) := by dsimp only [dat]
theorem after44 (c : Dev nD) (t : Fin cfg0.N) : (dat m 0 c).after 44 t = moS1x1024 (View.ld (blk m c 0 t) slot2) (blk m c 14 t) := by dsimp only [dat]
theorem after45 (c : Dev nD) (t : Fin cfg0.N) : (dat m 0 c).after 45 t = vaS1x1024 (View.ld (blk m c 0 t) slot2) (blk m c 25 t) := by dsimp only [dat]
theorem after46 (c : Dev nD) (t : Fin cfg0.N) : (dat m 0 c).after 46 t = cpS1x1024 (View.ld (blk m c 0 t) slot3) := by dsimp only [dat]
theorem after47 (c : Dev nD) (t : Fin cfg0.N) : (dat m 0 c).after 47 t = stS1x1024 (View.ld (blk m c 0 t) slot3) (blk m c 4 t) (blk m c 15 t) (blk m c 26 t) := by dsimp only [dat]
theorem after48 (c : Dev nD) (t : Fin cfg0.N) : (dat m 0 c).after 48 t = moS1x1024 (View.ld (blk m c 0 t) slot3) (blk m c 15 t) := by dsimp only [dat]
theorem after49 (c : Dev nD) (t : Fin cfg0.N) : (dat m 0 c).after 49 t = vaS1x1024 (View.ld (blk m c 0 t) slot3) (blk m c 26 t) := by dsimp only [dat]
theorem after50 (c : Dev nD) (t : Fin cfg0.N) : (dat m 0 c).after 50 t = cpS1x1024 (View.ld (blk m c 0 t) slot4) := by dsimp only [dat]
theorem after51 (c : Dev nD) (t : Fin cfg0.N) : (dat m 0 c).after 51 t = stS1x1024 (View.ld (blk m c 0 t) slot4) (blk m c 5 t) (blk m c 16 t) (blk m c 27 t) := by dsimp only [dat]
theorem after52 (c : Dev nD) (t : Fin cfg0.N) : (dat m 0 c).after 52 t = moS1x1024 (View.ld (blk m c 0 t) slot4) (blk m c 16 t) := by dsimp only [dat]
theorem after53 (c : Dev nD) (t : Fin cfg0.N) : (dat m 0 c).after 53 t = vaS1x1024 (View.ld (blk m c 0 t) slot4) (blk m c 27 t) := by dsimp only [dat]
theorem after54 (c : Dev nD) (t : Fin cfg0.N) : (dat m 0 c).after 54 t = cpS1x1024 (View.ld (blk m c 0 t) slot5) := by dsimp only [dat]
theorem after55 (c : Dev nD) (t : Fin cfg0.N) : (dat m 0 c).after 55 t = stS1x1024 (View.ld (blk m c 0 t) slot5) (blk m c 6 t) (blk m c 17 t) (blk m c 28 t) := by dsimp only [dat]
theorem after56 (c : Dev nD) (t : Fin cfg0.N) : (dat m 0 c).after 56 t = moS1x1024 (View.ld (blk m c 0 t) slot5) (blk m c 17 t) := by dsimp only [dat]
theorem after57 (c : Dev nD) (t : Fin cfg0.N) : (dat m 0 c).after 57 t = vaS1x1024 (View.ld (blk m c 0 t) slot5) (blk m c 28 t) := by dsimp only [dat]
theorem after58 (c : Dev nD) (t : Fin cfg0.N) : (dat m 0 c).after 58 t = cpS1x1024 (View.ld (blk m c 0 t) slot6) := by dsimp only [dat]
theorem after59 (c : Dev nD) (t : Fin cfg0.N) : (dat m 0 c).after 59 t = stS1x1024 (View.ld (blk m c 0 t) slot6) (blk m c 7 t) (blk m c 18 t) (blk m c 29 t) := by dsimp only [dat]
theorem after60 (c : Dev nD) (t : Fin cfg0.N) : (dat m 0 c).after 60 t = moS1x1024 (View.ld (blk m c 0 t) slot6) (blk m c 18 t) := by dsimp only [dat]
theorem after61 (c : Dev nD) (t : Fin cfg0.N) : (dat m 0 c).after 61 t = vaS1x1024 (View.ld (blk m c 0 t) slot6) (blk m c 29 t) := by dsimp only [dat]
theorem after62 (c : Dev nD) (t : Fin cfg0.N) : (dat m 0 c).after 62 t = cpS1x512 (View.ld (blk m c 0 t) slot7) := by dsimp only [dat]
theorem after63 (c : Dev nD) (t : Fin cfg0.N) : (dat m 0 c).after 63 t = stS1x512 (View.ld (blk m c 0 t) slot7) (blk m c 8 t) (blk m c 19 t) (blk m c 30 t) := by dsimp only [dat]
theorem after64 (c : Dev nD) (t : Fin cfg0.N) : (dat m 0 c).after 64 t = moS1x512 (View.ld (blk m c 0 t) slot7) (blk m c 19 t) := by dsimp only [dat]
theorem after65 (c : Dev nD) (t : Fin cfg0.N) : (dat m 0 c).after 65 t = vaS1x512 (View.ld (blk m c 0 t) slot7) (blk m c 30 t) := by dsimp only [dat]
theorem after66 (c : Dev nD) (t : Fin cfg0.N) : (dat m 0 c).after 66 t = cpS1x512 (View.ld (blk m c 0 t) slot8) := by dsimp only [dat]
theorem after67 (c : Dev nD) (t : Fin cfg0.N) : (dat m 0 c).after 67 t = stS1x512 (View.ld (blk m c 0 t) slot8) (blk m c 9 t) (blk m c 20 t) (blk m c 31 t) := by dsimp only [dat]
theorem after68 (c : Dev nD) (t : Fin cfg0.N) : (dat m 0 c).after 68 t = moS1x512 (View.ld (blk m c 0 t) slot8) (blk m c 20 t) := by dsimp only [dat]
theorem after69 (c : Dev nD) (t : Fin cfg0.N) : (dat m 0 c).after 69 t = vaS1x512 (View.ld (blk m c 0 t) slot8) (blk m c 31 t) := by dsimp only [dat]
theorem after70 (c : Dev nD) (t : Fin cfg0.N) : (dat m 0 c).after 70 t = cpS1x8 (View.ld (blk m c 0 t) slot9) := by dsimp only [dat]
theorem after71 (c : Dev nD) (t : Fin cfg0.N) : (dat m 0 c).after 71 t = stS1x8 (View.ld (blk m c 0 t) slot9) (blk m c 10 t) (blk m c 21 t) (blk m c 32 t) := by dsimp only [dat]
theorem after72 (c : Dev nD) (t : Fin cfg0.N) : (dat m 0 c).after 72 t = moS1x8 (View.ld (blk m c 0 t) slot9) (blk m c 21 t) := by dsimp only [dat]
theorem after73 (c : Dev nD) (t : Fin cfg0.N) : (dat m 0 c).after 73 t = vaS1x8 (View.ld (blk m c 0 t) slot9) (blk m c 32 t) := by dsimp only [dat]
theorem after74 (c : Dev nD) (t : Fin cfg0.N) : (dat m 0 c).after 74 t = cpS8x257 (View.ld (blk m c 0 t) slot10) := by dsimp only [dat]
theorem after75 (c : Dev nD) (t : Fin cfg0.N) : (dat m 0 c).after 75 t = stS8x257 (View.ld (blk m c 0 t) slot10) (blk m c 11 t) (blk m c 22 t) (blk m c 33 t) := by dsimp only [dat]
theorem after76 (c : Dev nD) (t : Fin cfg0.N) : (dat m 0 c).after 76 t = moS8x257 (View.ld (blk m c 0 t) slot10) (blk m c 22 t) := by dsimp only [dat]
theorem after77 (c : Dev nD) (t : Fin cfg0.N) : (dat m 0 c).after 77 t = vaS8x257 (View.ld (blk m c 0 t) slot10) (blk m c 33 t) := by dsimp only [dat]

theorem before0 (c : Dev nD) (t : Fin cfg0.N) (d) : (dat m 0 c).before 0 t d = blk m c 0 t :=
  ((dat m 0 c).before_in_eq_fetched 0 rfl (fun _ => rfl) (fun _ _ _ => rfl) (fun t => by rw [after0]; rfl) t d).trans rfl
theorem before1 (c : Dev nD) (t : Fin cfg0.N) (d) : (dat m 0 c).before 1 t d = blk m c 1 t :=
  ((dat m 0 c).before_in_eq_fetched 1 rfl (fun _ => rfl) (fun _ _ _ => rfl) (fun t => by rw [after1]; rfl) t d).trans rfl
theorem before2 (c : Dev nD) (t : Fin cfg0.N) (d) : (dat m 0 c).before 2 t d = blk m c 2 t :=
  ((dat m 0 c).before_in_eq_fetched 2 rfl (fun _ => rfl) (fun _ _ _ => rfl) (fun t => by rw [after2]; rfl) t d).trans rfl
theorem before3 (c : Dev nD) (t : Fin cfg0.N) (d) : (dat m 0 c).before 3 t d = blk m c 3 t :=
  ((dat m 0 c).before_in_eq_fetched 3 rfl (fun _ => rfl) (fun _ _ _ => rfl) (fun t => by rw [after3]; rfl) t d).trans rfl
theorem before4 (c : Dev nD) (t : Fin cfg0.N) (d) : (dat m 0 c).before 4 t d = blk m c 4 t :=
  ((dat m 0 c).before_in_eq_fetched 4 rfl (fun _ => rfl) (fun _ _ _ => rfl) (fun t => by rw [after4]; rfl) t d).trans rfl
theorem before5 (c : Dev nD) (t : Fin cfg0.N) (d) : (dat m 0 c).before 5 t d = blk m c 5 t :=
  ((dat m 0 c).before_in_eq_fetched 5 rfl (fun _ => rfl) (fun _ _ _ => rfl) (fun t => by rw [after5]; rfl) t d).trans rfl
theorem before6 (c : Dev nD) (t : Fin cfg0.N) (d) : (dat m 0 c).before 6 t d = blk m c 6 t :=
  ((dat m 0 c).before_in_eq_fetched 6 rfl (fun _ => rfl) (fun _ _ _ => rfl) (fun t => by rw [after6]; rfl) t d).trans rfl
theorem before7 (c : Dev nD) (t : Fin cfg0.N) (d) : (dat m 0 c).before 7 t d = blk m c 7 t :=
  ((dat m 0 c).before_in_eq_fetched 7 rfl (fun _ => rfl) (fun _ _ _ => rfl) (fun t => by rw [after7]; rfl) t d).trans rfl
theorem before8 (c : Dev nD) (t : Fin cfg0.N) (d) : (dat m 0 c).before 8 t d = blk m c 8 t :=
  ((dat m 0 c).before_in_eq_fetched 8 rfl (fun _ => rfl) (fun _ _ _ => rfl) (fun t => by rw [after8]; rfl) t d).trans rfl
theorem before9 (c : Dev nD) (t : Fin cfg0.N) (d) : (dat m 0 c).before 9 t d = blk m c 9 t :=
  ((dat m 0 c).before_in_eq_fetched 9 rfl (fun _ => rfl) (fun _ _ _ => rfl) (fun t => by rw [after9]; rfl) t d).trans rfl
theorem before10 (c : Dev nD) (t : Fin cfg0.N) (d) : (dat m 0 c).before 10 t d = blk m c 10 t :=
  ((dat m 0 c).before_in_eq_fetched 10 rfl (fun _ => rfl) (fun _ _ _ => rfl) (fun t => by rw [after10]; rfl) t d).trans rfl
theorem before11 (c : Dev nD) (t : Fin cfg0.N) (d) : (dat m 0 c).before 11 t d = blk m c 11 t :=
  ((dat m 0 c).before_in_eq_fetched 11 rfl (fun _ => rfl) (fun _ _ _ => rfl) (fun t => by rw [after11]; rfl) t d).trans rfl
theorem before12 (c : Dev nD) (t : Fin cfg0.N) (d) : (dat m 0 c).before 12 t d = blk m c 12 t :=
  ((dat m 0 c).before_in_eq_fetched 12 rfl (fun _ => rfl) (fun _ _ _ => rfl) (fun t => by rw [after12]; rfl) t d).trans rfl
theorem before13 (c : Dev nD) (t : Fin cfg0.N) (d) : (dat m 0 c).before 13 t d = blk m c 13 t :=
  ((dat m 0 c).before_in_eq_fetched 13 rfl (fun _ => rfl) (fun _ _ _ => rfl) (fun t => by rw [after13]; rfl) t d).trans rfl
theorem before14 (c : Dev nD) (t : Fin cfg0.N) (d) : (dat m 0 c).before 14 t d = blk m c 14 t :=
  ((dat m 0 c).before_in_eq_fetched 14 rfl (fun _ => rfl) (fun _ _ _ => rfl) (fun t => by rw [after14]; rfl) t d).trans rfl
theorem before15 (c : Dev nD) (t : Fin cfg0.N) (d) : (dat m 0 c).before 15 t d = blk m c 15 t :=
  ((dat m 0 c).before_in_eq_fetched 15 rfl (fun _ => rfl) (fun _ _ _ => rfl) (fun t => by rw [after15]; rfl) t d).trans rfl
theorem before16 (c : Dev nD) (t : Fin cfg0.N) (d) : (dat m 0 c).before 16 t d = blk m c 16 t :=
  ((dat m 0 c).before_in_eq_fetched 16 rfl (fun _ => rfl) (fun _ _ _ => rfl) (fun t => by rw [after16]; rfl) t d).trans rfl
theorem before17 (c : Dev nD) (t : Fin cfg0.N) (d) : (dat m 0 c).before 17 t d = blk m c 17 t :=
  ((dat m 0 c).before_in_eq_fetched 17 rfl (fun _ => rfl) (fun _ _ _ => rfl) (fun t => by rw [after17]; rfl) t d).trans rfl
theorem before18 (c : Dev nD) (t : Fin cfg0.N) (d) : (dat m 0 c).before 18 t d = blk m c 18 t :=
  ((dat m 0 c).before_in_eq_fetched 18 rfl (fun _ => rfl) (fun _ _ _ => rfl) (fun t => by rw [after18]; rfl) t d).trans rfl
theorem before19 (c : Dev nD) (t : Fin cfg0.N) (d) : (dat m 0 c).before 19 t d = blk m c 19 t :=
  ((dat m 0 c).before_in_eq_fetched 19 rfl (fun _ => rfl) (fun _ _ _ => rfl) (fun t => by rw [after19]; rfl) t d).trans rfl
theorem before20 (c : Dev nD) (t : Fin cfg0.N) (d) : (dat m 0 c).before 20 t d = blk m c 20 t :=
  ((dat m 0 c).before_in_eq_fetched 20 rfl (fun _ => rfl) (fun _ _ _ => rfl) (fun t => by rw [after20]; rfl) t d).trans rfl
theorem before21 (c : Dev nD) (t : Fin cfg0.N) (d) : (dat m 0 c).before 21 t d = blk m c 21 t :=
  ((dat m 0 c).before_in_eq_fetched 21 rfl (fun _ => rfl) (fun _ _ _ => rfl) (fun t => by rw [after21]; rfl) t d).trans rfl
theorem before22 (c : Dev nD) (t : Fin cfg0.N) (d) : (dat m 0 c).before 22 t d = blk m c 22 t :=
  ((dat m 0 c).before_in_eq_fetched 22 rfl (fun _ => rfl) (fun _ _ _ => rfl) (fun t => by rw [after22]; rfl) t d).trans rfl
theorem before23 (c : Dev nD) (t : Fin cfg0.N) (d) : (dat m 0 c).before 23 t d = blk m c 23 t :=
  ((dat m 0 c).before_in_eq_fetched 23 rfl (fun _ => rfl) (fun _ _ _ => rfl) (fun t => by rw [after23]; rfl) t d).trans rfl
theorem before24 (c : Dev nD) (t : Fin cfg0.N) (d) : (dat m 0 c).before 24 t d = blk m c 24 t :=
  ((dat m 0 c).before_in_eq_fetched 24 rfl (fun _ => rfl) (fun _ _ _ => rfl) (fun t => by rw [after24]; rfl) t d).trans rfl
theorem before25 (c : Dev nD) (t : Fin cfg0.N) (d) : (dat m 0 c).before 25 t d = blk m c 25 t :=
  ((dat m 0 c).before_in_eq_fetched 25 rfl (fun _ => rfl) (fun _ _ _ => rfl) (fun t => by rw [after25]; rfl) t d).trans rfl
theorem before26 (c : Dev nD) (t : Fin cfg0.N) (d) : (dat m 0 c).before 26 t d = blk m c 26 t :=
  ((dat m 0 c).before_in_eq_fetched 26 rfl (fun _ => rfl) (fun _ _ _ => rfl) (fun t => by rw [after26]; rfl) t d).trans rfl
theorem before27 (c : Dev nD) (t : Fin cfg0.N) (d) : (dat m 0 c).before 27 t d = blk m c 27 t :=
  ((dat m 0 c).before_in_eq_fetched 27 rfl (fun _ => rfl) (fun _ _ _ => rfl) (fun t => by rw [after27]; rfl) t d).trans rfl
theorem before28 (c : Dev nD) (t : Fin cfg0.N) (d) : (dat m 0 c).before 28 t d = blk m c 28 t :=
  ((dat m 0 c).before_in_eq_fetched 28 rfl (fun _ => rfl) (fun _ _ _ => rfl) (fun t => by rw [after28]; rfl) t d).trans rfl
theorem before29 (c : Dev nD) (t : Fin cfg0.N) (d) : (dat m 0 c).before 29 t d = blk m c 29 t :=
  ((dat m 0 c).before_in_eq_fetched 29 rfl (fun _ => rfl) (fun _ _ _ => rfl) (fun t => by rw [after29]; rfl) t d).trans rfl
theorem before30 (c : Dev nD) (t : Fin cfg0.N) (d) : (dat m 0 c).before 30 t d = blk m c 30 t :=
  ((dat m 0 c).before_in_eq_fetched 30 rfl (fun _ => rfl) (fun _ _ _ => rfl) (fun t => by rw [after30]; rfl) t d).trans rfl
theorem before31 (c : Dev nD) (t : Fin cfg0.N) (d) : (dat m 0 c).before 31 t d = blk m c 31 t :=
  ((dat m 0 c).before_in_eq_fetched 31 rfl (fun _ => rfl) (fun _ _ _ => rfl) (fun t => by rw [after31]; rfl) t d).trans rfl
theorem before32 (c : Dev nD) (t : Fin cfg0.N) (d) : (dat m 0 c).before 32 t d = blk m c 32 t :=
  ((dat m 0 c).before_in_eq_fetched 32 rfl (fun _ => rfl) (fun _ _ _ => rfl) (fun t => by rw [after32]; rfl) t d).trans rfl
theorem before33 (c : Dev nD) (t : Fin cfg0.N) (d) : (dat m 0 c).before 33 t d = blk m c 33 t :=
  ((dat m 0 c).before_in_eq_fetched 33 rfl (fun _ => rfl) (fun _ _ _ => rfl) (fun t => by rw [after33]; rfl) t d).trans rfl

/-- What the body is given at a point. -/
def Pre (c : Dev nD) (t : Fin cfg0.N) : sProp (Res F) :=
  iprop((dat m 0 c).Φ t.castSucc ∗ (dat m 0 c).owesAt () t.castSucc
    ∗ (∃ d, owns (c : Thread nD τ) (st0_0 t) fullShare ((dat m 0 c).before 0 t d))
      ∗ (∃ d, owns (c : Thread nD τ) (st0_1 t) fullShare ((dat m 0 c).before 1 t d))
      ∗ (∃ d, owns (c : Thread nD τ) (st0_2 t) fullShare ((dat m 0 c).before 2 t d))
      ∗ (∃ d, owns (c : Thread nD τ) (st0_3 t) fullShare ((dat m 0 c).before 3 t d))
      ∗ (∃ d, owns (c : Thread nD τ) (st0_4 t) fullShare ((dat m 0 c).before 4 t d))
      ∗ (∃ d, owns (c : Thread nD τ) (st0_5 t) fullShare ((dat m 0 c).before 5 t d))
      ∗ (∃ d, owns (c : Thread nD τ) (st0_6 t) fullShare ((dat m 0 c).before 6 t d))
      ∗ (∃ d, owns (c : Thread nD τ) (st0_7 t) fullShare ((dat m 0 c).before 7 t d))
      ∗ (∃ d, owns (c : Thread nD τ) (st0_8 t) fullShare ((dat m 0 c).before 8 t d))
      ∗ (∃ d, owns (c : Thread nD τ) (st0_9 t) fullShare ((dat m 0 c).before 9 t d))
      ∗ (∃ d, owns (c : Thread nD τ) (st0_10 t) fullShare ((dat m 0 c).before 10 t d))
      ∗ (∃ d, owns (c : Thread nD τ) (st0_11 t) fullShare ((dat m 0 c).before 11 t d))
      ∗ (∃ d, owns (c : Thread nD τ) (st0_12 t) fullShare ((dat m 0 c).before 12 t d))
      ∗ (∃ d, owns (c : Thread nD τ) (st0_13 t) fullShare ((dat m 0 c).before 13 t d))
      ∗ (∃ d, owns (c : Thread nD τ) (st0_14 t) fullShare ((dat m 0 c).before 14 t d))
      ∗ (∃ d, owns (c : Thread nD τ) (st0_15 t) fullShare ((dat m 0 c).before 15 t d))
      ∗ (∃ d, owns (c : Thread nD τ) (st0_16 t) fullShare ((dat m 0 c).before 16 t d))
      ∗ (∃ d, owns (c : Thread nD τ) (st0_17 t) fullShare ((dat m 0 c).before 17 t d))
      ∗ (∃ d, owns (c : Thread nD τ) (st0_18 t) fullShare ((dat m 0 c).before 18 t d))
      ∗ (∃ d, owns (c : Thread nD τ) (st0_19 t) fullShare ((dat m 0 c).before 19 t d))
      ∗ (∃ d, owns (c : Thread nD τ) (st0_20 t) fullShare ((dat m 0 c).before 20 t d))
      ∗ (∃ d, owns (c : Thread nD τ) (st0_21 t) fullShare ((dat m 0 c).before 21 t d))
      ∗ (∃ d, owns (c : Thread nD τ) (st0_22 t) fullShare ((dat m 0 c).before 22 t d))
      ∗ (∃ d, owns (c : Thread nD τ) (st0_23 t) fullShare ((dat m 0 c).before 23 t d))
      ∗ (∃ d, owns (c : Thread nD τ) (st0_24 t) fullShare ((dat m 0 c).before 24 t d))
      ∗ (∃ d, owns (c : Thread nD τ) (st0_25 t) fullShare ((dat m 0 c).before 25 t d))
      ∗ (∃ d, owns (c : Thread nD τ) (st0_26 t) fullShare ((dat m 0 c).before 26 t d))
      ∗ (∃ d, owns (c : Thread nD τ) (st0_27 t) fullShare ((dat m 0 c).before 27 t d))
      ∗ (∃ d, owns (c : Thread nD τ) (st0_28 t) fullShare ((dat m 0 c).before 28 t d))
      ∗ (∃ d, owns (c : Thread nD τ) (st0_29 t) fullShare ((dat m 0 c).before 29 t d))
      ∗ (∃ d, owns (c : Thread nD τ) (st0_30 t) fullShare ((dat m 0 c).before 30 t d))
      ∗ (∃ d, owns (c : Thread nD τ) (st0_31 t) fullShare ((dat m 0 c).before 31 t d))
      ∗ (∃ d, owns (c : Thread nD τ) (st0_32 t) fullShare ((dat m 0 c).before 32 t d))
      ∗ (∃ d, owns (c : Thread nD τ) (st0_33 t) fullShare ((dat m 0 c).before 33 t d))
      ∗ (∃ d, owns (c : Thread nD τ) (st0_34 t) fullShare ((dat m 0 c).before 34 t d))
      ∗ (∃ d, owns (c : Thread nD τ) (st0_35 t) fullShare ((dat m 0 c).before 35 t d))
      ∗ (∃ d, owns (c : Thread nD τ) (st0_36 t) fullShare ((dat m 0 c).before 36 t d))
      ∗ (∃ d, owns (c : Thread nD τ) (st0_37 t) fullShare ((dat m 0 c).before 37 t d))
      ∗ (∃ d, owns (c : Thread nD τ) (st0_38 t) fullShare ((dat m 0 c).before 38 t d))
      ∗ (∃ d, owns (c : Thread nD τ) (st0_39 t) fullShare ((dat m 0 c).before 39 t d))
      ∗ (∃ d, owns (c : Thread nD τ) (st0_40 t) fullShare ((dat m 0 c).before 40 t d))
      ∗ (∃ d, owns (c : Thread nD τ) (st0_41 t) fullShare ((dat m 0 c).before 41 t d))
      ∗ (∃ d, owns (c : Thread nD τ) (st0_42 t) fullShare ((dat m 0 c).before 42 t d))
      ∗ (∃ d, owns (c : Thread nD τ) (st0_43 t) fullShare ((dat m 0 c).before 43 t d))
      ∗ (∃ d, owns (c : Thread nD τ) (st0_44 t) fullShare ((dat m 0 c).before 44 t d))
      ∗ (∃ d, owns (c : Thread nD τ) (st0_45 t) fullShare ((dat m 0 c).before 45 t d))
      ∗ (∃ d, owns (c : Thread nD τ) (st0_46 t) fullShare ((dat m 0 c).before 46 t d))
      ∗ (∃ d, owns (c : Thread nD τ) (st0_47 t) fullShare ((dat m 0 c).before 47 t d))
      ∗ (∃ d, owns (c : Thread nD τ) (st0_48 t) fullShare ((dat m 0 c).before 48 t d))
      ∗ (∃ d, owns (c : Thread nD τ) (st0_49 t) fullShare ((dat m 0 c).before 49 t d))
      ∗ (∃ d, owns (c : Thread nD τ) (st0_50 t) fullShare ((dat m 0 c).before 50 t d))
      ∗ (∃ d, owns (c : Thread nD τ) (st0_51 t) fullShare ((dat m 0 c).before 51 t d))
      ∗ (∃ d, owns (c : Thread nD τ) (st0_52 t) fullShare ((dat m 0 c).before 52 t d))
      ∗ (∃ d, owns (c : Thread nD τ) (st0_53 t) fullShare ((dat m 0 c).before 53 t d))
      ∗ (∃ d, owns (c : Thread nD τ) (st0_54 t) fullShare ((dat m 0 c).before 54 t d))
      ∗ (∃ d, owns (c : Thread nD τ) (st0_55 t) fullShare ((dat m 0 c).before 55 t d))
      ∗ (∃ d, owns (c : Thread nD τ) (st0_56 t) fullShare ((dat m 0 c).before 56 t d))
      ∗ (∃ d, owns (c : Thread nD τ) (st0_57 t) fullShare ((dat m 0 c).before 57 t d))
      ∗ (∃ d, owns (c : Thread nD τ) (st0_58 t) fullShare ((dat m 0 c).before 58 t d))
      ∗ (∃ d, owns (c : Thread nD τ) (st0_59 t) fullShare ((dat m 0 c).before 59 t d))
      ∗ (∃ d, owns (c : Thread nD τ) (st0_60 t) fullShare ((dat m 0 c).before 60 t d))
      ∗ (∃ d, owns (c : Thread nD τ) (st0_61 t) fullShare ((dat m 0 c).before 61 t d))
      ∗ (∃ d, owns (c : Thread nD τ) (st0_62 t) fullShare ((dat m 0 c).before 62 t d))
      ∗ (∃ d, owns (c : Thread nD τ) (st0_63 t) fullShare ((dat m 0 c).before 63 t d))
      ∗ (∃ d, owns (c : Thread nD τ) (st0_64 t) fullShare ((dat m 0 c).before 64 t d))
      ∗ (∃ d, owns (c : Thread nD τ) (st0_65 t) fullShare ((dat m 0 c).before 65 t d))
      ∗ (∃ d, owns (c : Thread nD τ) (st0_66 t) fullShare ((dat m 0 c).before 66 t d))
      ∗ (∃ d, owns (c : Thread nD τ) (st0_67 t) fullShare ((dat m 0 c).before 67 t d))
      ∗ (∃ d, owns (c : Thread nD τ) (st0_68 t) fullShare ((dat m 0 c).before 68 t d))
      ∗ (∃ d, owns (c : Thread nD τ) (st0_69 t) fullShare ((dat m 0 c).before 69 t d))
      ∗ (∃ d, owns (c : Thread nD τ) (st0_70 t) fullShare ((dat m 0 c).before 70 t d))
      ∗ (∃ d, owns (c : Thread nD τ) (st0_71 t) fullShare ((dat m 0 c).before 71 t d))
      ∗ (∃ d, owns (c : Thread nD τ) (st0_72 t) fullShare ((dat m 0 c).before 72 t d))
      ∗ (∃ d, owns (c : Thread nD τ) (st0_73 t) fullShare ((dat m 0 c).before 73 t d))
      ∗ (∃ d, owns (c : Thread nD τ) (st0_74 t) fullShare ((dat m 0 c).before 74 t d))
      ∗ (∃ d, owns (c : Thread nD τ) (st0_75 t) fullShare ((dat m 0 c).before 75 t d))
      ∗ (∃ d, owns (c : Thread nD τ) (st0_76 t) fullShare ((dat m 0 c).before 76 t d))
      ∗ (∃ d, owns (c : Thread nD τ) (st0_77 t) fullShare ((dat m 0 c).before 77 t d)))

/-- What it leaves there. -/
def Post (c : Dev nD) (t : Fin cfg0.N) : sProp (Res F) :=
  iprop((dat m 0 c).Φ t.succ ∗ (dat m 0 c).owesAt () t.succ
    ∗ owns (c : Thread nD τ) (st0_0 t) fullShare ((dat m 0 c).after 0 t)
      ∗ owns (c : Thread nD τ) (st0_1 t) fullShare ((dat m 0 c).after 1 t)
      ∗ owns (c : Thread nD τ) (st0_2 t) fullShare ((dat m 0 c).after 2 t)
      ∗ owns (c : Thread nD τ) (st0_3 t) fullShare ((dat m 0 c).after 3 t)
      ∗ owns (c : Thread nD τ) (st0_4 t) fullShare ((dat m 0 c).after 4 t)
      ∗ owns (c : Thread nD τ) (st0_5 t) fullShare ((dat m 0 c).after 5 t)
      ∗ owns (c : Thread nD τ) (st0_6 t) fullShare ((dat m 0 c).after 6 t)
      ∗ owns (c : Thread nD τ) (st0_7 t) fullShare ((dat m 0 c).after 7 t)
      ∗ owns (c : Thread nD τ) (st0_8 t) fullShare ((dat m 0 c).after 8 t)
      ∗ owns (c : Thread nD τ) (st0_9 t) fullShare ((dat m 0 c).after 9 t)
      ∗ owns (c : Thread nD τ) (st0_10 t) fullShare ((dat m 0 c).after 10 t)
      ∗ owns (c : Thread nD τ) (st0_11 t) fullShare ((dat m 0 c).after 11 t)
      ∗ owns (c : Thread nD τ) (st0_12 t) fullShare ((dat m 0 c).after 12 t)
      ∗ owns (c : Thread nD τ) (st0_13 t) fullShare ((dat m 0 c).after 13 t)
      ∗ owns (c : Thread nD τ) (st0_14 t) fullShare ((dat m 0 c).after 14 t)
      ∗ owns (c : Thread nD τ) (st0_15 t) fullShare ((dat m 0 c).after 15 t)
      ∗ owns (c : Thread nD τ) (st0_16 t) fullShare ((dat m 0 c).after 16 t)
      ∗ owns (c : Thread nD τ) (st0_17 t) fullShare ((dat m 0 c).after 17 t)
      ∗ owns (c : Thread nD τ) (st0_18 t) fullShare ((dat m 0 c).after 18 t)
      ∗ owns (c : Thread nD τ) (st0_19 t) fullShare ((dat m 0 c).after 19 t)
      ∗ owns (c : Thread nD τ) (st0_20 t) fullShare ((dat m 0 c).after 20 t)
      ∗ owns (c : Thread nD τ) (st0_21 t) fullShare ((dat m 0 c).after 21 t)
      ∗ owns (c : Thread nD τ) (st0_22 t) fullShare ((dat m 0 c).after 22 t)
      ∗ owns (c : Thread nD τ) (st0_23 t) fullShare ((dat m 0 c).after 23 t)
      ∗ owns (c : Thread nD τ) (st0_24 t) fullShare ((dat m 0 c).after 24 t)
      ∗ owns (c : Thread nD τ) (st0_25 t) fullShare ((dat m 0 c).after 25 t)
      ∗ owns (c : Thread nD τ) (st0_26 t) fullShare ((dat m 0 c).after 26 t)
      ∗ owns (c : Thread nD τ) (st0_27 t) fullShare ((dat m 0 c).after 27 t)
      ∗ owns (c : Thread nD τ) (st0_28 t) fullShare ((dat m 0 c).after 28 t)
      ∗ owns (c : Thread nD τ) (st0_29 t) fullShare ((dat m 0 c).after 29 t)
      ∗ owns (c : Thread nD τ) (st0_30 t) fullShare ((dat m 0 c).after 30 t)
      ∗ owns (c : Thread nD τ) (st0_31 t) fullShare ((dat m 0 c).after 31 t)
      ∗ owns (c : Thread nD τ) (st0_32 t) fullShare ((dat m 0 c).after 32 t)
      ∗ owns (c : Thread nD τ) (st0_33 t) fullShare ((dat m 0 c).after 33 t)
      ∗ owns (c : Thread nD τ) (st0_34 t) fullShare ((dat m 0 c).after 34 t)
      ∗ owns (c : Thread nD τ) (st0_35 t) fullShare ((dat m 0 c).after 35 t)
      ∗ owns (c : Thread nD τ) (st0_36 t) fullShare ((dat m 0 c).after 36 t)
      ∗ owns (c : Thread nD τ) (st0_37 t) fullShare ((dat m 0 c).after 37 t)
      ∗ owns (c : Thread nD τ) (st0_38 t) fullShare ((dat m 0 c).after 38 t)
      ∗ owns (c : Thread nD τ) (st0_39 t) fullShare ((dat m 0 c).after 39 t)
      ∗ owns (c : Thread nD τ) (st0_40 t) fullShare ((dat m 0 c).after 40 t)
      ∗ owns (c : Thread nD τ) (st0_41 t) fullShare ((dat m 0 c).after 41 t)
      ∗ owns (c : Thread nD τ) (st0_42 t) fullShare ((dat m 0 c).after 42 t)
      ∗ owns (c : Thread nD τ) (st0_43 t) fullShare ((dat m 0 c).after 43 t)
      ∗ owns (c : Thread nD τ) (st0_44 t) fullShare ((dat m 0 c).after 44 t)
      ∗ owns (c : Thread nD τ) (st0_45 t) fullShare ((dat m 0 c).after 45 t)
      ∗ owns (c : Thread nD τ) (st0_46 t) fullShare ((dat m 0 c).after 46 t)
      ∗ owns (c : Thread nD τ) (st0_47 t) fullShare ((dat m 0 c).after 47 t)
      ∗ owns (c : Thread nD τ) (st0_48 t) fullShare ((dat m 0 c).after 48 t)
      ∗ owns (c : Thread nD τ) (st0_49 t) fullShare ((dat m 0 c).after 49 t)
      ∗ owns (c : Thread nD τ) (st0_50 t) fullShare ((dat m 0 c).after 50 t)
      ∗ owns (c : Thread nD τ) (st0_51 t) fullShare ((dat m 0 c).after 51 t)
      ∗ owns (c : Thread nD τ) (st0_52 t) fullShare ((dat m 0 c).after 52 t)
      ∗ owns (c : Thread nD τ) (st0_53 t) fullShare ((dat m 0 c).after 53 t)
      ∗ owns (c : Thread nD τ) (st0_54 t) fullShare ((dat m 0 c).after 54 t)
      ∗ owns (c : Thread nD τ) (st0_55 t) fullShare ((dat m 0 c).after 55 t)
      ∗ owns (c : Thread nD τ) (st0_56 t) fullShare ((dat m 0 c).after 56 t)
      ∗ owns (c : Thread nD τ) (st0_57 t) fullShare ((dat m 0 c).after 57 t)
      ∗ owns (c : Thread nD τ) (st0_58 t) fullShare ((dat m 0 c).after 58 t)
      ∗ owns (c : Thread nD τ) (st0_59 t) fullShare ((dat m 0 c).after 59 t)
      ∗ owns (c : Thread nD τ) (st0_60 t) fullShare ((dat m 0 c).after 60 t)
      ∗ owns (c : Thread nD τ) (st0_61 t) fullShare ((dat m 0 c).after 61 t)
      ∗ owns (c : Thread nD τ) (st0_62 t) fullShare ((dat m 0 c).after 62 t)
      ∗ owns (c : Thread nD τ) (st0_63 t) fullShare ((dat m 0 c).after 63 t)
      ∗ owns (c : Thread nD τ) (st0_64 t) fullShare ((dat m 0 c).after 64 t)
      ∗ owns (c : Thread nD τ) (st0_65 t) fullShare ((dat m 0 c).after 65 t)
      ∗ owns (c : Thread nD τ) (st0_66 t) fullShare ((dat m 0 c).after 66 t)
      ∗ owns (c : Thread nD τ) (st0_67 t) fullShare ((dat m 0 c).after 67 t)
      ∗ owns (c : Thread nD τ) (st0_68 t) fullShare ((dat m 0 c).after 68 t)
      ∗ owns (c : Thread nD τ) (st0_69 t) fullShare ((dat m 0 c).after 69 t)
      ∗ owns (c : Thread nD τ) (st0_70 t) fullShare ((dat m 0 c).after 70 t)
      ∗ owns (c : Thread nD τ) (st0_71 t) fullShare ((dat m 0 c).after 71 t)
      ∗ owns (c : Thread nD τ) (st0_72 t) fullShare ((dat m 0 c).after 72 t)
      ∗ owns (c : Thread nD τ) (st0_73 t) fullShare ((dat m 0 c).after 73 t)
      ∗ owns (c : Thread nD τ) (st0_74 t) fullShare ((dat m 0 c).after 74 t)
      ∗ owns (c : Thread nD τ) (st0_75 t) fullShare ((dat m 0 c).after 75 t)
      ∗ owns (c : Thread nD τ) (st0_76 t) fullShare ((dat m 0 c).after 76 t)
      ∗ owns (c : Thread nD τ) (st0_77 t) fullShare ((dat m 0 c).after 77 t))

set_option maxHeartbeats 8000000 in
theorem body_at (c : Dev nD) (t : Fin cfg0.N) :
    Pre m c t ⊢ wp frame (wpE (defs₀ (F := F)) Variants.none c none) Set.univ (bodyAt0 t) (fun _ => Post m c t) := by
  unfold Pre Post bodyAt0
  simp only [before0, before1, before2, before3, before4, before5, before6, before7, before8, before9,
      before10, before11, before12, before13, before14, before15, before16, before17, before18, before19,
      before20, before21, before22, before23, before24, before25, before26, before27, before28, before29,
      before30, before31, before32, before33]
  rw [show (dat m 0 c).Φ t.succ = (dat m 0 c).Φ t.castSucc from rfl,
    show (dat m 0 c).owesAt () t.succ = (dat m 0 c).owesAt () t.castSucc from rfl,
    after0, after1, after2, after3, after4, after5, after6, after7, after8, after9,
      after10, after11, after12, after13, after14, after15, after16, after17, after18, after19,
      after20, after21, after22, after23, after24, after25, after26, after27, after28, after29,
      after30, after31, after32, after33, after34, after35, after36, after37, after38, after39,
      after40, after41, after42, after43, after44, after45, after46, after47, after48, after49,
      after50, after51, after52, after53, after54, after55, after56, after57, after58, after59,
      after60, after61, after62, after63, after64, after65, after66, after67, after68, after69,
      after70, after71, after72, after73, after74, after75, after76, after77]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩,
      ⟨%d8, H8⟩, ⟨%d9, H9⟩, ⟨%d10, H10⟩, ⟨%d11, H11⟩, ⟨%d12, H12⟩, ⟨%d13, H13⟩, ⟨%d14, H14⟩, ⟨%d15, H15⟩,
      ⟨%d16, H16⟩, ⟨%d17, H17⟩, ⟨%d18, H18⟩, ⟨%d19, H19⟩, ⟨%d20, H20⟩, ⟨%d21, H21⟩, ⟨%d22, H22⟩, ⟨%d23, H23⟩,
      ⟨%d24, H24⟩, ⟨%d25, H25⟩, ⟨%d26, H26⟩, ⟨%d27, H27⟩, ⟨%d28, H28⟩, ⟨%d29, H29⟩, ⟨%d30, H30⟩, ⟨%d31, H31⟩,
      ⟨%d32, H32⟩, ⟨%d33, H33⟩, ⟨%d34, H34⟩, ⟨%d35, H35⟩, ⟨%d36, H36⟩, ⟨%d37, H37⟩, ⟨%d38, H38⟩, ⟨%d39, H39⟩,
      ⟨%d40, H40⟩, ⟨%d41, H41⟩, ⟨%d42, H42⟩, ⟨%d43, H43⟩, ⟨%d44, H44⟩, ⟨%d45, H45⟩, ⟨%d46, H46⟩, ⟨%d47, H47⟩,
      ⟨%d48, H48⟩, ⟨%d49, H49⟩, ⟨%d50, H50⟩, ⟨%d51, H51⟩, ⟨%d52, H52⟩, ⟨%d53, H53⟩, ⟨%d54, H54⟩, ⟨%d55, H55⟩,
      ⟨%d56, H56⟩, ⟨%d57, H57⟩, ⟨%d58, H58⟩, ⟨%d59, H59⟩, ⟨%d60, H60⟩, ⟨%d61, H61⟩, ⟨%d62, H62⟩, ⟨%d63, H63⟩,
      ⟨%d64, H64⟩, ⟨%d65, H65⟩, ⟨%d66, H66⟩, ⟨%d67, H67⟩, ⟨%d68, H68⟩, ⟨%d69, H69⟩, ⟨%d70, H70⟩, ⟨%d71, H71⟩,
      ⟨%d72, H72⟩, ⟨%d73, H73⟩, ⟨%d74, H74⟩, ⟨%d75, H75⟩, ⟨%d76, H76⟩, ⟨%d77, H77⟩⟩
  iapply (body c Set.univ _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _
      (blk m c 0 t) (blk m c 1 t) (blk m c 2 t) (blk m c 3 t) (blk m c 4 t) (blk m c 5 t)
      (blk m c 6 t) (blk m c 7 t) (blk m c 8 t) (blk m c 9 t) (blk m c 10 t) (blk m c 11 t)
      (blk m c 12 t) (blk m c 13 t) (blk m c 14 t) (blk m c 15 t) (blk m c 16 t) (blk m c 17 t)
      (blk m c 18 t) (blk m c 19 t) (blk m c 20 t) (blk m c 21 t) (blk m c 22 t) (blk m c 23 t)
      (blk m c 24 t) (blk m c 25 t) (blk m c 26 t) (blk m c 27 t) (blk m c 28 t) (blk m c 29 t)
      (blk m c 30 t) (blk m c 31 t) (blk m c 32 t) (blk m c 33 t) _)
  unfold Ins Any Outs
  isplitl [H0 H1 H2 H3 H4 H5 H6 H7 H8 H9 H10 H11 H12 H13 H14 H15 H16 H17 H18 H19
      H20 H21 H22 H23 H24 H25 H26 H27 H28 H29 H30 H31 H32 H33]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexact H33
  isplitl [H34 H35 H36 H37 H38 H39 H40 H41 H42 H43 H44 H45 H46 H47 H48 H49 H50 H51 H52 H53
      H54 H55 H56 H57 H58 H59 H60 H61 H62 H63 H64 H65 H66 H67 H68 H69 H70 H71 H72 H73
      H74 H75 H76 H77]
  · isplitl [H34]; · iexists _; iexact H34
    isplitl [H35]; · iexists _; iexact H35
    isplitl [H36]; · iexists _; iexact H36
    isplitl [H37]; · iexists _; iexact H37
    isplitl [H38]; · iexists _; iexact H38
    isplitl [H39]; · iexists _; iexact H39
    isplitl [H40]; · iexists _; iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexists _; iexact H51
    isplitl [H52]; · iexists _; iexact H52
    isplitl [H53]; · iexists _; iexact H53
    isplitl [H54]; · iexists _; iexact H54
    isplitl [H55]; · iexists _; iexact H55
    isplitl [H56]; · iexists _; iexact H56
    isplitl [H57]; · iexists _; iexact H57
    isplitl [H58]; · iexists _; iexact H58
    isplitl [H59]; · iexists _; iexact H59
    isplitl [H60]; · iexists _; iexact H60
    isplitl [H61]; · iexists _; iexact H61
    isplitl [H62]; · iexists _; iexact H62
    isplitl [H63]; · iexists _; iexact H63
    isplitl [H64]; · iexists _; iexact H64
    isplitl [H65]; · iexists _; iexact H65
    isplitl [H66]; · iexists _; iexact H66
    isplitl [H67]; · iexists _; iexact H67
    isplitl [H68]; · iexists _; iexact H68
    isplitl [H69]; · iexists _; iexact H69
    isplitl [H70]; · iexists _; iexact H70
    isplitl [H71]; · iexists _; iexact H71
    isplitl [H72]; · iexists _; iexact H72
    isplitl [H73]; · iexists _; iexact H73
    isplitl [H74]; · iexists _; iexact H74
    isplitl [H75]; · iexists _; iexact H75
    isplitl [H76]; · iexists _; iexact H76
    iexists _; iexact H77
  iintro ⟨⟨H0, H1, H2, H3, H4, H5, H6, H7, H8, H9, H10, H11, H12, H13, H14, H15, H16, H17, H18, H19,
      H20, H21, H22, H23, H24, H25, H26, H27, H28, H29, H30, H31, H32, H33⟩, H34, H35, H36, H37, H38, H39, H40, H41, H42, H43, H44, H45, H46, H47, H48, H49, H50, H51, H52, H53,
      H54, H55, H56, H57, H58, H59, H60, H61, H62, H63, H64, H65, H66, H67, H68, H69, H70, H71, H72, H73,
      H74, H75, H76, H77⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  isplitl [H76]; · iexact H76
  iexact H77

set_option maxHeartbeats 8000000 in
theorem obligation (c : Dev nD) : BodyObligation (dat (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

set_option backward.isDefEq.respectTransparency.types false in
set_option maxHeartbeats 4000000 in
theorem quiet : θ_run defs (onTc (τ := τ) (main (F := F))) (s₀ m ρ) (fun r => (Pipeline.FramePost cfgs (dat m) 0 (init m)) r ∧ r.2.sem = fun _ => 0) :=
  Pipeline.θ_run_frame (Q' := _) cfgs (dat m) (0 : Fin 1) launch0 defs₀ Variants.none m ρ main
    (hbody := fun c => (obligation m c).loose) (hshare := fun c => (dat m 0 c).share_full fun _ => rfl)
    (howed := fun _ _ => rfl) (V := init m) (hmain := enter m Variants.none) (hA := dat_A m) (hΦ := fun _ _ => rfl)

set_option maxHeartbeats 4000000 in
/-- Every result is what the pipeline flushed, every argument is as it was, and no signal is outstanding. -/
theorem run : θ_run defs (onTc (τ := τ) (main (F := F))) ⟨m, fun _ => 0, ρ⟩ (fun r => (∀ c : Dev nD,
    (r.2.mem ((c.tc : Thread nD τ).loc main_v0_0) = (dat m 0 c).arrAt 34 cfg0.N ∧
      r.2.mem ((c.tc : Thread nD τ).loc main_v0_1) = (dat m 0 c).arrAt 35 cfg0.N ∧
      r.2.mem ((c.tc : Thread nD τ).loc main_v0_2) = (dat m 0 c).arrAt 36 cfg0.N ∧
      r.2.mem ((c.tc : Thread nD τ).loc main_v0_3) = (dat m 0 c).arrAt 37 cfg0.N ∧
      r.2.mem ((c.tc : Thread nD τ).loc main_v0_4) = (dat m 0 c).arrAt 38 cfg0.N ∧
      r.2.mem ((c.tc : Thread nD τ).loc main_v0_5) = (dat m 0 c).arrAt 39 cfg0.N ∧
      r.2.mem ((c.tc : Thread nD τ).loc main_v0_6) = (dat m 0 c).arrAt 40 cfg0.N ∧
      r.2.mem ((c.tc : Thread nD τ).loc main_v0_7) = (dat m 0 c).arrAt 41 cfg0.N ∧
      r.2.mem ((c.tc : Thread nD τ).loc main_v0_8) = (dat m 0 c).arrAt 42 cfg0.N ∧
      r.2.mem ((c.tc : Thread nD τ).loc main_v0_9) = (dat m 0 c).arrAt 43 cfg0.N ∧
      r.2.mem ((c.tc : Thread nD τ).loc main_v0_10) = (dat m 0 c).arrAt 44 cfg0.N ∧
      r.2.mem ((c.tc : Thread nD τ).loc main_v0_11) = (dat m 0 c).arrAt 45 cfg0.N ∧
      r.2.mem ((c.tc : Thread nD τ).loc main_v0_12) = (dat m 0 c).arrAt 46 cfg0.N ∧
      r.2.mem ((c.tc : Thread nD τ).loc main_v0_13) = (dat m 0 c).arrAt 47 cfg0.N ∧
      r.2.mem ((c.tc : Thread nD τ).loc main_v0_14) = (dat m 0 c).arrAt 48 cfg0.N ∧
      r.2.mem ((c.tc : Thread nD τ).loc main_v0_15) = (dat m 0 c).arrAt 49 cfg0.N ∧
      r.2.mem ((c.tc : Thread nD τ).loc main_v0_16) = (dat m 0 c).arrAt 50 cfg0.N ∧
      r.2.mem ((c.tc : Thread nD τ).loc main_v0_17) = (dat m 0 c).arrAt 51 cfg0.N ∧
      r.2.mem ((c.tc : Thread nD τ).loc main_v0_18) = (dat m 0 c).arrAt 52 cfg0.N ∧
      r.2.mem ((c.tc : Thread nD τ).loc main_v0_19) = (dat m 0 c).arrAt 53 cfg0.N ∧
      r.2.mem ((c.tc : Thread nD τ).loc main_v0_20) = (dat m 0 c).arrAt 54 cfg0.N ∧
      r.2.mem ((c.tc : Thread nD τ).loc main_v0_21) = (dat m 0 c).arrAt 55 cfg0.N ∧
      r.2.mem ((c.tc : Thread nD τ).loc main_v0_22) = (dat m 0 c).arrAt 56 cfg0.N ∧
      r.2.mem ((c.tc : Thread nD τ).loc main_v0_23) = (dat m 0 c).arrAt 57 cfg0.N ∧
      r.2.mem ((c.tc : Thread nD τ).loc main_v0_24) = (dat m 0 c).arrAt 58 cfg0.N ∧
      r.2.mem ((c.tc : Thread nD τ).loc main_v0_25) = (dat m 0 c).arrAt 59 cfg0.N ∧
      r.2.mem ((c.tc : Thread nD τ).loc main_v0_26) = (dat m 0 c).arrAt 60 cfg0.N ∧
      r.2.mem ((c.tc : Thread nD τ).loc main_v0_27) = (dat m 0 c).arrAt 61 cfg0.N ∧
      r.2.mem ((c.tc : Thread nD τ).loc main_v0_28) = (dat m 0 c).arrAt 62 cfg0.N ∧
      r.2.mem ((c.tc : Thread nD τ).loc main_v0_29) = (dat m 0 c).arrAt 63 cfg0.N ∧
      r.2.mem ((c.tc : Thread nD τ).loc main_v0_30) = (dat m 0 c).arrAt 64 cfg0.N ∧
      r.2.mem ((c.tc : Thread nD τ).loc main_v0_31) = (dat m 0 c).arrAt 65 cfg0.N ∧
      r.2.mem ((c.tc : Thread nD τ).loc main_v0_32) = (dat m 0 c).arrAt 66 cfg0.N ∧
      r.2.mem ((c.tc : Thread nD τ).loc main_v0_33) = (dat m 0 c).arrAt 67 cfg0.N ∧
      r.2.mem ((c.tc : Thread nD τ).loc main_v0_34) = (dat m 0 c).arrAt 68 cfg0.N ∧
      r.2.mem ((c.tc : Thread nD τ).loc main_v0_35) = (dat m 0 c).arrAt 69 cfg0.N ∧
      r.2.mem ((c.tc : Thread nD τ).loc main_v0_36) = (dat m 0 c).arrAt 70 cfg0.N ∧
      r.2.mem ((c.tc : Thread nD τ).loc main_v0_37) = (dat m 0 c).arrAt 71 cfg0.N ∧
      r.2.mem ((c.tc : Thread nD τ).loc main_v0_38) = (dat m 0 c).arrAt 72 cfg0.N ∧
      r.2.mem ((c.tc : Thread nD τ).loc main_v0_39) = (dat m 0 c).arrAt 73 cfg0.N ∧
      r.2.mem ((c.tc : Thread nD τ).loc main_v0_40) = (dat m 0 c).arrAt 74 cfg0.N ∧
      r.2.mem ((c.tc : Thread nD τ).loc main_v0_41) = (dat m 0 c).arrAt 75 cfg0.N ∧
      r.2.mem ((c.tc : Thread nD τ).loc main_v0_42) = (dat m 0 c).arrAt 76 cfg0.N ∧
      r.2.mem ((c.tc : Thread nD τ).loc main_v0_43) = (dat m 0 c).arrAt 77 cfg0.N)
    ∧ r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19) ∧
      r.2.mem ((c.tc : Thread nD τ).loc main_arg20) = m ((c.tc : Thread nD τ).loc main_arg20) ∧
      r.2.mem ((c.tc : Thread nD τ).loc main_arg21) = m ((c.tc : Thread nD τ).loc main_arg21) ∧
      r.2.mem ((c.tc : Thread nD τ).loc main_arg22) = m ((c.tc : Thread nD τ).loc main_arg22) ∧
      r.2.mem ((c.tc : Thread nD τ).loc main_arg23) = m ((c.tc : Thread nD τ).loc main_arg23) ∧
      r.2.mem ((c.tc : Thread nD τ).loc main_arg24) = m ((c.tc : Thread nD τ).loc main_arg24) ∧
      r.2.mem ((c.tc : Thread nD τ).loc main_arg25) = m ((c.tc : Thread nD τ).loc main_arg25) ∧
      r.2.mem ((c.tc : Thread nD τ).loc main_arg26) = m ((c.tc : Thread nD τ).loc main_arg26) ∧
      r.2.mem ((c.tc : Thread nD τ).loc main_arg27) = m ((c.tc : Thread nD τ).loc main_arg27) ∧
      r.2.mem ((c.tc : Thread nD τ).loc main_arg28) = m ((c.tc : Thread nD τ).loc main_arg28) ∧
      r.2.mem ((c.tc : Thread nD τ).loc main_arg29) = m ((c.tc : Thread nD τ).loc main_arg29) ∧
      r.2.mem ((c.tc : Thread nD τ).loc main_arg30) = m ((c.tc : Thread nD τ).loc main_arg30) ∧
      r.2.mem ((c.tc : Thread nD τ).loc main_arg31) = m ((c.tc : Thread nD τ).loc main_arg31) ∧
      r.2.mem ((c.tc : Thread nD τ).loc main_arg32) = m ((c.tc : Thread nD τ).loc main_arg32) ∧
      r.2.mem ((c.tc : Thread nD τ).loc main_arg33) = m ((c.tc : Thread nD τ).loc main_arg33))
    ∧ r.2.sem = fun _ => 0) :=
  (θ_run defs _ _).mono (fun r h => ⟨fun c => ⟨⟨(h.1 c).1 34, (h.1 c).1 35, (h.1 c).1 36, (h.1 c).1 37, (h.1 c).1 38, (h.1 c).1 39,
      (h.1 c).1 40, (h.1 c).1 41, (h.1 c).1 42, (h.1 c).1 43, (h.1 c).1 44, (h.1 c).1 45,
      (h.1 c).1 46, (h.1 c).1 47, (h.1 c).1 48, (h.1 c).1 49, (h.1 c).1 50, (h.1 c).1 51,
      (h.1 c).1 52, (h.1 c).1 53, (h.1 c).1 54, (h.1 c).1 55, (h.1 c).1 56, (h.1 c).1 57,
      (h.1 c).1 58, (h.1 c).1 59, (h.1 c).1 60, (h.1 c).1 61, (h.1 c).1 62, (h.1 c).1 63,
      (h.1 c).1 64, (h.1 c).1 65, (h.1 c).1 66, (h.1 c).1 67, (h.1 c).1 68, (h.1 c).1 69,
      (h.1 c).1 70, (h.1 c).1 71, (h.1 c).1 72, (h.1 c).1 73, (h.1 c).1 74, (h.1 c).1 75,
      (h.1 c).1 76, (h.1 c).1 77⟩,
    ((h.1 c).1 0).trans (((dat m 0 c).arrAt_in 0 rfl _).trans (dat_A m c 0)),
      ((h.1 c).1 1).trans (((dat m 0 c).arrAt_in 1 rfl _).trans (dat_A m c 1)),
      ((h.1 c).1 2).trans (((dat m 0 c).arrAt_in 2 rfl _).trans (dat_A m c 2)),
      ((h.1 c).1 3).trans (((dat m 0 c).arrAt_in 3 rfl _).trans (dat_A m c 3)),
      ((h.1 c).1 4).trans (((dat m 0 c).arrAt_in 4 rfl _).trans (dat_A m c 4)),
      ((h.1 c).1 5).trans (((dat m 0 c).arrAt_in 5 rfl _).trans (dat_A m c 5)),
      ((h.1 c).1 6).trans (((dat m 0 c).arrAt_in 6 rfl _).trans (dat_A m c 6)),
      ((h.1 c).1 7).trans (((dat m 0 c).arrAt_in 7 rfl _).trans (dat_A m c 7)),
      ((h.1 c).1 8).trans (((dat m 0 c).arrAt_in 8 rfl _).trans (dat_A m c 8)),
      ((h.1 c).1 9).trans (((dat m 0 c).arrAt_in 9 rfl _).trans (dat_A m c 9)),
      ((h.1 c).1 10).trans (((dat m 0 c).arrAt_in 10 rfl _).trans (dat_A m c 10)),
      ((h.1 c).1 11).trans (((dat m 0 c).arrAt_in 11 rfl _).trans (dat_A m c 11)),
      ((h.1 c).1 12).trans (((dat m 0 c).arrAt_in 12 rfl _).trans (dat_A m c 12)),
      ((h.1 c).1 13).trans (((dat m 0 c).arrAt_in 13 rfl _).trans (dat_A m c 13)),
      ((h.1 c).1 14).trans (((dat m 0 c).arrAt_in 14 rfl _).trans (dat_A m c 14)),
      ((h.1 c).1 15).trans (((dat m 0 c).arrAt_in 15 rfl _).trans (dat_A m c 15)),
      ((h.1 c).1 16).trans (((dat m 0 c).arrAt_in 16 rfl _).trans (dat_A m c 16)),
      ((h.1 c).1 17).trans (((dat m 0 c).arrAt_in 17 rfl _).trans (dat_A m c 17)),
      ((h.1 c).1 18).trans (((dat m 0 c).arrAt_in 18 rfl _).trans (dat_A m c 18)),
      ((h.1 c).1 19).trans (((dat m 0 c).arrAt_in 19 rfl _).trans (dat_A m c 19)),
      ((h.1 c).1 20).trans (((dat m 0 c).arrAt_in 20 rfl _).trans (dat_A m c 20)),
      ((h.1 c).1 21).trans (((dat m 0 c).arrAt_in 21 rfl _).trans (dat_A m c 21)),
      ((h.1 c).1 22).trans (((dat m 0 c).arrAt_in 22 rfl _).trans (dat_A m c 22)),
      ((h.1 c).1 23).trans (((dat m 0 c).arrAt_in 23 rfl _).trans (dat_A m c 23)),
      ((h.1 c).1 24).trans (((dat m 0 c).arrAt_in 24 rfl _).trans (dat_A m c 24)),
      ((h.1 c).1 25).trans (((dat m 0 c).arrAt_in 25 rfl _).trans (dat_A m c 25)),
      ((h.1 c).1 26).trans (((dat m 0 c).arrAt_in 26 rfl _).trans (dat_A m c 26)),
      ((h.1 c).1 27).trans (((dat m 0 c).arrAt_in 27 rfl _).trans (dat_A m c 27)),
      ((h.1 c).1 28).trans (((dat m 0 c).arrAt_in 28 rfl _).trans (dat_A m c 28)),
      ((h.1 c).1 29).trans (((dat m 0 c).arrAt_in 29 rfl _).trans (dat_A m c 29)),
      ((h.1 c).1 30).trans (((dat m 0 c).arrAt_in 30 rfl _).trans (dat_A m c 30)),
      ((h.1 c).1 31).trans (((dat m 0 c).arrAt_in 31 rfl _).trans (dat_A m c 31)),
      ((h.1 c).1 32).trans (((dat m 0 c).arrAt_in 32 rfl _).trans (dat_A m c 32)),
      ((h.1 c).1 33).trans (((dat m 0 c).arrAt_in 33 rfl _).trans (dat_A m c 33))⟩, h.2⟩) (quiet m ρ)

/-- The arguments are left as they were. -/
theorem kept : θ_run defs (onTc (τ := τ) (main (F := F))) ⟨m, fun _ => 0, ρ⟩ (fun r => (∀ c : Dev nD,
    r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19) ∧
      r.2.mem ((c.tc : Thread nD τ).loc main_arg20) = m ((c.tc : Thread nD τ).loc main_arg20) ∧
      r.2.mem ((c.tc : Thread nD τ).loc main_arg21) = m ((c.tc : Thread nD τ).loc main_arg21) ∧
      r.2.mem ((c.tc : Thread nD τ).loc main_arg22) = m ((c.tc : Thread nD τ).loc main_arg22) ∧
      r.2.mem ((c.tc : Thread nD τ).loc main_arg23) = m ((c.tc : Thread nD τ).loc main_arg23) ∧
      r.2.mem ((c.tc : Thread nD τ).loc main_arg24) = m ((c.tc : Thread nD τ).loc main_arg24) ∧
      r.2.mem ((c.tc : Thread nD τ).loc main_arg25) = m ((c.tc : Thread nD τ).loc main_arg25) ∧
      r.2.mem ((c.tc : Thread nD τ).loc main_arg26) = m ((c.tc : Thread nD τ).loc main_arg26) ∧
      r.2.mem ((c.tc : Thread nD τ).loc main_arg27) = m ((c.tc : Thread nD τ).loc main_arg27) ∧
      r.2.mem ((c.tc : Thread nD τ).loc main_arg28) = m ((c.tc : Thread nD τ).loc main_arg28) ∧
      r.2.mem ((c.tc : Thread nD τ).loc main_arg29) = m ((c.tc : Thread nD τ).loc main_arg29) ∧
      r.2.mem ((c.tc : Thread nD τ).loc main_arg30) = m ((c.tc : Thread nD τ).loc main_arg30) ∧
      r.2.mem ((c.tc : Thread nD τ).loc main_arg31) = m ((c.tc : Thread nD τ).loc main_arg31) ∧
      r.2.mem ((c.tc : Thread nD τ).loc main_arg32) = m ((c.tc : Thread nD τ).loc main_arg32) ∧
      r.2.mem ((c.tc : Thread nD τ).loc main_arg33) = m ((c.tc : Thread nD τ).loc main_arg33))
    ∧ r.2.sem = fun _ => 0) :=
  (θ_run defs _ _).mono (fun r h => ⟨fun c => (h.1 c).2, h.2⟩) (run m ρ)
end

end Cert.Kernel25Ideal.Opt
-- ==== Proof.AdamMath.lean ====
module

public import Idealize.ShloMosaic.Lib.Pointwise
public import Idealize.ShloMosaic.Lib.IdealHost

@[expose] public section

noncomputable section

/-! One step of the optimiser, at an element and as the reference writes it over an array of any two sizes. -/

namespace Cert.Adam

open Idealize.ShloMosaic

/-- The new first moment. -/
def newM (g m : EReal) : EReal := Ideal.ofBits .f32 0x3F666666#32 * m + Ideal.ofBits .f32 0x3DCCCCCD#32 * g
/-- The new second moment. -/
def newV (g v : EReal) : EReal := Ideal.ofBits .f32 0x3F7FBE77#32 * v + Ideal.ofBits .f32 0x3A83126F#32 * (g * g)
/-- The change of the weight. -/
def step (w g m v : EReal) : EReal := Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32) + Ideal.ofBits .f32 0x3C23D70A#32 * w)

section
variable {n0 n1 : ℕ} (hb : (⟨0, ![]⟩ : Shape).BroadcastsInDim ⟨2, ![n0, n1]⟩ (![] : Fin 0 → Fin 2)) (w g m v : FVec Ideal ⟨2, ![n0, n1]⟩ .f32)

/-- The new first moments. -/
def hostM : FVec Ideal ⟨2, ![n0, n1]⟩ .f32 :=
  addf (mulf (broadcastInDim ⟨2, ![n0, n1]⟩ ![] hb (constant ⟨0, ![]⟩ .f32 0x3F666666#32)) m) (mulf (broadcastInDim ⟨2, ![n0, n1]⟩ ![] hb (constant ⟨0, ![]⟩ .f32 0x3DCCCCCD#32)) g)
/-- The new second moments. -/
def hostV : FVec Ideal ⟨2, ![n0, n1]⟩ .f32 :=
  addf (mulf (broadcastInDim ⟨2, ![n0, n1]⟩ ![] hb (constant ⟨0, ![]⟩ .f32 0x3F7FBE77#32)) v) (mulf (broadcastInDim ⟨2, ![n0, n1]⟩ ![] hb (constant ⟨0, ![]⟩ .f32 0x3A83126F#32)) (mulf g g))
/-- The changes of the weights. -/
def hostStep : FVec Ideal ⟨2, ![n0, n1]⟩ .f32 :=
  mulf (broadcastInDim ⟨2, ![n0, n1]⟩ ![] hb (constant ⟨0, ![]⟩ .f32 0xBA83126F#32)) (addf (Host.divf (Host.divf (hostM hb g m) (broadcastInDim ⟨2, ![n0, n1]⟩ ![] hb (constant ⟨0, ![]⟩ .f32 0x3F26BD02#32)))
    (addf (Host.sqrt (Host.divf (hostV hb g v) (broadcastInDim ⟨2, ![n0, n1]⟩ ![] hb (constant ⟨0, ![]⟩ .f32 0x3C231ACC#32)))) (broadcastInDim ⟨2, ![n0, n1]⟩ ![] hb (constant ⟨0, ![]⟩ .f32 0x322BCC77#32))))
    (mulf (broadcastInDim ⟨2, ![n0, n1]⟩ ![] hb (constant ⟨0, ![]⟩ .f32 0x3C23D70A#32)) w))

theorem hostM_at (i : Fin n0) (j : Fin n1) : hostM hb g m (ix2 i j) = newM (g (ix2 i j)) (m (ix2 i j)) := by
  pointwise [hostM, newM]
theorem hostV_at (i : Fin n0) (j : Fin n1) : hostV hb g v (ix2 i j) = newV (g (ix2 i j)) (v (ix2 i j)) := by
  pointwise [hostV, newV]
theorem hostStep_at (i : Fin n0) (j : Fin n1) : hostStep hb w g m v (ix2 i j) = step (w (ix2 i j)) (g (ix2 i j)) (m (ix2 i j)) (v (ix2 i j)) := by
  pointwise [hostStep, hostM, hostV, step, newM, newV]
end

end Cert.Adam
-- ==== Proof.AdamSmall.lean ====
module

public import proofs.«01_k».proof.Defs
public import proofs.«01_k».proof.Proof.OptSmallI
public import proofs.«01_k».proof.Proof.Gen.Reference25Ideal.Run
public import proofs.«01_k».proof.Proof.AdamMath
public import Idealize.ShloMosaic.Lib.Claim
public import Idealize.ShloMosaic.Lib.IdealHost
public import Idealize.ShloMosaic.Lib.Pipeline.ValueKit.Point

@[expose] public section

set_option maxRecDepth 16384

noncomputable section

/-! The optimiser on the eleven small parameters. -/

namespace Cert.Kernel25Ideal.AdamSmall

open Cert.Kernel25Ideal Cert.Kernel25Ideal.Gen Cert.Kernel25Ideal.Opt Idealize.ShloMosaic Idealize.ShloMosaic.TcCoe Idealize.SL.Sem Cert.Adam

section
variable (g w m v : Vec Ideal S1x1024 .f32) (r : Fin 1) (l : Fin 1024)

theorem cpS1x1024_at : cpS1x1024 (F := Ideal) g (ix2 r l) = g (ix2 r l) := by
  unfold cpS1x1024
  frame_out

theorem stS1x1024_at : stS1x1024 (F := Ideal) g w m v (ix2 r l) = step (w (ix2 r l)) (g (ix2 r l)) (m (ix2 r l)) (v (ix2 r l)) := by
  unfold stS1x1024
  frame_out
  pointwise [k0_pay3, k0_pay1, k0_pay2, step, newM, newV]

theorem moS1x1024_at : moS1x1024 (F := Ideal) g m (ix2 r l) = newM (g (ix2 r l)) (m (ix2 r l)) := by
  unfold moS1x1024
  frame_out
  pointwise [k0_pay1, step, newM, newV]

theorem vaS1x1024_at : vaS1x1024 (F := Ideal) g v (ix2 r l) = newV (g (ix2 r l)) (v (ix2 r l)) := by
  unfold vaS1x1024
  frame_out
  pointwise [k0_pay2, step, newM, newV]
end

section
variable (g w m v : Vec Ideal S1x512 .f32) (r : Fin 1) (l : Fin 512)

theorem cpS1x512_at : cpS1x512 (F := Ideal) g (ix2 r l) = g (ix2 r l) := by
  unfold cpS1x512
  frame_out

theorem stS1x512_at : stS1x512 (F := Ideal) g w m v (ix2 r l) = step (w (ix2 r l)) (g (ix2 r l)) (m (ix2 r l)) (v (ix2 r l)) := by
  unfold stS1x512
  frame_out
  pointwise [k0_pay24, k0_pay22, k0_pay23, step, newM, newV]

theorem moS1x512_at : moS1x512 (F := Ideal) g m (ix2 r l) = newM (g (ix2 r l)) (m (ix2 r l)) := by
  unfold moS1x512
  frame_out
  pointwise [k0_pay22, step, newM, newV]

theorem vaS1x512_at : vaS1x512 (F := Ideal) g v (ix2 r l) = newV (g (ix2 r l)) (v (ix2 r l)) := by
  unfold vaS1x512
  frame_out
  pointwise [k0_pay23, step, newM, newV]
end

section
variable (g w m v : Vec Ideal S1x8 .f32) (r : Fin 1) (l : Fin 8)

theorem cpS1x8_at : cpS1x8 (F := Ideal) g (ix2 r l) = g (ix2 r l) := by
  unfold cpS1x8
  frame_out

theorem stS1x8_at : stS1x8 (F := Ideal) g w m v (ix2 r l) = step (w (ix2 r l)) (g (ix2 r l)) (m (ix2 r l)) (v (ix2 r l)) := by
  unfold stS1x8
  frame_out
  pointwise [k0_pay30, k0_pay28, k0_pay29, step, newM, newV]

theorem moS1x8_at : moS1x8 (F := Ideal) g m (ix2 r l) = newM (g (ix2 r l)) (m (ix2 r l)) := by
  unfold moS1x8
  frame_out
  pointwise [k0_pay28, step, newM, newV]

theorem vaS1x8_at : vaS1x8 (F := Ideal) g v (ix2 r l) = newV (g (ix2 r l)) (v (ix2 r l)) := by
  unfold vaS1x8
  frame_out
  pointwise [k0_pay29, step, newM, newV]
end

section
variable (g w m v : Vec Ideal S8x257 .f32) (r : Fin 8) (l : Fin 257)

theorem cpS8x257_at : cpS8x257 (F := Ideal) g (ix2 r l) = g (ix2 r l) := by
  unfold cpS8x257
  frame_out

theorem stS8x257_at : stS8x257 (F := Ideal) g w m v (ix2 r l) = step (w (ix2 r l)) (g (ix2 r l)) (m (ix2 r l)) (v (ix2 r l)) := by
  unfold stS8x257
  frame_out
  pointwise [k0_pay33, k0_pay31, k0_pay32, step, newM, newV]

theorem moS8x257_at : moS8x257 (F := Ideal) g m (ix2 r l) = newM (g (ix2 r l)) (m (ix2 r l)) := by
  unfold moS8x257
  frame_out
  pointwise [k0_pay31, step, newM, newV]

theorem vaS8x257_at : vaS8x257 (F := Ideal) g v (ix2 r l) = newV (g (ix2 r l)) (v (ix2 r l)) := by
  unfold vaS8x257
  frame_out
  pointwise [k0_pay32, step, newM, newV]
end

/-- The gradient of parameter 0 in the packed gradient. -/
abbrev part0 (x : FVec Ideal ⟨2, ![24, 1024]⟩ .f32) : FVec Ideal ⟨2, ![1, 1024]⟩ .f32 :=
  extractStridedSlice Cert.Reference25Ideal.S1x1024 ![0, 0] x Cert.Reference25Ideal.Gen.slices_S24x1024_S1x1024_0_0
theorem ld_part0 (x : Vec Ideal S24x1024 .f32) : View.ld x slot0 = part0 x := View.ld_unit x _ _ _

/-- The gradient of parameter 1 in the packed gradient. -/
abbrev part1 (x : FVec Ideal ⟨2, ![24, 1024]⟩ .f32) : FVec Ideal ⟨2, ![1, 1024]⟩ .f32 :=
  extractStridedSlice Cert.Reference25Ideal.S1x1024 ![1, 0] x Cert.Reference25Ideal.Gen.slices_S24x1024_S1x1024_1_0
theorem ld_part1 (x : Vec Ideal S24x1024 .f32) : View.ld x slot1 = part1 x := View.ld_unit x _ _ _

/-- The gradient of parameter 2 in the packed gradient. -/
abbrev part2 (x : FVec Ideal ⟨2, ![24, 1024]⟩ .f32) : FVec Ideal ⟨2, ![1, 1024]⟩ .f32 :=
  extractStridedSlice Cert.Reference25Ideal.S1x1024 ![2, 0] x Cert.Reference25Ideal.Gen.slices_S24x1024_S1x1024_2_0
theorem ld_part2 (x : Vec Ideal S24x1024 .f32) : View.ld x slot2 = part2 x := View.ld_unit x _ _ _

/-- The gradient of parameter 3 in the packed gradient. -/
abbrev part3 (x : FVec Ideal ⟨2, ![24, 1024]⟩ .f32) : FVec Ideal ⟨2, ![1, 1024]⟩ .f32 :=
  extractStridedSlice Cert.Reference25Ideal.S1x1024 ![3, 0] x Cert.Reference25Ideal.Gen.slices_S24x1024_S1x1024_3_0
theorem ld_part3 (x : Vec Ideal S24x1024 .f32) : View.ld x slot3 = part3 x := View.ld_unit x _ _ _

/-- The gradient of parameter 4 in the packed gradient. -/
abbrev part4 (x : FVec Ideal ⟨2, ![24, 1024]⟩ .f32) : FVec Ideal ⟨2, ![1, 1024]⟩ .f32 :=
  extractStridedSlice Cert.Reference25Ideal.S1x1024 ![4, 0] x Cert.Reference25Ideal.Gen.slices_S24x1024_S1x1024_4_0
theorem ld_part4 (x : Vec Ideal S24x1024 .f32) : View.ld x slot4 = part4 x := View.ld_unit x _ _ _

/-- The gradient of parameter 5 in the packed gradient. -/
abbrev part5 (x : FVec Ideal ⟨2, ![24, 1024]⟩ .f32) : FVec Ideal ⟨2, ![1, 1024]⟩ .f32 :=
  extractStridedSlice Cert.Reference25Ideal.S1x1024 ![5, 0] x Cert.Reference25Ideal.Gen.slices_S24x1024_S1x1024_5_0
theorem ld_part5 (x : Vec Ideal S24x1024 .f32) : View.ld x slot5 = part5 x := View.ld_unit x _ _ _

/-- The gradient of parameter 6 in the packed gradient. -/
abbrev part6 (x : FVec Ideal ⟨2, ![24, 1024]⟩ .f32) : FVec Ideal ⟨2, ![1, 1024]⟩ .f32 :=
  extractStridedSlice Cert.Reference25Ideal.S1x1024 ![6, 0] x Cert.Reference25Ideal.Gen.slices_S24x1024_S1x1024_6_0
theorem ld_part6 (x : Vec Ideal S24x1024 .f32) : View.ld x slot6 = part6 x := View.ld_unit x _ _ _

/-- The gradient of parameter 7 in the packed gradient. -/
abbrev part7 (x : FVec Ideal ⟨2, ![24, 1024]⟩ .f32) : FVec Ideal ⟨2, ![1, 512]⟩ .f32 :=
  extractStridedSlice Cert.Reference25Ideal.S1x512 ![7, 0] x Cert.Reference25Ideal.Gen.slices_S24x1024_S1x512_7_0
theorem ld_part7 (x : Vec Ideal S24x1024 .f32) : View.ld x slot7 = part7 x := View.ld_unit x _ _ _

/-- The gradient of parameter 8 in the packed gradient. -/
abbrev part8 (x : FVec Ideal ⟨2, ![24, 1024]⟩ .f32) : FVec Ideal ⟨2, ![1, 512]⟩ .f32 :=
  extractStridedSlice Cert.Reference25Ideal.S1x512 ![7, 512] x Cert.Reference25Ideal.Gen.slices_S24x1024_S1x512_7_512
theorem ld_part8 (x : Vec Ideal S24x1024 .f32) : View.ld x slot8 = part8 x := View.ld_unit x _ _ _

/-- The gradient of parameter 9 in the packed gradient. -/
abbrev part9 (x : FVec Ideal ⟨2, ![24, 1024]⟩ .f32) : FVec Ideal ⟨2, ![1, 8]⟩ .f32 :=
  extractStridedSlice Cert.Reference25Ideal.S1x8 ![8, 0] x Cert.Reference25Ideal.Gen.slices_S24x1024_S1x8_8_0
theorem ld_part9 (x : Vec Ideal S24x1024 .f32) : View.ld x slot9 = part9 x := View.ld_unit x _ _ _

/-- The gradient of parameter 10 in the packed gradient. -/
abbrev part10 (x : FVec Ideal ⟨2, ![24, 1024]⟩ .f32) : FVec Ideal ⟨2, ![8, 257]⟩ .f32 :=
  extractStridedSlice Cert.Reference25Ideal.S8x257 ![16, 0] x Cert.Reference25Ideal.Gen.slices_S24x1024_S8x257_16_0
theorem ld_part10 (x : Vec Ideal S24x1024 .f32) : View.ld x slot10 = part10 x := View.ld_unit x _ _ _

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![0, 0] := (by decide +kernel : ∀ t : Fin grid0.N, _)
theorem idx21 : ∀ t : Fin cfg0.N, win0_21.index t = ![0, 0] := (by decide +kernel : ∀ t : Fin grid0.N, _)
theorem idx22 : ∀ t : Fin cfg0.N, win0_22.index t = ![0, 0] := (by decide +kernel : ∀ t : Fin grid0.N, _)
theorem idx23 : ∀ t : Fin cfg0.N, win0_23.index t = ![0, 0] := (by decide +kernel : ∀ t : Fin grid0.N, _)
theorem idx24 : ∀ t : Fin cfg0.N, win0_24.index t = ![0, 0] := (by decide +kernel : ∀ t : Fin grid0.N, _)
theorem idx25 : ∀ t : Fin cfg0.N, win0_25.index t = ![0, 0] := (by decide +kernel : ∀ t : Fin grid0.N, _)
theorem idx26 : ∀ t : Fin cfg0.N, win0_26.index t = ![0, 0] := (by decide +kernel : ∀ t : Fin grid0.N, _)
theorem idx27 : ∀ t : Fin cfg0.N, win0_27.index t = ![0, 0] := (by decide +kernel : ∀ t : Fin grid0.N, _)
theorem idx28 : ∀ t : Fin cfg0.N, win0_28.index t = ![0, 0] := (by decide +kernel : ∀ t : Fin grid0.N, _)
theorem idx29 : ∀ t : Fin cfg0.N, win0_29.index t = ![0, 0] := (by decide +kernel : ∀ t : Fin grid0.N, _)
theorem idx30 : ∀ t : Fin cfg0.N, win0_30.index t = ![0, 0] := (by decide +kernel : ∀ t : Fin grid0.N, _)
theorem idx31 : ∀ t : Fin cfg0.N, win0_31.index t = ![0, 0] := (by decide +kernel : ∀ t : Fin grid0.N, _)
theorem idx32 : ∀ t : Fin cfg0.N, win0_32.index t = ![0, 0] := (by decide +kernel : ∀ t : Fin grid0.N, _)
theorem idx33 : ∀ t : Fin cfg0.N, win0_33.index t = ![0, 0] := (by decide +kernel : ∀ t : Fin grid0.N, _)
theorem idx34 : ∀ t : Fin cfg0.N, win0_34.index t = ![0, 0] := (by decide +kernel : ∀ t : Fin grid0.N, _)
theorem idx35 : ∀ t : Fin cfg0.N, win0_35.index t = ![0, 0] := (by decide +kernel : ∀ t : Fin grid0.N, _)
theorem idx36 : ∀ t : Fin cfg0.N, win0_36.index t = ![0, 0] := (by decide +kernel : ∀ t : Fin grid0.N, _)
theorem idx37 : ∀ t : Fin cfg0.N, win0_37.index t = ![0, 0] := (by decide +kernel : ∀ t : Fin grid0.N, _)
theorem idx38 : ∀ t : Fin cfg0.N, win0_38.index t = ![0, 0] := (by decide +kernel : ∀ t : Fin grid0.N, _)
theorem idx39 : ∀ t : Fin cfg0.N, win0_39.index t = ![0, 0] := (by decide +kernel : ∀ t : Fin grid0.N, _)
theorem idx40 : ∀ t : Fin cfg0.N, win0_40.index t = ![0, 0] := (by decide +kernel : ∀ t : Fin grid0.N, _)
theorem idx41 : ∀ t : Fin cfg0.N, win0_41.index t = ![0, 0] := (by decide +kernel : ∀ t : Fin grid0.N, _)
theorem idx42 : ∀ t : Fin cfg0.N, win0_42.index t = ![0, 0] := (by decide +kernel : ∀ t : Fin grid0.N, _)
theorem idx43 : ∀ t : Fin cfg0.N, win0_43.index t = ![0, 0] := (by decide +kernel : ∀ t : Fin grid0.N, _)
theorem idx44 : ∀ t : Fin cfg0.N, win0_44.index t = ![0, 0] := (by decide +kernel : ∀ t : Fin grid0.N, _)
theorem idx45 : ∀ t : Fin cfg0.N, win0_45.index t = ![0, 0] := (by decide +kernel : ∀ t : Fin grid0.N, _)
theorem idx46 : ∀ t : Fin cfg0.N, win0_46.index t = ![0, 0] := (by decide +kernel : ∀ t : Fin grid0.N, _)
theorem idx47 : ∀ t : Fin cfg0.N, win0_47.index t = ![0, 0] := (by decide +kernel : ∀ t : Fin grid0.N, _)
theorem idx48 : ∀ t : Fin cfg0.N, win0_48.index t = ![0, 0] := (by decide +kernel : ∀ t : Fin grid0.N, _)
theorem idx49 : ∀ t : Fin cfg0.N, win0_49.index t = ![0, 0] := (by decide +kernel : ∀ t : Fin grid0.N, _)
theorem idx50 : ∀ t : Fin cfg0.N, win0_50.index t = ![0, 0] := (by decide +kernel : ∀ t : Fin grid0.N, _)
theorem idx51 : ∀ t : Fin cfg0.N, win0_51.index t = ![0, 0] := (by decide +kernel : ∀ t : Fin grid0.N, _)
theorem idx52 : ∀ t : Fin cfg0.N, win0_52.index t = ![0, 0] := (by decide +kernel : ∀ t : Fin grid0.N, _)
theorem idx53 : ∀ t : Fin cfg0.N, win0_53.index t = ![0, 0] := (by decide +kernel : ∀ t : Fin grid0.N, _)
theorem idx54 : ∀ t : Fin cfg0.N, win0_54.index t = ![0, 0] := (by decide +kernel : ∀ t : Fin grid0.N, _)
theorem idx55 : ∀ t : Fin cfg0.N, win0_55.index t = ![0, 0] := (by decide +kernel : ∀ t : Fin grid0.N, _)
theorem idx56 : ∀ t : Fin cfg0.N, win0_56.index t = ![0, 0] := (by decide +kernel : ∀ t : Fin grid0.N, _)
theorem idx57 : ∀ t : Fin cfg0.N, win0_57.index t = ![0, 0] := (by decide +kernel : ∀ t : Fin grid0.N, _)
theorem idx58 : ∀ t : Fin cfg0.N, win0_58.index t = ![0, 0] := (by decide +kernel : ∀ t : Fin grid0.N, _)
theorem idx59 : ∀ t : Fin cfg0.N, win0_59.index t = ![0, 0] := (by decide +kernel : ∀ t : Fin grid0.N, _)
theorem idx60 : ∀ t : Fin cfg0.N, win0_60.index t = ![0, 0] := (by decide +kernel : ∀ t : Fin grid0.N, _)
theorem idx61 : ∀ t : Fin cfg0.N, win0_61.index t = ![0, 0] := (by decide +kernel : ∀ t : Fin grid0.N, _)
theorem idx62 : ∀ t : Fin cfg0.N, win0_62.index t = ![0, 0] := (by decide +kernel : ∀ t : Fin grid0.N, _)
theorem idx63 : ∀ t : Fin cfg0.N, win0_63.index t = ![0, 0] := (by decide +kernel : ∀ t : Fin grid0.N, _)
theorem idx64 : ∀ t : Fin cfg0.N, win0_64.index t = ![0, 0] := (by decide +kernel : ∀ t : Fin grid0.N, _)
theorem idx65 : ∀ t : Fin cfg0.N, win0_65.index t = ![0, 0] := (by decide +kernel : ∀ t : Fin grid0.N, _)
theorem idx66 : ∀ t : Fin cfg0.N, win0_66.index t = ![0, 0] := (by decide +kernel : ∀ t : Fin grid0.N, _)
theorem idx67 : ∀ t : Fin cfg0.N, win0_67.index t = ![0, 0] := (by decide +kernel : ∀ t : Fin grid0.N, _)
theorem idx68 : ∀ t : Fin cfg0.N, win0_68.index t = ![0, 0] := (by decide +kernel : ∀ t : Fin grid0.N, _)
theorem idx69 : ∀ t : Fin cfg0.N, win0_69.index t = ![0, 0] := (by decide +kernel : ∀ t : Fin grid0.N, _)
theorem idx70 : ∀ t : Fin cfg0.N, win0_70.index t = ![0, 0] := (by decide +kernel : ∀ t : Fin grid0.N, _)
theorem idx71 : ∀ t : Fin cfg0.N, win0_71.index t = ![0, 0] := (by decide +kernel : ∀ t : Fin grid0.N, _)
theorem idx72 : ∀ t : Fin cfg0.N, win0_72.index t = ![0, 0] := (by decide +kernel : ∀ t : Fin grid0.N, _)
theorem idx73 : ∀ t : Fin cfg0.N, win0_73.index t = ![0, 0] := (by decide +kernel : ∀ t : Fin grid0.N, _)
theorem idx74 : ∀ t : Fin cfg0.N, win0_74.index t = ![0, 0] := (by decide +kernel : ∀ t : Fin grid0.N, _)
theorem idx75 : ∀ t : Fin cfg0.N, win0_75.index t = ![0, 0] := (by decide +kernel : ∀ t : Fin grid0.N, _)
theorem idx76 : ∀ t : Fin cfg0.N, win0_76.index t = ![0, 0] := (by decide +kernel : ∀ t : Fin grid0.N, _)
theorem idx77 : ∀ t : Fin cfg0.N, win0_77.index t = ![0, 0] := (by decide +kernel : ∀ t : Fin grid0.N, _)

theorem step_eq {w w' g g' m m' v v' : EReal} (hw : w = w') (hg : g = g') (hm : m = m') (hv : v = v') : step w g m v = step w' g' m' v' := by
  rw [hw, hg, hm, hv]

variable (m : (ℓ : Loc nD τ sig) → Buf (Elt Ideal) ℓ) (c : Dev nD)

theorem in0 (t : Fin cfg0.N) (r : Fin 24) (l : Fin 1024) : blk m c 0 t (ix2 r l) = m ((c.tc : Thread nD τ).loc main_arg0) (ix2 r l) := by
  blk_ext! [blk, init, idx0 t]

theorem in1 (t : Fin cfg0.N) (r : Fin 1) (l : Fin 1024) : blk m c 1 t (ix2 r l) = m ((c.tc : Thread nD τ).loc main_arg1) (ix2 r l) := by
  blk_ext! [blk, init, idx1 t]

theorem in2 (t : Fin cfg0.N) (r : Fin 1) (l : Fin 1024) : blk m c 2 t (ix2 r l) = m ((c.tc : Thread nD τ).loc main_arg2) (ix2 r l) := by
  blk_ext! [blk, init, idx2 t]

theorem in3 (t : Fin cfg0.N) (r : Fin 1) (l : Fin 1024) : blk m c 3 t (ix2 r l) = m ((c.tc : Thread nD τ).loc main_arg3) (ix2 r l) := by
  blk_ext! [blk, init, idx3 t]

theorem in4 (t : Fin cfg0.N) (r : Fin 1) (l : Fin 1024) : blk m c 4 t (ix2 r l) = m ((c.tc : Thread nD τ).loc main_arg4) (ix2 r l) := by
  blk_ext! [blk, init, idx4 t]

theorem in5 (t : Fin cfg0.N) (r : Fin 1) (l : Fin 1024) : blk m c 5 t (ix2 r l) = m ((c.tc : Thread nD τ).loc main_arg5) (ix2 r l) := by
  blk_ext! [blk, init, idx5 t]

theorem in6 (t : Fin cfg0.N) (r : Fin 1) (l : Fin 1024) : blk m c 6 t (ix2 r l) = m ((c.tc : Thread nD τ).loc main_arg6) (ix2 r l) := by
  blk_ext! [blk, init, idx6 t]

theorem in7 (t : Fin cfg0.N) (r : Fin 1) (l : Fin 1024) : blk m c 7 t (ix2 r l) = m ((c.tc : Thread nD τ).loc main_arg7) (ix2 r l) := by
  blk_ext! [blk, init, idx7 t]

theorem in8 (t : Fin cfg0.N) (r : Fin 1) (l : Fin 512) : blk m c 8 t (ix2 r l) = m ((c.tc : Thread nD τ).loc main_arg8) (ix2 r l) := by
  blk_ext! [blk, init, idx8 t]

theorem in9 (t : Fin cfg0.N) (r : Fin 1) (l : Fin 512) : blk m c 9 t (ix2 r l) = m ((c.tc : Thread nD τ).loc main_arg9) (ix2 r l) := by
  blk_ext! [blk, init, idx9 t]

theorem in10 (t : Fin cfg0.N) (r : Fin 1) (l : Fin 8) : blk m c 10 t (ix2 r l) = m ((c.tc : Thread nD τ).loc main_arg10) (ix2 r l) := by
  blk_ext! [blk, init, idx10 t]

theorem in11 (t : Fin cfg0.N) (r : Fin 8) (l : Fin 257) : blk m c 11 t (ix2 r l) = m ((c.tc : Thread nD τ).loc main_arg11) (ix2 r l) := by
  blk_ext! [blk, init, idx11 t]

theorem in12 (t : Fin cfg0.N) (r : Fin 1) (l : Fin 1024) : blk m c 12 t (ix2 r l) = m ((c.tc : Thread nD τ).loc main_arg12) (ix2 r l) := by
  blk_ext! [blk, init, idx12 t]

theorem in13 (t : Fin cfg0.N) (r : Fin 1) (l : Fin 1024) : blk m c 13 t (ix2 r l) = m ((c.tc : Thread nD τ).loc main_arg13) (ix2 r l) := by
  blk_ext! [blk, init, idx13 t]

theorem in14 (t : Fin cfg0.N) (r : Fin 1) (l : Fin 1024) : blk m c 14 t (ix2 r l) = m ((c.tc : Thread nD τ).loc main_arg14) (ix2 r l) := by
  blk_ext! [blk, init, idx14 t]

theorem in15 (t : Fin cfg0.N) (r : Fin 1) (l : Fin 1024) : blk m c 15 t (ix2 r l) = m ((c.tc : Thread nD τ).loc main_arg15) (ix2 r l) := by
  blk_ext! [blk, init, idx15 t]

theorem in16 (t : Fin cfg0.N) (r : Fin 1) (l : Fin 1024) : blk m c 16 t (ix2 r l) = m ((c.tc : Thread nD τ).loc main_arg16) (ix2 r l) := by
  blk_ext! [blk, init, idx16 t]

theorem in17 (t : Fin cfg0.N) (r : Fin 1) (l : Fin 1024) : blk m c 17 t (ix2 r l) = m ((c.tc : Thread nD τ).loc main_arg17) (ix2 r l) := by
  blk_ext! [blk, init, idx17 t]

theorem in18 (t : Fin cfg0.N) (r : Fin 1) (l : Fin 1024) : blk m c 18 t (ix2 r l) = m ((c.tc : Thread nD τ).loc main_arg18) (ix2 r l) := by
  blk_ext! [blk, init, idx18 t]

theorem in19 (t : Fin cfg0.N) (r : Fin 1) (l : Fin 512) : blk m c 19 t (ix2 r l) = m ((c.tc : Thread nD τ).loc main_arg19) (ix2 r l) := by
  blk_ext! [blk, init, idx19 t]

theorem in20 (t : Fin cfg0.N) (r : Fin 1) (l : Fin 512) : blk m c 20 t (ix2 r l) = m ((c.tc : Thread nD τ).loc main_arg20) (ix2 r l) := by
  blk_ext! [blk, init, idx20 t]

theorem in21 (t : Fin cfg0.N) (r : Fin 1) (l : Fin 8) : blk m c 21 t (ix2 r l) = m ((c.tc : Thread nD τ).loc main_arg21) (ix2 r l) := by
  blk_ext! [blk, init, idx21 t]

theorem in22 (t : Fin cfg0.N) (r : Fin 8) (l : Fin 257) : blk m c 22 t (ix2 r l) = m ((c.tc : Thread nD τ).loc main_arg22) (ix2 r l) := by
  blk_ext! [blk, init, idx22 t]

theorem in23 (t : Fin cfg0.N) (r : Fin 1) (l : Fin 1024) : blk m c 23 t (ix2 r l) = m ((c.tc : Thread nD τ).loc main_arg23) (ix2 r l) := by
  blk_ext! [blk, init, idx23 t]

theorem in24 (t : Fin cfg0.N) (r : Fin 1) (l : Fin 1024) : blk m c 24 t (ix2 r l) = m ((c.tc : Thread nD τ).loc main_arg24) (ix2 r l) := by
  blk_ext! [blk, init, idx24 t]

theorem in25 (t : Fin cfg0.N) (r : Fin 1) (l : Fin 1024) : blk m c 25 t (ix2 r l) = m ((c.tc : Thread nD τ).loc main_arg25) (ix2 r l) := by
  blk_ext! [blk, init, idx25 t]

theorem in26 (t : Fin cfg0.N) (r : Fin 1) (l : Fin 1024) : blk m c 26 t (ix2 r l) = m ((c.tc : Thread nD τ).loc main_arg26) (ix2 r l) := by
  blk_ext! [blk, init, idx26 t]

theorem in27 (t : Fin cfg0.N) (r : Fin 1) (l : Fin 1024) : blk m c 27 t (ix2 r l) = m ((c.tc : Thread nD τ).loc main_arg27) (ix2 r l) := by
  blk_ext! [blk, init, idx27 t]

theorem in28 (t : Fin cfg0.N) (r : Fin 1) (l : Fin 1024) : blk m c 28 t (ix2 r l) = m ((c.tc : Thread nD τ).loc main_arg28) (ix2 r l) := by
  blk_ext! [blk, init, idx28 t]

theorem in29 (t : Fin cfg0.N) (r : Fin 1) (l : Fin 1024) : blk m c 29 t (ix2 r l) = m ((c.tc : Thread nD τ).loc main_arg29) (ix2 r l) := by
  blk_ext! [blk, init, idx29 t]

theorem in30 (t : Fin cfg0.N) (r : Fin 1) (l : Fin 512) : blk m c 30 t (ix2 r l) = m ((c.tc : Thread nD τ).loc main_arg30) (ix2 r l) := by
  blk_ext! [blk, init, idx30 t]

theorem in31 (t : Fin cfg0.N) (r : Fin 1) (l : Fin 512) : blk m c 31 t (ix2 r l) = m ((c.tc : Thread nD τ).loc main_arg31) (ix2 r l) := by
  blk_ext! [blk, init, idx31 t]

theorem in32 (t : Fin cfg0.N) (r : Fin 1) (l : Fin 8) : blk m c 32 t (ix2 r l) = m ((c.tc : Thread nD τ).loc main_arg32) (ix2 r l) := by
  blk_ext! [blk, init, idx32 t]

theorem in33 (t : Fin cfg0.N) (r : Fin 8) (l : Fin 257) : blk m c 33 t (ix2 r l) = m ((c.tc : Thread nD τ).loc main_arg33) (ix2 r l) := by
  blk_ext! [blk, init, idx33 t]

theorem total (t : Fin cfg0.N) : blk m c 0 t = m ((c.tc : Thread nD τ).loc main_arg0) := funext fun (y : S24x1024.Idx) => by
  idx_vars y
  exact in0 m c t y0 y1

theorem g0 (t : Fin cfg0.N) : View.ld (blk m c 0 t) slot0 = part0 (m ((c.tc : Thread nD τ).loc main_arg0)) :=
  (congrArg (fun x : Vec Ideal S24x1024 .f32 => View.ld x slot0) (total m c t)).trans (ld_part0 _)

theorem g1 (t : Fin cfg0.N) : View.ld (blk m c 0 t) slot1 = part1 (m ((c.tc : Thread nD τ).loc main_arg0)) :=
  (congrArg (fun x : Vec Ideal S24x1024 .f32 => View.ld x slot1) (total m c t)).trans (ld_part1 _)

theorem g2 (t : Fin cfg0.N) : View.ld (blk m c 0 t) slot2 = part2 (m ((c.tc : Thread nD τ).loc main_arg0)) :=
  (congrArg (fun x : Vec Ideal S24x1024 .f32 => View.ld x slot2) (total m c t)).trans (ld_part2 _)

theorem g3 (t : Fin cfg0.N) : View.ld (blk m c 0 t) slot3 = part3 (m ((c.tc : Thread nD τ).loc main_arg0)) :=
  (congrArg (fun x : Vec Ideal S24x1024 .f32 => View.ld x slot3) (total m c t)).trans (ld_part3 _)

theorem g4 (t : Fin cfg0.N) : View.ld (blk m c 0 t) slot4 = part4 (m ((c.tc : Thread nD τ).loc main_arg0)) :=
  (congrArg (fun x : Vec Ideal S24x1024 .f32 => View.ld x slot4) (total m c t)).trans (ld_part4 _)

theorem g5 (t : Fin cfg0.N) : View.ld (blk m c 0 t) slot5 = part5 (m ((c.tc : Thread nD τ).loc main_arg0)) :=
  (congrArg (fun x : Vec Ideal S24x1024 .f32 => View.ld x slot5) (total m c t)).trans (ld_part5 _)

theorem g6 (t : Fin cfg0.N) : View.ld (blk m c 0 t) slot6 = part6 (m ((c.tc : Thread nD τ).loc main_arg0)) :=
  (congrArg (fun x : Vec Ideal S24x1024 .f32 => View.ld x slot6) (total m c t)).trans (ld_part6 _)

theorem g7 (t : Fin cfg0.N) : View.ld (blk m c 0 t) slot7 = part7 (m ((c.tc : Thread nD τ).loc main_arg0)) :=
  (congrArg (fun x : Vec Ideal S24x1024 .f32 => View.ld x slot7) (total m c t)).trans (ld_part7 _)

theorem g8 (t : Fin cfg0.N) : View.ld (blk m c 0 t) slot8 = part8 (m ((c.tc : Thread nD τ).loc main_arg0)) :=
  (congrArg (fun x : Vec Ideal S24x1024 .f32 => View.ld x slot8) (total m c t)).trans (ld_part8 _)

theorem g9 (t : Fin cfg0.N) : View.ld (blk m c 0 t) slot9 = part9 (m ((c.tc : Thread nD τ).loc main_arg0)) :=
  (congrArg (fun x : Vec Ideal S24x1024 .f32 => View.ld x slot9) (total m c t)).trans (ld_part9 _)

theorem g10 (t : Fin cfg0.N) : View.ld (blk m c 0 t) slot10 = part10 (m ((c.tc : Thread nD τ).loc main_arg0)) :=
  (congrArg (fun x : Vec Ideal S24x1024 .f32 => View.ld x slot10) (total m c t)).trans (ld_part10 _)

theorem final_34 : (dat m 0 c).arrAt 34 cfg0.N = (part0 (m ((c.tc : Thread nD τ).loc main_arg0))) := by
  refine (dat m 0 c).arrAt_eq_of_covers 34 _ (by decide +kernel) fun t hf y => ?_
  blk_simp
  rw [after34]
  idx_vars y
  have e : (((View.whole main_v0_0).slice (win0_34.rect t)).emb (ix2 y0 y1)) = ix2 y0 y1 := by blk_ext [idx34 t]
  rw [e]
  exact (cpS1x1024_at _ y0 y1).trans ((congrFun (g0 m c t) (ix2 y0 y1)).trans rfl)

theorem final_35 : (dat m 0 c).arrAt 35 cfg0.N = hostStep Cert.Reference25Ideal.Gen.bcast_S_S1x1024 (m ((c.tc : Thread nD τ).loc main_arg1)) (part0 (m ((c.tc : Thread nD τ).loc main_arg0))) (m ((c.tc : Thread nD τ).loc main_arg12)) (m ((c.tc : Thread nD τ).loc main_arg23)) := by
  refine (dat m 0 c).arrAt_eq_of_covers 35 _ (by decide +kernel) fun t hf y => ?_
  blk_simp
  rw [after35]
  idx_vars y
  have e : (((View.whole main_v0_1).slice (win0_35.rect t)).emb (ix2 y0 y1)) = ix2 y0 y1 := by blk_ext [idx35 t]
  rw [e]
  exact (stS1x1024_at _ _ _ _ y0 y1).trans ((step_eq (in1 m c t y0 y1) (congrFun (g0 m c t) (ix2 y0 y1)) (in12 m c t y0 y1) (in23 m c t y0 y1)).trans (hostStep_at ..).symm)

theorem final_36 : (dat m 0 c).arrAt 36 cfg0.N = hostM Cert.Reference25Ideal.Gen.bcast_S_S1x1024 (part0 (m ((c.tc : Thread nD τ).loc main_arg0))) (m ((c.tc : Thread nD τ).loc main_arg12)) := by
  refine (dat m 0 c).arrAt_eq_of_covers 36 _ (by decide +kernel) fun t hf y => ?_
  blk_simp
  rw [after36]
  idx_vars y
  have e : (((View.whole main_v0_2).slice (win0_36.rect t)).emb (ix2 y0 y1)) = ix2 y0 y1 := by blk_ext [idx36 t]
  rw [e]
  exact (moS1x1024_at _ _ y0 y1).trans ((congr (congrArg newM (congrFun (g0 m c t) (ix2 y0 y1))) (in12 m c t y0 y1)).trans (hostM_at ..).symm)

theorem final_37 : (dat m 0 c).arrAt 37 cfg0.N = hostV Cert.Reference25Ideal.Gen.bcast_S_S1x1024 (part0 (m ((c.tc : Thread nD τ).loc main_arg0))) (m ((c.tc : Thread nD τ).loc main_arg23)) := by
  refine (dat m 0 c).arrAt_eq_of_covers 37 _ (by decide +kernel) fun t hf y => ?_
  blk_simp
  rw [after37]
  idx_vars y
  have e : (((View.whole main_v0_3).slice (win0_37.rect t)).emb (ix2 y0 y1)) = ix2 y0 y1 := by blk_ext [idx37 t]
  rw [e]
  exact (vaS1x1024_at _ _ y0 y1).trans ((congr (congrArg newV (congrFun (g0 m c t) (ix2 y0 y1))) (in23 m c t y0 y1)).trans (hostV_at ..).symm)

theorem final_38 : (dat m 0 c).arrAt 38 cfg0.N = (part1 (m ((c.tc : Thread nD τ).loc main_arg0))) := by
  refine (dat m 0 c).arrAt_eq_of_covers 38 _ (by decide +kernel) fun t hf y => ?_
  blk_simp
  rw [after38]
  idx_vars y
  have e : (((View.whole main_v0_4).slice (win0_38.rect t)).emb (ix2 y0 y1)) = ix2 y0 y1 := by blk_ext [idx38 t]
  rw [e]
  exact (cpS1x1024_at _ y0 y1).trans ((congrFun (g1 m c t) (ix2 y0 y1)).trans rfl)

theorem final_39 : (dat m 0 c).arrAt 39 cfg0.N = hostStep Cert.Reference25Ideal.Gen.bcast_S_S1x1024 (m ((c.tc : Thread nD τ).loc main_arg2)) (part1 (m ((c.tc : Thread nD τ).loc main_arg0))) (m ((c.tc : Thread nD τ).loc main_arg13)) (m ((c.tc : Thread nD τ).loc main_arg24)) := by
  refine (dat m 0 c).arrAt_eq_of_covers 39 _ (by decide +kernel) fun t hf y => ?_
  blk_simp
  rw [after39]
  idx_vars y
  have e : (((View.whole main_v0_5).slice (win0_39.rect t)).emb (ix2 y0 y1)) = ix2 y0 y1 := by blk_ext [idx39 t]
  rw [e]
  exact (stS1x1024_at _ _ _ _ y0 y1).trans ((step_eq (in2 m c t y0 y1) (congrFun (g1 m c t) (ix2 y0 y1)) (in13 m c t y0 y1) (in24 m c t y0 y1)).trans (hostStep_at ..).symm)

theorem final_40 : (dat m 0 c).arrAt 40 cfg0.N = hostM Cert.Reference25Ideal.Gen.bcast_S_S1x1024 (part1 (m ((c.tc : Thread nD τ).loc main_arg0))) (m ((c.tc : Thread nD τ).loc main_arg13)) := by
  refine (dat m 0 c).arrAt_eq_of_covers 40 _ (by decide +kernel) fun t hf y => ?_
  blk_simp
  rw [after40]
  idx_vars y
  have e : (((View.whole main_v0_6).slice (win0_40.rect t)).emb (ix2 y0 y1)) = ix2 y0 y1 := by blk_ext [idx40 t]
  rw [e]
  exact (moS1x1024_at _ _ y0 y1).trans ((congr (congrArg newM (congrFun (g1 m c t) (ix2 y0 y1))) (in13 m c t y0 y1)).trans (hostM_at ..).symm)

theorem final_41 : (dat m 0 c).arrAt 41 cfg0.N = hostV Cert.Reference25Ideal.Gen.bcast_S_S1x1024 (part1 (m ((c.tc : Thread nD τ).loc main_arg0))) (m ((c.tc : Thread nD τ).loc main_arg24)) := by
  refine (dat m 0 c).arrAt_eq_of_covers 41 _ (by decide +kernel) fun t hf y => ?_
  blk_simp
  rw [after41]
  idx_vars y
  have e : (((View.whole main_v0_7).slice (win0_41.rect t)).emb (ix2 y0 y1)) = ix2 y0 y1 := by blk_ext [idx41 t]
  rw [e]
  exact (vaS1x1024_at _ _ y0 y1).trans ((congr (congrArg newV (congrFun (g1 m c t) (ix2 y0 y1))) (in24 m c t y0 y1)).trans (hostV_at ..).symm)

theorem final_42 : (dat m 0 c).arrAt 42 cfg0.N = (part2 (m ((c.tc : Thread nD τ).loc main_arg0))) := by
  refine (dat m 0 c).arrAt_eq_of_covers 42 _ (by decide +kernel) fun t hf y => ?_
  blk_simp
  rw [after42]
  idx_vars y
  have e : (((View.whole main_v0_8).slice (win0_42.rect t)).emb (ix2 y0 y1)) = ix2 y0 y1 := by blk_ext [idx42 t]
  rw [e]
  exact (cpS1x1024_at _ y0 y1).trans ((congrFun (g2 m c t) (ix2 y0 y1)).trans rfl)

theorem final_43 : (dat m 0 c).arrAt 43 cfg0.N = hostStep Cert.Reference25Ideal.Gen.bcast_S_S1x1024 (m ((c.tc : Thread nD τ).loc main_arg3)) (part2 (m ((c.tc : Thread nD τ).loc main_arg0))) (m ((c.tc : Thread nD τ).loc main_arg14)) (m ((c.tc : Thread nD τ).loc main_arg25)) := by
  refine (dat m 0 c).arrAt_eq_of_covers 43 _ (by decide +kernel) fun t hf y => ?_
  blk_simp
  rw [after43]
  idx_vars y
  have e : (((View.whole main_v0_9).slice (win0_43.rect t)).emb (ix2 y0 y1)) = ix2 y0 y1 := by blk_ext [idx43 t]
  rw [e]
  exact (stS1x1024_at _ _ _ _ y0 y1).trans ((step_eq (in3 m c t y0 y1) (congrFun (g2 m c t) (ix2 y0 y1)) (in14 m c t y0 y1) (in25 m c t y0 y1)).trans (hostStep_at ..).symm)

theorem final_44 : (dat m 0 c).arrAt 44 cfg0.N = hostM Cert.Reference25Ideal.Gen.bcast_S_S1x1024 (part2 (m ((c.tc : Thread nD τ).loc main_arg0))) (m ((c.tc : Thread nD τ).loc main_arg14)) := by
  refine (dat m 0 c).arrAt_eq_of_covers 44 _ (by decide +kernel) fun t hf y => ?_
  blk_simp
  rw [after44]
  idx_vars y
  have e : (((View.whole main_v0_10).slice (win0_44.rect t)).emb (ix2 y0 y1)) = ix2 y0 y1 := by blk_ext [idx44 t]
  rw [e]
  exact (moS1x1024_at _ _ y0 y1).trans ((congr (congrArg newM (congrFun (g2 m c t) (ix2 y0 y1))) (in14 m c t y0 y1)).trans (hostM_at ..).symm)

theorem final_45 : (dat m 0 c).arrAt 45 cfg0.N = hostV Cert.Reference25Ideal.Gen.bcast_S_S1x1024 (part2 (m ((c.tc : Thread nD τ).loc main_arg0))) (m ((c.tc : Thread nD τ).loc main_arg25)) := by
  refine (dat m 0 c).arrAt_eq_of_covers 45 _ (by decide +kernel) fun t hf y => ?_
  blk_simp
  rw [after45]
  idx_vars y
  have e : (((View.whole main_v0_11).slice (win0_45.rect t)).emb (ix2 y0 y1)) = ix2 y0 y1 := by blk_ext [idx45 t]
  rw [e]
  exact (vaS1x1024_at _ _ y0 y1).trans ((congr (congrArg newV (congrFun (g2 m c t) (ix2 y0 y1))) (in25 m c t y0 y1)).trans (hostV_at ..).symm)

theorem final_46 : (dat m 0 c).arrAt 46 cfg0.N = (part3 (m ((c.tc : Thread nD τ).loc main_arg0))) := by
  refine (dat m 0 c).arrAt_eq_of_covers 46 _ (by decide +kernel) fun t hf y => ?_
  blk_simp
  rw [after46]
  idx_vars y
  have e : (((View.whole main_v0_12).slice (win0_46.rect t)).emb (ix2 y0 y1)) = ix2 y0 y1 := by blk_ext [idx46 t]
  rw [e]
  exact (cpS1x1024_at _ y0 y1).trans ((congrFun (g3 m c t) (ix2 y0 y1)).trans rfl)

theorem final_47 : (dat m 0 c).arrAt 47 cfg0.N = hostStep Cert.Reference25Ideal.Gen.bcast_S_S1x1024 (m ((c.tc : Thread nD τ).loc main_arg4)) (part3 (m ((c.tc : Thread nD τ).loc main_arg0))) (m ((c.tc : Thread nD τ).loc main_arg15)) (m ((c.tc : Thread nD τ).loc main_arg26)) := by
  refine (dat m 0 c).arrAt_eq_of_covers 47 _ (by decide +kernel) fun t hf y => ?_
  blk_simp
  rw [after47]
  idx_vars y
  have e : (((View.whole main_v0_13).slice (win0_47.rect t)).emb (ix2 y0 y1)) = ix2 y0 y1 := by blk_ext [idx47 t]
  rw [e]
  exact (stS1x1024_at _ _ _ _ y0 y1).trans ((step_eq (in4 m c t y0 y1) (congrFun (g3 m c t) (ix2 y0 y1)) (in15 m c t y0 y1) (in26 m c t y0 y1)).trans (hostStep_at ..).symm)

theorem final_48 : (dat m 0 c).arrAt 48 cfg0.N = hostM Cert.Reference25Ideal.Gen.bcast_S_S1x1024 (part3 (m ((c.tc : Thread nD τ).loc main_arg0))) (m ((c.tc : Thread nD τ).loc main_arg15)) := by
  refine (dat m 0 c).arrAt_eq_of_covers 48 _ (by decide +kernel) fun t hf y => ?_
  blk_simp
  rw [after48]
  idx_vars y
  have e : (((View.whole main_v0_14).slice (win0_48.rect t)).emb (ix2 y0 y1)) = ix2 y0 y1 := by blk_ext [idx48 t]
  rw [e]
  exact (moS1x1024_at _ _ y0 y1).trans ((congr (congrArg newM (congrFun (g3 m c t) (ix2 y0 y1))) (in15 m c t y0 y1)).trans (hostM_at ..).symm)

theorem final_49 : (dat m 0 c).arrAt 49 cfg0.N = hostV Cert.Reference25Ideal.Gen.bcast_S_S1x1024 (part3 (m ((c.tc : Thread nD τ).loc main_arg0))) (m ((c.tc : Thread nD τ).loc main_arg26)) := by
  refine (dat m 0 c).arrAt_eq_of_covers 49 _ (by decide +kernel) fun t hf y => ?_
  blk_simp
  rw [after49]
  idx_vars y
  have e : (((View.whole main_v0_15).slice (win0_49.rect t)).emb (ix2 y0 y1)) = ix2 y0 y1 := by blk_ext [idx49 t]
  rw [e]
  exact (vaS1x1024_at _ _ y0 y1).trans ((congr (congrArg newV (congrFun (g3 m c t) (ix2 y0 y1))) (in26 m c t y0 y1)).trans (hostV_at ..).symm)

theorem final_50 : (dat m 0 c).arrAt 50 cfg0.N = (part4 (m ((c.tc : Thread nD τ).loc main_arg0))) := by
  refine (dat m 0 c).arrAt_eq_of_covers 50 _ (by decide +kernel) fun t hf y => ?_
  blk_simp
  rw [after50]
  idx_vars y
  have e : (((View.whole main_v0_16).slice (win0_50.rect t)).emb (ix2 y0 y1)) = ix2 y0 y1 := by blk_ext [idx50 t]
  rw [e]
  exact (cpS1x1024_at _ y0 y1).trans ((congrFun (g4 m c t) (ix2 y0 y1)).trans rfl)

theorem final_51 : (dat m 0 c).arrAt 51 cfg0.N = hostStep Cert.Reference25Ideal.Gen.bcast_S_S1x1024 (m ((c.tc : Thread nD τ).loc main_arg5)) (part4 (m ((c.tc : Thread nD τ).loc main_arg0))) (m ((c.tc : Thread nD τ).loc main_arg16)) (m ((c.tc : Thread nD τ).loc main_arg27)) := by
  refine (dat m 0 c).arrAt_eq_of_covers 51 _ (by decide +kernel) fun t hf y => ?_
  blk_simp
  rw [after51]
  idx_vars y
  have e : (((View.whole main_v0_17).slice (win0_51.rect t)).emb (ix2 y0 y1)) = ix2 y0 y1 := by blk_ext [idx51 t]
  rw [e]
  exact (stS1x1024_at _ _ _ _ y0 y1).trans ((step_eq (in5 m c t y0 y1) (congrFun (g4 m c t) (ix2 y0 y1)) (in16 m c t y0 y1) (in27 m c t y0 y1)).trans (hostStep_at ..).symm)

theorem final_52 : (dat m 0 c).arrAt 52 cfg0.N = hostM Cert.Reference25Ideal.Gen.bcast_S_S1x1024 (part4 (m ((c.tc : Thread nD τ).loc main_arg0))) (m ((c.tc : Thread nD τ).loc main_arg16)) := by
  refine (dat m 0 c).arrAt_eq_of_covers 52 _ (by decide +kernel) fun t hf y => ?_
  blk_simp
  rw [after52]
  idx_vars y
  have e : (((View.whole main_v0_18).slice (win0_52.rect t)).emb (ix2 y0 y1)) = ix2 y0 y1 := by blk_ext [idx52 t]
  rw [e]
  exact (moS1x1024_at _ _ y0 y1).trans ((congr (congrArg newM (congrFun (g4 m c t) (ix2 y0 y1))) (in16 m c t y0 y1)).trans (hostM_at ..).symm)

theorem final_53 : (dat m 0 c).arrAt 53 cfg0.N = hostV Cert.Reference25Ideal.Gen.bcast_S_S1x1024 (part4 (m ((c.tc : Thread nD τ).loc main_arg0))) (m ((c.tc : Thread nD τ).loc main_arg27)) := by
  refine (dat m 0 c).arrAt_eq_of_covers 53 _ (by decide +kernel) fun t hf y => ?_
  blk_simp
  rw [after53]
  idx_vars y
  have e : (((View.whole main_v0_19).slice (win0_53.rect t)).emb (ix2 y0 y1)) = ix2 y0 y1 := by blk_ext [idx53 t]
  rw [e]
  exact (vaS1x1024_at _ _ y0 y1).trans ((congr (congrArg newV (congrFun (g4 m c t) (ix2 y0 y1))) (in27 m c t y0 y1)).trans (hostV_at ..).symm)

theorem final_54 : (dat m 0 c).arrAt 54 cfg0.N = (part5 (m ((c.tc : Thread nD τ).loc main_arg0))) := by
  refine (dat m 0 c).arrAt_eq_of_covers 54 _ (by decide +kernel) fun t hf y => ?_
  blk_simp
  rw [after54]
  idx_vars y
  have e : (((View.whole main_v0_20).slice (win0_54.rect t)).emb (ix2 y0 y1)) = ix2 y0 y1 := by blk_ext [idx54 t]
  rw [e]
  exact (cpS1x1024_at _ y0 y1).trans ((congrFun (g5 m c t) (ix2 y0 y1)).trans rfl)

theorem final_55 : (dat m 0 c).arrAt 55 cfg0.N = hostStep Cert.Reference25Ideal.Gen.bcast_S_S1x1024 (m ((c.tc : Thread nD τ).loc main_arg6)) (part5 (m ((c.tc : Thread nD τ).loc main_arg0))) (m ((c.tc : Thread nD τ).loc main_arg17)) (m ((c.tc : Thread nD τ).loc main_arg28)) := by
  refine (dat m 0 c).arrAt_eq_of_covers 55 _ (by decide +kernel) fun t hf y => ?_
  blk_simp
  rw [after55]
  idx_vars y
  have e : (((View.whole main_v0_21).slice (win0_55.rect t)).emb (ix2 y0 y1)) = ix2 y0 y1 := by blk_ext [idx55 t]
  rw [e]
  exact (stS1x1024_at _ _ _ _ y0 y1).trans ((step_eq (in6 m c t y0 y1) (congrFun (g5 m c t) (ix2 y0 y1)) (in17 m c t y0 y1) (in28 m c t y0 y1)).trans (hostStep_at ..).symm)

theorem final_56 : (dat m 0 c).arrAt 56 cfg0.N = hostM Cert.Reference25Ideal.Gen.bcast_S_S1x1024 (part5 (m ((c.tc : Thread nD τ).loc main_arg0))) (m ((c.tc : Thread nD τ).loc main_arg17)) := by
  refine (dat m 0 c).arrAt_eq_of_covers 56 _ (by decide +kernel) fun t hf y => ?_
  blk_simp
  rw [after56]
  idx_vars y
  have e : (((View.whole main_v0_22).slice (win0_56.rect t)).emb (ix2 y0 y1)) = ix2 y0 y1 := by blk_ext [idx56 t]
  rw [e]
  exact (moS1x1024_at _ _ y0 y1).trans ((congr (congrArg newM (congrFun (g5 m c t) (ix2 y0 y1))) (in17 m c t y0 y1)).trans (hostM_at ..).symm)

theorem final_57 : (dat m 0 c).arrAt 57 cfg0.N = hostV Cert.Reference25Ideal.Gen.bcast_S_S1x1024 (part5 (m ((c.tc : Thread nD τ).loc main_arg0))) (m ((c.tc : Thread nD τ).loc main_arg28)) := by
  refine (dat m 0 c).arrAt_eq_of_covers 57 _ (by decide +kernel) fun t hf y => ?_
  blk_simp
  rw [after57]
  idx_vars y
  have e : (((View.whole main_v0_23).slice (win0_57.rect t)).emb (ix2 y0 y1)) = ix2 y0 y1 := by blk_ext [idx57 t]
  rw [e]
  exact (vaS1x1024_at _ _ y0 y1).trans ((congr (congrArg newV (congrFun (g5 m c t) (ix2 y0 y1))) (in28 m c t y0 y1)).trans (hostV_at ..).symm)

theorem final_58 : (dat m 0 c).arrAt 58 cfg0.N = (part6 (m ((c.tc : Thread nD τ).loc main_arg0))) := by
  refine (dat m 0 c).arrAt_eq_of_covers 58 _ (by decide +kernel) fun t hf y => ?_
  blk_simp
  rw [after58]
  idx_vars y
  have e : (((View.whole main_v0_24).slice (win0_58.rect t)).emb (ix2 y0 y1)) = ix2 y0 y1 := by blk_ext [idx58 t]
  rw [e]
  exact (cpS1x1024_at _ y0 y1).trans ((congrFun (g6 m c t) (ix2 y0 y1)).trans rfl)

theorem final_59 : (dat m 0 c).arrAt 59 cfg0.N = hostStep Cert.Reference25Ideal.Gen.bcast_S_S1x1024 (m ((c.tc : Thread nD τ).loc main_arg7)) (part6 (m ((c.tc : Thread nD τ).loc main_arg0))) (m ((c.tc : Thread nD τ).loc main_arg18)) (m ((c.tc : Thread nD τ).loc main_arg29)) := by
  refine (dat m 0 c).arrAt_eq_of_covers 59 _ (by decide +kernel) fun t hf y => ?_
  blk_simp
  rw [after59]
  idx_vars y
  have e : (((View.whole main_v0_25).slice (win0_59.rect t)).emb (ix2 y0 y1)) = ix2 y0 y1 := by blk_ext [idx59 t]
  rw [e]
  exact (stS1x1024_at _ _ _ _ y0 y1).trans ((step_eq (in7 m c t y0 y1) (congrFun (g6 m c t) (ix2 y0 y1)) (in18 m c t y0 y1) (in29 m c t y0 y1)).trans (hostStep_at ..).symm)

theorem final_60 : (dat m 0 c).arrAt 60 cfg0.N = hostM Cert.Reference25Ideal.Gen.bcast_S_S1x1024 (part6 (m ((c.tc : Thread nD τ).loc main_arg0))) (m ((c.tc : Thread nD τ).loc main_arg18)) := by
  refine (dat m 0 c).arrAt_eq_of_covers 60 _ (by decide +kernel) fun t hf y => ?_
  blk_simp
  rw [after60]
  idx_vars y
  have e : (((View.whole main_v0_26).slice (win0_60.rect t)).emb (ix2 y0 y1)) = ix2 y0 y1 := by blk_ext [idx60 t]
  rw [e]
  exact (moS1x1024_at _ _ y0 y1).trans ((congr (congrArg newM (congrFun (g6 m c t) (ix2 y0 y1))) (in18 m c t y0 y1)).trans (hostM_at ..).symm)

theorem final_61 : (dat m 0 c).arrAt 61 cfg0.N = hostV Cert.Reference25Ideal.Gen.bcast_S_S1x1024 (part6 (m ((c.tc : Thread nD τ).loc main_arg0))) (m ((c.tc : Thread nD τ).loc main_arg29)) := by
  refine (dat m 0 c).arrAt_eq_of_covers 61 _ (by decide +kernel) fun t hf y => ?_
  blk_simp
  rw [after61]
  idx_vars y
  have e : (((View.whole main_v0_27).slice (win0_61.rect t)).emb (ix2 y0 y1)) = ix2 y0 y1 := by blk_ext [idx61 t]
  rw [e]
  exact (vaS1x1024_at _ _ y0 y1).trans ((congr (congrArg newV (congrFun (g6 m c t) (ix2 y0 y1))) (in29 m c t y0 y1)).trans (hostV_at ..).symm)

theorem final_62 : (dat m 0 c).arrAt 62 cfg0.N = (part7 (m ((c.tc : Thread nD τ).loc main_arg0))) := by
  refine (dat m 0 c).arrAt_eq_of_covers 62 _ (by decide +kernel) fun t hf y => ?_
  blk_simp
  rw [after62]
  idx_vars y
  have e : (((View.whole main_v0_28).slice (win0_62.rect t)).emb (ix2 y0 y1)) = ix2 y0 y1 := by blk_ext [idx62 t]
  rw [e]
  exact (cpS1x512_at _ y0 y1).trans ((congrFun (g7 m c t) (ix2 y0 y1)).trans rfl)

theorem final_63 : (dat m 0 c).arrAt 63 cfg0.N = hostStep Cert.Reference25Ideal.Gen.bcast_S_S1x512 (m ((c.tc : Thread nD τ).loc main_arg8)) (part7 (m ((c.tc : Thread nD τ).loc main_arg0))) (m ((c.tc : Thread nD τ).loc main_arg19)) (m ((c.tc : Thread nD τ).loc main_arg30)) := by
  refine (dat m 0 c).arrAt_eq_of_covers 63 _ (by decide +kernel) fun t hf y => ?_
  blk_simp
  rw [after63]
  idx_vars y
  have e : (((View.whole main_v0_29).slice (win0_63.rect t)).emb (ix2 y0 y1)) = ix2 y0 y1 := by blk_ext [idx63 t]
  rw [e]
  exact (stS1x512_at _ _ _ _ y0 y1).trans ((step_eq (in8 m c t y0 y1) (congrFun (g7 m c t) (ix2 y0 y1)) (in19 m c t y0 y1) (in30 m c t y0 y1)).trans (hostStep_at ..).symm)

theorem final_64 : (dat m 0 c).arrAt 64 cfg0.N = hostM Cert.Reference25Ideal.Gen.bcast_S_S1x512 (part7 (m ((c.tc : Thread nD τ).loc main_arg0))) (m ((c.tc : Thread nD τ).loc main_arg19)) := by
  refine (dat m 0 c).arrAt_eq_of_covers 64 _ (by decide +kernel) fun t hf y => ?_
  blk_simp
  rw [after64]
  idx_vars y
  have e : (((View.whole main_v0_30).slice (win0_64.rect t)).emb (ix2 y0 y1)) = ix2 y0 y1 := by blk_ext [idx64 t]
  rw [e]
  exact (moS1x512_at _ _ y0 y1).trans ((congr (congrArg newM (congrFun (g7 m c t) (ix2 y0 y1))) (in19 m c t y0 y1)).trans (hostM_at ..).symm)

theorem final_65 : (dat m 0 c).arrAt 65 cfg0.N = hostV Cert.Reference25Ideal.Gen.bcast_S_S1x512 (part7 (m ((c.tc : Thread nD τ).loc main_arg0))) (m ((c.tc : Thread nD τ).loc main_arg30)) := by
  refine (dat m 0 c).arrAt_eq_of_covers 65 _ (by decide +kernel) fun t hf y => ?_
  blk_simp
  rw [after65]
  idx_vars y
  have e : (((View.whole main_v0_31).slice (win0_65.rect t)).emb (ix2 y0 y1)) = ix2 y0 y1 := by blk_ext [idx65 t]
  rw [e]
  exact (vaS1x512_at _ _ y0 y1).trans ((congr (congrArg newV (congrFun (g7 m c t) (ix2 y0 y1))) (in30 m c t y0 y1)).trans (hostV_at ..).symm)

theorem final_66 : (dat m 0 c).arrAt 66 cfg0.N = (part8 (m ((c.tc : Thread nD τ).loc main_arg0))) := by
  refine (dat m 0 c).arrAt_eq_of_covers 66 _ (by decide +kernel) fun t hf y => ?_
  blk_simp
  rw [after66]
  idx_vars y
  have e : (((View.whole main_v0_32).slice (win0_66.rect t)).emb (ix2 y0 y1)) = ix2 y0 y1 := by blk_ext [idx66 t]
  rw [e]
  exact (cpS1x512_at _ y0 y1).trans ((congrFun (g8 m c t) (ix2 y0 y1)).trans rfl)

theorem final_67 : (dat m 0 c).arrAt 67 cfg0.N = hostStep Cert.Reference25Ideal.Gen.bcast_S_S1x512 (m ((c.tc : Thread nD τ).loc main_arg9)) (part8 (m ((c.tc : Thread nD τ).loc main_arg0))) (m ((c.tc : Thread nD τ).loc main_arg20)) (m ((c.tc : Thread nD τ).loc main_arg31)) := by
  refine (dat m 0 c).arrAt_eq_of_covers 67 _ (by decide +kernel) fun t hf y => ?_
  blk_simp
  rw [after67]
  idx_vars y
  have e : (((View.whole main_v0_33).slice (win0_67.rect t)).emb (ix2 y0 y1)) = ix2 y0 y1 := by blk_ext [idx67 t]
  rw [e]
  exact (stS1x512_at _ _ _ _ y0 y1).trans ((step_eq (in9 m c t y0 y1) (congrFun (g8 m c t) (ix2 y0 y1)) (in20 m c t y0 y1) (in31 m c t y0 y1)).trans (hostStep_at ..).symm)

theorem final_68 : (dat m 0 c).arrAt 68 cfg0.N = hostM Cert.Reference25Ideal.Gen.bcast_S_S1x512 (part8 (m ((c.tc : Thread nD τ).loc main_arg0))) (m ((c.tc : Thread nD τ).loc main_arg20)) := by
  refine (dat m 0 c).arrAt_eq_of_covers 68 _ (by decide +kernel) fun t hf y => ?_
  blk_simp
  rw [after68]
  idx_vars y
  have e : (((View.whole main_v0_34).slice (win0_68.rect t)).emb (ix2 y0 y1)) = ix2 y0 y1 := by blk_ext [idx68 t]
  rw [e]
  exact (moS1x512_at _ _ y0 y1).trans ((congr (congrArg newM (congrFun (g8 m c t) (ix2 y0 y1))) (in20 m c t y0 y1)).trans (hostM_at ..).symm)

theorem final_69 : (dat m 0 c).arrAt 69 cfg0.N = hostV Cert.Reference25Ideal.Gen.bcast_S_S1x512 (part8 (m ((c.tc : Thread nD τ).loc main_arg0))) (m ((c.tc : Thread nD τ).loc main_arg31)) := by
  refine (dat m 0 c).arrAt_eq_of_covers 69 _ (by decide +kernel) fun t hf y => ?_
  blk_simp
  rw [after69]
  idx_vars y
  have e : (((View.whole main_v0_35).slice (win0_69.rect t)).emb (ix2 y0 y1)) = ix2 y0 y1 := by blk_ext [idx69 t]
  rw [e]
  exact (vaS1x512_at _ _ y0 y1).trans ((congr (congrArg newV (congrFun (g8 m c t) (ix2 y0 y1))) (in31 m c t y0 y1)).trans (hostV_at ..).symm)

theorem final_70 : (dat m 0 c).arrAt 70 cfg0.N = (part9 (m ((c.tc : Thread nD τ).loc main_arg0))) := by
  refine (dat m 0 c).arrAt_eq_of_covers 70 _ (by decide +kernel) fun t hf y => ?_
  blk_simp
  rw [after70]
  idx_vars y
  have e : (((View.whole main_v0_36).slice (win0_70.rect t)).emb (ix2 y0 y1)) = ix2 y0 y1 := by blk_ext [idx70 t]
  rw [e]
  exact (cpS1x8_at _ y0 y1).trans ((congrFun (g9 m c t) (ix2 y0 y1)).trans rfl)

theorem final_71 : (dat m 0 c).arrAt 71 cfg0.N = hostStep Cert.Reference25Ideal.Gen.bcast_S_S1x8 (m ((c.tc : Thread nD τ).loc main_arg10)) (part9 (m ((c.tc : Thread nD τ).loc main_arg0))) (m ((c.tc : Thread nD τ).loc main_arg21)) (m ((c.tc : Thread nD τ).loc main_arg32)) := by
  refine (dat m 0 c).arrAt_eq_of_covers 71 _ (by decide +kernel) fun t hf y => ?_
  blk_simp
  rw [after71]
  idx_vars y
  have e : (((View.whole main_v0_37).slice (win0_71.rect t)).emb (ix2 y0 y1)) = ix2 y0 y1 := by blk_ext [idx71 t]
  rw [e]
  exact (stS1x8_at _ _ _ _ y0 y1).trans ((step_eq (in10 m c t y0 y1) (congrFun (g9 m c t) (ix2 y0 y1)) (in21 m c t y0 y1) (in32 m c t y0 y1)).trans (hostStep_at ..).symm)

theorem final_72 : (dat m 0 c).arrAt 72 cfg0.N = hostM Cert.Reference25Ideal.Gen.bcast_S_S1x8 (part9 (m ((c.tc : Thread nD τ).loc main_arg0))) (m ((c.tc : Thread nD τ).loc main_arg21)) := by
  refine (dat m 0 c).arrAt_eq_of_covers 72 _ (by decide +kernel) fun t hf y => ?_
  blk_simp
  rw [after72]
  idx_vars y
  have e : (((View.whole main_v0_38).slice (win0_72.rect t)).emb (ix2 y0 y1)) = ix2 y0 y1 := by blk_ext [idx72 t]
  rw [e]
  exact (moS1x8_at _ _ y0 y1).trans ((congr (congrArg newM (congrFun (g9 m c t) (ix2 y0 y1))) (in21 m c t y0 y1)).trans (hostM_at ..).symm)

theorem final_73 : (dat m 0 c).arrAt 73 cfg0.N = hostV Cert.Reference25Ideal.Gen.bcast_S_S1x8 (part9 (m ((c.tc : Thread nD τ).loc main_arg0))) (m ((c.tc : Thread nD τ).loc main_arg32)) := by
  refine (dat m 0 c).arrAt_eq_of_covers 73 _ (by decide +kernel) fun t hf y => ?_
  blk_simp
  rw [after73]
  idx_vars y
  have e : (((View.whole main_v0_39).slice (win0_73.rect t)).emb (ix2 y0 y1)) = ix2 y0 y1 := by blk_ext [idx73 t]
  rw [e]
  exact (vaS1x8_at _ _ y0 y1).trans ((congr (congrArg newV (congrFun (g9 m c t) (ix2 y0 y1))) (in32 m c t y0 y1)).trans (hostV_at ..).symm)

theorem final_74 : (dat m 0 c).arrAt 74 cfg0.N = (part10 (m ((c.tc : Thread nD τ).loc main_arg0))) := by
  refine (dat m 0 c).arrAt_eq_of_covers 74 _ (by decide +kernel) fun t hf y => ?_
  blk_simp
  rw [after74]
  idx_vars y
  have e : (((View.whole main_v0_40).slice (win0_74.rect t)).emb (ix2 y0 y1)) = ix2 y0 y1 := by blk_ext [idx74 t]
  rw [e]
  exact (cpS8x257_at _ y0 y1).trans ((congrFun (g10 m c t) (ix2 y0 y1)).trans rfl)

theorem final_75 : (dat m 0 c).arrAt 75 cfg0.N = hostStep Cert.Reference25Ideal.Gen.bcast_S_S8x257 (m ((c.tc : Thread nD τ).loc main_arg11)) (part10 (m ((c.tc : Thread nD τ).loc main_arg0))) (m ((c.tc : Thread nD τ).loc main_arg22)) (m ((c.tc : Thread nD τ).loc main_arg33)) := by
  refine (dat m 0 c).arrAt_eq_of_covers 75 _ (by decide +kernel) fun t hf y => ?_
  blk_simp
  rw [after75]
  idx_vars y
  have e : (((View.whole main_v0_41).slice (win0_75.rect t)).emb (ix2 y0 y1)) = ix2 y0 y1 := by blk_ext [idx75 t]
  rw [e]
  exact (stS8x257_at _ _ _ _ y0 y1).trans ((step_eq (in11 m c t y0 y1) (congrFun (g10 m c t) (ix2 y0 y1)) (in22 m c t y0 y1) (in33 m c t y0 y1)).trans (hostStep_at ..).symm)

theorem final_76 : (dat m 0 c).arrAt 76 cfg0.N = hostM Cert.Reference25Ideal.Gen.bcast_S_S8x257 (part10 (m ((c.tc : Thread nD τ).loc main_arg0))) (m ((c.tc : Thread nD τ).loc main_arg22)) := by
  refine (dat m 0 c).arrAt_eq_of_covers 76 _ (by decide +kernel) fun t hf y => ?_
  blk_simp
  rw [after76]
  idx_vars y
  have e : (((View.whole main_v0_42).slice (win0_76.rect t)).emb (ix2 y0 y1)) = ix2 y0 y1 := by blk_ext [idx76 t]
  rw [e]
  exact (moS8x257_at _ _ y0 y1).trans ((congr (congrArg newM (congrFun (g10 m c t) (ix2 y0 y1))) (in22 m c t y0 y1)).trans (hostM_at ..).symm)

theorem final_77 : (dat m 0 c).arrAt 77 cfg0.N = hostV Cert.Reference25Ideal.Gen.bcast_S_S8x257 (part10 (m ((c.tc : Thread nD τ).loc main_arg0))) (m ((c.tc : Thread nD τ).loc main_arg33)) := by
  refine (dat m 0 c).arrAt_eq_of_covers 77 _ (by decide +kernel) fun t hf y => ?_
  blk_simp
  rw [after77]
  idx_vars y
  have e : (((View.whole main_v0_43).slice (win0_77.rect t)).emb (ix2 y0 y1)) = ix2 y0 y1 := by blk_ext [idx77 t]
  rw [e]
  exact (vaS8x257_at _ _ y0 y1).trans ((congr (congrArg newV (congrFun (g10 m c t) (ix2 y0 y1))) (in33 m c t y0 y1)).trans (hostV_at ..).symm)

end Cert.Kernel25Ideal.AdamSmall

namespace Cert.Proof.AdamSmall

open Idealize.ShloMosaic Idealize.SL.Sem Cert.Adam

section
variable {n0 n1 : ℕ} (hb : (⟨0, ![]⟩ : Shape).BroadcastsInDim ⟨2, ![n0, n1]⟩ (![] : Fin 0 → Fin 2)) {w w' g g' m m' v v' : FVec Ideal ⟨2, ![n0, n1]⟩ .f32}

theorem m_congr (hg : g' = g) (hm : m' = m) : hostM hb g' m' = hostM hb g m := by rw [hg, hm]
theorem v_congr (hg : g' = g) (hv : v' = v) : hostV hb g' v' = hostV hb g v := by rw [hg, hv]
theorem step_congr (hw : w' = w) (hg : g' = g) (hm : m' = m) (hv : v' = v) : hostStep hb w' g' m' v' = hostStep hb w g m v := by
  rw [hw, hg, hm, hv]
end

set_option maxHeartbeats 4000000 in
/-- The kernel and the reference leave equal arrays. -/
theorem algebraic : Cert.algebraic_Kernel25Ideal_Reference25Ideal := by
  intro m g m' g' hpre hagree
  refine ⟨fun c => (Cert.Kernel25Ideal.Opt.dat m 0 c).arrAt 34 Cert.Kernel25Ideal.cfg0.N, fun c => (Cert.Kernel25Ideal.Opt.dat m 0 c).arrAt 35 Cert.Kernel25Ideal.cfg0.N,
      fun c => (Cert.Kernel25Ideal.Opt.dat m 0 c).arrAt 36 Cert.Kernel25Ideal.cfg0.N, fun c => (Cert.Kernel25Ideal.Opt.dat m 0 c).arrAt 37 Cert.Kernel25Ideal.cfg0.N,
      fun c => (Cert.Kernel25Ideal.Opt.dat m 0 c).arrAt 38 Cert.Kernel25Ideal.cfg0.N, fun c => (Cert.Kernel25Ideal.Opt.dat m 0 c).arrAt 39 Cert.Kernel25Ideal.cfg0.N,
      fun c => (Cert.Kernel25Ideal.Opt.dat m 0 c).arrAt 40 Cert.Kernel25Ideal.cfg0.N, fun c => (Cert.Kernel25Ideal.Opt.dat m 0 c).arrAt 41 Cert.Kernel25Ideal.cfg0.N,
      fun c => (Cert.Kernel25Ideal.Opt.dat m 0 c).arrAt 42 Cert.Kernel25Ideal.cfg0.N, fun c => (Cert.Kernel25Ideal.Opt.dat m 0 c).arrAt 43 Cert.Kernel25Ideal.cfg0.N,
      fun c => (Cert.Kernel25Ideal.Opt.dat m 0 c).arrAt 44 Cert.Kernel25Ideal.cfg0.N, fun c => (Cert.Kernel25Ideal.Opt.dat m 0 c).arrAt 45 Cert.Kernel25Ideal.cfg0.N,
      fun c => (Cert.Kernel25Ideal.Opt.dat m 0 c).arrAt 46 Cert.Kernel25Ideal.cfg0.N, fun c => (Cert.Kernel25Ideal.Opt.dat m 0 c).arrAt 47 Cert.Kernel25Ideal.cfg0.N,
      fun c => (Cert.Kernel25Ideal.Opt.dat m 0 c).arrAt 48 Cert.Kernel25Ideal.cfg0.N, fun c => (Cert.Kernel25Ideal.Opt.dat m 0 c).arrAt 49 Cert.Kernel25Ideal.cfg0.N,
      fun c => (Cert.Kernel25Ideal.Opt.dat m 0 c).arrAt 50 Cert.Kernel25Ideal.cfg0.N, fun c => (Cert.Kernel25Ideal.Opt.dat m 0 c).arrAt 51 Cert.Kernel25Ideal.cfg0.N,
      fun c => (Cert.Kernel25Ideal.Opt.dat m 0 c).arrAt 52 Cert.Kernel25Ideal.cfg0.N, fun c => (Cert.Kernel25Ideal.Opt.dat m 0 c).arrAt 53 Cert.Kernel25Ideal.cfg0.N,
      fun c => (Cert.Kernel25Ideal.Opt.dat m 0 c).arrAt 54 Cert.Kernel25Ideal.cfg0.N, fun c => (Cert.Kernel25Ideal.Opt.dat m 0 c).arrAt 55 Cert.Kernel25Ideal.cfg0.N,
      fun c => (Cert.Kernel25Ideal.Opt.dat m 0 c).arrAt 56 Cert.Kernel25Ideal.cfg0.N, fun c => (Cert.Kernel25Ideal.Opt.dat m 0 c).arrAt 57 Cert.Kernel25Ideal.cfg0.N,
      fun c => (Cert.Kernel25Ideal.Opt.dat m 0 c).arrAt 58 Cert.Kernel25Ideal.cfg0.N, fun c => (Cert.Kernel25Ideal.Opt.dat m 0 c).arrAt 59 Cert.Kernel25Ideal.cfg0.N,
      fun c => (Cert.Kernel25Ideal.Opt.dat m 0 c).arrAt 60 Cert.Kernel25Ideal.cfg0.N, fun c => (Cert.Kernel25Ideal.Opt.dat m 0 c).arrAt 61 Cert.Kernel25Ideal.cfg0.N,
      fun c => (Cert.Kernel25Ideal.Opt.dat m 0 c).arrAt 62 Cert.Kernel25Ideal.cfg0.N, fun c => (Cert.Kernel25Ideal.Opt.dat m 0 c).arrAt 63 Cert.Kernel25Ideal.cfg0.N,
      fun c => (Cert.Kernel25Ideal.Opt.dat m 0 c).arrAt 64 Cert.Kernel25Ideal.cfg0.N, fun c => (Cert.Kernel25Ideal.Opt.dat m 0 c).arrAt 65 Cert.Kernel25Ideal.cfg0.N,
      fun c => (Cert.Kernel25Ideal.Opt.dat m 0 c).arrAt 66 Cert.Kernel25Ideal.cfg0.N, fun c => (Cert.Kernel25Ideal.Opt.dat m 0 c).arrAt 67 Cert.Kernel25Ideal.cfg0.N,
      fun c => (Cert.Kernel25Ideal.Opt.dat m 0 c).arrAt 68 Cert.Kernel25Ideal.cfg0.N, fun c => (Cert.Kernel25Ideal.Opt.dat m 0 c).arrAt 69 Cert.Kernel25Ideal.cfg0.N,
      fun c => (Cert.Kernel25Ideal.Opt.dat m 0 c).arrAt 70 Cert.Kernel25Ideal.cfg0.N, fun c => (Cert.Kernel25Ideal.Opt.dat m 0 c).arrAt 71 Cert.Kernel25Ideal.cfg0.N,
      fun c => (Cert.Kernel25Ideal.Opt.dat m 0 c).arrAt 72 Cert.Kernel25Ideal.cfg0.N, fun c => (Cert.Kernel25Ideal.Opt.dat m 0 c).arrAt 73 Cert.Kernel25Ideal.cfg0.N,
      fun c => (Cert.Kernel25Ideal.Opt.dat m 0 c).arrAt 74 Cert.Kernel25Ideal.cfg0.N, fun c => (Cert.Kernel25Ideal.Opt.dat m 0 c).arrAt 75 Cert.Kernel25Ideal.cfg0.N,
      fun c => (Cert.Kernel25Ideal.Opt.dat m 0 c).arrAt 76 Cert.Kernel25Ideal.cfg0.N, fun c => (Cert.Kernel25Ideal.Opt.dat m 0 c).arrAt 77 Cert.Kernel25Ideal.cfg0.N,
    (θ_run _ _ _).mono (fun r h c => ?_) (Cert.Kernel25Ideal.Opt.run m g),
    (θ_run _ _ _).mono (fun r h c => ?_) (Cert.Reference25Ideal.Value.run m' g')⟩
  · obtain ⟨⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43⟩, hk⟩ := h.1 c
    exact ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, hk⟩
  · obtain ⟨r0, r1, r2, r3, r4, r5, r6, r7, r8, r9, r10, r11, r12, r13, r14, r15, r16, r17, r18, r19, r20, r21, r22, r23, r24, r25, r26, r27, r28, r29, r30, r31, r32, r33, r34, r35, r36, r37, r38, r39, r40, r41, r42, r43, hr⟩ := h c
    obtain ⟨a0, a1, a2, a3, a4, a5, a6, a7, a8, a9, a10, a11, a12, a13, a14, a15, a16, a17, a18, a19, a20, a21, a22, a23, a24, a25, a26, a27, a28, a29, a30, a31, a32, a33⟩ := hagree c
    exact ⟨(r0.trans (congrArg Cert.Kernel25Ideal.AdamSmall.part0 a0)).trans (Cert.Kernel25Ideal.AdamSmall.final_34 m c).symm,
      (r1.trans (step_congr Cert.Reference25Ideal.Gen.bcast_S_S1x1024 a1 (congrArg Cert.Kernel25Ideal.AdamSmall.part0 a0) a12 a23)).trans (Cert.Kernel25Ideal.AdamSmall.final_35 m c).symm,
      (r2.trans (m_congr Cert.Reference25Ideal.Gen.bcast_S_S1x1024 (congrArg Cert.Kernel25Ideal.AdamSmall.part0 a0) a12)).trans (Cert.Kernel25Ideal.AdamSmall.final_36 m c).symm,
      (r3.trans (v_congr Cert.Reference25Ideal.Gen.bcast_S_S1x1024 (congrArg Cert.Kernel25Ideal.AdamSmall.part0 a0) a23)).trans (Cert.Kernel25Ideal.AdamSmall.final_37 m c).symm,
      (r4.trans (congrArg Cert.Kernel25Ideal.AdamSmall.part1 a0)).trans (Cert.Kernel25Ideal.AdamSmall.final_38 m c).symm,
      (r5.trans (step_congr Cert.Reference25Ideal.Gen.bcast_S_S1x1024 a2 (congrArg Cert.Kernel25Ideal.AdamSmall.part1 a0) a13 a24)).trans (Cert.Kernel25Ideal.AdamSmall.final_39 m c).symm,
      (r6.trans (m_congr Cert.Reference25Ideal.Gen.bcast_S_S1x1024 (congrArg Cert.Kernel25Ideal.AdamSmall.part1 a0) a13)).trans (Cert.Kernel25Ideal.AdamSmall.final_40 m c).symm,
      (r7.trans (v_congr Cert.Reference25Ideal.Gen.bcast_S_S1x1024 (congrArg Cert.Kernel25Ideal.AdamSmall.part1 a0) a24)).trans (Cert.Kernel25Ideal.AdamSmall.final_41 m c).symm,
      (r8.trans (congrArg Cert.Kernel25Ideal.AdamSmall.part2 a0)).trans (Cert.Kernel25Ideal.AdamSmall.final_42 m c).symm,
      (r9.trans (step_congr Cert.Reference25Ideal.Gen.bcast_S_S1x1024 a3 (congrArg Cert.Kernel25Ideal.AdamSmall.part2 a0) a14 a25)).trans (Cert.Kernel25Ideal.AdamSmall.final_43 m c).symm,
      (r10.trans (m_congr Cert.Reference25Ideal.Gen.bcast_S_S1x1024 (congrArg Cert.Kernel25Ideal.AdamSmall.part2 a0) a14)).trans (Cert.Kernel25Ideal.AdamSmall.final_44 m c).symm,
      (r11.trans (v_congr Cert.Reference25Ideal.Gen.bcast_S_S1x1024 (congrArg Cert.Kernel25Ideal.AdamSmall.part2 a0) a25)).trans (Cert.Kernel25Ideal.AdamSmall.final_45 m c).symm,
      (r12.trans (congrArg Cert.Kernel25Ideal.AdamSmall.part3 a0)).trans (Cert.Kernel25Ideal.AdamSmall.final_46 m c).symm,
      (r13.trans (step_congr Cert.Reference25Ideal.Gen.bcast_S_S1x1024 a4 (congrArg Cert.Kernel25Ideal.AdamSmall.part3 a0) a15 a26)).trans (Cert.Kernel25Ideal.AdamSmall.final_47 m c).symm,
      (r14.trans (m_congr Cert.Reference25Ideal.Gen.bcast_S_S1x1024 (congrArg Cert.Kernel25Ideal.AdamSmall.part3 a0) a15)).trans (Cert.Kernel25Ideal.AdamSmall.final_48 m c).symm,
      (r15.trans (v_congr Cert.Reference25Ideal.Gen.bcast_S_S1x1024 (congrArg Cert.Kernel25Ideal.AdamSmall.part3 a0) a26)).trans (Cert.Kernel25Ideal.AdamSmall.final_49 m c).symm,
      (r16.trans (congrArg Cert.Kernel25Ideal.AdamSmall.part4 a0)).trans (Cert.Kernel25Ideal.AdamSmall.final_50 m c).symm,
      (r17.trans (step_congr Cert.Reference25Ideal.Gen.bcast_S_S1x1024 a5 (congrArg Cert.Kernel25Ideal.AdamSmall.part4 a0) a16 a27)).trans (Cert.Kernel25Ideal.AdamSmall.final_51 m c).symm,
      (r18.trans (m_congr Cert.Reference25Ideal.Gen.bcast_S_S1x1024 (congrArg Cert.Kernel25Ideal.AdamSmall.part4 a0) a16)).trans (Cert.Kernel25Ideal.AdamSmall.final_52 m c).symm,
      (r19.trans (v_congr Cert.Reference25Ideal.Gen.bcast_S_S1x1024 (congrArg Cert.Kernel25Ideal.AdamSmall.part4 a0) a27)).trans (Cert.Kernel25Ideal.AdamSmall.final_53 m c).symm,
      (r20.trans (congrArg Cert.Kernel25Ideal.AdamSmall.part5 a0)).trans (Cert.Kernel25Ideal.AdamSmall.final_54 m c).symm,
      (r21.trans (step_congr Cert.Reference25Ideal.Gen.bcast_S_S1x1024 a6 (congrArg Cert.Kernel25Ideal.AdamSmall.part5 a0) a17 a28)).trans (Cert.Kernel25Ideal.AdamSmall.final_55 m c).symm,
      (r22.trans (m_congr Cert.Reference25Ideal.Gen.bcast_S_S1x1024 (congrArg Cert.Kernel25Ideal.AdamSmall.part5 a0) a17)).trans (Cert.Kernel25Ideal.AdamSmall.final_56 m c).symm,
      (r23.trans (v_congr Cert.Reference25Ideal.Gen.bcast_S_S1x1024 (congrArg Cert.Kernel25Ideal.AdamSmall.part5 a0) a28)).trans (Cert.Kernel25Ideal.AdamSmall.final_57 m c).symm,
      (r24.trans (congrArg Cert.Kernel25Ideal.AdamSmall.part6 a0)).trans (Cert.Kernel25Ideal.AdamSmall.final_58 m c).symm,
      (r25.trans (step_congr Cert.Reference25Ideal.Gen.bcast_S_S1x1024 a7 (congrArg Cert.Kernel25Ideal.AdamSmall.part6 a0) a18 a29)).trans (Cert.Kernel25Ideal.AdamSmall.final_59 m c).symm,
      (r26.trans (m_congr Cert.Reference25Ideal.Gen.bcast_S_S1x1024 (congrArg Cert.Kernel25Ideal.AdamSmall.part6 a0) a18)).trans (Cert.Kernel25Ideal.AdamSmall.final_60 m c).symm,
      (r27.trans (v_congr Cert.Reference25Ideal.Gen.bcast_S_S1x1024 (congrArg Cert.Kernel25Ideal.AdamSmall.part6 a0) a29)).trans (Cert.Kernel25Ideal.AdamSmall.final_61 m c).symm,
      (r28.trans (congrArg Cert.Kernel25Ideal.AdamSmall.part7 a0)).trans (Cert.Kernel25Ideal.AdamSmall.final_62 m c).symm,
      (r29.trans (step_congr Cert.Reference25Ideal.Gen.bcast_S_S1x512 a8 (congrArg Cert.Kernel25Ideal.AdamSmall.part7 a0) a19 a30)).trans (Cert.Kernel25Ideal.AdamSmall.final_63 m c).symm,
      (r30.trans (m_congr Cert.Reference25Ideal.Gen.bcast_S_S1x512 (congrArg Cert.Kernel25Ideal.AdamSmall.part7 a0) a19)).trans (Cert.Kernel25Ideal.AdamSmall.final_64 m c).symm,
      (r31.trans (v_congr Cert.Reference25Ideal.Gen.bcast_S_S1x512 (congrArg Cert.Kernel25Ideal.AdamSmall.part7 a0) a30)).trans (Cert.Kernel25Ideal.AdamSmall.final_65 m c).symm,
      (r32.trans (congrArg Cert.Kernel25Ideal.AdamSmall.part8 a0)).trans (Cert.Kernel25Ideal.AdamSmall.final_66 m c).symm,
      (r33.trans (step_congr Cert.Reference25Ideal.Gen.bcast_S_S1x512 a9 (congrArg Cert.Kernel25Ideal.AdamSmall.part8 a0) a20 a31)).trans (Cert.Kernel25Ideal.AdamSmall.final_67 m c).symm,
      (r34.trans (m_congr Cert.Reference25Ideal.Gen.bcast_S_S1x512 (congrArg Cert.Kernel25Ideal.AdamSmall.part8 a0) a20)).trans (Cert.Kernel25Ideal.AdamSmall.final_68 m c).symm,
      (r35.trans (v_congr Cert.Reference25Ideal.Gen.bcast_S_S1x512 (congrArg Cert.Kernel25Ideal.AdamSmall.part8 a0) a31)).trans (Cert.Kernel25Ideal.AdamSmall.final_69 m c).symm,
      (r36.trans (congrArg Cert.Kernel25Ideal.AdamSmall.part9 a0)).trans (Cert.Kernel25Ideal.AdamSmall.final_70 m c).symm,
      (r37.trans (step_congr Cert.Reference25Ideal.Gen.bcast_S_S1x8 a10 (congrArg Cert.Kernel25Ideal.AdamSmall.part9 a0) a21 a32)).trans (Cert.Kernel25Ideal.AdamSmall.final_71 m c).symm,
      (r38.trans (m_congr Cert.Reference25Ideal.Gen.bcast_S_S1x8 (congrArg Cert.Kernel25Ideal.AdamSmall.part9 a0) a21)).trans (Cert.Kernel25Ideal.AdamSmall.final_72 m c).symm,
      (r39.trans (v_congr Cert.Reference25Ideal.Gen.bcast_S_S1x8 (congrArg Cert.Kernel25Ideal.AdamSmall.part9 a0) a32)).trans (Cert.Kernel25Ideal.AdamSmall.final_73 m c).symm,
      (r40.trans (congrArg Cert.Kernel25Ideal.AdamSmall.part10 a0)).trans (Cert.Kernel25Ideal.AdamSmall.final_74 m c).symm,
      (r41.trans (step_congr Cert.Reference25Ideal.Gen.bcast_S_S8x257 a11 (congrArg Cert.Kernel25Ideal.AdamSmall.part10 a0) a22 a33)).trans (Cert.Kernel25Ideal.AdamSmall.final_75 m c).symm,
      (r42.trans (m_congr Cert.Reference25Ideal.Gen.bcast_S_S8x257 (congrArg Cert.Kernel25Ideal.AdamSmall.part10 a0) a22)).trans (Cert.Kernel25Ideal.AdamSmall.final_76 m c).symm,
      (r43.trans (v_congr Cert.Reference25Ideal.Gen.bcast_S_S8x257 (congrArg Cert.Kernel25Ideal.AdamSmall.part10 a0) a33)).trans (Cert.Kernel25Ideal.AdamSmall.final_77 m c).symm, hr⟩

/-- The reference leaves its arguments as they were. -/
theorem frame_r : Cert.quiescent_Reference25Ideal := fun m g _ =>
  (θ_run Cert.Reference25Ideal.defs _ _).mono (fun r h => ⟨fun c => (h c).2.2.2.2.2.2.2.2.2.2.2.2.2.2.2.2.2.2.2.2.2.2.2.2.2.2.2.2.2.2.2.2.2.2.2.2.2.2.2.2.2.2.2.2, sem_eq_zero_of_no_sems (by decide) r.2⟩) (Cert.Reference25Ideal.Value.run m g)

end Cert.Proof.AdamSmall
-- ==== Proof.OptLateI.lean ====
module

public import proofs.«01_k».proof.Proof.Gen.Kernel24Ideal.Launch
public import proofs.«01_k».proof.Proof.Gen.Kernel24Ideal.Skeleton
public import proofs.«01_k».proof.Proof.Gen.Kernel24Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

/-! The run of the optimiser on the late weights: what each block holds after a step, and that the arguments are left as they were. -/

namespace Cert.Kernel24Ideal.Opt

open Cert.Kernel24Ideal Cert.Kernel24Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resources of the machine. -/
abbrev Res (F : FTy → Type) := MT nD τ sig Unit (Elt F) ℕ (UR sig nD τ) ℕ

/-! ## What a block holds after the body -/

/-- The whole of a block. -/
abbrev allS64x1024 : Rect S64x1024 := Rect.unit (s := S64x1024) ![0, 0] S64x1024.size inb_S64x1024_S64x1024_0_0

theorem in_allS64x1024 (p : Vec F S64x1024 .f32) (y : S64x1024.Idx) : ∃ q ∈ ([⟨allS64x1024, p⟩] : List (View.Piece (Elt F) S64x1024 .f32)), y ∈ q.1.set :=
  View.cover_of_tiled [⟨allS64x1024, p⟩] S64x1024.size (by rfl) y

/-- The gradient, as it came. -/
def cpS64x1024 (g : Vec F S64x1024 .f32) : Vec F S64x1024 .f32 := View.canon [⟨allS64x1024, g⟩]
/-- The step of the weight `w`. -/
def stS64x1024 (g w m v : Vec F S64x1024 .f32) : Vec F S64x1024 .f32 :=
  View.canon [⟨allS64x1024, k0_pay3 g (View.ld w allS64x1024) (View.ld m allS64x1024) (View.ld v allS64x1024)⟩]
/-- The first moment. -/
def moS64x1024 (g m : Vec F S64x1024 .f32) : Vec F S64x1024 .f32 := View.canon [⟨allS64x1024, k0_pay1 g (View.ld m allS64x1024)⟩]
/-- The second moment. -/
def vaS64x1024 (g v : Vec F S64x1024 .f32) : Vec F S64x1024 .f32 := View.canon [⟨allS64x1024, k0_pay2 g (View.ld v allS64x1024)⟩]

/-! ## The body -/

section
variable (c : Dev nD)

/-- The blocks that come in, each at its contents. -/
def Ins (a0 a1 a2 a3 a4 a5 a6 a7 a8 a9 a10 a11 a12 a13 a14 a15 a16 a17 a18 a19 : Memref sig .tc .vmem S64x1024 .f32)
    (x0 x1 x2 x3 x4 x5 x6 x7 x8 x9 x10 x11 x12 x13 x14 x15 x16 x17 x18 x19 : Vec F S64x1024 .f32) : sProp (Res F) :=
  iprop(owns (c : Thread nD τ) a0 fullShare x0 ∗ owns (c : Thread nD τ) a1 fullShare x1 ∗ owns (c : Thread nD τ) a2 fullShare x2
      ∗ owns (c : Thread nD τ) a3 fullShare x3 ∗ owns (c : Thread nD τ) a4 fullShare x4 ∗ owns (c : Thread nD τ) a5 fullShare x5
      ∗ owns (c : Thread nD τ) a6 fullShare x6 ∗ owns (c : Thread nD τ) a7 fullShare x7 ∗ owns (c : Thread nD τ) a8 fullShare x8
      ∗ owns (c : Thread nD τ) a9 fullShare x9 ∗ owns (c : Thread nD τ) a10 fullShare x10 ∗ owns (c : Thread nD τ) a11 fullShare x11
      ∗ owns (c : Thread nD τ) a12 fullShare x12 ∗ owns (c : Thread nD τ) a13 fullShare x13 ∗ owns (c : Thread nD τ) a14 fullShare x14
      ∗ owns (c : Thread nD τ) a15 fullShare x15 ∗ owns (c : Thread nD τ) a16 fullShare x16 ∗ owns (c : Thread nD τ) a17 fullShare x17
      ∗ owns (c : Thread nD τ) a18 fullShare x18 ∗ owns (c : Thread nD τ) a19 fullShare x19)

/-- The blocks that go out, before the body. -/
def Any (F : FTy → Type) [FloatOps F] (a20 a21 a22 a23 a24 a25 a26 a27 a28 a29 a30 a31 a32 a33 a34 a35 a36 a37 a38 a39 : Memref sig .tc .vmem S64x1024 .f32) : sProp (Res F) :=
  iprop((∃ x : Vec F S64x1024 .f32, owns (c : Thread nD τ) a20 fullShare x) ∗ (∃ x : Vec F S64x1024 .f32, owns (c : Thread nD τ) a21 fullShare x)
      ∗ (∃ x : Vec F S64x1024 .f32, owns (c : Thread nD τ) a22 fullShare x) ∗ (∃ x : Vec F S64x1024 .f32, owns (c : Thread nD τ) a23 fullShare x)
      ∗ (∃ x : Vec F S64x1024 .f32, owns (c : Thread nD τ) a24 fullShare x) ∗ (∃ x : Vec F S64x1024 .f32, owns (c : Thread nD τ) a25 fullShare x)
      ∗ (∃ x : Vec F S64x1024 .f32, owns (c : Thread nD τ) a26 fullShare x) ∗ (∃ x : Vec F S64x1024 .f32, owns (c : Thread nD τ) a27 fullShare x)
      ∗ (∃ x : Vec F S64x1024 .f32, owns (c : Thread nD τ) a28 fullShare x) ∗ (∃ x : Vec F S64x1024 .f32, owns (c : Thread nD τ) a29 fullShare x)
      ∗ (∃ x : Vec F S64x1024 .f32, owns (c : Thread nD τ) a30 fullShare x) ∗ (∃ x : Vec F S64x1024 .f32, owns (c : Thread nD τ) a31 fullShare x)
      ∗ (∃ x : Vec F S64x1024 .f32, owns (c : Thread nD τ) a32 fullShare x) ∗ (∃ x : Vec F S64x1024 .f32, owns (c : Thread nD τ) a33 fullShare x)
      ∗ (∃ x : Vec F S64x1024 .f32, owns (c : Thread nD τ) a34 fullShare x) ∗ (∃ x : Vec F S64x1024 .f32, owns (c : Thread nD τ) a35 fullShare x)
      ∗ (∃ x : Vec F S64x1024 .f32, owns (c : Thread nD τ) a36 fullShare x) ∗ (∃ x : Vec F S64x1024 .f32, owns (c : Thread nD τ) a37 fullShare x)
      ∗ (∃ x : Vec F S64x1024 .f32, owns (c : Thread nD τ) a38 fullShare x) ∗ (∃ x : Vec F S64x1024 .f32, owns (c : Thread nD τ) a39 fullShare x))

/-- The blocks that go out, after the body. -/
def Outs (a20 a21 a22 a23 a24 a25 a26 a27 a28 a29 a30 a31 a32 a33 a34 a35 a36 a37 a38 a39 : Memref sig .tc .vmem S64x1024 .f32)
    (x0 x1 x2 x3 x4 x5 x6 x7 x8 x9 x10 x11 x12 x13 x14 x15 x16 x17 x18 x19 : Vec F S64x1024 .f32) : sProp (Res F) :=
  iprop(owns (c : Thread nD τ) a20 fullShare (cpS64x1024 (View.ld (x1) allS64x1024))
      ∗ owns (c : Thread nD τ) a21 fullShare (stS64x1024 (View.ld (x1) allS64x1024) (x0) (x2) (x3))
      ∗ owns (c : Thread nD τ) a22 fullShare (moS64x1024 (View.ld (x1) allS64x1024) (x2))
      ∗ owns (c : Thread nD τ) a23 fullShare (vaS64x1024 (View.ld (x1) allS64x1024) (x3))
      ∗ owns (c : Thread nD τ) a24 fullShare (cpS64x1024 (View.ld (x5) allS64x1024))
      ∗ owns (c : Thread nD τ) a25 fullShare (stS64x1024 (View.ld (x5) allS64x1024) (x4) (x6) (x7))
      ∗ owns (c : Thread nD τ) a26 fullShare (moS64x1024 (View.ld (x5) allS64x1024) (x6))
      ∗ owns (c : Thread nD τ) a27 fullShare (vaS64x1024 (View.ld (x5) allS64x1024) (x7))
      ∗ owns (c : Thread nD τ) a28 fullShare (cpS64x1024 (View.ld (x9) allS64x1024))
      ∗ owns (c : Thread nD τ) a29 fullShare (stS64x1024 (View.ld (x9) allS64x1024) (x8) (x10) (x11))
      ∗ owns (c : Thread nD τ) a30 fullShare (moS64x1024 (View.ld (x9) allS64x1024) (x10))
      ∗ owns (c : Thread nD τ) a31 fullShare (vaS64x1024 (View.ld (x9) allS64x1024) (x11))
      ∗ owns (c : Thread nD τ) a32 fullShare (cpS64x1024 (View.ld (x13) allS64x1024))
      ∗ owns (c : Thread nD τ) a33 fullShare (stS64x1024 (View.ld (x13) allS64x1024) (x12) (x14) (x15))
      ∗ owns (c : Thread nD τ) a34 fullShare (moS64x1024 (View.ld (x13) allS64x1024) (x14))
      ∗ owns (c : Thread nD τ) a35 fullShare (vaS64x1024 (View.ld (x13) allS64x1024) (x15))
      ∗ owns (c : Thread nD τ) a36 fullShare (cpS64x1024 (View.ld (x17) allS64x1024))
      ∗ owns (c : Thread nD τ) a37 fullShare (stS64x1024 (View.ld (x17) allS64x1024) (x16) (x18) (x19))
      ∗ owns (c : Thread nD τ) a38 fullShare (moS64x1024 (View.ld (x17) allS64x1024) (x18))
      ∗ owns (c : Thread nD τ) a39 fullShare (vaS64x1024 (View.ld (x17) allS64x1024) (x19)))
end

set_option maxHeartbeats 8000000 in
/-- The body reads the blocks that come in and fills those that go out. -/
theorem body (c : Dev nD) (E : Set ℕ) (i : grid0.Coords) (a0 a1 a2 a3 a4 a5 a6 a7 a8 a9 a10 a11 a12 a13 a14 a15 a16 a17 a18 a19
      a20 a21 a22 a23 a24 a25 a26 a27 a28 a29 a30 a31 a32 a33 a34 a35 a36 a37 a38 a39 : Memref sig .tc .vmem S64x1024 .f32)
    (h0 : a0.IsWhole) (h1 : a1.IsWhole) (h2 : a2.IsWhole) (h3 : a3.IsWhole) (h4 : a4.IsWhole) (h5 : a5.IsWhole)
      (h6 : a6.IsWhole) (h7 : a7.IsWhole) (h8 : a8.IsWhole) (h9 : a9.IsWhole) (h10 : a10.IsWhole) (h11 : a11.IsWhole)
      (h12 : a12.IsWhole) (h13 : a13.IsWhole) (h14 : a14.IsWhole) (h15 : a15.IsWhole) (h16 : a16.IsWhole) (h17 : a17.IsWhole)
      (h18 : a18.IsWhole) (h19 : a19.IsWhole) (h20 : a20.IsWhole) (h21 : a21.IsWhole) (h22 : a22.IsWhole) (h23 : a23.IsWhole)
      (h24 : a24.IsWhole) (h25 : a25.IsWhole) (h26 : a26.IsWhole) (h27 : a27.IsWhole) (h28 : a28.IsWhole) (h29 : a29.IsWhole)
      (h30 : a30.IsWhole) (h31 : a31.IsWhole) (h32 : a32.IsWhole) (h33 : a33.IsWhole) (h34 : a34.IsWhole) (h35 : a35.IsWhole)
      (h36 : a36.IsWhole) (h37 : a37.IsWhole) (h38 : a38.IsWhole) (h39 : a39.IsWhole)
    (x0 x1 x2 x3 x4 x5 x6 x7 x8 x9 x10 x11 x12 x13 x14 x15 x16 x17 x18 x19 : Vec F S64x1024 .f32) (K : PUnit → sProp (Res F)) :
    iprop(Ins c a0 a1 a2 a3 a4 a5 a6 a7 a8 a9 a10 a11
      a12 a13 a14 a15 a16 a17 a18 a19 x0 x1 x2 x3 x4 x5 x6 x7 x8 x9 x10 x11
      x12 x13 x14 x15 x16 x17 x18 x19 ∗ Any c F a20 a21 a22 a23 a24 a25 a26 a27 a28 a29 a30 a31
      a32 a33 a34 a35 a36 a37 a38 a39
      ∗ (iprop(Ins c a0 a1 a2 a3 a4 a5 a6 a7 a8 a9 a10 a11
      a12 a13 a14 a15 a16 a17 a18 a19 x0 x1 x2 x3 x4 x5 x6 x7 x8 x9 x10 x11
      x12 x13 x14 x15 x16 x17 x18 x19 ∗ Outs c a20 a21 a22 a23 a24 a25 a26 a27 a28 a29 a30 a31
      a32 a33 a34 a35 a36 a37 a38 a39 x0 x1 x2 x3 x4 x5 x6 x7 x8 x9 x10 x11
      x12 x13 x14 x15 x16 x17 x18 x19) -∗ K ⟨⟩))
    ⊢ wp frame (wpE (defs₀ (F := F)) Variants.none c none) E
      (cc0_adamw_late i a0 h0 a1 h1 a2 h2 a3 h3 a4 h4 a5 h5 a6 h6 a7 h7 a8 h8 a9 h9 a10 h10 a11 h11
      a12 h12 a13 h13 a14 h14 a15 h15 a16 h16 a17 h17 a18 h18 a19 h19 a20 h20 a21 h21 a22 h22 a23 h23
      a24 h24 a25 h25 a26 h26 a27 h27 a28 h28 a29 h29 a30 h30 a31 h31 a32 h32 a33 h33 a34 h34 a35 h35
      a36 h36 a37 h37 a38 h38 a39 h39) K := by
  simp only [cc0_adamw_late_eq_skeleton]
  unfold cc0_adamw_late_skel
  simp only [k0_part1_eq_skeleton, k0_part2_eq_skeleton, k0_part3_eq_skeleton, k0_part4_eq_skeleton, k0_part5_eq_skeleton]
  unfold Ins Any Outs owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
      ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩,
      ⟨%f14, %e14, H14⟩, ⟨%f15, %e15, H15⟩, ⟨%f16, %e16, H16⟩, ⟨%f17, %e17, H17⟩, ⟨%f18, %e18, H18⟩, ⟨%f19, %e19, H19⟩⟩,
    ⟨⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩,
      ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩,
      ⟨%d34, %f34, -, H34⟩, ⟨%d35, %f35, -, H35⟩, ⟨%d36, %f36, -, H36⟩, ⟨%d37, %f37, -, H37⟩, ⟨%d38, %f38, -, H38⟩, ⟨%d39, %f39, -, H39⟩⟩, Hk⟩
  subst e0 e1 e2 e3 e4 e5 e6 e7 e8 e9 e10 e11 e12 e13 e14 e15 e16 e17 e18 e19
  sl_exec
  sl_step
  iapply Hk
  isplitl [H0 H1 H2 H3 H4 H5 H6 H7 H8 H9 H10 H11 H12 H13 H14 H15 H16 H17 H18 H19]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists f14; isplitr; · ipureintro; rfl
      iexact H14
    isplitl [H15]
    · iexists f15; isplitr; · ipureintro; rfl
      iexact H15
    isplitl [H16]
    · iexists f16; isplitr; · ipureintro; rfl
      iexact H16
    isplitl [H17]
    · iexists f17; isplitr; · ipureintro; rfl
      iexact H17
    isplitl [H18]
    · iexists f18; isplitr; · ipureintro; rfl
      iexact H18
    iexists f19; isplitr; · ipureintro; rfl
    iexact H19
  isplitl [H20]
  · iexists _; isplitr; rotate_left; · iexact H20
    ipureintro; exact View.read_writes_eq_canon _ _ _ (in_allS64x1024 _)
  isplitl [H21]
  · iexists _; isplitr; rotate_left; · iexact H21
    ipureintro; exact View.read_writes_eq_canon _ _ _ (in_allS64x1024 _)
  isplitl [H22]
  · iexists _; isplitr; rotate_left; · iexact H22
    ipureintro; exact View.read_writes_eq_canon _ _ _ (in_allS64x1024 _)
  isplitl [H23]
  · iexists _; isplitr; rotate_left; · iexact H23
    ipureintro; exact View.read_writes_eq_canon _ _ _ (in_allS64x1024 _)
  isplitl [H24]
  · iexists _; isplitr; rotate_left; · iexact H24
    ipureintro; exact View.read_writes_eq_canon _ _ _ (in_allS64x1024 _)
  isplitl [H25]
  · iexists _; isplitr; rotate_left; · iexact H25
    ipureintro; exact View.read_writes_eq_canon _ _ _ (in_allS64x1024 _)
  isplitl [H26]
  · iexists _; isplitr; rotate_left; · iexact H26
    ipureintro; exact View.read_writes_eq_canon _ _ _ (in_allS64x1024 _)
  isplitl [H27]
  · iexists _; isplitr; rotate_left; · iexact H27
    ipureintro; exact View.read_writes_eq_canon _ _ _ (in_allS64x1024 _)
  isplitl [H28]
  · iexists _; isplitr; rotate_left; · iexact H28
    ipureintro; exact View.read_writes_eq_canon _ _ _ (in_allS64x1024 _)
  isplitl [H29]
  · iexists _; isplitr; rotate_left; · iexact H29
    ipureintro; exact View.read_writes_eq_canon _ _ _ (in_allS64x1024 _)
  isplitl [H30]
  · iexists _; isplitr; rotate_left; · iexact H30
    ipureintro; exact View.read_writes_eq_canon _ _ _ (in_allS64x1024 _)
  isplitl [H31]
  · iexists _; isplitr; rotate_left; · iexact H31
    ipureintro; exact View.read_writes_eq_canon _ _ _ (in_allS64x1024 _)
  isplitl [H32]
  · iexists _; isplitr; rotate_left; · iexact H32
    ipureintro; exact View.read_writes_eq_canon _ _ _ (in_allS64x1024 _)
  isplitl [H33]
  · iexists _; isplitr; rotate_left; · iexact H33
    ipureintro; exact View.read_writes_eq_canon _ _ _ (in_allS64x1024 _)
  isplitl [H34]
  · iexists _; isplitr; rotate_left; · iexact H34
    ipureintro; exact View.read_writes_eq_canon _ _ _ (in_allS64x1024 _)
  isplitl [H35]
  · iexists _; isplitr; rotate_left; · iexact H35
    ipureintro; exact View.read_writes_eq_canon _ _ _ (in_allS64x1024 _)
  isplitl [H36]
  · iexists _; isplitr; rotate_left; · iexact H36
    ipureintro; exact View.read_writes_eq_canon _ _ _ (in_allS64x1024 _)
  isplitl [H37]
  · iexists _; isplitr; rotate_left; · iexact H37
    ipureintro; exact View.read_writes_eq_canon _ _ _ (in_allS64x1024 _)
  isplitl [H38]
  · iexists _; isplitr; rotate_left; · iexact H38
    ipureintro; exact View.read_writes_eq_canon _ _ _ (in_allS64x1024 _)
  iexists _; isplitr; rotate_left; · iexact H39
  ipureintro; exact View.read_writes_eq_canon _ _ _ (in_allS64x1024 _)

/-! ## The pipeline -/

section
variable (m : (ℓ : Loc nD τ sig) → Buf (Elt F) ℓ) (ρ : Dev nD → PrngReg)

/-- The arrays at the start. -/
abbrev init (c : Dev nD) (b : Ref sig .tc) : Buf (Elt F) ((c : Thread nD τ).loc b) := m ((c : Thread nD τ).loc b)

set_option maxHeartbeats 2000000 in
theorem enter (𝒱 : Variants) : Pipeline.HMain (Ix := Unit) (Name := ℕ) (U := UR sig nD τ) (Lvl := ℕ) cfgs 0 defs₀ 𝒱 m (main (F := F)) (init m) :=
  Pipeline.hmain_region cfgs 0 defs₀ 𝒱 m main fun c => (main_chain c).trans rfl

/-- The block of window `w` at point `t`, as the array starts. -/
def blk (c : Dev nD) (w : Fin cfg0.W) (t : Fin cfg0.N) : ((cfg0.win w).xblock (cfg0.grid.coords t)).Idx → Elt F (cfg0.win w).elt :=
  ((cfg0.win w).blk t).view.read (Elt F) (init m c (Pipeline.arrRef spec0 w))

/-- What the pipeline holds on each core. -/
def dat (_ : Fin 1) (c : Dev nD) : Dat τ (Elt F) Unit ℕ (UR sig nD τ) ℕ cfg0 c where
  A w := init m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => blk m c 8 t
    | ⟨9, _⟩ => blk m c 9 t
    | ⟨10, _⟩ => blk m c 10 t
    | ⟨11, _⟩ => blk m c 11 t
    | ⟨12, _⟩ => blk m c 12 t
    | ⟨13, _⟩ => blk m c 13 t
    | ⟨14, _⟩ => blk m c 14 t
    | ⟨15, _⟩ => blk m c 15 t
    | ⟨16, _⟩ => blk m c 16 t
    | ⟨17, _⟩ => blk m c 17 t
    | ⟨18, _⟩ => blk m c 18 t
    | ⟨19, _⟩ => blk m c 19 t
    | ⟨20, _⟩ => cpS64x1024 (View.ld (blk m c 1 t) allS64x1024)
    | ⟨21, _⟩ => stS64x1024 (View.ld (blk m c 1 t) allS64x1024) (blk m c 0 t) (blk m c 2 t) (blk m c 3 t)
    | ⟨22, _⟩ => moS64x1024 (View.ld (blk m c 1 t) allS64x1024) (blk m c 2 t)
    | ⟨23, _⟩ => vaS64x1024 (View.ld (blk m c 1 t) allS64x1024) (blk m c 3 t)
    | ⟨24, _⟩ => cpS64x1024 (View.ld (blk m c 5 t) allS64x1024)
    | ⟨25, _⟩ => stS64x1024 (View.ld (blk m c 5 t) allS64x1024) (blk m c 4 t) (blk m c 6 t) (blk m c 7 t)
    | ⟨26, _⟩ => moS64x1024 (View.ld (blk m c 5 t) allS64x1024) (blk m c 6 t)
    | ⟨27, _⟩ => vaS64x1024 (View.ld (blk m c 5 t) allS64x1024) (blk m c 7 t)
    | ⟨28, _⟩ => cpS64x1024 (View.ld (blk m c 9 t) allS64x1024)
    | ⟨29, _⟩ => stS64x1024 (View.ld (blk m c 9 t) allS64x1024) (blk m c 8 t) (blk m c 10 t) (blk m c 11 t)
    | ⟨30, _⟩ => moS64x1024 (View.ld (blk m c 9 t) allS64x1024) (blk m c 10 t)
    | ⟨31, _⟩ => vaS64x1024 (View.ld (blk m c 9 t) allS64x1024) (blk m c 11 t)
    | ⟨32, _⟩ => cpS64x1024 (View.ld (blk m c 13 t) allS64x1024)
    | ⟨33, _⟩ => stS64x1024 (View.ld (blk m c 13 t) allS64x1024) (blk m c 12 t) (blk m c 14 t) (blk m c 15 t)
    | ⟨34, _⟩ => moS64x1024 (View.ld (blk m c 13 t) allS64x1024) (blk m c 14 t)
    | ⟨35, _⟩ => vaS64x1024 (View.ld (blk m c 13 t) allS64x1024) (blk m c 15 t)
    | ⟨36, _⟩ => cpS64x1024 (View.ld (blk m c 17 t) allS64x1024)
    | ⟨37, _⟩ => stS64x1024 (View.ld (blk m c 17 t) allS64x1024) (blk m c 16 t) (blk m c 18 t) (blk m c 19 t)
    | ⟨38, _⟩ => moS64x1024 (View.ld (blk m c 17 t) allS64x1024) (blk m c 18 t)
    | ⟨39, _⟩ => vaS64x1024 (View.ld (blk m c 17 t) allS64x1024) (blk m c 19 t)
    | ⟨_ + 40, h⟩ => absurd h (Nat.not_lt.2 (Nat.le_add_left _ _))
  Φ _ := Pipeline.ΦA spec0 c
  q _ := fullShare
  owed _ := 0

theorem dat_A (c : Dev nD) (w : Fin cfg0.W) : (dat m 0 c).A w = init m c (Pipeline.arrRef spec0 w) := by
  dsimp only [dat]

theorem after0 (c : Dev nD) (t : Fin cfg0.N) : (dat m 0 c).after 0 t = blk m c 0 t := by dsimp only [dat]
theorem after1 (c : Dev nD) (t : Fin cfg0.N) : (dat m 0 c).after 1 t = blk m c 1 t := by dsimp only [dat]
theorem after2 (c : Dev nD) (t : Fin cfg0.N) : (dat m 0 c).after 2 t = blk m c 2 t := by dsimp only [dat]
theorem after3 (c : Dev nD) (t : Fin cfg0.N) : (dat m 0 c).after 3 t = blk m c 3 t := by dsimp only [dat]
theorem after4 (c : Dev nD) (t : Fin cfg0.N) : (dat m 0 c).after 4 t = blk m c 4 t := by dsimp only [dat]
theorem after5 (c : Dev nD) (t : Fin cfg0.N) : (dat m 0 c).after 5 t = blk m c 5 t := by dsimp only [dat]
theorem after6 (c : Dev nD) (t : Fin cfg0.N) : (dat m 0 c).after 6 t = blk m c 6 t := by dsimp only [dat]
theorem after7 (c : Dev nD) (t : Fin cfg0.N) : (dat m 0 c).after 7 t = blk m c 7 t := by dsimp only [dat]
theorem after8 (c : Dev nD) (t : Fin cfg0.N) : (dat m 0 c).after 8 t = blk m c 8 t := by dsimp only [dat]
theorem after9 (c : Dev nD) (t : Fin cfg0.N) : (dat m 0 c).after 9 t = blk m c 9 t := by dsimp only [dat]
theorem after10 (c : Dev nD) (t : Fin cfg0.N) : (dat m 0 c).after 10 t = blk m c 10 t := by dsimp only [dat]
theorem after11 (c : Dev nD) (t : Fin cfg0.N) : (dat m 0 c).after 11 t = blk m c 11 t := by dsimp only [dat]
theorem after12 (c : Dev nD) (t : Fin cfg0.N) : (dat m 0 c).after 12 t = blk m c 12 t := by dsimp only [dat]
theorem after13 (c : Dev nD) (t : Fin cfg0.N) : (dat m 0 c).after 13 t = blk m c 13 t := by dsimp only [dat]
theorem after14 (c : Dev nD) (t : Fin cfg0.N) : (dat m 0 c).after 14 t = blk m c 14 t := by dsimp only [dat]
theorem after15 (c : Dev nD) (t : Fin cfg0.N) : (dat m 0 c).after 15 t = blk m c 15 t := by dsimp only [dat]
theorem after16 (c : Dev nD) (t : Fin cfg0.N) : (dat m 0 c).after 16 t = blk m c 16 t := by dsimp only [dat]
theorem after17 (c : Dev nD) (t : Fin cfg0.N) : (dat m 0 c).after 17 t = blk m c 17 t := by dsimp only [dat]
theorem after18 (c : Dev nD) (t : Fin cfg0.N) : (dat m 0 c).after 18 t = blk m c 18 t := by dsimp only [dat]
theorem after19 (c : Dev nD) (t : Fin cfg0.N) : (dat m 0 c).after 19 t = blk m c 19 t := by dsimp only [dat]
theorem after20 (c : Dev nD) (t : Fin cfg0.N) : (dat m 0 c).after 20 t = cpS64x1024 (View.ld (blk m c 1 t) allS64x1024) := by dsimp only [dat]
theorem after21 (c : Dev nD) (t : Fin cfg0.N) : (dat m 0 c).after 21 t = stS64x1024 (View.ld (blk m c 1 t) allS64x1024) (blk m c 0 t) (blk m c 2 t) (blk m c 3 t) := by dsimp only [dat]
theorem after22 (c : Dev nD) (t : Fin cfg0.N) : (dat m 0 c).after 22 t = moS64x1024 (View.ld (blk m c 1 t) allS64x1024) (blk m c 2 t) := by dsimp only [dat]
theorem after23 (c : Dev nD) (t : Fin cfg0.N) : (dat m 0 c).after 23 t = vaS64x1024 (View.ld (blk m c 1 t) allS64x1024) (blk m c 3 t) := by dsimp only [dat]
theorem after24 (c : Dev nD) (t : Fin cfg0.N) : (dat m 0 c).after 24 t = cpS64x1024 (View.ld (blk m c 5 t) allS64x1024) := by dsimp only [dat]
theorem after25 (c : Dev nD) (t : Fin cfg0.N) : (dat m 0 c).after 25 t = stS64x1024 (View.ld (blk m c 5 t) allS64x1024) (blk m c 4 t) (blk m c 6 t) (blk m c 7 t) := by dsimp only [dat]
theorem after26 (c : Dev nD) (t : Fin cfg0.N) : (dat m 0 c).after 26 t = moS64x1024 (View.ld (blk m c 5 t) allS64x1024) (blk m c 6 t) := by dsimp only [dat]
theorem after27 (c : Dev nD) (t : Fin cfg0.N) : (dat m 0 c).after 27 t = vaS64x1024 (View.ld (blk m c 5 t) allS64x1024) (blk m c 7 t) := by dsimp only [dat]
theorem after28 (c : Dev nD) (t : Fin cfg0.N) : (dat m 0 c).after 28 t = cpS64x1024 (View.ld (blk m c 9 t) allS64x1024) := by dsimp only [dat]
theorem after29 (c : Dev nD) (t : Fin cfg0.N) : (dat m 0 c).after 29 t = stS64x1024 (View.ld (blk m c 9 t) allS64x1024) (blk m c 8 t) (blk m c 10 t) (blk m c 11 t) := by dsimp only [dat]
theorem after30 (c : Dev nD) (t : Fin cfg0.N) : (dat m 0 c).after 30 t = moS64x1024 (View.ld (blk m c 9 t) allS64x1024) (blk m c 10 t) := by dsimp only [dat]
theorem after31 (c : Dev nD) (t : Fin cfg0.N) : (dat m 0 c).after 31 t = vaS64x1024 (View.ld (blk m c 9 t) allS64x1024) (blk m c 11 t) := by dsimp only [dat]
theorem after32 (c : Dev nD) (t : Fin cfg0.N) : (dat m 0 c).after 32 t = cpS64x1024 (View.ld (blk m c 13 t) allS64x1024) := by dsimp only [dat]
theorem after33 (c : Dev nD) (t : Fin cfg0.N) : (dat m 0 c).after 33 t = stS64x1024 (View.ld (blk m c 13 t) allS64x1024) (blk m c 12 t) (blk m c 14 t) (blk m c 15 t) := by dsimp only [dat]
theorem after34 (c : Dev nD) (t : Fin cfg0.N) : (dat m 0 c).after 34 t = moS64x1024 (View.ld (blk m c 13 t) allS64x1024) (blk m c 14 t) := by dsimp only [dat]
theorem after35 (c : Dev nD) (t : Fin cfg0.N) : (dat m 0 c).after 35 t = vaS64x1024 (View.ld (blk m c 13 t) allS64x1024) (blk m c 15 t) := by dsimp only [dat]
theorem after36 (c : Dev nD) (t : Fin cfg0.N) : (dat m 0 c).after 36 t = cpS64x1024 (View.ld (blk m c 17 t) allS64x1024) := by dsimp only [dat]
theorem after37 (c : Dev nD) (t : Fin cfg0.N) : (dat m 0 c).after 37 t = stS64x1024 (View.ld (blk m c 17 t) allS64x1024) (blk m c 16 t) (blk m c 18 t) (blk m c 19 t) := by dsimp only [dat]
theorem after38 (c : Dev nD) (t : Fin cfg0.N) : (dat m 0 c).after 38 t = moS64x1024 (View.ld (blk m c 17 t) allS64x1024) (blk m c 18 t) := by dsimp only [dat]
theorem after39 (c : Dev nD) (t : Fin cfg0.N) : (dat m 0 c).after 39 t = vaS64x1024 (View.ld (blk m c 17 t) allS64x1024) (blk m c 19 t) := by dsimp only [dat]

theorem before0 (c : Dev nD) (t : Fin cfg0.N) (d) : (dat m 0 c).before 0 t d = blk m c 0 t :=
  ((dat m 0 c).before_in_eq_fetched 0 rfl (fun _ => rfl) (fun _ _ _ => rfl) (fun t => by rw [after0]; rfl) t d).trans rfl
theorem before1 (c : Dev nD) (t : Fin cfg0.N) (d) : (dat m 0 c).before 1 t d = blk m c 1 t :=
  ((dat m 0 c).before_in_eq_fetched 1 rfl (fun _ => rfl) (fun _ _ _ => rfl) (fun t => by rw [after1]; rfl) t d).trans rfl
theorem before2 (c : Dev nD) (t : Fin cfg0.N) (d) : (dat m 0 c).before 2 t d = blk m c 2 t :=
  ((dat m 0 c).before_in_eq_fetched 2 rfl (fun _ => rfl) (fun _ _ _ => rfl) (fun t => by rw [after2]; rfl) t d).trans rfl
theorem before3 (c : Dev nD) (t : Fin cfg0.N) (d) : (dat m 0 c).before 3 t d = blk m c 3 t :=
  ((dat m 0 c).before_in_eq_fetched 3 rfl (fun _ => rfl) (fun _ _ _ => rfl) (fun t => by rw [after3]; rfl) t d).trans rfl
theorem before4 (c : Dev nD) (t : Fin cfg0.N) (d) : (dat m 0 c).before 4 t d = blk m c 4 t :=
  ((dat m 0 c).before_in_eq_fetched 4 rfl (fun _ => rfl) (fun _ _ _ => rfl) (fun t => by rw [after4]; rfl) t d).trans rfl
theorem before5 (c : Dev nD) (t : Fin cfg0.N) (d) : (dat m 0 c).before 5 t d = blk m c 5 t :=
  ((dat m 0 c).before_in_eq_fetched 5 rfl (fun _ => rfl) (fun _ _ _ => rfl) (fun t => by rw [after5]; rfl) t d).trans rfl
theorem before6 (c : Dev nD) (t : Fin cfg0.N) (d) : (dat m 0 c).before 6 t d = blk m c 6 t :=
  ((dat m 0 c).before_in_eq_fetched 6 rfl (fun _ => rfl) (fun _ _ _ => rfl) (fun t => by rw [after6]; rfl) t d).trans rfl
theorem before7 (c : Dev nD) (t : Fin cfg0.N) (d) : (dat m 0 c).before 7 t d = blk m c 7 t :=
  ((dat m 0 c).before_in_eq_fetched 7 rfl (fun _ => rfl) (fun _ _ _ => rfl) (fun t => by rw [after7]; rfl) t d).trans rfl
theorem before8 (c : Dev nD) (t : Fin cfg0.N) (d) : (dat m 0 c).before 8 t d = blk m c 8 t :=
  ((dat m 0 c).before_in_eq_fetched 8 rfl (fun _ => rfl) (fun _ _ _ => rfl) (fun t => by rw [after8]; rfl) t d).trans rfl
theorem before9 (c : Dev nD) (t : Fin cfg0.N) (d) : (dat m 0 c).before 9 t d = blk m c 9 t :=
  ((dat m 0 c).before_in_eq_fetched 9 rfl (fun _ => rfl) (fun _ _ _ => rfl) (fun t => by rw [after9]; rfl) t d).trans rfl
theorem before10 (c : Dev nD) (t : Fin cfg0.N) (d) : (dat m 0 c).before 10 t d = blk m c 10 t :=
  ((dat m 0 c).before_in_eq_fetched 10 rfl (fun _ => rfl) (fun _ _ _ => rfl) (fun t => by rw [after10]; rfl) t d).trans rfl
theorem before11 (c : Dev nD) (t : Fin cfg0.N) (d) : (dat m 0 c).before 11 t d = blk m c 11 t :=
  ((dat m 0 c).before_in_eq_fetched 11 rfl (fun _ => rfl) (fun _ _ _ => rfl) (fun t => by rw [after11]; rfl) t d).trans rfl
theorem before12 (c : Dev nD) (t : Fin cfg0.N) (d) : (dat m 0 c).before 12 t d = blk m c 12 t :=
  ((dat m 0 c).before_in_eq_fetched 12 rfl (fun _ => rfl) (fun _ _ _ => rfl) (fun t => by rw [after12]; rfl) t d).trans rfl
theorem before13 (c : Dev nD) (t : Fin cfg0.N) (d) : (dat m 0 c).before 13 t d = blk m c 13 t :=
  ((dat m 0 c).before_in_eq_fetched 13 rfl (fun _ => rfl) (fun _ _ _ => rfl) (fun t => by rw [after13]; rfl) t d).trans rfl
theorem before14 (c : Dev nD) (t : Fin cfg0.N) (d) : (dat m 0 c).before 14 t d = blk m c 14 t :=
  ((dat m 0 c).before_in_eq_fetched 14 rfl (fun _ => rfl) (fun _ _ _ => rfl) (fun t => by rw [after14]; rfl) t d).trans rfl
theorem before15 (c : Dev nD) (t : Fin cfg0.N) (d) : (dat m 0 c).before 15 t d = blk m c 15 t :=
  ((dat m 0 c).before_in_eq_fetched 15 rfl (fun _ => rfl) (fun _ _ _ => rfl) (fun t => by rw [after15]; rfl) t d).trans rfl
theorem before16 (c : Dev nD) (t : Fin cfg0.N) (d) : (dat m 0 c).before 16 t d = blk m c 16 t :=
  ((dat m 0 c).before_in_eq_fetched 16 rfl (fun _ => rfl) (fun _ _ _ => rfl) (fun t => by rw [after16]; rfl) t d).trans rfl
theorem before17 (c : Dev nD) (t : Fin cfg0.N) (d) : (dat m 0 c).before 17 t d = blk m c 17 t :=
  ((dat m 0 c).before_in_eq_fetched 17 rfl (fun _ => rfl) (fun _ _ _ => rfl) (fun t => by rw [after17]; rfl) t d).trans rfl
theorem before18 (c : Dev nD) (t : Fin cfg0.N) (d) : (dat m 0 c).before 18 t d = blk m c 18 t :=
  ((dat m 0 c).before_in_eq_fetched 18 rfl (fun _ => rfl) (fun _ _ _ => rfl) (fun t => by rw [after18]; rfl) t d).trans rfl
theorem before19 (c : Dev nD) (t : Fin cfg0.N) (d) : (dat m 0 c).before 19 t d = blk m c 19 t :=
  ((dat m 0 c).before_in_eq_fetched 19 rfl (fun _ => rfl) (fun _ _ _ => rfl) (fun t => by rw [after19]; rfl) t d).trans rfl

/-- What the body is given at a point. -/
def Pre (c : Dev nD) (t : Fin cfg0.N) : sProp (Res F) :=
  iprop((dat m 0 c).Φ t.castSucc ∗ (dat m 0 c).owesAt () t.castSucc
    ∗ (∃ d, owns (c : Thread nD τ) (st0_0 t) fullShare ((dat m 0 c).before 0 t d))
      ∗ (∃ d, owns (c : Thread nD τ) (st0_1 t) fullShare ((dat m 0 c).before 1 t d))
      ∗ (∃ d, owns (c : Thread nD τ) (st0_2 t) fullShare ((dat m 0 c).before 2 t d))
      ∗ (∃ d, owns (c : Thread nD τ) (st0_3 t) fullShare ((dat m 0 c).before 3 t d))
      ∗ (∃ d, owns (c : Thread nD τ) (st0_4 t) fullShare ((dat m 0 c).before 4 t d))
      ∗ (∃ d, owns (c : Thread nD τ) (st0_5 t) fullShare ((dat m 0 c).before 5 t d))
      ∗ (∃ d, owns (c : Thread nD τ) (st0_6 t) fullShare ((dat m 0 c).before 6 t d))
      ∗ (∃ d, owns (c : Thread nD τ) (st0_7 t) fullShare ((dat m 0 c).before 7 t d))
      ∗ (∃ d, owns (c : Thread nD τ) (st0_8 t) fullShare ((dat m 0 c).before 8 t d))
      ∗ (∃ d, owns (c : Thread nD τ) (st0_9 t) fullShare ((dat m 0 c).before 9 t d))
      ∗ (∃ d, owns (c : Thread nD τ) (st0_10 t) fullShare ((dat m 0 c).before 10 t d))
      ∗ (∃ d, owns (c : Thread nD τ) (st0_11 t) fullShare ((dat m 0 c).before 11 t d))
      ∗ (∃ d, owns (c : Thread nD τ) (st0_12 t) fullShare ((dat m 0 c).before 12 t d))
      ∗ (∃ d, owns (c : Thread nD τ) (st0_13 t) fullShare ((dat m 0 c).before 13 t d))
      ∗ (∃ d, owns (c : Thread nD τ) (st0_14 t) fullShare ((dat m 0 c).before 14 t d))
      ∗ (∃ d, owns (c : Thread nD τ) (st0_15 t) fullShare ((dat m 0 c).before 15 t d))
      ∗ (∃ d, owns (c : Thread nD τ) (st0_16 t) fullShare ((dat m 0 c).before 16 t d))
      ∗ (∃ d, owns (c : Thread nD τ) (st0_17 t) fullShare ((dat m 0 c).before 17 t d))
      ∗ (∃ d, owns (c : Thread nD τ) (st0_18 t) fullShare ((dat m 0 c).before 18 t d))
      ∗ (∃ d, owns (c : Thread nD τ) (st0_19 t) fullShare ((dat m 0 c).before 19 t d))
      ∗ (∃ d, owns (c : Thread nD τ) (st0_20 t) fullShare ((dat m 0 c).before 20 t d))
      ∗ (∃ d, owns (c : Thread nD τ) (st0_21 t) fullShare ((dat m 0 c).before 21 t d))
      ∗ (∃ d, owns (c : Thread nD τ) (st0_22 t) fullShare ((dat m 0 c).before 22 t d))
      ∗ (∃ d, owns (c : Thread nD τ) (st0_23 t) fullShare ((dat m 0 c).before 23 t d))
      ∗ (∃ d, owns (c : Thread nD τ) (st0_24 t) fullShare ((dat m 0 c).before 24 t d))
      ∗ (∃ d, owns (c : Thread nD τ) (st0_25 t) fullShare ((dat m 0 c).before 25 t d))
      ∗ (∃ d, owns (c : Thread nD τ) (st0_26 t) fullShare ((dat m 0 c).before 26 t d))
      ∗ (∃ d, owns (c : Thread nD τ) (st0_27 t) fullShare ((dat m 0 c).before 27 t d))
      ∗ (∃ d, owns (c : Thread nD τ) (st0_28 t) fullShare ((dat m 0 c).before 28 t d))
      ∗ (∃ d, owns (c : Thread nD τ) (st0_29 t) fullShare ((dat m 0 c).before 29 t d))
      ∗ (∃ d, owns (c : Thread nD τ) (st0_30 t) fullShare ((dat m 0 c).before 30 t d))
      ∗ (∃ d, owns (c : Thread nD τ) (st0_31 t) fullShare ((dat m 0 c).before 31 t d))
      ∗ (∃ d, owns (c : Thread nD τ) (st0_32 t) fullShare ((dat m 0 c).before 32 t d))
      ∗ (∃ d, owns (c : Thread nD τ) (st0_33 t) fullShare ((dat m 0 c).before 33 t d))
      ∗ (∃ d, owns (c : Thread nD τ) (st0_34 t) fullShare ((dat m 0 c).before 34 t d))
      ∗ (∃ d, owns (c : Thread nD τ) (st0_35 t) fullShare ((dat m 0 c).before 35 t d))
      ∗ (∃ d, owns (c : Thread nD τ) (st0_36 t) fullShare ((dat m 0 c).before 36 t d))
      ∗ (∃ d, owns (c : Thread nD τ) (st0_37 t) fullShare ((dat m 0 c).before 37 t d))
      ∗ (∃ d, owns (c : Thread nD τ) (st0_38 t) fullShare ((dat m 0 c).before 38 t d))
      ∗ (∃ d, owns (c : Thread nD τ) (st0_39 t) fullShare ((dat m 0 c).before 39 t d)))

/-- What it leaves there. -/
def Post (c : Dev nD) (t : Fin cfg0.N) : sProp (Res F) :=
  iprop((dat m 0 c).Φ t.succ ∗ (dat m 0 c).owesAt () t.succ
    ∗ owns (c : Thread nD τ) (st0_0 t) fullShare ((dat m 0 c).after 0 t)
      ∗ owns (c : Thread nD τ) (st0_1 t) fullShare ((dat m 0 c).after 1 t)
      ∗ owns (c : Thread nD τ) (st0_2 t) fullShare ((dat m 0 c).after 2 t)
      ∗ owns (c : Thread nD τ) (st0_3 t) fullShare ((dat m 0 c).after 3 t)
      ∗ owns (c : Thread nD τ) (st0_4 t) fullShare ((dat m 0 c).after 4 t)
      ∗ owns (c : Thread nD τ) (st0_5 t) fullShare ((dat m 0 c).after 5 t)
      ∗ owns (c : Thread nD τ) (st0_6 t) fullShare ((dat m 0 c).after 6 t)
      ∗ owns (c : Thread nD τ) (st0_7 t) fullShare ((dat m 0 c).after 7 t)
      ∗ owns (c : Thread nD τ) (st0_8 t) fullShare ((dat m 0 c).after 8 t)
      ∗ owns (c : Thread nD τ) (st0_9 t) fullShare ((dat m 0 c).after 9 t)
      ∗ owns (c : Thread nD τ) (st0_10 t) fullShare ((dat m 0 c).after 10 t)
      ∗ owns (c : Thread nD τ) (st0_11 t) fullShare ((dat m 0 c).after 11 t)
      ∗ owns (c : Thread nD τ) (st0_12 t) fullShare ((dat m 0 c).after 12 t)
      ∗ owns (c : Thread nD τ) (st0_13 t) fullShare ((dat m 0 c).after 13 t)
      ∗ owns (c : Thread nD τ) (st0_14 t) fullShare ((dat m 0 c).after 14 t)
      ∗ owns (c : Thread nD τ) (st0_15 t) fullShare ((dat m 0 c).after 15 t)
      ∗ owns (c : Thread nD τ) (st0_16 t) fullShare ((dat m 0 c).after 16 t)
      ∗ owns (c : Thread nD τ) (st0_17 t) fullShare ((dat m 0 c).after 17 t)
      ∗ owns (c : Thread nD τ) (st0_18 t) fullShare ((dat m 0 c).after 18 t)
      ∗ owns (c : Thread nD τ) (st0_19 t) fullShare ((dat m 0 c).after 19 t)
      ∗ owns (c : Thread nD τ) (st0_20 t) fullShare ((dat m 0 c).after 20 t)
      ∗ owns (c : Thread nD τ) (st0_21 t) fullShare ((dat m 0 c).after 21 t)
      ∗ owns (c : Thread nD τ) (st0_22 t) fullShare ((dat m 0 c).after 22 t)
      ∗ owns (c : Thread nD τ) (st0_23 t) fullShare ((dat m 0 c).after 23 t)
      ∗ owns (c : Thread nD τ) (st0_24 t) fullShare ((dat m 0 c).after 24 t)
      ∗ owns (c : Thread nD τ) (st0_25 t) fullShare ((dat m 0 c).after 25 t)
      ∗ owns (c : Thread nD τ) (st0_26 t) fullShare ((dat m 0 c).after 26 t)
      ∗ owns (c : Thread nD τ) (st0_27 t) fullShare ((dat m 0 c).after 27 t)
      ∗ owns (c : Thread nD τ) (st0_28 t) fullShare ((dat m 0 c).after 28 t)
      ∗ owns (c : Thread nD τ) (st0_29 t) fullShare ((dat m 0 c).after 29 t)
      ∗ owns (c : Thread nD τ) (st0_30 t) fullShare ((dat m 0 c).after 30 t)
      ∗ owns (c : Thread nD τ) (st0_31 t) fullShare ((dat m 0 c).after 31 t)
      ∗ owns (c : Thread nD τ) (st0_32 t) fullShare ((dat m 0 c).after 32 t)
      ∗ owns (c : Thread nD τ) (st0_33 t) fullShare ((dat m 0 c).after 33 t)
      ∗ owns (c : Thread nD τ) (st0_34 t) fullShare ((dat m 0 c).after 34 t)
      ∗ owns (c : Thread nD τ) (st0_35 t) fullShare ((dat m 0 c).after 35 t)
      ∗ owns (c : Thread nD τ) (st0_36 t) fullShare ((dat m 0 c).after 36 t)
      ∗ owns (c : Thread nD τ) (st0_37 t) fullShare ((dat m 0 c).after 37 t)
      ∗ owns (c : Thread nD τ) (st0_38 t) fullShare ((dat m 0 c).after 38 t)
      ∗ owns (c : Thread nD τ) (st0_39 t) fullShare ((dat m 0 c).after 39 t))

set_option maxHeartbeats 8000000 in
theorem body_at (c : Dev nD) (t : Fin cfg0.N) :
    Pre m c t ⊢ wp frame (wpE (defs₀ (F := F)) Variants.none c none) Set.univ (bodyAt0 t) (fun _ => Post m c t) := by
  unfold Pre Post bodyAt0
  simp only [before0, before1, before2, before3, before4, before5, before6, before7, before8, before9,
      before10, before11, before12, before13, before14, before15, before16, before17, before18, before19]
  rw [show (dat m 0 c).Φ t.succ = (dat m 0 c).Φ t.castSucc from rfl,
    show (dat m 0 c).owesAt () t.succ = (dat m 0 c).owesAt () t.castSucc from rfl,
    after0, after1, after2, after3, after4, after5, after6, after7, after8, after9,
      after10, after11, after12, after13, after14, after15, after16, after17, after18, after19,
      after20, after21, after22, after23, after24, after25, after26, after27, after28, after29,
      after30, after31, after32, after33, after34, after35, after36, after37, after38, after39]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩,
      ⟨%d8, H8⟩, ⟨%d9, H9⟩, ⟨%d10, H10⟩, ⟨%d11, H11⟩, ⟨%d12, H12⟩, ⟨%d13, H13⟩, ⟨%d14, H14⟩, ⟨%d15, H15⟩,
      ⟨%d16, H16⟩, ⟨%d17, H17⟩, ⟨%d18, H18⟩, ⟨%d19, H19⟩, ⟨%d20, H20⟩, ⟨%d21, H21⟩, ⟨%d22, H22⟩, ⟨%d23, H23⟩,
      ⟨%d24, H24⟩, ⟨%d25, H25⟩, ⟨%d26, H26⟩, ⟨%d27, H27⟩, ⟨%d28, H28⟩, ⟨%d29, H29⟩, ⟨%d30, H30⟩, ⟨%d31, H31⟩,
      ⟨%d32, H32⟩, ⟨%d33, H33⟩, ⟨%d34, H34⟩, ⟨%d35, H35⟩, ⟨%d36, H36⟩, ⟨%d37, H37⟩, ⟨%d38, H38⟩, ⟨%d39, H39⟩⟩
  iapply (body c Set.univ (grid0.coords t) _ _ _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _
      (blk m c 0 t) (blk m c 1 t) (blk m c 2 t) (blk m c 3 t) (blk m c 4 t) (blk m c 5 t)
      (blk m c 6 t) (blk m c 7 t) (blk m c 8 t) (blk m c 9 t) (blk m c 10 t) (blk m c 11 t)
      (blk m c 12 t) (blk m c 13 t) (blk m c 14 t) (blk m c 15 t) (blk m c 16 t) (blk m c 17 t)
      (blk m c 18 t) (blk m c 19 t) _)
  unfold Ins Any Outs
  isplitl [H0 H1 H2 H3 H4 H5 H6 H7 H8 H9 H10 H11 H12 H13 H14 H15 H16 H17 H18 H19]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  isplitl [H20 H21 H22 H23 H24 H25 H26 H27 H28 H29 H30 H31 H32 H33 H34 H35 H36 H37 H38 H39]
  · isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [H36]; · iexists _; iexact H36
    isplitl [H37]; · iexists _; iexact H37
    isplitl [H38]; · iexists _; iexact H38
    iexists _; iexact H39
  iintro ⟨⟨H0, H1, H2, H3, H4, H5, H6, H7, H8, H9, H10, H11, H12, H13, H14, H15, H16, H17, H18, H19⟩, H20, H21, H22, H23, H24, H25, H26, H27, H28, H29, H30, H31, H32, H33, H34, H35, H36, H37, H38, H39⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  iexact H39

set_option maxHeartbeats 8000000 in
theorem obligation (c : Dev nD) : BodyObligation (dat (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

set_option backward.isDefEq.respectTransparency.types false in
set_option maxHeartbeats 4000000 in
theorem quiet : θ_run defs (onTc (τ := τ) (main (F := F))) (s₀ m ρ) (fun r => (Pipeline.FramePost cfgs (dat m) 0 (init m)) r ∧ r.2.sem = fun _ => 0) :=
  Pipeline.θ_run_frame (Q' := _) cfgs (dat m) (0 : Fin 1) launch0 defs₀ Variants.none m ρ main
    (hbody := fun c => (obligation m c).loose) (hshare := fun c => (dat m 0 c).share_full fun _ => rfl)
    (howed := fun _ _ => rfl) (V := init m) (hmain := enter m Variants.none) (hA := dat_A m) (hΦ := fun _ _ => rfl)

set_option maxHeartbeats 4000000 in
/-- Every result is what the pipeline flushed, every argument is as it was, and no signal is outstanding. -/
theorem run : θ_run defs (onTc (τ := τ) (main (F := F))) ⟨m, fun _ => 0, ρ⟩ (fun r => (∀ c : Dev nD,
    (r.2.mem ((c.tc : Thread nD τ).loc main_v0_0) = (dat m 0 c).arrAt 20 cfg0.N ∧
      r.2.mem ((c.tc : Thread nD τ).loc main_v0_1) = (dat m 0 c).arrAt 21 cfg0.N ∧
      r.2.mem ((c.tc : Thread nD τ).loc main_v0_2) = (dat m 0 c).arrAt 22 cfg0.N ∧
      r.2.mem ((c.tc : Thread nD τ).loc main_v0_3) = (dat m 0 c).arrAt 23 cfg0.N ∧
      r.2.mem ((c.tc : Thread nD τ).loc main_v0_4) = (dat m 0 c).arrAt 24 cfg0.N ∧
      r.2.mem ((c.tc : Thread nD τ).loc main_v0_5) = (dat m 0 c).arrAt 25 cfg0.N ∧
      r.2.mem ((c.tc : Thread nD τ).loc main_v0_6) = (dat m 0 c).arrAt 26 cfg0.N ∧
      r.2.mem ((c.tc : Thread nD τ).loc main_v0_7) = (dat m 0 c).arrAt 27 cfg0.N ∧
      r.2.mem ((c.tc : Thread nD τ).loc main_v0_8) = (dat m 0 c).arrAt 28 cfg0.N ∧
      r.2.mem ((c.tc : Thread nD τ).loc main_v0_9) = (dat m 0 c).arrAt 29 cfg0.N ∧
      r.2.mem ((c.tc : Thread nD τ).loc main_v0_10) = (dat m 0 c).arrAt 30 cfg0.N ∧
      r.2.mem ((c.tc : Thread nD τ).loc main_v0_11) = (dat m 0 c).arrAt 31 cfg0.N ∧
      r.2.mem ((c.tc : Thread nD τ).loc main_v0_12) = (dat m 0 c).arrAt 32 cfg0.N ∧
      r.2.mem ((c.tc : Thread nD τ).loc main_v0_13) = (dat m 0 c).arrAt 33 cfg0.N ∧
      r.2.mem ((c.tc : Thread nD τ).loc main_v0_14) = (dat m 0 c).arrAt 34 cfg0.N ∧
      r.2.mem ((c.tc : Thread nD τ).loc main_v0_15) = (dat m 0 c).arrAt 35 cfg0.N ∧
      r.2.mem ((c.tc : Thread nD τ).loc main_v0_16) = (dat m 0 c).arrAt 36 cfg0.N ∧
      r.2.mem ((c.tc : Thread nD τ).loc main_v0_17) = (dat m 0 c).arrAt 37 cfg0.N ∧
      r.2.mem ((c.tc : Thread nD τ).loc main_v0_18) = (dat m 0 c).arrAt 38 cfg0.N ∧
      r.2.mem ((c.tc : Thread nD τ).loc main_v0_19) = (dat m 0 c).arrAt 39 cfg0.N)
    ∧ r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19))
    ∧ r.2.sem = fun _ => 0) :=
  (θ_run defs _ _).mono (fun r h => ⟨fun c => ⟨⟨(h.1 c).1 20, (h.1 c).1 21, (h.1 c).1 22, (h.1 c).1 23, (h.1 c).1 24, (h.1 c).1 25,
      (h.1 c).1 26, (h.1 c).1 27, (h.1 c).1 28, (h.1 c).1 29, (h.1 c).1 30, (h.1 c).1 31,
      (h.1 c).1 32, (h.1 c).1 33, (h.1 c).1 34, (h.1 c).1 35, (h.1 c).1 36, (h.1 c).1 37,
      (h.1 c).1 38, (h.1 c).1 39⟩,
    ((h.1 c).1 0).trans (((dat m 0 c).arrAt_in 0 rfl _).trans (dat_A m c 0)),
      ((h.1 c).1 1).trans (((dat m 0 c).arrAt_in 1 rfl _).trans (dat_A m c 1)),
      ((h.1 c).1 2).trans (((dat m 0 c).arrAt_in 2 rfl _).trans (dat_A m c 2)),
      ((h.1 c).1 3).trans (((dat m 0 c).arrAt_in 3 rfl _).trans (dat_A m c 3)),
      ((h.1 c).1 4).trans (((dat m 0 c).arrAt_in 4 rfl _).trans (dat_A m c 4)),
      ((h.1 c).1 5).trans (((dat m 0 c).arrAt_in 5 rfl _).trans (dat_A m c 5)),
      ((h.1 c).1 6).trans (((dat m 0 c).arrAt_in 6 rfl _).trans (dat_A m c 6)),
      ((h.1 c).1 7).trans (((dat m 0 c).arrAt_in 7 rfl _).trans (dat_A m c 7)),
      ((h.1 c).1 8).trans (((dat m 0 c).arrAt_in 8 rfl _).trans (dat_A m c 8)),
      ((h.1 c).1 9).trans (((dat m 0 c).arrAt_in 9 rfl _).trans (dat_A m c 9)),
      ((h.1 c).1 10).trans (((dat m 0 c).arrAt_in 10 rfl _).trans (dat_A m c 10)),
      ((h.1 c).1 11).trans (((dat m 0 c).arrAt_in 11 rfl _).trans (dat_A m c 11)),
      ((h.1 c).1 12).trans (((dat m 0 c).arrAt_in 12 rfl _).trans (dat_A m c 12)),
      ((h.1 c).1 13).trans (((dat m 0 c).arrAt_in 13 rfl _).trans (dat_A m c 13)),
      ((h.1 c).1 14).trans (((dat m 0 c).arrAt_in 14 rfl _).trans (dat_A m c 14)),
      ((h.1 c).1 15).trans (((dat m 0 c).arrAt_in 15 rfl _).trans (dat_A m c 15)),
      ((h.1 c).1 16).trans (((dat m 0 c).arrAt_in 16 rfl _).trans (dat_A m c 16)),
      ((h.1 c).1 17).trans (((dat m 0 c).arrAt_in 17 rfl _).trans (dat_A m c 17)),
      ((h.1 c).1 18).trans (((dat m 0 c).arrAt_in 18 rfl _).trans (dat_A m c 18)),
      ((h.1 c).1 19).trans (((dat m 0 c).arrAt_in 19 rfl _).trans (dat_A m c 19))⟩, h.2⟩) (quiet m ρ)

/-- The arguments are left as they were. -/
theorem kept : θ_run defs (onTc (τ := τ) (main (F := F))) ⟨m, fun _ => 0, ρ⟩ (fun r => (∀ c : Dev nD,
    r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19))
    ∧ r.2.sem = fun _ => 0) :=
  (θ_run defs _ _).mono (fun r h => ⟨fun c => (h.1 c).2, h.2⟩) (run m ρ)
end

end Cert.Kernel24Ideal.Opt
-- ==== Proof.AdamLate.lean ====
module

public import proofs.«01_k».proof.Defs
public import proofs.«01_k».proof.Proof.OptLateI
public import proofs.«01_k».proof.Proof.Gen.Reference24Ideal.Run
public import proofs.«01_k».proof.Proof.AdamMath
public import Idealize.ShloMosaic.Lib.Claim
public import Idealize.ShloMosaic.Lib.IdealHost
public import Idealize.ShloMosaic.Lib.Pipeline.ValueKit.Point

@[expose] public section

set_option maxRecDepth 16384

noncomputable section

/-! The optimiser on the five square weights. -/

namespace Cert.Kernel24Ideal.AdamLate

open Cert.Kernel24Ideal Cert.Kernel24Ideal.Gen Cert.Kernel24Ideal.Opt Idealize.ShloMosaic Idealize.ShloMosaic.TcCoe Idealize.SL.Sem Cert.Adam

section
variable (g w m v : Vec Ideal S64x1024 .f32) (r : Fin 64) (l : Fin 1024)

theorem cpS64x1024_at : cpS64x1024 (F := Ideal) g (ix2 r l) = g (ix2 r l) := by
  unfold cpS64x1024
  frame_out

theorem stS64x1024_at : stS64x1024 (F := Ideal) g w m v (ix2 r l) = step (w (ix2 r l)) (g (ix2 r l)) (m (ix2 r l)) (v (ix2 r l)) := by
  unfold stS64x1024
  frame_out
  pointwise [k0_pay3, k0_pay1, k0_pay2, step, newM, newV]

theorem moS64x1024_at : moS64x1024 (F := Ideal) g m (ix2 r l) = newM (g (ix2 r l)) (m (ix2 r l)) := by
  unfold moS64x1024
  frame_out
  pointwise [k0_pay1, step, newM, newV]

theorem vaS64x1024_at : vaS64x1024 (F := Ideal) g v (ix2 r l) = newV (g (ix2 r l)) (v (ix2 r l)) := by
  unfold vaS64x1024
  frame_out
  pointwise [k0_pay2, step, newM, newV]
end

theorem ld_all (x : Vec Ideal S64x1024 .f32) : View.ld x allS64x1024 = x := View.ld_unit_lit _ x (by decide)

theorem step_eq {w w' g g' m m' v v' : EReal} (hw : w = w') (hg : g = g') (hm : m = m') (hv : v = v') : step w g m v = step w' g' m' v' := by
  rw [hw, hg, hm, hv]

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)
theorem idx17 : ∀ t : Fin cfg0.N, win0_17.index t = ![t.val, 0] := (by decide +kernel : ∀ t : Fin grid0.N, _)
theorem idx18 : ∀ t : Fin cfg0.N, win0_18.index t = ![t.val, 0] := (by decide +kernel : ∀ t : Fin grid0.N, _)
theorem idx19 : ∀ t : Fin cfg0.N, win0_19.index t = ![t.val, 0] := (by decide +kernel : ∀ t : Fin grid0.N, _)
theorem idx20 : ∀ t : Fin cfg0.N, win0_20.index t = ![t.val, 0] := (by decide +kernel : ∀ t : Fin grid0.N, _)
theorem idx21 : ∀ t : Fin cfg0.N, win0_21.index t = ![t.val, 0] := (by decide +kernel : ∀ t : Fin grid0.N, _)
theorem idx22 : ∀ t : Fin cfg0.N, win0_22.index t = ![t.val, 0] := (by decide +kernel : ∀ t : Fin grid0.N, _)
theorem idx23 : ∀ t : Fin cfg0.N, win0_23.index t = ![t.val, 0] := (by decide +kernel : ∀ t : Fin grid0.N, _)
theorem idx24 : ∀ t : Fin cfg0.N, win0_24.index t = ![t.val, 0] := (by decide +kernel : ∀ t : Fin grid0.N, _)
theorem idx25 : ∀ t : Fin cfg0.N, win0_25.index t = ![t.val, 0] := (by decide +kernel : ∀ t : Fin grid0.N, _)
theorem idx26 : ∀ t : Fin cfg0.N, win0_26.index t = ![t.val, 0] := (by decide +kernel : ∀ t : Fin grid0.N, _)
theorem idx27 : ∀ t : Fin cfg0.N, win0_27.index t = ![t.val, 0] := (by decide +kernel : ∀ t : Fin grid0.N, _)
theorem idx28 : ∀ t : Fin cfg0.N, win0_28.index t = ![t.val, 0] := (by decide +kernel : ∀ t : Fin grid0.N, _)
theorem idx29 : ∀ t : Fin cfg0.N, win0_29.index t = ![t.val, 0] := (by decide +kernel : ∀ t : Fin grid0.N, _)
theorem idx30 : ∀ t : Fin cfg0.N, win0_30.index t = ![t.val, 0] := (by decide +kernel : ∀ t : Fin grid0.N, _)
theorem idx31 : ∀ t : Fin cfg0.N, win0_31.index t = ![t.val, 0] := (by decide +kernel : ∀ t : Fin grid0.N, _)
theorem idx32 : ∀ t : Fin cfg0.N, win0_32.index t = ![t.val, 0] := (by decide +kernel : ∀ t : Fin grid0.N, _)
theorem idx33 : ∀ t : Fin cfg0.N, win0_33.index t = ![t.val, 0] := (by decide +kernel : ∀ t : Fin grid0.N, _)
theorem idx34 : ∀ t : Fin cfg0.N, win0_34.index t = ![t.val, 0] := (by decide +kernel : ∀ t : Fin grid0.N, _)
theorem idx35 : ∀ t : Fin cfg0.N, win0_35.index t = ![t.val, 0] := (by decide +kernel : ∀ t : Fin grid0.N, _)
theorem idx36 : ∀ t : Fin cfg0.N, win0_36.index t = ![t.val, 0] := (by decide +kernel : ∀ t : Fin grid0.N, _)
theorem idx37 : ∀ t : Fin cfg0.N, win0_37.index t = ![t.val, 0] := (by decide +kernel : ∀ t : Fin grid0.N, _)
theorem idx38 : ∀ t : Fin cfg0.N, win0_38.index t = ![t.val, 0] := (by decide +kernel : ∀ t : Fin grid0.N, _)
theorem idx39 : ∀ t : Fin cfg0.N, win0_39.index t = ![t.val, 0] := (by decide +kernel : ∀ t : Fin grid0.N, _)

/-- Row `r` of tile `t`. -/
abbrev row (t : Fin cfg0.N) (r : Fin 64) : Fin 256 := ⟨t.val * 64 + r, by have : t.val < 4 := t.isLt; omega⟩

theorem in0 (t : Fin cfg0.N) (r : Fin 64) (l : Fin 1024) : blk m c 0 t (ix2 r l) = m ((c.tc : Thread nD τ).loc main_arg0) (ix2 (row t r) l) := by
  blk_ext! [blk, init, idx0 t]

theorem in1 (t : Fin cfg0.N) (r : Fin 64) (l : Fin 1024) : blk m c 1 t (ix2 r l) = m ((c.tc : Thread nD τ).loc main_arg1) (ix2 (row t r) l) := by
  blk_ext! [blk, init, idx1 t]

theorem ld1 (t : Fin cfg0.N) (r : Fin 64) (l : Fin 1024) : View.ld (blk m c 1 t) allS64x1024 (ix2 r l) = m ((c.tc : Thread nD τ).loc main_arg1) (ix2 (row t r) l) :=
  (congrFun (ld_all (blk m c 1 t)) (ix2 r l)).trans (in1 m c t r l)

theorem in2 (t : Fin cfg0.N) (r : Fin 64) (l : Fin 1024) : blk m c 2 t (ix2 r l) = m ((c.tc : Thread nD τ).loc main_arg2) (ix2 (row t r) l) := by
  blk_ext! [blk, init, idx2 t]

theorem in3 (t : Fin cfg0.N) (r : Fin 64) (l : Fin 1024) : blk m c 3 t (ix2 r l) = m ((c.tc : Thread nD τ).loc main_arg3) (ix2 (row t r) l) := by
  blk_ext! [blk, init, idx3 t]

theorem in4 (t : Fin cfg0.N) (r : Fin 64) (l : Fin 1024) : blk m c 4 t (ix2 r l) = m ((c.tc : Thread nD τ).loc main_arg4) (ix2 (row t r) l) := by
  blk_ext! [blk, init, idx4 t]

theorem in5 (t : Fin cfg0.N) (r : Fin 64) (l : Fin 1024) : blk m c 5 t (ix2 r l) = m ((c.tc : Thread nD τ).loc main_arg5) (ix2 (row t r) l) := by
  blk_ext! [blk, init, idx5 t]

theorem ld5 (t : Fin cfg0.N) (r : Fin 64) (l : Fin 1024) : View.ld (blk m c 5 t) allS64x1024 (ix2 r l) = m ((c.tc : Thread nD τ).loc main_arg5) (ix2 (row t r) l) :=
  (congrFun (ld_all (blk m c 5 t)) (ix2 r l)).trans (in5 m c t r l)

theorem in6 (t : Fin cfg0.N) (r : Fin 64) (l : Fin 1024) : blk m c 6 t (ix2 r l) = m ((c.tc : Thread nD τ).loc main_arg6) (ix2 (row t r) l) := by
  blk_ext! [blk, init, idx6 t]

theorem in7 (t : Fin cfg0.N) (r : Fin 64) (l : Fin 1024) : blk m c 7 t (ix2 r l) = m ((c.tc : Thread nD τ).loc main_arg7) (ix2 (row t r) l) := by
  blk_ext! [blk, init, idx7 t]

theorem in8 (t : Fin cfg0.N) (r : Fin 64) (l : Fin 1024) : blk m c 8 t (ix2 r l) = m ((c.tc : Thread nD τ).loc main_arg8) (ix2 (row t r) l) := by
  blk_ext! [blk, init, idx8 t]

theorem in9 (t : Fin cfg0.N) (r : Fin 64) (l : Fin 1024) : blk m c 9 t (ix2 r l) = m ((c.tc : Thread nD τ).loc main_arg9) (ix2 (row t r) l) := by
  blk_ext! [blk, init, idx9 t]

theorem ld9 (t : Fin cfg0.N) (r : Fin 64) (l : Fin 1024) : View.ld (blk m c 9 t) allS64x1024 (ix2 r l) = m ((c.tc : Thread nD τ).loc main_arg9) (ix2 (row t r) l) :=
  (congrFun (ld_all (blk m c 9 t)) (ix2 r l)).trans (in9 m c t r l)

theorem in10 (t : Fin cfg0.N) (r : Fin 64) (l : Fin 1024) : blk m c 10 t (ix2 r l) = m ((c.tc : Thread nD τ).loc main_arg10) (ix2 (row t r) l) := by
  blk_ext! [blk, init, idx10 t]

theorem in11 (t : Fin cfg0.N) (r : Fin 64) (l : Fin 1024) : blk m c 11 t (ix2 r l) = m ((c.tc : Thread nD τ).loc main_arg11) (ix2 (row t r) l) := by
  blk_ext! [blk, init, idx11 t]

theorem in12 (t : Fin cfg0.N) (r : Fin 64) (l : Fin 1024) : blk m c 12 t (ix2 r l) = m ((c.tc : Thread nD τ).loc main_arg12) (ix2 (row t r) l) := by
  blk_ext! [blk, init, idx12 t]

theorem in13 (t : Fin cfg0.N) (r : Fin 64) (l : Fin 1024) : blk m c 13 t (ix2 r l) = m ((c.tc : Thread nD τ).loc main_arg13) (ix2 (row t r) l) := by
  blk_ext! [blk, init, idx13 t]

theorem ld13 (t : Fin cfg0.N) (r : Fin 64) (l : Fin 1024) : View.ld (blk m c 13 t) allS64x1024 (ix2 r l) = m ((c.tc : Thread nD τ).loc main_arg13) (ix2 (row t r) l) :=
  (congrFun (ld_all (blk m c 13 t)) (ix2 r l)).trans (in13 m c t r l)

theorem in14 (t : Fin cfg0.N) (r : Fin 64) (l : Fin 1024) : blk m c 14 t (ix2 r l) = m ((c.tc : Thread nD τ).loc main_arg14) (ix2 (row t r) l) := by
  blk_ext! [blk, init, idx14 t]

theorem in15 (t : Fin cfg0.N) (r : Fin 64) (l : Fin 1024) : blk m c 15 t (ix2 r l) = m ((c.tc : Thread nD τ).loc main_arg15) (ix2 (row t r) l) := by
  blk_ext! [blk, init, idx15 t]

theorem in16 (t : Fin cfg0.N) (r : Fin 64) (l : Fin 1024) : blk m c 16 t (ix2 r l) = m ((c.tc : Thread nD τ).loc main_arg16) (ix2 (row t r) l) := by
  blk_ext! [blk, init, idx16 t]

theorem in17 (t : Fin cfg0.N) (r : Fin 64) (l : Fin 1024) : blk m c 17 t (ix2 r l) = m ((c.tc : Thread nD τ).loc main_arg17) (ix2 (row t r) l) := by
  blk_ext! [blk, init, idx17 t]

theorem ld17 (t : Fin cfg0.N) (r : Fin 64) (l : Fin 1024) : View.ld (blk m c 17 t) allS64x1024 (ix2 r l) = m ((c.tc : Thread nD τ).loc main_arg17) (ix2 (row t r) l) :=
  (congrFun (ld_all (blk m c 17 t)) (ix2 r l)).trans (in17 m c t r l)

theorem in18 (t : Fin cfg0.N) (r : Fin 64) (l : Fin 1024) : blk m c 18 t (ix2 r l) = m ((c.tc : Thread nD τ).loc main_arg18) (ix2 (row t r) l) := by
  blk_ext! [blk, init, idx18 t]

theorem in19 (t : Fin cfg0.N) (r : Fin 64) (l : Fin 1024) : blk m c 19 t (ix2 r l) = m ((c.tc : Thread nD τ).loc main_arg19) (ix2 (row t r) l) := by
  blk_ext! [blk, init, idx19 t]

theorem final_20 : (dat m 0 c).arrAt 20 cfg0.N = (m ((c.tc : Thread nD τ).loc main_arg1)) := by
  refine (dat m 0 c).arrAt_eq_of_covers 20 _ (by decide +kernel) fun t hf y => ?_
  blk_simp
  rw [after20]
  idx_vars y
  have e : (((View.whole main_v0_0).slice (win0_20.rect t)).emb (ix2 y0 y1)) = ix2 (row t y0) y1 := by blk_ext [idx20 t]
  rw [e]
  exact (cpS64x1024_at _ y0 y1).trans ((ld1 m c t y0 y1).trans rfl)

theorem final_21 : (dat m 0 c).arrAt 21 cfg0.N = (hostStep Cert.Reference24Ideal.Gen.bcast_S_S256x1024 (m ((c.tc : Thread nD τ).loc main_arg0)) (m ((c.tc : Thread nD τ).loc main_arg1)) (m ((c.tc : Thread nD τ).loc main_arg2)) (m ((c.tc : Thread nD τ).loc main_arg3))) := by
  refine (dat m 0 c).arrAt_eq_of_covers 21 _ (by decide +kernel) fun t hf y => ?_
  blk_simp
  rw [after21]
  idx_vars y
  have e : (((View.whole main_v0_1).slice (win0_21.rect t)).emb (ix2 y0 y1)) = ix2 (row t y0) y1 := by blk_ext [idx21 t]
  rw [e]
  exact (stS64x1024_at _ _ _ _ y0 y1).trans ((step_eq (in0 m c t y0 y1) (ld1 m c t y0 y1) (in2 m c t y0 y1) (in3 m c t y0 y1)).trans (hostStep_at ..).symm)

theorem final_22 : (dat m 0 c).arrAt 22 cfg0.N = (hostM Cert.Reference24Ideal.Gen.bcast_S_S256x1024 (m ((c.tc : Thread nD τ).loc main_arg1)) (m ((c.tc : Thread nD τ).loc main_arg2))) := by
  refine (dat m 0 c).arrAt_eq_of_covers 22 _ (by decide +kernel) fun t hf y => ?_
  blk_simp
  rw [after22]
  idx_vars y
  have e : (((View.whole main_v0_2).slice (win0_22.rect t)).emb (ix2 y0 y1)) = ix2 (row t y0) y1 := by blk_ext [idx22 t]
  rw [e]
  exact (moS64x1024_at _ _ y0 y1).trans ((congr (congrArg newM (ld1 m c t y0 y1)) (in2 m c t y0 y1)).trans (hostM_at ..).symm)

theorem final_23 : (dat m 0 c).arrAt 23 cfg0.N = (hostV Cert.Reference24Ideal.Gen.bcast_S_S256x1024 (m ((c.tc : Thread nD τ).loc main_arg1)) (m ((c.tc : Thread nD τ).loc main_arg3))) := by
  refine (dat m 0 c).arrAt_eq_of_covers 23 _ (by decide +kernel) fun t hf y => ?_
  blk_simp
  rw [after23]
  idx_vars y
  have e : (((View.whole main_v0_3).slice (win0_23.rect t)).emb (ix2 y0 y1)) = ix2 (row t y0) y1 := by blk_ext [idx23 t]
  rw [e]
  exact (vaS64x1024_at _ _ y0 y1).trans ((congr (congrArg newV (ld1 m c t y0 y1)) (in3 m c t y0 y1)).trans (hostV_at ..).symm)

theorem final_24 : (dat m 0 c).arrAt 24 cfg0.N = (m ((c.tc : Thread nD τ).loc main_arg5)) := by
  refine (dat m 0 c).arrAt_eq_of_covers 24 _ (by decide +kernel) fun t hf y => ?_
  blk_simp
  rw [after24]
  idx_vars y
  have e : (((View.whole main_v0_4).slice (win0_24.rect t)).emb (ix2 y0 y1)) = ix2 (row t y0) y1 := by blk_ext [idx24 t]
  rw [e]
  exact (cpS64x1024_at _ y0 y1).trans ((ld5 m c t y0 y1).trans rfl)

theorem final_25 : (dat m 0 c).arrAt 25 cfg0.N = (hostStep Cert.Reference24Ideal.Gen.bcast_S_S256x1024 (m ((c.tc : Thread nD τ).loc main_arg4)) (m ((c.tc : Thread nD τ).loc main_arg5)) (m ((c.tc : Thread nD τ).loc main_arg6)) (m ((c.tc : Thread nD τ).loc main_arg7))) := by
  refine (dat m 0 c).arrAt_eq_of_covers 25 _ (by decide +kernel) fun t hf y => ?_
  blk_simp
  rw [after25]
  idx_vars y
  have e : (((View.whole main_v0_5).slice (win0_25.rect t)).emb (ix2 y0 y1)) = ix2 (row t y0) y1 := by blk_ext [idx25 t]
  rw [e]
  exact (stS64x1024_at _ _ _ _ y0 y1).trans ((step_eq (in4 m c t y0 y1) (ld5 m c t y0 y1) (in6 m c t y0 y1) (in7 m c t y0 y1)).trans (hostStep_at ..).symm)

theorem final_26 : (dat m 0 c).arrAt 26 cfg0.N = (hostM Cert.Reference24Ideal.Gen.bcast_S_S256x1024 (m ((c.tc : Thread nD τ).loc main_arg5)) (m ((c.tc : Thread nD τ).loc main_arg6))) := by
  refine (dat m 0 c).arrAt_eq_of_covers 26 _ (by decide +kernel) fun t hf y => ?_
  blk_simp
  rw [after26]
  idx_vars y
  have e : (((View.whole main_v0_6).slice (win0_26.rect t)).emb (ix2 y0 y1)) = ix2 (row t y0) y1 := by blk_ext [idx26 t]
  rw [e]
  exact (moS64x1024_at _ _ y0 y1).trans ((congr (congrArg newM (ld5 m c t y0 y1)) (in6 m c t y0 y1)).trans (hostM_at ..).symm)

theorem final_27 : (dat m 0 c).arrAt 27 cfg0.N = (hostV Cert.Reference24Ideal.Gen.bcast_S_S256x1024 (m ((c.tc : Thread nD τ).loc main_arg5)) (m ((c.tc : Thread nD τ).loc main_arg7))) := by
  refine (dat m 0 c).arrAt_eq_of_covers 27 _ (by decide +kernel) fun t hf y => ?_
  blk_simp
  rw [after27]
  idx_vars y
  have e : (((View.whole main_v0_7).slice (win0_27.rect t)).emb (ix2 y0 y1)) = ix2 (row t y0) y1 := by blk_ext [idx27 t]
  rw [e]
  exact (vaS64x1024_at _ _ y0 y1).trans ((congr (congrArg newV (ld5 m c t y0 y1)) (in7 m c t y0 y1)).trans (hostV_at ..).symm)

theorem final_28 : (dat m 0 c).arrAt 28 cfg0.N = (m ((c.tc : Thread nD τ).loc main_arg9)) := by
  refine (dat m 0 c).arrAt_eq_of_covers 28 _ (by decide +kernel) fun t hf y => ?_
  blk_simp
  rw [after28]
  idx_vars y
  have e : (((View.whole main_v0_8).slice (win0_28.rect t)).emb (ix2 y0 y1)) = ix2 (row t y0) y1 := by blk_ext [idx28 t]
  rw [e]
  exact (cpS64x1024_at _ y0 y1).trans ((ld9 m c t y0 y1).trans rfl)

theorem final_29 : (dat m 0 c).arrAt 29 cfg0.N = (hostStep Cert.Reference24Ideal.Gen.bcast_S_S256x1024 (m ((c.tc : Thread nD τ).loc main_arg8)) (m ((c.tc : Thread nD τ).loc main_arg9)) (m ((c.tc : Thread nD τ).loc main_arg10)) (m ((c.tc : Thread nD τ).loc main_arg11))) := by
  refine (dat m 0 c).arrAt_eq_of_covers 29 _ (by decide +kernel) fun t hf y => ?_
  blk_simp
  rw [after29]
  idx_vars y
  have e : (((View.whole main_v0_9).slice (win0_29.rect t)).emb (ix2 y0 y1)) = ix2 (row t y0) y1 := by blk_ext [idx29 t]
  rw [e]
  exact (stS64x1024_at _ _ _ _ y0 y1).trans ((step_eq (in8 m c t y0 y1) (ld9 m c t y0 y1) (in10 m c t y0 y1) (in11 m c t y0 y1)).trans (hostStep_at ..).symm)

theorem final_30 : (dat m 0 c).arrAt 30 cfg0.N = (hostM Cert.Reference24Ideal.Gen.bcast_S_S256x1024 (m ((c.tc : Thread nD τ).loc main_arg9)) (m ((c.tc : Thread nD τ).loc main_arg10))) := by
  refine (dat m 0 c).arrAt_eq_of_covers 30 _ (by decide +kernel) fun t hf y => ?_
  blk_simp
  rw [after30]
  idx_vars y
  have e : (((View.whole main_v0_10).slice (win0_30.rect t)).emb (ix2 y0 y1)) = ix2 (row t y0) y1 := by blk_ext [idx30 t]
  rw [e]
  exact (moS64x1024_at _ _ y0 y1).trans ((congr (congrArg newM (ld9 m c t y0 y1)) (in10 m c t y0 y1)).trans (hostM_at ..).symm)

theorem final_31 : (dat m 0 c).arrAt 31 cfg0.N = (hostV Cert.Reference24Ideal.Gen.bcast_S_S256x1024 (m ((c.tc : Thread nD τ).loc main_arg9)) (m ((c.tc : Thread nD τ).loc main_arg11))) := by
  refine (dat m 0 c).arrAt_eq_of_covers 31 _ (by decide +kernel) fun t hf y => ?_
  blk_simp
  rw [after31]
  idx_vars y
  have e : (((View.whole main_v0_11).slice (win0_31.rect t)).emb (ix2 y0 y1)) = ix2 (row t y0) y1 := by blk_ext [idx31 t]
  rw [e]
  exact (vaS64x1024_at _ _ y0 y1).trans ((congr (congrArg newV (ld9 m c t y0 y1)) (in11 m c t y0 y1)).trans (hostV_at ..).symm)

theorem final_32 : (dat m 0 c).arrAt 32 cfg0.N = (m ((c.tc : Thread nD τ).loc main_arg13)) := by
  refine (dat m 0 c).arrAt_eq_of_covers 32 _ (by decide +kernel) fun t hf y => ?_
  blk_simp
  rw [after32]
  idx_vars y
  have e : (((View.whole main_v0_12).slice (win0_32.rect t)).emb (ix2 y0 y1)) = ix2 (row t y0) y1 := by blk_ext [idx32 t]
  rw [e]
  exact (cpS64x1024_at _ y0 y1).trans ((ld13 m c t y0 y1).trans rfl)

theorem final_33 : (dat m 0 c).arrAt 33 cfg0.N = (hostStep Cert.Reference24Ideal.Gen.bcast_S_S256x1024 (m ((c.tc : Thread nD τ).loc main_arg12)) (m ((c.tc : Thread nD τ).loc main_arg13)) (m ((c.tc : Thread nD τ).loc main_arg14)) (m ((c.tc : Thread nD τ).loc main_arg15))) := by
  refine (dat m 0 c).arrAt_eq_of_covers 33 _ (by decide +kernel) fun t hf y => ?_
  blk_simp
  rw [after33]
  idx_vars y
  have e : (((View.whole main_v0_13).slice (win0_33.rect t)).emb (ix2 y0 y1)) = ix2 (row t y0) y1 := by blk_ext [idx33 t]
  rw [e]
  exact (stS64x1024_at _ _ _ _ y0 y1).trans ((step_eq (in12 m c t y0 y1) (ld13 m c t y0 y1) (in14 m c t y0 y1) (in15 m c t y0 y1)).trans (hostStep_at ..).symm)

theorem final_34 : (dat m 0 c).arrAt 34 cfg0.N = (hostM Cert.Reference24Ideal.Gen.bcast_S_S256x1024 (m ((c.tc : Thread nD τ).loc main_arg13)) (m ((c.tc : Thread nD τ).loc main_arg14))) := by
  refine (dat m 0 c).arrAt_eq_of_covers 34 _ (by decide +kernel) fun t hf y => ?_
  blk_simp
  rw [after34]
  idx_vars y
  have e : (((View.whole main_v0_14).slice (win0_34.rect t)).emb (ix2 y0 y1)) = ix2 (row t y0) y1 := by blk_ext [idx34 t]
  rw [e]
  exact (moS64x1024_at _ _ y0 y1).trans ((congr (congrArg newM (ld13 m c t y0 y1)) (in14 m c t y0 y1)).trans (hostM_at ..).symm)

theorem final_35 : (dat m 0 c).arrAt 35 cfg0.N = (hostV Cert.Reference24Ideal.Gen.bcast_S_S256x1024 (m ((c.tc : Thread nD τ).loc main_arg13)) (m ((c.tc : Thread nD τ).loc main_arg15))) := by
  refine (dat m 0 c).arrAt_eq_of_covers 35 _ (by decide +kernel) fun t hf y => ?_
  blk_simp
  rw [after35]
  idx_vars y
  have e : (((View.whole main_v0_15).slice (win0_35.rect t)).emb (ix2 y0 y1)) = ix2 (row t y0) y1 := by blk_ext [idx35 t]
  rw [e]
  exact (vaS64x1024_at _ _ y0 y1).trans ((congr (congrArg newV (ld13 m c t y0 y1)) (in15 m c t y0 y1)).trans (hostV_at ..).symm)

theorem final_36 : (dat m 0 c).arrAt 36 cfg0.N = (m ((c.tc : Thread nD τ).loc main_arg17)) := by
  refine (dat m 0 c).arrAt_eq_of_covers 36 _ (by decide +kernel) fun t hf y => ?_
  blk_simp
  rw [after36]
  idx_vars y
  have e : (((View.whole main_v0_16).slice (win0_36.rect t)).emb (ix2 y0 y1)) = ix2 (row t y0) y1 := by blk_ext [idx36 t]
  rw [e]
  exact (cpS64x1024_at _ y0 y1).trans ((ld17 m c t y0 y1).trans rfl)

theorem final_37 : (dat m 0 c).arrAt 37 cfg0.N = (hostStep Cert.Reference24Ideal.Gen.bcast_S_S256x1024 (m ((c.tc : Thread nD τ).loc main_arg16)) (m ((c.tc : Thread nD τ).loc main_arg17)) (m ((c.tc : Thread nD τ).loc main_arg18)) (m ((c.tc : Thread nD τ).loc main_arg19))) := by
  refine (dat m 0 c).arrAt_eq_of_covers 37 _ (by decide +kernel) fun t hf y => ?_
  blk_simp
  rw [after37]
  idx_vars y
  have e : (((View.whole main_v0_17).slice (win0_37.rect t)).emb (ix2 y0 y1)) = ix2 (row t y0) y1 := by blk_ext [idx37 t]
  rw [e]
  exact (stS64x1024_at _ _ _ _ y0 y1).trans ((step_eq (in16 m c t y0 y1) (ld17 m c t y0 y1) (in18 m c t y0 y1) (in19 m c t y0 y1)).trans (hostStep_at ..).symm)

theorem final_38 : (dat m 0 c).arrAt 38 cfg0.N = (hostM Cert.Reference24Ideal.Gen.bcast_S_S256x1024 (m ((c.tc : Thread nD τ).loc main_arg17)) (m ((c.tc : Thread nD τ).loc main_arg18))) := by
  refine (dat m 0 c).arrAt_eq_of_covers 38 _ (by decide +kernel) fun t hf y => ?_
  blk_simp
  rw [after38]
  idx_vars y
  have e : (((View.whole main_v0_18).slice (win0_38.rect t)).emb (ix2 y0 y1)) = ix2 (row t y0) y1 := by blk_ext [idx38 t]
  rw [e]
  exact (moS64x1024_at _ _ y0 y1).trans ((congr (congrArg newM (ld17 m c t y0 y1)) (in18 m c t y0 y1)).trans (hostM_at ..).symm)

theorem final_39 : (dat m 0 c).arrAt 39 cfg0.N = (hostV Cert.Reference24Ideal.Gen.bcast_S_S256x1024 (m ((c.tc : Thread nD τ).loc main_arg17)) (m ((c.tc : Thread nD τ).loc main_arg19))) := by
  refine (dat m 0 c).arrAt_eq_of_covers 39 _ (by decide +kernel) fun t hf y => ?_
  blk_simp
  rw [after39]
  idx_vars y
  have e : (((View.whole main_v0_19).slice (win0_39.rect t)).emb (ix2 y0 y1)) = ix2 (row t y0) y1 := by blk_ext [idx39 t]
  rw [e]
  exact (vaS64x1024_at _ _ y0 y1).trans ((congr (congrArg newV (ld17 m c t y0 y1)) (in19 m c t y0 y1)).trans (hostV_at ..).symm)

end Cert.Kernel24Ideal.AdamLate

namespace Cert.Proof.AdamLate

open Idealize.ShloMosaic Idealize.SL.Sem Cert.Adam

section
variable {n0 n1 : ℕ} (hb : (⟨0, ![]⟩ : Shape).BroadcastsInDim ⟨2, ![n0, n1]⟩ (![] : Fin 0 → Fin 2)) {w w' g g' m m' v v' : FVec Ideal ⟨2, ![n0, n1]⟩ .f32}

theorem m_congr (hg : g' = g) (hm : m' = m) : hostM hb g' m' = hostM hb g m := by rw [hg, hm]
theorem v_congr (hg : g' = g) (hv : v' = v) : hostV hb g' v' = hostV hb g v := by rw [hg, hv]
theorem step_congr (hw : w' = w) (hg : g' = g) (hm : m' = m) (hv : v' = v) : hostStep hb w' g' m' v' = hostStep hb w g m v := by
  rw [hw, hg, hm, hv]
end

set_option maxHeartbeats 4000000 in
/-- The kernel and the reference leave equal arrays. -/
theorem algebraic : Cert.algebraic_Kernel24Ideal_Reference24Ideal := by
  intro m g m' g' hpre hagree
  refine ⟨fun c => (Cert.Kernel24Ideal.Opt.dat m 0 c).arrAt 20 Cert.Kernel24Ideal.cfg0.N, fun c => (Cert.Kernel24Ideal.Opt.dat m 0 c).arrAt 21 Cert.Kernel24Ideal.cfg0.N,
      fun c => (Cert.Kernel24Ideal.Opt.dat m 0 c).arrAt 22 Cert.Kernel24Ideal.cfg0.N, fun c => (Cert.Kernel24Ideal.Opt.dat m 0 c).arrAt 23 Cert.Kernel24Ideal.cfg0.N,
      fun c => (Cert.Kernel24Ideal.Opt.dat m 0 c).arrAt 24 Cert.Kernel24Ideal.cfg0.N, fun c => (Cert.Kernel24Ideal.Opt.dat m 0 c).arrAt 25 Cert.Kernel24Ideal.cfg0.N,
      fun c => (Cert.Kernel24Ideal.Opt.dat m 0 c).arrAt 26 Cert.Kernel24Ideal.cfg0.N, fun c => (Cert.Kernel24Ideal.Opt.dat m 0 c).arrAt 27 Cert.Kernel24Ideal.cfg0.N,
      fun c => (Cert.Kernel24Ideal.Opt.dat m 0 c).arrAt 28 Cert.Kernel24Ideal.cfg0.N, fun c => (Cert.Kernel24Ideal.Opt.dat m 0 c).arrAt 29 Cert.Kernel24Ideal.cfg0.N,
      fun c => (Cert.Kernel24Ideal.Opt.dat m 0 c).arrAt 30 Cert.Kernel24Ideal.cfg0.N, fun c => (Cert.Kernel24Ideal.Opt.dat m 0 c).arrAt 31 Cert.Kernel24Ideal.cfg0.N,
      fun c => (Cert.Kernel24Ideal.Opt.dat m 0 c).arrAt 32 Cert.Kernel24Ideal.cfg0.N, fun c => (Cert.Kernel24Ideal.Opt.dat m 0 c).arrAt 33 Cert.Kernel24Ideal.cfg0.N,
      fun c => (Cert.Kernel24Ideal.Opt.dat m 0 c).arrAt 34 Cert.Kernel24Ideal.cfg0.N, fun c => (Cert.Kernel24Ideal.Opt.dat m 0 c).arrAt 35 Cert.Kernel24Ideal.cfg0.N,
      fun c => (Cert.Kernel24Ideal.Opt.dat m 0 c).arrAt 36 Cert.Kernel24Ideal.cfg0.N, fun c => (Cert.Kernel24Ideal.Opt.dat m 0 c).arrAt 37 Cert.Kernel24Ideal.cfg0.N,
      fun c => (Cert.Kernel24Ideal.Opt.dat m 0 c).arrAt 38 Cert.Kernel24Ideal.cfg0.N, fun c => (Cert.Kernel24Ideal.Opt.dat m 0 c).arrAt 39 Cert.Kernel24Ideal.cfg0.N,
    (θ_run _ _ _).mono (fun r h c => ?_) (Cert.Kernel24Ideal.Opt.run m g),
    (θ_run _ _ _).mono (fun r h c => ?_) (Cert.Reference24Ideal.Value.run m' g')⟩
  · obtain ⟨⟨h0, h1, h2, h3, h4, h5, h6, h7, h8, h9, h10, h11, h12, h13, h14, h15, h16, h17, h18, h19⟩, hk⟩ := h.1 c
    exact ⟨h0, h1, h2, h3, h4, h5, h6, h7, h8, h9, h10, h11, h12, h13, h14, h15, h16, h17, h18, h19, hk⟩
  · obtain ⟨r0, r1, r2, r3, r4, r5, r6, r7, r8, r9, r10, r11, r12, r13, r14, r15, r16, r17, r18, r19, hr⟩ := h c
    obtain ⟨a0, a1, a2, a3, a4, a5, a6, a7, a8, a9, a10, a11, a12, a13, a14, a15, a16, a17, a18, a19⟩ := hagree c
    exact ⟨(r0.trans a1).trans (Cert.Kernel24Ideal.AdamLate.final_20 m c).symm,
      (r1.trans (step_congr Cert.Reference24Ideal.Gen.bcast_S_S256x1024 a0 a1 a2 a3)).trans (Cert.Kernel24Ideal.AdamLate.final_21 m c).symm,
      (r2.trans (m_congr Cert.Reference24Ideal.Gen.bcast_S_S256x1024 a1 a2)).trans (Cert.Kernel24Ideal.AdamLate.final_22 m c).symm,
      (r3.trans (v_congr Cert.Reference24Ideal.Gen.bcast_S_S256x1024 a1 a3)).trans (Cert.Kernel24Ideal.AdamLate.final_23 m c).symm,
      (r4.trans a5).trans (Cert.Kernel24Ideal.AdamLate.final_24 m c).symm,
      (r5.trans (step_congr Cert.Reference24Ideal.Gen.bcast_S_S256x1024 a4 a5 a6 a7)).trans (Cert.Kernel24Ideal.AdamLate.final_25 m c).symm,
      (r6.trans (m_congr Cert.Reference24Ideal.Gen.bcast_S_S256x1024 a5 a6)).trans (Cert.Kernel24Ideal.AdamLate.final_26 m c).symm,
      (r7.trans (v_congr Cert.Reference24Ideal.Gen.bcast_S_S256x1024 a5 a7)).trans (Cert.Kernel24Ideal.AdamLate.final_27 m c).symm,
      (r8.trans a9).trans (Cert.Kernel24Ideal.AdamLate.final_28 m c).symm,
      (r9.trans (step_congr Cert.Reference24Ideal.Gen.bcast_S_S256x1024 a8 a9 a10 a11)).trans (Cert.Kernel24Ideal.AdamLate.final_29 m c).symm,
      (r10.trans (m_congr Cert.Reference24Ideal.Gen.bcast_S_S256x1024 a9 a10)).trans (Cert.Kernel24Ideal.AdamLate.final_30 m c).symm,
      (r11.trans (v_congr Cert.Reference24Ideal.Gen.bcast_S_S256x1024 a9 a11)).trans (Cert.Kernel24Ideal.AdamLate.final_31 m c).symm,
      (r12.trans a13).trans (Cert.Kernel24Ideal.AdamLate.final_32 m c).symm,
      (r13.trans (step_congr Cert.Reference24Ideal.Gen.bcast_S_S256x1024 a12 a13 a14 a15)).trans (Cert.Kernel24Ideal.AdamLate.final_33 m c).symm,
      (r14.trans (m_congr Cert.Reference24Ideal.Gen.bcast_S_S256x1024 a13 a14)).trans (Cert.Kernel24Ideal.AdamLate.final_34 m c).symm,
      (r15.trans (v_congr Cert.Reference24Ideal.Gen.bcast_S_S256x1024 a13 a15)).trans (Cert.Kernel24Ideal.AdamLate.final_35 m c).symm,
      (r16.trans a17).trans (Cert.Kernel24Ideal.AdamLate.final_36 m c).symm,
      (r17.trans (step_congr Cert.Reference24Ideal.Gen.bcast_S_S256x1024 a16 a17 a18 a19)).trans (Cert.Kernel24Ideal.AdamLate.final_37 m c).symm,
      (r18.trans (m_congr Cert.Reference24Ideal.Gen.bcast_S_S256x1024 a17 a18)).trans (Cert.Kernel24Ideal.AdamLate.final_38 m c).symm,
      (r19.trans (v_congr Cert.Reference24Ideal.Gen.bcast_S_S256x1024 a17 a19)).trans (Cert.Kernel24Ideal.AdamLate.final_39 m c).symm, hr⟩

/-- The reference leaves its arguments as they were. -/
theorem frame_r : Cert.quiescent_Reference24Ideal := fun m g _ =>
  (θ_run Cert.Reference24Ideal.defs _ _).mono (fun r h => ⟨fun c => (h c).2.2.2.2.2.2.2.2.2.2.2.2.2.2.2.2.2.2.2.2, sem_eq_zero_of_no_sems (by decide) r.2⟩) (Cert.Reference24Ideal.Value.run m g)

end Cert.Proof.AdamLate
-- ==== Proof.MemMath.lean ====
module

public import Idealize.ShloMosaic.Lib.Pointwise

@[expose] public section

noncomputable section

/-! Extended-real facts the softmax gradient needs: the constants, the sums, and the row of a softmax with finite logits. -/

namespace Cert.Soft

open Idealize.ShloMosaic

theorem bits_neg_top : Ideal.ofBits .f32 0xFF800000#32 = ⊥ := by simp [Ideal.ofBits, Ideal.ieee]
theorem bits_top : Ideal.ofBits .f32 0x7F800000#32 = ⊤ := by simp [Ideal.ofBits, Ideal.ieee]
theorem bits_sixteenth : Ideal.ofBits .f32 0x3D800000#32 = ((1 / 16 : ℝ) : EReal) := by
  simp [Ideal.ofBits, Ideal.ieee]; norm_cast; norm_num

/-- A host reduction by the maximum over the last of three axes, of any sizes, started at the pattern `b` twice, is the fold along that axis. -/
theorem host_max {n0 n1 n2 : ℕ} (b : BitVec 32) (s : FVec Ideal ⟨3, ![n0, n1, n2]⟩ .f32)
    (hb : (⟨0, ![]⟩ : Shape).BroadcastsInDim ⟨2, ![n0, n1]⟩ (![] : Fin 0 → Fin 2))
    (h : (⟨3, ![n0, n1, n2]⟩ : Shape).ReducesTo [2] ⟨2, ![n0, n1]⟩) (hu : 0 < (⟨0, ![]⟩ : Shape).numel) (i : Fin n0) (j : Fin n1) :
    (maximumf (broadcastInDim ⟨2, ![n0, n1]⟩ ![] hb (constant ⟨0, ![]⟩ .f32 b)) (Host.reduce FloatOps.maximumf s (constant ⟨0, ![]⟩ .f32 b) h hu)
        : FVec Ideal ⟨2, ![n0, n1]⟩ .f32) (ix2 i j)
      = max (Ideal.ofBits .f32 b) (Finset.univ.fold max (Ideal.ofBits .f32 b) fun x : Fin n2 => s (ix3 i j x)) := by
  pointwise

/-- A nonnegative real factor distributes over a sum of two extended reals. -/
theorem coe_mul_add {c : ℝ} (hc : 0 ≤ c) (x y : EReal) : (c : EReal) * (x + y) = (c : EReal) * x + (c : EReal) * y :=
  EReal.left_distrib_of_nonneg_of_ne_top (EReal.coe_nonneg.2 hc) (EReal.coe_ne_top c) x y

/-- A nonnegative real factor distributes over a sum of any extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

/-- A sum of reals is a real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- An extended real whose absolute value is below `⊤` is a real. -/
theorem real_of_abs {x : EReal} (h : max x (-x) < ⊤) : ∃ r : ℝ, x = r := by
  induction x with
  | bot => simp at h
  | top => simp at h
  | coe r => exact ⟨r, rfl⟩

/-- A dot product of reals is a real. -/
theorem real_dot {ι : Type} (s : Finset ι) {f g : ι → EReal} (hf : ∀ i, ∃ r : ℝ, f i = r) (hg : ∀ i, ∃ r : ℝ, g i = r) :
    ∃ r : ℝ, ∑ i ∈ s, f i * g i = r := by
  choose a ha using hf
  choose b hb using hg
  exact ⟨∑ i ∈ s, a i * b i, by simp only [ha, hb, ← EReal.coe_mul, coe_sum]⟩

/-- The maximum of finitely many reals, started at `⊥`, is a real. -/
theorem real_fold_max {ι : Type} [Fintype ι] [Nonempty ι] {f : ι → EReal} (hf : ∀ i, ∃ r : ℝ, f i = r) :
    ∃ r : ℝ, Finset.univ.fold max ⊥ f = r := by
  classical
  choose a ha using hf
  have key : ∀ s : Finset ι, s.fold max ⊥ f = ⊥ ∧ s = ∅ ∨ ∃ r : ℝ, s.fold max ⊥ f = r := by
    intro s
    induction s using Finset.induction_on with
    | empty => left; simp
    | insert x s hx ih =>
      right
      rw [Finset.fold_insert hx, ha x]
      rcases ih with ⟨h, _⟩ | ⟨r, h⟩
      · exact ⟨a x, by rw [h]; simp⟩
      · exact ⟨max (a x) r, by rw [h]; exact (EReal.coe_strictMono.monotone.map_max).symm⟩
  rcases key Finset.univ with ⟨_, h⟩ | h
  · exact absurd h Finset.univ_nonempty.ne_empty
  · exact h

/-- The exponentials of a softmax row with finite logits are positive reals. -/
theorem softmax_row {ι : Type} [Fintype ι] [Nonempty ι] {s : ι → EReal} (hs : ∀ i, ∃ r : ℝ, s i = r) :
    ∃ e : ι → ℝ, (∀ i, 0 < e i) ∧ ∀ i, Ideal.exp (s i - Finset.univ.fold max ⊥ s) = (e i : EReal) := by
  obtain ⟨t, ht⟩ := real_fold_max hs
  choose a ha using hs
  exact ⟨fun i => Real.exp (a i - t), fun i => Real.exp_pos _, fun i => by rw [ht, ha, ← EReal.coe_sub]; rfl⟩

/-- The gradient of a softmax row: the form differentiation of a quotient gives, and the form `p (dp - ∑ p dp)`. -/
theorem softmax_grad {n : ℕ} [NeZero n] (e : Fin n → ℝ) (he : ∀ i, 0 < e i) (dp : Fin n → EReal) (k : Fin n) :
    (Ideal.div (dp k) (∑ i, (e i : EReal)) + ∑ _x : Fin 1, -∑ i, dp i * Ideal.div 1 ((∑ i, (e i : EReal)) * ∑ i, (e i : EReal)) * (e i : EReal))
        * (e k : EReal)
      = Ideal.div (e k) (∑ i, (e i : EReal)) * (dp k - ∑ i, Ideal.div (e i) (∑ i, (e i : EReal)) * dp i) := by
  have hL : 0 < ∑ i, e i := Finset.sum_pos (fun i _ => he i) ⟨⟨0, Nat.pos_of_ne_zero (NeZero.ne n)⟩, Finset.mem_univ _⟩
  rw [coe_sum]
  set L : ℝ := ∑ i, e i with hLd
  rw [← EReal.coe_mul]
  simp only [Ideal.div_coe hL.ne', Ideal.div_coe (mul_pos hL hL).ne', Fin.sum_univ_one, one_mul]
  have ha : 0 ≤ 1 / L := by positivity
  have hs : ∑ i, dp i * ((1 / (L * L) : ℝ) : EReal) * (e i : EReal)
      = ((1 / L : ℝ) : EReal) * ∑ i, (e i : EReal) * ((1 / L : ℝ) : EReal) * dp i := by
    rw [coe_mul_sum _ _ ha]
    refine Finset.sum_congr rfl fun i _ => ?_
    rw [mul_assoc, mul_comm (dp i), ← mul_assoc, ← EReal.coe_mul, ← EReal.coe_mul, ← EReal.coe_mul]
    congr 2
    field_simp
  rw [hs, ← mul_neg, mul_comm (dp k), ← coe_mul_add ha, ← sub_eq_add_neg]
  rw [mul_comm _ (e k : EReal), mul_assoc]

end Cert.Soft
-- ==== Proof.MemRef.lean ====
module

public import proofs.«01_k».proof.Proof.Gen.ReferenceIdeal.Run
public import Idealize.ShloMosaic.Lib.Pointwise
public import proofs.«01_k».proof.Proof.MemMath

@[expose] public section

set_option maxRecDepth 16384

noncomputable section

/-! The reference of the memory attention's gradient, cut into named steps, and each step read at an index. -/

namespace Cert.ReferenceIdeal.Mem

open Cert.ReferenceIdeal Cert.ReferenceIdeal.Gen Idealize.ShloMosaic Idealize.ShloMosaic.TcCoe Idealize.SL.Sem

/-- The scaled logit of head `h`, query `r`, memory token `j`. -/
def logit (q : FVec Ideal S2048x1024 .bf16) (k : FVec Ideal S256x1024 .bf16) : FVec Ideal S4x2048x256 .f32 :=
  (mulf (Host.dotGeneral dot_S2048x4x256_S256x4x256_S4x2048x256_2_2_0_0_1_1 none (shapeCast S2048x4x256 (extf .f32 q bitsLt_bf16_f32) shapeCasts_S2048x1024_S2048x4x256) (shapeCast S256x4x256 (extf .f32 k bitsLt_bf16_f32) shapeCasts_S256x1024_S256x4x256)) (broadcastInDim S4x2048x256 ![] bcast_S_S4x2048x256 (constant S_ .f32 0x3D800000#32)))

/-- The maximum the softmax subtracts. -/
def top (q : FVec Ideal S2048x1024 .bf16) (k : FVec Ideal S256x1024 .bf16) : FVec Ideal S4x2048 .f32 :=
  (maximumf (broadcastInDim S4x2048 ![] bcast_S_S4x2048 (constant S_ .f32 0xFF800000#32)) (Host.reduce FloatOps.maximumf (logit q k) (constant S_ .f32 0xFF800000#32) reducesTo_S4x2048x256_S4x2048_d2 h_S_))

/-- The exponential. -/
def expo (q : FVec Ideal S2048x1024 .bf16) (k : FVec Ideal S256x1024 .bf16) : FVec Ideal S4x2048x256 .f32 :=
  (Host.exp (subf (logit q k) (broadcastInDim S4x2048x256 ![0, 1, 2] bcast_S4x2048x1_S4x2048x256_0_1_2 (broadcastInDim S4x2048x1 ![0, 1] bcast_S4x2048_S4x2048x1_0_1 (top q k)))))

/-- The softmax denominator. -/
def total (q : FVec Ideal S2048x1024 .bf16) (k : FVec Ideal S256x1024 .bf16) : FVec Ideal S4x2048 .f32 :=
  (Host.reduceAdd (expo q k) (constant S_ .f32 0x00000000#32) reducesTo_S4x2048x256_S4x2048_d2 h_S_)

/-- The probability. -/
def prob (q : FVec Ideal S2048x1024 .bf16) (k : FVec Ideal S256x1024 .bf16) : FVec Ideal S4x2048x256 .f32 :=
  (Host.divf (expo q k) (broadcastInDim S4x2048x256 ![0, 1, 2] bcast_S4x2048x1_S4x2048x256_0_1_2 (broadcastInDim S4x2048x1 ![0, 1] bcast_S4x2048_S4x2048x1_0_1 (total q k))))

/-- The cotangent of a probability. -/
def dprob (v : FVec Ideal S256x1024 .bf16) (g : FVec Ideal S2048x1024 .bf16) : FVec Ideal S4x2048x256 .f32 :=
  (Host.dotGeneral dot_S4x256x2048_S256x4x256_S4x2048x256_1_2_2_0_0_1 none (transpose S4x256x2048 [1, 2, 0] (shapeCast S2048x4x256 (extf .f32 g bitsLt_bf16_f32) shapeCasts_S2048x1024_S2048x4x256) transposes_S2048x4x256_S4x256x2048_1_2_0) (shapeCast S256x4x256 (extf .f32 v bitsLt_bf16_f32) shapeCasts_S256x1024_S256x4x256))

/-- The sum the softmax gradient subtracts. -/
def corr (q : FVec Ideal S2048x1024 .bf16) (k : FVec Ideal S256x1024 .bf16) (v : FVec Ideal S256x1024 .bf16) (g : FVec Ideal S2048x1024 .bf16) : FVec Ideal S4x2048 .f32 :=
  (Host.reduceAdd (mulf (mulf (dprob v g) (broadcastInDim S4x2048x256 ![0, 1, 2] bcast_S4x2048x1_S4x2048x256_0_1_2 (Host.divf (broadcastInDim S4x2048x1 ![] bcast_S_S4x2048x1 (constant S_ .f32 0x3F800000#32)) (mulf (broadcastInDim S4x2048x1 ![0, 1] bcast_S4x2048_S4x2048x1_0_1 (total q k)) (broadcastInDim S4x2048x1 ![0, 1] bcast_S4x2048_S4x2048x1_0_1 (total q k)))))) (expo q k)) (constant S_ .f32 0x00000000#32) reducesTo_S4x2048x256_S4x2048_d2 h_S_)

/-- The cotangent of a logit, times the scale. -/
def dlogit (q : FVec Ideal S2048x1024 .bf16) (k : FVec Ideal S256x1024 .bf16) (v : FVec Ideal S256x1024 .bf16) (g : FVec Ideal S2048x1024 .bf16) : FVec Ideal S4x2048x256 .f32 :=
  (mulf (mulf (addf (Host.divf (dprob v g) (broadcastInDim S4x2048x256 ![0, 1, 2] bcast_S4x2048x1_S4x2048x256_0_1_2 (broadcastInDim S4x2048x1 ![0, 1] bcast_S4x2048_S4x2048x1_0_1 (total q k)))) (broadcastInDim S4x2048x256 ![0, 1] bcast_S4x2048_S4x2048x256_0_1 (Host.reduceAdd (Host.negf (shapeCast S4x2048x1 (corr q k v g) shapeCasts_S4x2048_S4x2048x1)) (constant S_ .f32 0x00000000#32) reducesTo_S4x2048x1_S4x2048_d2 h_S_))) (expo q k)) (broadcastInDim S4x2048x256 ![] bcast_S_S4x2048x256 (constant S_ .f32 0x3D800000#32)))

/-- The gradient of the queries. -/
def outQ (q : FVec Ideal S2048x1024 .bf16) (k : FVec Ideal S256x1024 .bf16) (v : FVec Ideal S256x1024 .bf16) (g : FVec Ideal S2048x1024 .bf16) : FVec Ideal S2048x1024 .bf16 :=
  (truncf .bf16 (shapeCast S2048x1024 (transpose S2048x4x256 [1, 0, 2] (Host.dotGeneral dot_S4x2048x256_S256x4x256_S4x2048x256_2_0_1_2_0_1 none (dlogit q k v g) (shapeCast S256x4x256 (extf .f32 k bitsLt_bf16_f32) shapeCasts_S256x1024_S256x4x256)) transposes_S4x2048x256_S2048x4x256_1_0_2) shapeCasts_S2048x4x256_S2048x1024) bitsLt_bf16_f32)

/-- The gradient of the keys. -/
def outK (q : FVec Ideal S2048x1024 .bf16) (k : FVec Ideal S256x1024 .bf16) (v : FVec Ideal S256x1024 .bf16) (g : FVec Ideal S2048x1024 .bf16) : FVec Ideal S256x1024 .bf16 :=
  (truncf .bf16 (shapeCast S256x1024 (transpose S256x4x256 [1, 0, 2] (Host.dotGeneral dot_S4x2048x256_S2048x4x256_S4x256x256_1_0_2_2_0_1 none (dlogit q k v g) (shapeCast S2048x4x256 (extf .f32 q bitsLt_bf16_f32) shapeCasts_S2048x1024_S2048x4x256)) transposes_S4x256x256_S256x4x256_1_0_2) shapeCasts_S256x4x256_S256x1024) bitsLt_bf16_f32)

/-- The gradient of the values. -/
def outV (q : FVec Ideal S2048x1024 .bf16) (k : FVec Ideal S256x1024 .bf16) (g : FVec Ideal S2048x1024 .bf16) : FVec Ideal S256x1024 .bf16 :=
  (truncf .bf16 (shapeCast S256x1024 (transpose S256x4x256 [2, 0, 1] (Host.dotGeneral dot_S4x256x2048_S4x2048x256_S4x256x256_2_1_1_2_0_0 none (transpose S4x256x2048 [1, 2, 0] (shapeCast S2048x4x256 (extf .f32 g bitsLt_bf16_f32) shapeCasts_S2048x1024_S2048x4x256) transposes_S2048x4x256_S4x256x2048_1_2_0) (prob q k)) transposes_S4x256x256_S256x4x256_2_0_1) shapeCasts_S256x4x256_S256x1024) bitsLt_bf16_f32)

section
variable (q : FVec Ideal S2048x1024 .bf16) (k v : FVec Ideal S256x1024 .bf16) (g : FVec Ideal S2048x1024 .bf16)

theorem logit_at (h : Fin 4) (r : Fin 2048) (j : Fin 256) : logit q k (ix3 h r j) =
    (∑ x : Fin 256, q (ix2 r ⟨h * 256 + x, by omega⟩) * k (ix2 j ⟨h * 256 + x, by omega⟩)) * Ideal.ofBits .f32 0x3D800000#32 := by
  pointwise [logit]

theorem top_at (h : Fin 4) (r : Fin 2048) : top q k (ix2 h r) =
    max (Ideal.ofBits .f32 0xFF800000#32) (Finset.univ.fold max (Ideal.ofBits .f32 0xFF800000#32) fun x : Fin 256 => logit q k (ix3 h r x)) :=
  Cert.Soft.host_max 0xFF800000#32 (logit q k) bcast_S_S4x2048 reducesTo_S4x2048x256_S4x2048_d2 h_S_ h r

theorem expo_at (h : Fin 4) (r : Fin 2048) (j : Fin 256) : expo q k (ix3 h r j) =
    Ideal.exp (logit q k (ix3 h r j) - top q k (ix2 h r)) := by
  pointwise [expo]

theorem total_at (h : Fin 4) (r : Fin 2048) : total q k (ix2 h r) =
    ∑ x : Fin 256, expo q k (ix3 h r x) := by
  pointwise [total]

theorem prob_at (h : Fin 4) (r : Fin 2048) (j : Fin 256) : prob q k (ix3 h r j) =
    Ideal.div (expo q k (ix3 h r j)) (total q k (ix2 h r)) := by
  pointwise [prob]

theorem dprob_at (h : Fin 4) (r : Fin 2048) (j : Fin 256) : dprob v g (ix3 h r j) =
    ∑ x : Fin 256, g (ix2 r ⟨h * 256 + x, by omega⟩) * v (ix2 j ⟨h * 256 + x, by omega⟩) := by
  pointwise [dprob]

theorem corr_at (h : Fin 4) (r : Fin 2048) : corr q k v g (ix2 h r) =
    ∑ x : Fin 256, dprob v g (ix3 h r x) * Ideal.div 1 (total q k (ix2 h r) * total q k (ix2 h r)) * expo q k (ix3 h r x) := by
  pointwise [corr]

theorem dlogit_at (h : Fin 4) (r : Fin 2048) (j : Fin 256) : dlogit q k v g (ix3 h r j) =
    (Ideal.div (dprob v g (ix3 h r j)) (total q k (ix2 h r)) + ∑ _x : Fin 1, -corr q k v g (ix2 h r)) * expo q k (ix3 h r j) * Ideal.ofBits .f32 0x3D800000#32 := by
  pointwise [dlogit]

theorem outQ_at (r : Fin 2048) (l : Fin 1024) : outQ q k v g (ix2 r l) =
    ∑ x : Fin 256, dlogit q k v g (ix3 ⟨l / 256, by omega⟩ r x) * k (ix2 x l) := by
  pointwise [outQ]

theorem outK_at (r : Fin 256) (l : Fin 1024) : outK q k v g (ix2 r l) =
    ∑ x : Fin 2048, dlogit q k v g (ix3 ⟨l / 256, by omega⟩ x r) * q (ix2 x l) := by
  pointwise [outK]

theorem outV_at (r : Fin 256) (l : Fin 1024) : outV q k g (ix2 r l) =
    ∑ x : Fin 2048, g (ix2 x l) * prob q k (ix3 ⟨l / 256, by omega⟩ x r) := by
  pointwise [outV]

end

end Cert.ReferenceIdeal.Mem
-- ==== Proof.MemValue.lean ====
module

public import proofs.«01_k».proof.Proof.Gen.KernelIdeal.Value
public import proofs.«01_k».proof.Proof.MemRef
public import proofs.«01_k».proof.Proof.MemMath
public import Idealize.ShloMosaic.Lib.IdealHost
public import Idealize.ShloMosaic.Lib.Pipeline.ValueKit.Point

@[expose] public section

set_option maxRecDepth 16384

noncomputable section

/-! What the kernel of the memory attention's gradient leaves: each result is the reference's. -/

namespace Cert.KernelIdeal.Mem

open Cert.KernelIdeal Cert.KernelIdeal.Gen Idealize.ShloMosaic Idealize.ShloMosaic.TcCoe Idealize.SL.Sem Cert.Soft
open Cert.ReferenceIdeal.Mem (logit top expo total prob dprob corr dlogit outQ outK outV logit_at top_at expo_at total_at prob_at dprob_at corr_at
  dlogit_at outQ_at outK_at outV_at)

section
variable (q g : FVec Ideal S2048x256 .bf16) (k v : FVec Ideal S256x256 .bf16) (a : FVec Ideal S2048x256 .bf16) (b : FVec Ideal S2048x256 .f32)

theorem pay7_at (r : Fin 2048) (j : Fin 256) : k0_pay7 (F := Ideal) q k (ix2 r j)
    = Ideal.div (Ideal.exp (∑ x : Fin 256, q (ix2 r x) * Ideal.ofBits .bf16 0x3D80#16 * k (ix2 j x)
        - Finset.univ.fold max (Ideal.ofBits .f32 0xFF800000#32) fun y : Fin 256 => ∑ x : Fin 256, q (ix2 r x) * Ideal.ofBits .bf16 0x3D80#16 * k (ix2 y x)))
      (∑ i : Fin 256, Ideal.exp (∑ x : Fin 256, q (ix2 r x) * Ideal.ofBits .bf16 0x3D80#16 * k (ix2 i x)
        - Finset.univ.fold max (Ideal.ofBits .f32 0xFF800000#32) fun y : Fin 256 => ∑ x : Fin 256, q (ix2 r x) * Ideal.ofBits .bf16 0x3D80#16 * k (ix2 y x))) := by
  pointwise [k0_pay7]

theorem pay8_at (r : Fin 2048) (j : Fin 256) : k0_pay8 (F := Ideal) q k g v (ix2 r j)
    = k0_pay7 (F := Ideal) q k (ix2 r j) * (∑ x : Fin 256, g (ix2 r x) * v (ix2 j x)
        - ∑ i : Fin 256, k0_pay7 (F := Ideal) q k (ix2 r i) * ∑ x : Fin 256, g (ix2 r x) * v (ix2 i x)) * Ideal.ofBits .f32 0x3D800000#32 := by
  pointwise [k0_pay8]

theorem pay9_at (r : Fin 2048) (j : Fin 256) : k0_pay9 (F := Ideal) q k g v (ix2 r j)
    = ∑ x : Fin 256, k0_pay8 (F := Ideal) q k g v (ix2 r x) * k (ix2 x j) := by
  pointwise [k0_pay9]

theorem pay3_at (r j : Fin 256) : k0_pay3 (F := Ideal) (k0_pay1 q a (k0_pay5 (F := Ideal)) (constant S256x256 .f32 0#32)) (ix2 r j)
    = ∑ x : Fin 2048, a (ix2 x r) * q (ix2 x j) := by
  pointwise [k0_pay3, k0_pay1, k0_pay5]

theorem pay4_at (r j : Fin 256) : k0_pay4 (F := Ideal) (k0_pay2 g b (k0_pay6 (F := Ideal))) (ix2 r j)
    = ∑ x : Fin 2048, b (ix2 x r) * g (ix2 x j) := by
  pointwise [k0_pay4, k0_pay2, k0_pay6]
end

section
variable (Q G : FVec Ideal S2048x1024 .bf16) (K V : FVec Ideal S256x1024 .bf16)

/-- Column `x` of head `h`. -/
abbrev hcol (h : Fin 4) (x : Fin 256) : Fin 1024 := ⟨h * 256 + x, by omega⟩

variable (hQ : ∀ i, ∃ r : ℝ, Q i = r) (hK : ∀ i, ∃ r : ℝ, K i = r)
include hQ hK

/-- A logit is a real number. -/
theorem logit_real (h : Fin 4) (r : Fin 2048) (j : Fin 256) : ∃ x : ℝ, logit Q K (ix3 h r j) = x := by
  rw [logit_at, bits_sixteenth]
  obtain ⟨x, hx⟩ := real_dot Finset.univ (f := fun x : Fin 256 => Q (ix2 r (hcol h x))) (g := fun x : Fin 256 => K (ix2 j (hcol h x)))
    (fun _ => hQ _) (fun _ => hK _)
  exact ⟨x * (1 / 16), by rw [EReal.coe_mul, ← hx]⟩

omit hQ hK in
/-- What the reference subtracts is the row's maximum. -/
theorem top_eq (h : Fin 4) (r : Fin 2048) : top Q K (ix2 h r) = Finset.univ.fold max ⊥ fun x : Fin 256 => logit Q K (ix3 h r x) := by
  rw [top_at, bits_neg_top]; exact max_eq_right bot_le

/-- The exponentials of a row are positive reals. -/
theorem expo_real (h : Fin 4) (r : Fin 2048) :
    ∃ e : Fin 256 → ℝ, (∀ i, 0 < e i) ∧ ∀ i, expo Q K (ix3 h r i) = (e i : EReal) := by
  obtain ⟨e, he, h'⟩ := softmax_row (s := fun i : Fin 256 => logit Q K (ix3 h r i)) (logit_real Q K hQ hK h r)
  exact ⟨e, he, fun i => by rw [expo_at, top_eq, h']⟩

/-- The cotangent of a logit, in the kernel's form. -/
theorem dlogit_eq (h : Fin 4) (r : Fin 2048) (j : Fin 256) : dlogit Q K V G (ix3 h r j)
    = prob Q K (ix3 h r j) * (dprob V G (ix3 h r j) - ∑ i : Fin 256, prob Q K (ix3 h r i) * dprob V G (ix3 h r i)) * Ideal.ofBits .f32 0x3D800000#32 := by
  obtain ⟨e, he, h'⟩ := expo_real Q K hQ hK h r
  rw [dlogit_at, corr_at]
  simp only [prob_at, total_at, h']
  rw [softmax_grad e he fun i => dprob V G (ix3 h r i)]

variable (q g : FVec Ideal S2048x256 .bf16) (k v : FVec Ideal S256x256 .bf16) (h : Fin 4)

omit hQ hK in
/-- The kernel's logit, whose queries are scaled before the product. -/
theorem klogit_eq (hq : ∀ r x, q (ix2 r x) = Q (ix2 r (hcol h x))) (hk : ∀ r x, k (ix2 r x) = K (ix2 r (hcol h x))) (r : Fin 2048) (j : Fin 256) :
    ∑ x : Fin 256, q (ix2 r x) * Ideal.ofBits .bf16 0x3D80#16 * k (ix2 j x) = logit Q K (ix3 h r j) := by
  rw [logit_at, bits_sixteenth, Ideal.ofBits_sixteenth_bf16, mul_comm, coe_mul_sum _ _ (by norm_num)]
  refine Finset.sum_congr rfl fun x _ => ?_
  rw [hq, hk, mul_comm (Q _), mul_assoc]

omit hQ hK in
theorem pay7_eq (hq : ∀ r x, q (ix2 r x) = Q (ix2 r (hcol h x))) (hk : ∀ r x, k (ix2 r x) = K (ix2 r (hcol h x))) (r : Fin 2048) (j : Fin 256) :
    k0_pay7 (F := Ideal) q k (ix2 r j) = prob Q K (ix3 h r j) := by
  rw [pay7_at, prob_at, total_at]
  simp only [klogit_eq Q K q k h hq hk, expo_at, top_eq, bits_neg_top]

theorem pay8_eq (hq : ∀ r x, q (ix2 r x) = Q (ix2 r (hcol h x))) (hk : ∀ r x, k (ix2 r x) = K (ix2 r (hcol h x)))
    (hg : ∀ r x, g (ix2 r x) = G (ix2 r (hcol h x))) (hv : ∀ r x, v (ix2 r x) = V (ix2 r (hcol h x))) (r : Fin 2048) (j : Fin 256) :
    k0_pay8 (F := Ideal) q k g v (ix2 r j) = dlogit Q K V G (ix3 h r j) := by
  rw [pay8_at, dlogit_eq Q G K V hQ hK]
  simp only [pay7_eq Q K q k h hq hk, dprob_at, hg, hv]
end

end Cert.KernelIdeal.Mem

namespace Cert.KernelIdeal.Value

open Cert.KernelIdeal Cert.KernelIdeal.Gen Cert.KernelIdeal.Mem Idealize.ShloMosaic Idealize.ShloMosaic.TcCoe Idealize.SL.Sem Cert.Soft
open Cert.ReferenceIdeal.Mem (outQ outK outV outQ_at outK_at outV_at)

variable (m : (ℓ : Loc nD τ sig) → Buf (Elt Ideal) ℓ) (c : Dev nD)

theorem idx_val : ∀ t : Fin cfg0.N, win0_0.index t = ![0, t.val]
    ∧ win0_1.index t = ![0, t.val]
    ∧ win0_2.index t = ![0, t.val]
    ∧ win0_3.index t = ![0, t.val]
    ∧ win0_4.index t = ![0, t.val]
    ∧ win0_5.index t = ![0, t.val]
    ∧ win0_6.index t = ![0, t.val] :=
  (by decide +kernel : ∀ t : Fin grid0.N, _)

/-- A column of head `t`, read back. -/
theorem hcol_div (t : Fin 4) (x : Fin 256) : (⟨(hcol t x : ℕ) / 256, by omega⟩ : Fin 4) = t := by
  apply Fin.ext; show (t.val * 256 + x.val) / 256 = t.val; omega

section
variable (Q G : FVec Ideal S2048x1024 .bf16) (K V : FVec Ideal S256x1024 .bf16)
theorem outQ_head (h : Fin 4) (r : Fin 2048) (l : Fin 256) :
    outQ Q K V G (ix2 r (hcol h l)) = ∑ x : Fin 256, Cert.ReferenceIdeal.Mem.dlogit Q K V G (ix3 h r x) * K (ix2 x (hcol h l)) := by
  rw [outQ_at, hcol_div]
theorem outK_head (h : Fin 4) (r : Fin 256) (l : Fin 256) :
    outK Q K V G (ix2 r (hcol h l)) = ∑ x : Fin 2048, Cert.ReferenceIdeal.Mem.dlogit Q K V G (ix3 h x r) * Q (ix2 x (hcol h l)) := by
  rw [outK_at, hcol_div]
theorem outV_head (h : Fin 4) (r : Fin 256) (l : Fin 256) :
    outV Q K G (ix2 r (hcol h l)) = ∑ x : Fin 2048, G (ix2 x (hcol h l)) * Cert.ReferenceIdeal.Mem.prob Q K (ix3 h x r) := by
  rw [outV_at, hcol_div]
end

theorem in0 (t : Fin cfg0.N) (r : Fin 2048) (x : Fin 256) : iblk m c 0 t (ix2 r x) = m ((c.tc : Thread nD τ).loc main_arg0) (ix2 r (hcol t x)) := by
  blk_ext [iblk, V, idx_val t]
theorem in1 (t : Fin cfg0.N) (r x : Fin 256) : iblk m c 1 t (ix2 r x) = m ((c.tc : Thread nD τ).loc main_arg1) (ix2 r (hcol t x)) := by
  blk_ext [iblk, V, idx_val t]
theorem in2 (t : Fin cfg0.N) (r x : Fin 256) : iblk m c 2 t (ix2 r x) = m ((c.tc : Thread nD τ).loc main_arg2) (ix2 r (hcol t x)) := by
  blk_ext [iblk, V, idx_val t]
theorem in3 (t : Fin cfg0.N) (r : Fin 2048) (x : Fin 256) : iblk m c 3 t (ix2 r x) = m ((c.tc : Thread nD τ).loc main_arg3) (ix2 r (hcol t x)) := by
  blk_ext [iblk, V, idx_val t]

variable (hQ : ∀ i, ∃ r : ℝ, m ((c.tc : Thread nD τ).loc main_arg0) i = (r : EReal)) (hK : ∀ i, ∃ r : ℝ, m ((c.tc : Thread nD τ).loc main_arg1) i = (r : EReal))

include hQ hK in
/-- The gradient of the queries. -/
theorem final_4 : (dats m 0 c).arrAt 4 (cfgs 0).N = outQ (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  unfold Gen.outsAt0
  frame_out
  idx_vars y
  have e : (((View.whole main_v0_0).slice (win0_4.rect t)).emb (ix2 y0 y1)) = ix2 y0 (hcol t y1) := by blk_ext [idx_val t]
  rw [e]
  refine (pay9_at ..).trans (Eq.trans ?_ (outQ_head _ _ _ _ t y0 y1).symm)
  refine Finset.sum_congr rfl fun y _ => ?_
  rw [pay8_eq _ _ _ _ hQ hK _ _ _ _ t (in0 m c t) (in1 m c t) (in3 m c t) (in2 m c t), in1]

include hQ hK in
/-- The gradient of the keys. -/
theorem final_5 : (dats m 0 c).arrAt 5 (cfgs 0).N = outK (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  blk_simp
  rw [after0_5]
  unfold Gen.outsAt0
  frame_out
  idx_vars y
  have e : (((View.whole main_v0_1).slice (win0_5.rect t)).emb (ix2 y0 y1)) = ix2 y0 (hcol t y1) := by blk_ext [idx_val t]
  rw [e]
  refine (pay3_at ..).trans (Eq.trans ?_ (outK_head _ _ _ _ t y0 y1).symm)
  refine Finset.sum_congr rfl fun y _ => ?_
  rw [pay8_eq _ _ _ _ hQ hK _ _ _ _ t (in0 m c t) (in1 m c t) (in3 m c t) (in2 m c t), in0]

/-- The gradient of the values. -/
theorem final_6 : (dats m 0 c).arrAt 6 (cfgs 0).N = outV (m ((c.tc : Thread nD τ).loc main_arg0)) (m ((c.tc : Thread nD τ).loc main_arg1)) (m ((c.tc : Thread nD τ).loc main_arg3)) := by
  refine (dats m 0 c).arrAt_eq_of_covers 6 _ (by decide +kernel) fun t hf y => ?_
  blk_simp
  rw [after0_6]
  unfold Gen.outsAt0
  frame_out
  idx_vars y
  have e : (((View.whole main_v0_2).slice (win0_6.rect t)).emb (ix2 y0 y1)) = ix2 y0 (hcol t y1) := by blk_ext [idx_val t]
  rw [e]
  refine (pay4_at ..).trans (Eq.trans ?_ (outV_head _ _ _ t y0 y1).symm)
  refine Finset.sum_congr rfl fun y _ => ?_
  rw [pay7_eq _ _ _ _ t (in0 m c t) (in1 m c t), in3, mul_comm]

end Cert.KernelIdeal.Value
-- ==== Proof.MemRes.lean ====
module

public import proofs.«01_k».proof.Proof.MemRef

@[expose] public section

set_option maxRecDepth 16384

noncomputable section

/-! The results of the reference's run are the named steps. -/

namespace Cert.ReferenceIdeal.Mem

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

theorem res0 (c : Dev nD) : Value.res_out0 m c = outQ (m ((c.tc : Thread nD τ).loc main_arg0)) (m ((c.tc : Thread nD τ).loc main_arg1)) (m ((c.tc : Thread nD τ).loc main_arg2)) (m ((c.tc : Thread nD τ).loc main_arg3)) := rfl
theorem res1 (c : Dev nD) : Value.res_out1 m c = outK (m ((c.tc : Thread nD τ).loc main_arg0)) (m ((c.tc : Thread nD τ).loc main_arg1)) (m ((c.tc : Thread nD τ).loc main_arg2)) (m ((c.tc : Thread nD τ).loc main_arg3)) := rfl

/-- The reference's run, its results by the names of the steps. -/
theorem run : θ_run defs (onTc (τ := τ) (main (F := Ideal))) ⟨m, fun _ => 0, ρ⟩ fun r => ∀ c : Dev nD,
      r.2.mem ((c.tc : Thread nD τ).loc main_v64) = outQ (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v66) = outK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v68) = outV (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res0 m c), (h c).2.1.trans (res1 m c), (h c).2.2.1, (h c).2.2.2⟩) (Value.run m ρ)

end Cert.ReferenceIdeal.Mem
-- ==== Proof.MemFinite.lean ====
module

public import proofs.«01_k».proof.Defs
public import proofs.«01_k».proof.Proof.Gen.Pre_finite
public import Idealize.ShloMosaic.Lib.ReduceAll
public import proofs.«01_k».proof.Proof.MemMath

@[expose] public section

noncomputable section

/-! The precondition read back: the queries and keys are real numbers. -/

namespace Cert.Pre_finite.Mem

open Cert.Pre_finite Idealize.ShloMosaic Cert.Soft

variable [Facts] (q g : FVec Ideal S2048x1024 .bf16) (k v : FVec Ideal S256x1024 .bf16)

instance : Subsingleton S_.Idx := ⟨fun _ _ => funext fun a => a.elim0⟩

/-- A comparison `|x| < ∞` that came out 1. -/
theorem real_of_cmp {x : EReal} (h : Ideal.cmp .olt (max x (-x)) (Ideal.ofBits .f32 0x7F800000#32) = 1#1) : ∃ r : ℝ, x = r := by
  apply real_of_abs
  rw [bits_top] at h
  by_contra hc
  simp [Ideal.cmp, hc] at h

theorem real_q (h : fn (F := Ideal) q k v g = fun _ => 1#1) : ∀ i, ∃ r : ℝ, q i = r := fun i => by
  have h0 := congrFun h (Shape.Idx.first Facts.h_S_)
  have h1 := (IntOp.andi_eq_one.1 h0).1
  exact real_of_cmp (Host.reduce_andi_all _ _ _ _ _ h1 i)

theorem real_k (h : fn (F := Ideal) q k v g = fun _ => 1#1) : ∀ i, ∃ r : ℝ, k i = r := fun i => by
  have h0 := congrFun h (Shape.Idx.first Facts.h_S_)
  have h1 := (IntOp.andi_eq_one.1 h0).2
  exact real_of_cmp (Host.reduce_andi_all _ _ _ _ _ h1 i)

end Cert.Pre_finite.Mem
-- ==== Proof.MmMath.lean ====
module

public import Mathlib.Data.EReal.Operations
public import Mathlib.Algebra.BigOperators.Fin

@[expose] public section

noncomputable section

/-! Sums cut into four blocks, and the factor of a squared rectifier's gradient. -/

namespace Cert.Mm

/-- A sum over `4 * n` indices, block by block. -/
theorem sum_four {M : Type*} [AddCommMonoid M] (n N : ℕ) (h : N = n + n + n + n) (f : Fin N → M) :
    ∑ i, f i = ∑ x : Fin n, f ⟨x, by omega⟩ + ∑ x : Fin n, f ⟨n + x, by omega⟩ + ∑ x : Fin n, f ⟨n + n + x, by omega⟩
      + ∑ x : Fin n, f ⟨n + n + n + x, by omega⟩ := by
  subst h
  rw [Fin.sum_univ_add, Fin.sum_univ_add, Fin.sum_univ_add]
  rfl

open scoped Classical in
/-- Where the rectifier is off, its factor is zero. -/
theorem relu_factor (a u b : EReal) : a * (b * max u 0) = if 0 < u then a * (b * max u 0) else 0 := by
  split
  · rfl
  · rename_i h
    rw [max_eq_right (not_lt.mp h), mul_zero, mul_zero]

end Cert.Mm
-- ==== Proof.Ff1.lean ====
module

public import proofs.«01_k».proof.Defs
public import proofs.«01_k».proof.Proof.Gen.Kernel2Ideal.Value
public import proofs.«01_k».proof.Proof.Gen.Reference2Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The first product of the network and its squared rectifier. -/

namespace Cert.Reference2Ideal.Ff1

open Cert.Reference2Ideal Cert.Reference2Ideal.Gen Idealize.ShloMosaic Idealize.ShloMosaic.TcCoe Idealize.SL.Sem

section
variable (H : FVec Ideal S2048x1024 .bf16) (W : FVec Ideal S1024x4096 .f32)

/-- The reference's result. -/
def act : FVec Ideal S2048x4096 .bf16 := truncf .bf16 (mulf (maximumf (Host.dotGeneral dot_S2048x1024_S1024x4096_S2048x4096_1_0_0_1_n_n none (extf .f32 H bitsLt_bf16_f32) W) (broadcastInDim S2048x4096 ![] bcast_S_S2048x4096 (constant S_ .f32 0x00000000#32))) (maximumf (Host.dotGeneral dot_S2048x1024_S1024x4096_S2048x4096_1_0_0_1_n_n none (extf .f32 H bitsLt_bf16_f32) W) (broadcastInDim S2048x4096 ![] bcast_S_S2048x4096 (constant S_ .f32 0x00000000#32)))) bitsLt_bf16_f32

theorem act_at (r : Fin 2048) (l : Fin 4096) : act H W (ix2 r l) = max (∑ x : Fin 1024, H (ix2 r x) * W (ix2 x l)) 0 * max (∑ x : Fin 1024, H (ix2 r x) * W (ix2 x l)) 0 := by
  pointwise [act]

/-- The reference's result. -/
def rel : FVec Ideal S2048x4096 .bf16 := truncf .bf16 (maximumf (Host.dotGeneral dot_S2048x1024_S1024x4096_S2048x4096_1_0_0_1_n_n none (extf .f32 H bitsLt_bf16_f32) W) (broadcastInDim S2048x4096 ![] bcast_S_S2048x4096 (constant S_ .f32 0x00000000#32))) bitsLt_bf16_f32

theorem rel_at (r : Fin 2048) (l : Fin 4096) : rel H W (ix2 r l) = max (∑ x : Fin 1024, H (ix2 r x) * W (ix2 x l)) 0 := by
  pointwise [rel]
end

end Cert.Reference2Ideal.Ff1

namespace Cert.Kernel2Ideal.Ff1

open Cert.Kernel2Ideal Cert.Kernel2Ideal.Gen Cert.Kernel2Ideal.Value Idealize.ShloMosaic Idealize.ShloMosaic.TcCoe Idealize.SL.Sem
open Cert.Reference2Ideal.Ff1 (act act_at rel rel_at)

theorem blk2_at (a : Vec Ideal S2048x1024 .bf16) (b : Vec Ideal S1x1024x512 .bf16) (r : Fin 2048) (l : Fin 512) : out0_2 (F := Ideal) a b (ix2 r l)
    = max (∑ x : Fin 1024, a (ix2 r x) * b (ix3 0 x l)) 0 * max (∑ x : Fin 1024, a (ix2 r x) * b (ix3 0 x l)) 0 := by
  unfold out0_2
  frame_out
  pointwise [k0_pay2, k0_pay1]

theorem blk3_at (a : Vec Ideal S2048x1024 .bf16) (b : Vec Ideal S1x1024x512 .bf16) (r : Fin 2048) (l : Fin 512) : out0_3 (F := Ideal) a b (ix2 r l)
    = max (∑ x : Fin 1024, a (ix2 r x) * b (ix3 0 x l)) 0 := by
  unfold out0_3
  frame_out
  pointwise [k0_pay3, k0_pay1]

variable (m : (ℓ : Loc nD τ sig) → Buf (Elt Ideal) ℓ) (g : Dev nD → PrngReg) (c : Dev nD)

theorem idx_val : ∀ t : Fin cfg0.N, win0_0.index t = ![0, 0] ∧ win0_1.index t = ![t.val / 2, 0, t.val % 2] ∧ win0_2.index t = ![0, t.val] ∧ win0_3.index t = ![0, t.val] :=
  (by decide +kernel : ∀ t : Fin grid0.N, _)

theorem in0 (t : Fin cfg0.N) (r : Fin 2048) (x : Fin 1024) : iblk m c 0 t (ix2 r x) = m ((c.tc : Thread nD τ).loc main_arg0) (ix2 r x) := by
  blk_ext! [iblk, V, idx_val t]

theorem in1 (t : Fin cfg0.N) (x : Fin 1024) (l : Fin 512) : iblk m c 1 t (ix3 0 x l) = m ((c.tc : Thread nD τ).loc main_arg1) (ix2 x ⟨t.val * 512 + l, by have : t.val < 8 := t.isLt; omega⟩) := by
  blk_ext! [iblk, V, idx_val t]

theorem final_2 : (dats m 0 c).arrAt 2 (cfgs 0).N = act (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (((View.whole main_v3_0).slice (win0_2.rect t)).emb (ix2 y0 y1)) = ix2 y0 ⟨t.val * 512 + y1, by have : t.val < 8 := t.isLt; omega⟩ := by blk_ext [idx_val t]
  rw [e]
  refine (blk2_at _ _ y0 y1).trans (Eq.trans ?_ (act_at ..).symm)
  simp only [in0 m c t, in1 m c t]

theorem final_3 : (dats m 0 c).arrAt 3 (cfgs 0).N = rel (m ((c.tc : Thread nD τ).loc main_arg0)) (m ((c.tc : Thread nD τ).loc main_arg1)) := by
  refine (dats m 0 c).arrAt_eq_of_covers 3 _ (by decide +kernel) fun t hf y => ?_
  blk_simp
  rw [after0_3]
  idx_vars y
  have e : (((View.whole main_v3_1).slice (win0_3.rect t)).emb (ix2 y0 y1)) = ix2 y0 ⟨t.val * 512 + y1, by have : t.val < 8 := t.isLt; omega⟩ := by blk_ext [idx_val t]
  rw [e]
  refine (blk3_at _ _ y0 y1).trans (Eq.trans ?_ (rel_at ..).symm)
  simp only [in0 m c t, in1 m c t]

end Cert.Kernel2Ideal.Ff1

namespace Cert.Proof.Ff1

open Idealize.ShloMosaic Idealize.SL.Sem
open Cert.Reference2Ideal.Ff1 (act rel)

/-- The kernel and the reference leave equal arrays. -/
theorem algebraic : Cert.algebraic_Kernel2Ideal_Reference2Ideal := by
  intro m g m' g' hpre hagree
  refine ⟨fun c => act (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), fun c => rel (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run _ _ _).mono (fun r h c => ?_) (Cert.Kernel2Ideal.Value.run_blocks m g),
    (θ_run _ _ _).mono (fun r h c => ?_) (Cert.Reference2Ideal.Value.run m' g')⟩
  · obtain ⟨h0, h1, h⟩ := h c
    exact ⟨h0.trans (Cert.Kernel2Ideal.Ff1.final_2 m c), h1.trans (Cert.Kernel2Ideal.Ff1.final_3 m c), h⟩
  · have h' := h c
    rw [(hagree c).1, (hagree c).2] at h'
    rw [(hagree c).1, (hagree c).2]
    exact h'

/-- The reference leaves its arguments as they were. -/
theorem frame_r : Cert.quiescent_Reference2Ideal := fun m g _ =>
  (θ_run Cert.Reference2Ideal.defs _ _).mono (fun r h => ⟨fun c => (h c).2.2, sem_eq_zero_of_no_sems (by decide) r.2⟩) (Cert.Reference2Ideal.Value.run m g)

end Cert.Proof.Ff1
-- ==== Proof.Ff2.lean ====
module

public import proofs.«01_k».proof.Defs
public import proofs.«01_k».proof.Proof.Gen.Kernel3Ideal.Value
public import proofs.«01_k».proof.Proof.Gen.Reference3Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The second product of the network. -/

namespace Cert.Reference3Ideal.Ff2

open Cert.Reference3Ideal Cert.Reference3Ideal.Gen Idealize.ShloMosaic Idealize.ShloMosaic.TcCoe Idealize.SL.Sem

section
variable (A : FVec Ideal S2048x4096 .bf16) (W : FVec Ideal S4096x1024 .f32)

/-- The reference's result. -/
def out : FVec Ideal S2048x1024 .f32 := Host.dotGeneral dot_S2048x4096_S4096x1024_S2048x1024_1_0_0_1_n_n none (extf .f32 A bitsLt_bf16_f32) W

theorem out_at (r : Fin 2048) (l : Fin 1024) : out A W (ix2 r l) = ∑ x : Fin 4096, A (ix2 r x) * W (ix2 x l) := by
  pointwise [out]
end

end Cert.Reference3Ideal.Ff2

namespace Cert.Kernel3Ideal.Ff2

open Cert.Kernel3Ideal Cert.Kernel3Ideal.Gen Cert.Kernel3Ideal.Value Idealize.ShloMosaic Idealize.ShloMosaic.TcCoe Idealize.SL.Sem
open Cert.Reference3Ideal.Ff2 (out out_at)

theorem blk_at (a : Vec Ideal S1024x4096 .bf16) (b : Vec Ideal S4x1024x512 .bf16) (r : Fin 1024) (l : Fin 512) : out0_2 (F := Ideal) a b (ix2 r l)
    = ∑ x : Fin 1024, a (ix2 r ⟨x, by omega⟩) * b (ix3 0 x l) + ∑ x : Fin 1024, a (ix2 r ⟨1024 + x, by omega⟩) * b (ix3 1 x l)
      + ∑ x : Fin 1024, a (ix2 r ⟨2048 + x, by omega⟩) * b (ix3 2 x l) + ∑ x : Fin 1024, a (ix2 r ⟨3072 + x, by omega⟩) * b (ix3 3 x l) := by
  unfold out0_2
  frame_out
  pointwise [k0_pay1]

variable (m : (ℓ : Loc nD τ sig) → Buf (Elt Ideal) ℓ) (g : Dev nD → PrngReg) (c : Dev nD)

theorem idx_val : ∀ t : Fin cfg0.N, win0_0.index t = ![t.val / 2, 0] ∧ win0_1.index t = ![0, 0, t.val % 2] ∧ win0_2.index t = ![t.val / 2, t.val % 2] :=
  (by decide +kernel : ∀ t : Fin grid0.N, _)

theorem in0 (t : Fin cfg0.N) (r : Fin 1024) (x : Fin 4096) : iblk m c 0 t (ix2 r x) = m ((c.tc : Thread nD τ).loc main_arg0) (ix2 ⟨t.val / 2 * 1024 + r, by have : t.val < 4 := t.isLt; omega⟩ x) := by
  blk_ext! [iblk, V, idx_val t]

theorem in1 (t : Fin cfg0.N) (j : Fin 4) (x : Fin 1024) (l : Fin 512) : iblk m c 1 t (ix3 j x l) = m ((c.tc : Thread nD τ).loc main_arg1) (ix2 ⟨j * 1024 + x, by omega⟩ ⟨t.val % 2 * 512 + l, by omega⟩) := by
  blk_ext! [iblk, V, idx_val t]

theorem final_2 : (dats m 0 c).arrAt 2 (cfgs 0).N = out (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (((View.whole main_v2).slice (win0_2.rect t)).emb (ix2 y0 y1)) = ix2 ⟨t.val / 2 * 1024 + y0, by have : t.val < 4 := t.isLt; omega⟩ ⟨t.val % 2 * 512 + y1, by omega⟩ := by blk_ext [idx_val t]
  rw [e]
  refine (blk_at _ _ y0 y1).trans (Eq.trans ?_ (out_at ..).symm)
  rw [Cert.Mm.sum_four 1024 4096 rfl]
  simp only [in0 m c t, in1 m c t]
  rfl

end Cert.Kernel3Ideal.Ff2

namespace Cert.Proof.Ff2

open Idealize.ShloMosaic Idealize.SL.Sem
open Cert.Reference3Ideal.Ff2 (out)

/-- The kernel and the reference leave equal arrays. -/
theorem algebraic : Cert.algebraic_Kernel3Ideal_Reference3Ideal := by
  intro m g m' g' hpre hagree
  refine ⟨fun c => out (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run _ _ _).mono (fun r h c => ?_) (Cert.Kernel3Ideal.Value.run_blocks m g),
    (θ_run _ _ _).mono (fun r h c => ?_) (Cert.Reference3Ideal.Value.run m' g')⟩
  · obtain ⟨h0, h⟩ := h c
    exact ⟨h0.trans (Cert.Kernel3Ideal.Ff2.final_2 m c), h⟩
  · have h' := h c
    rw [(hagree c).1, (hagree c).2] at h'
    rw [(hagree c).1, (hagree c).2]
    exact h'

/-- The reference leaves its arguments as they were. -/
theorem frame_r : Cert.quiescent_Reference3Ideal := fun m g _ =>
  (θ_run Cert.Reference3Ideal.defs _ _).mono (fun r h => ⟨fun c => (h c).2, sem_eq_zero_of_no_sems (by decide) r.2⟩) (Cert.Reference3Ideal.Value.run m g)

end Cert.Proof.Ff2
-- ==== Proof.Dff2.lean ====
module

public import proofs.«01_k».proof.Defs
public import proofs.«01_k».proof.Proof.Gen.Kernel4Ideal.Value
public import proofs.«01_k».proof.Proof.Gen.Reference4Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The gradient of the second weight. -/

namespace Cert.Reference4Ideal.Dff2

open Cert.Reference4Ideal Cert.Reference4Ideal.Gen Idealize.ShloMosaic Idealize.ShloMosaic.TcCoe Idealize.SL.Sem

section
variable (U : FVec Ideal S2048x4096 .f32) (Y : FVec Ideal S2048x1024 .bf16)

/-- The reference's result. -/
def out : FVec Ideal S4096x1024 .bf16 := truncf .bf16 (transpose S4096x1024 [1, 0] (Host.dotGeneral dot_S2048x1024_S2048x4096_S1024x4096_0_0_1_1_n_n none (extf .f32 Y bitsLt_bf16_f32) (mulf (maximumf U (broadcastInDim S2048x4096 ![] bcast_S_S2048x4096 (constant S_ .f32 0x00000000#32))) (maximumf U (broadcastInDim S2048x4096 ![] bcast_S_S2048x4096 (constant S_ .f32 0x00000000#32))))) transposes_S1024x4096_S4096x1024_1_0) bitsLt_bf16_f32

theorem out_at (r : Fin 4096) (l : Fin 1024) : out U Y (ix2 r l) = ∑ x : Fin 2048, max (U (ix2 x r)) 0 * max (U (ix2 x r)) 0 * Y (ix2 x l) := by
  pointwise [out]
  exact Finset.sum_congr rfl fun _ _ => mul_comm _ _
end

end Cert.Reference4Ideal.Dff2

namespace Cert.Kernel4Ideal.Dff2

open Cert.Kernel4Ideal Cert.Kernel4Ideal.Gen Cert.Kernel4Ideal.Value Idealize.ShloMosaic Idealize.ShloMosaic.TcCoe Idealize.SL.Sem
open Cert.Reference4Ideal.Dff2 (out out_at)

theorem blk_at (a : Vec Ideal S2048x512 .bf16) (b : Vec Ideal S2048x1024 .bf16) (r : Fin 512) (l : Fin 1024) : out0_2 (F := Ideal) a b (ix2 r l)
    = ∑ x : Fin 2048, a (ix2 x r) * b (ix2 x l) := by
  unfold out0_2
  frame_out
  pointwise [k0_pay1]

variable (m : (ℓ : Loc nD τ sig) → Buf (Elt Ideal) ℓ) (g : Dev nD → PrngReg) (c : Dev nD)

theorem idx_val : ∀ t : Fin cfg0.N, win0_0.index t = ![0, t.val] ∧ win0_1.index t = ![0, 0] ∧ win0_2.index t = ![t.val, 0] :=
  (by decide +kernel : ∀ t : Fin grid0.N, _)

theorem in0 (t : Fin cfg0.N) (x : Fin 2048) (r : Fin 512) : iblk m c 0 t (ix2 x r) = (max (m ((c.tc : Thread nD τ).loc main_arg0) (ix2 x ⟨t.val * 512 + r, by have : t.val < 8 := t.isLt; omega⟩) : EReal) 0 : EReal) * (max (m ((c.tc : Thread nD τ).loc main_arg0) (ix2 x ⟨t.val * 512 + r, by have : t.val < 8 := t.isLt; omega⟩) : EReal) 0 : EReal) := by
  have e : (win0_0.blk t).view.emb (ix2 x r) = ix2 x ⟨t.val * 512 + r, by have : t.val < 8 := t.isLt; omega⟩ := by blk_ext [idx_val t]
  blk_simp [iblk, V]
  entry_read
  pointwise
  rw [e]

theorem in1 (t : Fin cfg0.N) (x : Fin 2048) (l : Fin 1024) : iblk m c 1 t (ix2 x l) = m ((c.tc : Thread nD τ).loc main_arg1) (ix2 x l) := by
  blk_ext! [iblk, V, idx_val t]

theorem final_2 : (dats m 0 c).arrAt 2 (cfgs 0).N = out (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (((View.whole main_v5).slice (win0_2.rect t)).emb (ix2 y0 y1)) = ix2 ⟨t.val * 512 + y0, by have : t.val < 8 := t.isLt; omega⟩ y1 := by blk_ext [idx_val t]
  rw [e]
  refine (blk_at _ _ y0 y1).trans (Eq.trans ?_ (out_at ..).symm)
  simp only [in0 m c t, in1 m c t]

end Cert.Kernel4Ideal.Dff2

namespace Cert.Proof.Dff2

open Idealize.ShloMosaic Idealize.SL.Sem
open Cert.Reference4Ideal.Dff2 (out)

/-- The kernel and the reference leave equal arrays. -/
theorem algebraic : Cert.algebraic_Kernel4Ideal_Reference4Ideal := by
  intro m g m' g' hpre hagree
  refine ⟨fun c => out (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run _ _ _).mono (fun r h c => ?_) (Cert.Kernel4Ideal.Value.run_blocks m g),
    (θ_run _ _ _).mono (fun r h c => ?_) (Cert.Reference4Ideal.Value.run m' g')⟩
  · obtain ⟨h0, h⟩ := h c
    exact ⟨h0.trans (Cert.Kernel4Ideal.Dff2.final_2 m c), h⟩
  · have h' := h c
    rw [(hagree c).1, (hagree c).2] at h'
    rw [(hagree c).1, (hagree c).2]
    exact h'

/-- The reference leaves its arguments as they were. -/
theorem frame_r : Cert.quiescent_Reference4Ideal := fun m g _ =>
  (θ_run Cert.Reference4Ideal.defs _ _).mono (fun r h => ⟨fun c => (h c).2, sem_eq_zero_of_no_sems (by decide) r.2⟩) (Cert.Reference4Ideal.Value.run m g)

end Cert.Proof.Dff2
-- ==== Proof.Du.lean ====
module

public import proofs.«01_k».proof.Defs
public import proofs.«01_k».proof.Proof.Gen.Kernel5Ideal.Value
public import proofs.«01_k».proof.Proof.Gen.Reference5Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The gradient of the network's inner layer, before its rectifier. -/

namespace Cert.Reference5Ideal.Du

open Cert.Reference5Ideal Cert.Reference5Ideal.Gen Idealize.ShloMosaic Idealize.ShloMosaic.TcCoe Idealize.SL.Sem

section
variable (U : FVec Ideal S2048x4096 .f32) (W : FVec Ideal S4096x1024 .f32) (Y : FVec Ideal S2048x1024 .bf16)

/-- The reference's result. -/
def out : FVec Ideal S2048x4096 .bf16 := truncf .bf16 (select (cmpf .ogt U (broadcastInDim S2048x4096 ![] bcast_S_S2048x4096 (constant S_ .f32 0x00000000#32))) (mulf (Host.dotGeneral dot_S2048x1024_S4096x1024_S2048x4096_1_1_0_0_n_n none (extf .f32 Y bitsLt_bf16_f32) W) (mulf (broadcastInDim S2048x4096 ![] bcast_S_S2048x4096 (constant S_ .f32 0x40000000#32)) (maximumf U (broadcastInDim S2048x4096 ![] bcast_S_S2048x4096 (constant S_ .f32 0x00000000#32))))) (broadcastInDim S2048x4096 ![] bcast_S_S2048x4096 (constant S_ .f32 0x00000000#32))) bitsLt_bf16_f32

theorem out_at (r : Fin 2048) (l : Fin 4096) : out U W Y (ix2 r l) = (∑ x : Fin 1024, Y (ix2 r x) * W (ix2 l x)) * (Ideal.ofBits .f32 0x40000000#32 * max (U (ix2 r l)) 0) := by
  pointwise [out]
  exact (Cert.Mm.relu_factor _ _ _).symm
end

end Cert.Reference5Ideal.Du

namespace Cert.Kernel5Ideal.Du

open Cert.Kernel5Ideal Cert.Kernel5Ideal.Gen Cert.Kernel5Ideal.Value Idealize.ShloMosaic Idealize.ShloMosaic.TcCoe Idealize.SL.Sem
open Cert.Reference5Ideal.Du (out out_at)

theorem blk_at (a : Vec Ideal S2048x1024 .bf16) (b : Vec Ideal S1x512x1024 .bf16) (d : Vec Ideal S2048x512 .bf16) (r : Fin 2048) (l : Fin 512) : out0_3 (F := Ideal) a b d (ix2 r l)
    = (∑ x : Fin 1024, a (ix2 r x) * b (ix3 0 l x)) * (Ideal.ofBits .f32 0x40000000#32 * d (ix2 r l)) := by
  unfold out0_3
  frame_out
  pointwise [k0_pay1]

variable (m : (ℓ : Loc nD τ sig) → Buf (Elt Ideal) ℓ) (g : Dev nD → PrngReg) (c : Dev nD)

theorem idx_val : ∀ t : Fin cfg0.N, win0_0.index t = ![0, 0] ∧ win0_1.index t = ![t.val / 2, t.val % 2, 0] ∧ win0_2.index t = ![0, t.val] ∧ win0_3.index t = ![0, t.val] :=
  (by decide +kernel : ∀ t : Fin grid0.N, _)

theorem in0 (t : Fin cfg0.N) (r : Fin 2048) (x : Fin 1024) : iblk m c 0 t (ix2 r x) = m ((c.tc : Thread nD τ).loc main_arg2) (ix2 r x) := by
  blk_ext! [iblk, V, idx_val t]

theorem in1 (t : Fin cfg0.N) (l : Fin 512) (x : Fin 1024) : iblk m c 1 t (ix3 0 l x) = m ((c.tc : Thread nD τ).loc main_arg1) (ix2 ⟨t.val * 512 + l, by have : t.val < 8 := t.isLt; omega⟩ x) := by
  blk_ext! [iblk, V, idx_val t]

theorem in2 (t : Fin cfg0.N) (r : Fin 2048) (l : Fin 512) : iblk m c 2 t (ix2 r l) = (max (m ((c.tc : Thread nD τ).loc main_arg0) (ix2 r ⟨t.val * 512 + l, by have : t.val < 8 := t.isLt; omega⟩) : EReal) 0 : EReal) := by
  have e : (win0_2.blk t).view.emb (ix2 r l) = ix2 r ⟨t.val * 512 + l, by have : t.val < 8 := t.isLt; omega⟩ := by blk_ext [idx_val t]
  blk_simp [iblk, V]
  entry_read
  pointwise
  rw [e]

theorem final_3 : (dats m 0 c).arrAt 3 (cfgs 0).N = out (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  idx_vars y
  have e : (((View.whole main_v7).slice (win0_3.rect t)).emb (ix2 y0 y1)) = ix2 y0 ⟨t.val * 512 + y1, by have : t.val < 8 := t.isLt; omega⟩ := by blk_ext [idx_val t]
  rw [e]
  refine (blk_at _ _ _ y0 y1).trans (Eq.trans ?_ (out_at ..).symm)
  simp only [in0 m c t, in1 m c t, in2 m c t]

end Cert.Kernel5Ideal.Du

namespace Cert.Proof.Du

open Idealize.ShloMosaic Idealize.SL.Sem
open Cert.Reference5Ideal.Du (out)

/-- The kernel and the reference leave equal arrays. -/
theorem algebraic : Cert.algebraic_Kernel5Ideal_Reference5Ideal := by
  intro m g m' g' hpre hagree
  refine ⟨fun c => out (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    (θ_run _ _ _).mono (fun r h c => ?_) (Cert.Kernel5Ideal.Value.run_blocks m g),
    (θ_run _ _ _).mono (fun r h c => ?_) (Cert.Reference5Ideal.Value.run m' g')⟩
  · obtain ⟨h0, h⟩ := h c
    exact ⟨h0.trans (Cert.Kernel5Ideal.Du.final_3 m c), h⟩
  · have h' := h c
    rw [(hagree c).1, (hagree c).2.1, (hagree c).2.2] at h'
    rw [(hagree c).1, (hagree c).2.1, (hagree c).2.2]
    exact h'

/-- The reference leaves its arguments as they were. -/
theorem frame_r : Cert.quiescent_Reference5Ideal := fun m g _ =>
  (θ_run Cert.Reference5Ideal.defs _ _).mono (fun r h => ⟨fun c => (h c).2, sem_eq_zero_of_no_sems (by decide) r.2⟩) (Cert.Reference5Ideal.Value.run m g)

end Cert.Proof.Du
-- ==== Proof.Dff1.lean ====
module

public import proofs.«01_k».proof.Defs
public import proofs.«01_k».proof.Proof.Gen.Kernel6Ideal.Value
public import proofs.«01_k».proof.Proof.Gen.Reference6Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The gradient of the first weight, one slab of columns per chip. -/

namespace Cert.Reference6Ideal.Dff1

open Cert.Reference6Ideal Cert.Reference6Ideal.Gen Idealize.ShloMosaic Idealize.ShloMosaic.TcCoe Idealize.SL.Sem

section
variable (H : FVec Ideal S2048x1024 .bf16) (U : FVec Ideal S2048x4096 .bf16)

/-- The reference's result. -/
def out : FVec Ideal S4x1024x1024 .bf16 := transpose S4x1024x1024 [1, 0, 2] (shapeCast _ (truncf .bf16 (transpose S1024x4096 [1, 0] (Host.dotGeneral dot_S2048x4096_S2048x1024_S4096x1024_0_0_1_1_n_n none (extf .f32 U bitsLt_bf16_f32) (extf .f32 H bitsLt_bf16_f32)) transposes_S4096x1024_S1024x4096_1_0) bitsLt_bf16_f32) shapeCasts_S1024x4096_S1024x4x1024) transposes_S1024x4x1024_S4x1024x1024_1_0_2

theorem out_at (p : Fin 4) (r l : Fin 1024) : out H U (ix3 p r l) = ∑ x : Fin 2048, H (ix2 x r) * U (ix2 x ⟨p * 1024 + l, by omega⟩) := by
  pointwise [out]
  exact Finset.sum_congr rfl fun _ _ => mul_comm _ _
end

end Cert.Reference6Ideal.Dff1

namespace Cert.Kernel6Ideal.Dff1

open Cert.Kernel6Ideal Cert.Kernel6Ideal.Gen Cert.Kernel6Ideal.Value Idealize.ShloMosaic Idealize.ShloMosaic.TcCoe Idealize.SL.Sem
open Cert.Reference6Ideal.Dff1 (out out_at)

/-- The result at column `l` of block `t`. -/
theorem out_blk (H : FVec Ideal S2048x1024 .bf16) (U : FVec Ideal S2048x4096 .bf16) (t : Fin 8) (r : Fin 1024) (l : Fin 512) :
    out H U (ix3 ⟨t.val / 2, by omega⟩ r ⟨t.val % 2 * 512 + l, by omega⟩)
      = ∑ x : Fin 2048, H (ix2 x r) * U (ix2 x ⟨t.val * 512 + l, by omega⟩) := by
  have e : (⟨t.val / 2 * 1024 + (t.val % 2 * 512 + l.val), by omega⟩ : Fin 4096) = ⟨t.val * 512 + l.val, by omega⟩ := by
    apply Fin.ext; simp only; omega
  rw [out_at]
  simp only [e]

theorem blk_at (a : Vec Ideal S2048x1024 .bf16) (b : Vec Ideal S2048x512 .bf16) (r : Fin 1024) (l : Fin 512) : out0_2 (F := Ideal) a b (ix3 0 r l)
    = ∑ x : Fin 2048, a (ix2 x r) * b (ix2 x l) := by
  unfold out0_2
  frame_out
  pointwise [k0_pay1]

variable (m : (ℓ : Loc nD τ sig) → Buf (Elt Ideal) ℓ) (g : Dev nD → PrngReg) (c : Dev nD)

theorem idx_val : ∀ t : Fin cfg0.N, win0_0.index t = ![0, 0] ∧ win0_1.index t = ![0, t.val] ∧ win0_2.index t = ![t.val / 2, 0, t.val % 2] :=
  (by decide +kernel : ∀ t : Fin grid0.N, _)

theorem in0 (t : Fin cfg0.N) (x : Fin 2048) (r : Fin 1024) : iblk m c 0 t (ix2 x r) = m ((c.tc : Thread nD τ).loc main_arg0) (ix2 x r) := by
  blk_ext! [iblk, V, idx_val t]

theorem in1 (t : Fin cfg0.N) (x : Fin 2048) (l : Fin 512) : iblk m c 1 t (ix2 x l) = m ((c.tc : Thread nD τ).loc main_arg1) (ix2 x ⟨t.val * 512 + l, by have : t.val < 8 := t.isLt; omega⟩) := by
  blk_ext! [iblk, V, idx_val t]

theorem final_2 : (dats m 0 c).arrAt 2 (cfgs 0).N = out (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  obtain rfl : y0 = 0 := Subsingleton.elim _ _
  have e : (((View.whole main_v0).slice (win0_2.rect t)).emb (ix3 0 y1 y2)) = ix3 ⟨t.val / 2, by have : t.val < 8 := t.isLt; omega⟩ y1 ⟨t.val % 2 * 512 + y2, by omega⟩ := by blk_ext [idx_val t]
  rw [e]
  refine (blk_at _ _ y1 y2).trans (Eq.trans ?_ (out_blk _ _ t y1 y2).symm)
  simp only [in0 m c t, in1 m c t]

end Cert.Kernel6Ideal.Dff1

namespace Cert.Proof.Dff1

open Idealize.ShloMosaic Idealize.SL.Sem
open Cert.Reference6Ideal.Dff1 (out)

/-- The kernel and the reference leave equal arrays. -/
theorem algebraic : Cert.algebraic_Kernel6Ideal_Reference6Ideal := by
  intro m g m' g' hpre hagree
  refine ⟨fun c => out (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    (θ_run _ _ _).mono (fun r h c => ?_) (Cert.Kernel6Ideal.Value.run_blocks m g),
    (θ_run _ _ _).mono (fun r h c => ?_) (Cert.Reference6Ideal.Value.run m' g')⟩
  · obtain ⟨h0, h⟩ := h c
    exact ⟨h0.trans (Cert.Kernel6Ideal.Dff1.final_2 m c), h⟩
  · have h' := h c
    rw [(hagree c).1, (hagree c).2] at h'
    rw [(hagree c).1, (hagree c).2]
    exact h'

/-- The reference leaves its arguments as they were. -/
theorem frame_r : Cert.quiescent_Reference6Ideal := fun m g _ =>
  (θ_run Cert.Reference6Ideal.defs _ _).mono (fun r h => ⟨fun c => (h c).2, sem_eq_zero_of_no_sems (by decide) r.2⟩) (Cert.Reference6Ideal.Value.run m g)

end Cert.Proof.Dff1
-- ==== Proof.Dh3.lean ====
module

public import proofs.«01_k».proof.Defs
public import proofs.«01_k».proof.Proof.Gen.Kernel7Ideal.Value
public import proofs.«01_k».proof.Proof.Gen.Reference7Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The gradient of the network's input: the product with the first weight, transposed. -/

namespace Cert.Reference7Ideal.Dh3

open Cert.Reference7Ideal Cert.Reference7Ideal.Gen Idealize.ShloMosaic Idealize.ShloMosaic.TcCoe Idealize.SL.Sem

section
variable (U : FVec Ideal S2048x4096 .bf16) (W : FVec Ideal S1024x4096 .f32)

/-- The reference's result. -/
def out : FVec Ideal S2048x1024 .f32 := Host.dotGeneral dot_S2048x4096_S1024x4096_S2048x1024_1_1_0_0_n_n none (extf .f32 U bitsLt_bf16_f32) W

theorem out_at (r : Fin 2048) (l : Fin 1024) : out U W (ix2 r l) = ∑ x : Fin 4096, U (ix2 r x) * W (ix2 l x) := by
  pointwise [out]
end

end Cert.Reference7Ideal.Dh3

namespace Cert.Kernel7Ideal.Dh3

open Cert.Kernel7Ideal Cert.Kernel7Ideal.Gen Cert.Kernel7Ideal.Value Idealize.ShloMosaic Idealize.ShloMosaic.TcCoe Idealize.SL.Sem
open Cert.Reference7Ideal.Dh3 (out out_at)

theorem blk_at (a : Vec Ideal S1024x4096 .bf16) (b : Vec Ideal S4x512x1024 .bf16) (r : Fin 1024) (l : Fin 512) : out0_2 (F := Ideal) a b (ix2 r l)
    = ∑ x : Fin 1024, a (ix2 r ⟨x, by omega⟩) * b (ix3 0 l x) + ∑ x : Fin 1024, a (ix2 r ⟨1024 + x, by omega⟩) * b (ix3 1 l x)
      + ∑ x : Fin 1024, a (ix2 r ⟨2048 + x, by omega⟩) * b (ix3 2 l x) + ∑ x : Fin 1024, a (ix2 r ⟨3072 + x, by omega⟩) * b (ix3 3 l x) := by
  unfold out0_2
  frame_out
  pointwise [k0_pay1]

variable (m : (ℓ : Loc nD τ sig) → Buf (Elt Ideal) ℓ) (g : Dev nD → PrngReg) (c : Dev nD)

theorem idx_val : ∀ t : Fin cfg0.N, win0_0.index t = ![t.val / 2, 0] ∧ win0_1.index t = ![0, t.val % 2, 0] ∧ win0_2.index t = ![t.val / 2, t.val % 2] :=
  (by decide +kernel : ∀ t : Fin grid0.N, _)

theorem in0 (t : Fin cfg0.N) (r : Fin 1024) (x : Fin 4096) : iblk m c 0 t (ix2 r x) = m ((c.tc : Thread nD τ).loc main_arg0) (ix2 ⟨t.val / 2 * 1024 + r, by have : t.val < 4 := t.isLt; omega⟩ x) := by
  blk_ext! [iblk, V, idx_val t]

theorem in1 (t : Fin cfg0.N) (j : Fin 4) (l : Fin 512) (x : Fin 1024) : iblk m c 1 t (ix3 j l x) = m ((c.tc : Thread nD τ).loc main_arg1) (ix2 ⟨t.val % 2 * 512 + l, by omega⟩ ⟨j * 1024 + x, by omega⟩) := by
  blk_ext! [iblk, V, idx_val t]

theorem final_2 : (dats m 0 c).arrAt 2 (cfgs 0).N = out (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (((View.whole main_v3).slice (win0_2.rect t)).emb (ix2 y0 y1)) = ix2 ⟨t.val / 2 * 1024 + y0, by have : t.val < 4 := t.isLt; omega⟩ ⟨t.val % 2 * 512 + y1, by omega⟩ := by blk_ext [idx_val t]
  rw [e]
  refine (blk_at _ _ y0 y1).trans (Eq.trans ?_ (out_at ..).symm)
  rw [Cert.Mm.sum_four 1024 4096 rfl]
  simp only [in0 m c t, in1 m c t]
  rfl

end Cert.Kernel7Ideal.Dh3

namespace Cert.Proof.Dh3

open Idealize.ShloMosaic Idealize.SL.Sem
open Cert.Reference7Ideal.Dh3 (out)

/-- The kernel and the reference leave equal arrays. -/
theorem algebraic : Cert.algebraic_Kernel7Ideal_Reference7Ideal := by
  intro m g m' g' hpre hagree
  refine ⟨fun c => out (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    (θ_run _ _ _).mono (fun r h c => ?_) (Cert.Kernel7Ideal.Value.run_blocks m g),
    (θ_run _ _ _).mono (fun r h c => ?_) (Cert.Reference7Ideal.Value.run m' g')⟩
  · obtain ⟨h0, h⟩ := h c
    exact ⟨h0.trans (Cert.Kernel7Ideal.Dh3.final_2 m c), h⟩
  · have h' := h c
    rw [(hagree c).1, (hagree c).2] at h'
    rw [(hagree c).1, (hagree c).2]
    exact h'

/-- The reference leaves its arguments as they were. -/
theorem frame_r : Cert.quiescent_Reference7Ideal := fun m g _ =>
  (θ_run Cert.Reference7Ideal.defs _ _).mono (fun r h => ⟨fun c => (h c).2, sem_eq_zero_of_no_sems (by decide) r.2⟩) (Cert.Reference7Ideal.Value.run m g)

end Cert.Proof.Dh3
-- ==== Proof.Proj.lean ====
module

public import proofs.«01_k».proof.Defs
public import proofs.«01_k».proof.Proof.Gen.Kernel8Ideal.Value
public import proofs.«01_k».proof.Proof.Gen.Reference8Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The projection of the input to the queries, keys and values of the two head groups. -/

namespace Cert.Reference8Ideal.Proj

open Cert.Reference8Ideal Cert.Reference8Ideal.Gen Idealize.ShloMosaic Idealize.ShloMosaic.TcCoe Idealize.SL.Sem

section
variable (H : FVec Ideal S2048x1024 .bf16) (W : FVec Ideal S3200x1024 .bf16)

/-- The reference's result. -/
def out : FVec Ideal S2048x3072 .bf16 := truncf .bf16 (Host.dotGeneral dot_S2048x1024_S1024x3072_S2048x3072_1_0_0_1_n_n none (extf .f32 H bitsLt_bf16_f32) (extf .f32 (transpose S1024x3072 [1, 0] (extractStridedSlice S3072x1024 ![0, 0] W slices_S3200x1024_S3072x1024_0_0) transposes_S3072x1024_S1024x3072_1_0) bitsLt_bf16_f32)) bitsLt_bf16_f32

theorem out_at (r : Fin 2048) (l : Fin 3072) : out H W (ix2 r l) = ∑ x : Fin 1024, H (ix2 r x) * W (ix2 ⟨l, by omega⟩ x) := by
  pointwise [out]
end

end Cert.Reference8Ideal.Proj

namespace Cert.Kernel8Ideal.Proj

open Cert.Kernel8Ideal Cert.Kernel8Ideal.Gen Cert.Kernel8Ideal.Value Idealize.ShloMosaic Idealize.ShloMosaic.TcCoe Idealize.SL.Sem
open Cert.Reference8Ideal.Proj (out out_at)

theorem blk_at (a : Vec Ideal S2048x1024 .bf16) (b : Vec Ideal S512x1024 .bf16) (r : Fin 2048) (l : Fin 512) : k0_pay1 (F := Ideal) a b (ix2 r l)
    = ∑ x : Fin 1024, a (ix2 r x) * b (ix2 l x) := by
  pointwise [k0_pay1]

variable (m : (ℓ : Loc nD τ sig) → Buf (Elt Ideal) ℓ) (g : Dev nD → PrngReg) (c : Dev nD)

theorem idx_val : ∀ t : Fin cfg0.N, win0_0.index t = ![0, 0] ∧ win0_1.index t = ![t.val, 0] ∧ win0_2.index t = ![0, t.val] :=
  (by decide +kernel : ∀ t : Fin grid0.N, _)

theorem in0 (t : Fin cfg0.N) (r : Fin 2048) (x : Fin 1024) : iblk m c 0 t (ix2 r x) = m ((c.tc : Thread nD τ).loc main_arg0) (ix2 r x) := by
  blk_ext! [iblk, V, idx_val t]

theorem in1 (t : Fin cfg0.N) (l : Fin 512) (x : Fin 1024) : X0_1 m c t (ix2 l x) = m ((c.tc : Thread nD τ).loc main_arg1) (ix2 ⟨t.val * 512 + l, by have : t.val < 6 := t.isLt; omega⟩ x) := by
  unfold X0_1 Pipeline.Window.fill
  rw [dif_pos (moved0_1 t _)]
  blk_simp [iblk, V]
  refine congrArg _ ?_
  blk_ext [idx_val t]

theorem final_2 : (dats m 0 c).arrAt 2 (cfgs 0).N = out (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold Gen.outsAt0
  frame_out
  idx_vars y
  have e : (((View.whole main_v0).slice (win0_2.rect t)).emb (ix2 y0 y1)) = ix2 y0 ⟨t.val * 512 + y1, by have : t.val < 6 := t.isLt; omega⟩ := by blk_ext [idx_val t]
  rw [e]
  refine (blk_at _ _ y0 y1).trans (Eq.trans ?_ (out_at ..).symm)
  simp only [in0 m c t, in1 m c t]

end Cert.Kernel8Ideal.Proj

namespace Cert.Proof.Proj

open Idealize.ShloMosaic Idealize.SL.Sem
open Cert.Reference8Ideal.Proj (out)

/-- The kernel and the reference leave equal arrays. -/
theorem algebraic : Cert.algebraic_Kernel8Ideal_Reference8Ideal := by
  intro m g m' g' hpre hagree
  refine ⟨fun c => out (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    (θ_run _ _ _).mono (fun r h c => ?_) (Cert.Kernel8Ideal.Value.run_blocks m g),
    (θ_run _ _ _).mono (fun r h c => ?_) (Cert.Reference8Ideal.Value.run m' g')⟩
  · obtain ⟨h0, h⟩ := h c
    exact ⟨h0.trans (Cert.Kernel8Ideal.Proj.final_2 m c), h⟩
  · have h' := h c
    rw [(hagree c).1, (hagree c).2] at h'
    rw [(hagree c).1, (hagree c).2]
    exact h'

/-- The reference leaves its arguments as they were. -/
theorem frame_r : Cert.quiescent_Reference8Ideal := fun m g _ =>
  (θ_run Cert.Reference8Ideal.defs _ _).mono (fun r h => ⟨fun c => (h c).2, sem_eq_zero_of_no_sems (by decide) r.2⟩) (Cert.Reference8Ideal.Value.run m g)

end Cert.Proof.Proj
-- ==== Proof.Gate.lean ====
module

public import proofs.«01_k».proof.Defs
public import proofs.«01_k».proof.Proof.Gen.Kernel9Ideal.Value
public import proofs.«01_k».proof.Proof.Gen.Reference9Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The projection of the input to the forget gates. -/

namespace Cert.Reference9Ideal.Gate

open Cert.Reference9Ideal Cert.Reference9Ideal.Gen Idealize.ShloMosaic Idealize.ShloMosaic.TcCoe Idealize.SL.Sem

section
variable (H : FVec Ideal S2048x1024 .bf16) (W : FVec Ideal S3200x1024 .bf16)

/-- The reference's result. -/
def out : FVec Ideal S2048x128 .f32 := Host.dotGeneral dot_S2048x1024_S1024x128_S2048x128_1_0_0_1_n_n none (extf .f32 H bitsLt_bf16_f32) (extf .f32 (transpose S1024x128 [1, 0] (extractStridedSlice S128x1024 ![3072, 0] W slices_S3200x1024_S128x1024_3072_0) transposes_S128x1024_S1024x128_1_0) bitsLt_bf16_f32)

theorem out_at (r : Fin 2048) (l : Fin 128) : out H W (ix2 r l) = ∑ x : Fin 1024, H (ix2 r x) * W (ix2 ⟨3072 + l, by omega⟩ x) := by
  pointwise [out]
end

end Cert.Reference9Ideal.Gate

namespace Cert.Kernel9Ideal.Gate

open Cert.Kernel9Ideal Cert.Kernel9Ideal.Gen Cert.Kernel9Ideal.Value Idealize.ShloMosaic Idealize.ShloMosaic.TcCoe Idealize.SL.Sem
open Cert.Reference9Ideal.Gate (out out_at)

theorem blk_at (a : Vec Ideal S2048x1024 .bf16) (b : Vec Ideal S128x1024 .bf16) (r : Fin 2048) (l : Fin 128) : out0_2 (F := Ideal) a b (ix2 r l)
    = ∑ x : Fin 1024, a (ix2 r x) * b (ix2 l x) := by
  unfold out0_2
  frame_out
  pointwise [k0_pay1]

variable (m : (ℓ : Loc nD τ sig) → Buf (Elt Ideal) ℓ) (g : Dev nD → PrngReg) (c : Dev nD)

theorem idx_val : ∀ t : Fin cfg0.N, win0_0.index t = ![0, 0] ∧ win0_1.index t = ![24 + t.val, 0] ∧ win0_2.index t = ![0, t.val] :=
  (by decide +kernel : ∀ t : Fin grid0.N, _)

theorem in0 (t : Fin cfg0.N) (r : Fin 2048) (x : Fin 1024) : iblk m c 0 t (ix2 r x) = m ((c.tc : Thread nD τ).loc main_arg0) (ix2 r x) := by
  blk_ext! [iblk, V, idx_val t]

theorem in1 (t : Fin cfg0.N) (l : Fin 128) (x : Fin 1024) : iblk m c 1 t (ix2 l x) = m ((c.tc : Thread nD τ).loc main_arg1) (ix2 ⟨3072 + (t.val * 128 + l), by have : t.val < 1 := t.isLt; omega⟩ x) := by
  blk_ext! [iblk, V, idx_val t]

theorem final_2 : (dats m 0 c).arrAt 2 (cfgs 0).N = out (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (((View.whole main_v0).slice (win0_2.rect t)).emb (ix2 y0 y1)) = ix2 y0 ⟨t.val * 128 + y1, by have : t.val < 1 := t.isLt; omega⟩ := by blk_ext [idx_val t]
  rw [e]
  refine (blk_at _ _ y0 y1).trans (Eq.trans ?_ (out_at ..).symm)
  simp only [in0 m c t, in1 m c t]

end Cert.Kernel9Ideal.Gate

namespace Cert.Proof.Gate

open Idealize.ShloMosaic Idealize.SL.Sem
open Cert.Reference9Ideal.Gate (out)

/-- The kernel and the reference leave equal arrays. -/
theorem algebraic : Cert.algebraic_Kernel9Ideal_Reference9Ideal := by
  intro m g m' g' hpre hagree
  refine ⟨fun c => out (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run _ _ _).mono (fun r h c => ?_) (Cert.Kernel9Ideal.Value.run_blocks m g),
    (θ_run _ _ _).mono (fun r h c => ?_) (Cert.Reference9Ideal.Value.run m' g')⟩
  · obtain ⟨h0, h⟩ := h c
    exact ⟨h0.trans (Cert.Kernel9Ideal.Gate.final_2 m c), h⟩
  · have h' := h c
    rw [(hagree c).1, (hagree c).2] at h'
    rw [(hagree c).1, (hagree c).2]
    exact h'

/-- The reference leaves its arguments as they were. -/
theorem frame_r : Cert.quiescent_Reference9Ideal := fun m g _ =>
  (θ_run Cert.Reference9Ideal.defs _ _).mono (fun r h => ⟨fun c => (h c).2, sem_eq_zero_of_no_sems (by decide) r.2⟩) (Cert.Reference9Ideal.Value.run m g)

end Cert.Proof.Gate
-- ==== Proof.OutProj.lean ====
module

public import proofs.«01_k».proof.Defs
public import proofs.«01_k».proof.Proof.Gen.Kernel10Ideal.Value
public import proofs.«01_k».proof.Proof.Gen.Reference10Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The output projection of the head groups; also that of the memory attention. -/

namespace Cert.Reference10Ideal.OutProj

open Cert.Reference10Ideal Cert.Reference10Ideal.Gen Idealize.ShloMosaic Idealize.ShloMosaic.TcCoe Idealize.SL.Sem

section
variable (A : FVec Ideal S2048x1024 .bf16) (W : FVec Ideal S1024x1024 .f32)

/-- The reference's result. -/
def out : FVec Ideal S2048x1024 .f32 := Host.dotGeneral dot_S2048x1024_S1024x1024_S2048x1024_1_0_0_1_n_n none (extf .f32 A bitsLt_bf16_f32) W

theorem out_at (r : Fin 2048) (l : Fin 1024) : out A W (ix2 r l) = ∑ x : Fin 1024, A (ix2 r x) * W (ix2 x l) := by
  pointwise [out]
end

end Cert.Reference10Ideal.OutProj

namespace Cert.Kernel10Ideal.OutProj

open Cert.Kernel10Ideal Cert.Kernel10Ideal.Gen Cert.Kernel10Ideal.Value Idealize.ShloMosaic Idealize.ShloMosaic.TcCoe Idealize.SL.Sem
open Cert.Reference10Ideal.OutProj (out out_at)

theorem blk_at (a : Vec Ideal S2048x1024 .bf16) (b : Vec Ideal S4x256x512 .bf16) (r : Fin 2048) (l : Fin 512) : out0_2 (F := Ideal) a b (ix2 r l)
    = ∑ x : Fin 256, a (ix2 r ⟨x, by omega⟩) * b (ix3 0 x l) + ∑ x : Fin 256, a (ix2 r ⟨256 + x, by omega⟩) * b (ix3 1 x l)
      + ∑ x : Fin 256, a (ix2 r ⟨512 + x, by omega⟩) * b (ix3 2 x l) + ∑ x : Fin 256, a (ix2 r ⟨768 + x, by omega⟩) * b (ix3 3 x l) := by
  unfold out0_2
  frame_out
  pointwise [k0_pay1]

variable (m : (ℓ : Loc nD τ sig) → Buf (Elt Ideal) ℓ) (g : Dev nD → PrngReg) (c : Dev nD)

theorem idx_val : ∀ t : Fin cfg0.N, win0_0.index t = ![0, 0] ∧ win0_1.index t = ![0, 0, t.val] ∧ win0_2.index t = ![0, t.val] :=
  (by decide +kernel : ∀ t : Fin grid0.N, _)

theorem in0 (t : Fin cfg0.N) (r : Fin 2048) (x : Fin 1024) : iblk m c 0 t (ix2 r x) = m ((c.tc : Thread nD τ).loc main_arg0) (ix2 r x) := by
  blk_ext! [iblk, V, idx_val t]

theorem in1 (t : Fin cfg0.N) (j : Fin 4) (x : Fin 256) (l : Fin 512) : iblk m c 1 t (ix3 j x l) = m ((c.tc : Thread nD τ).loc main_arg1) (ix2 ⟨j * 256 + x, by omega⟩ ⟨t.val * 512 + l, by have : t.val < 2 := t.isLt; omega⟩) := by
  blk_ext! [iblk, V, idx_val t]

theorem final_2 : (dats m 0 c).arrAt 2 (cfgs 0).N = out (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (((View.whole main_v2).slice (win0_2.rect t)).emb (ix2 y0 y1)) = ix2 y0 ⟨t.val * 512 + y1, by have : t.val < 2 := t.isLt; omega⟩ := by blk_ext [idx_val t]
  rw [e]
  refine (blk_at _ _ y0 y1).trans (Eq.trans ?_ (out_at ..).symm)
  rw [Cert.Mm.sum_four 256 1024 rfl]
  simp only [in0 m c t, in1 m c t]
  rfl

end Cert.Kernel10Ideal.OutProj

namespace Cert.Proof.OutProj

open Idealize.ShloMosaic Idealize.SL.Sem
open Cert.Reference10Ideal.OutProj (out)

/-- The kernel and the reference leave equal arrays. -/
theorem algebraic : Cert.algebraic_Kernel10Ideal_Reference10Ideal := by
  intro m g m' g' hpre hagree
  refine ⟨fun c => out (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    (θ_run _ _ _).mono (fun r h c => ?_) (Cert.Kernel10Ideal.Value.run_blocks m g),
    (θ_run _ _ _).mono (fun r h c => ?_) (Cert.Reference10Ideal.Value.run m' g')⟩
  · obtain ⟨h0, h⟩ := h c
    exact ⟨h0.trans (Cert.Kernel10Ideal.OutProj.final_2 m c), h⟩
  · have h' := h c
    rw [(hagree c).1, (hagree c).2] at h'
    rw [(hagree c).1, (hagree c).2]
    exact h'

/-- The reference leaves its arguments as they were. -/
theorem frame_r : Cert.quiescent_Reference10Ideal := fun m g _ =>
  (θ_run Cert.Reference10Ideal.defs _ _).mono (fun r h => ⟨fun c => (h c).2, sem_eq_zero_of_no_sems (by decide) r.2⟩) (Cert.Reference10Ideal.Value.run m g)

end Cert.Proof.OutProj
-- ==== Proof.Mq.lean ====
module

public import proofs.«01_k».proof.Defs
public import proofs.«01_k».proof.Proof.Gen.Kernel11Ideal.Value
public import proofs.«01_k».proof.Proof.Gen.Reference11Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The queries of the memory attention. -/

namespace Cert.Reference11Ideal.Mq

open Cert.Reference11Ideal Cert.Reference11Ideal.Gen Idealize.ShloMosaic Idealize.ShloMosaic.TcCoe Idealize.SL.Sem

section
variable (A : FVec Ideal S2048x1024 .bf16) (W : FVec Ideal S1024x1024 .f32)

/-- The reference's result. -/
def out : FVec Ideal S2048x1024 .bf16 := truncf .bf16 (Host.dotGeneral dot_S2048x1024_S1024x1024_S2048x1024_1_0_0_1_n_n none (extf .f32 A bitsLt_bf16_f32) W) bitsLt_bf16_f32

theorem out_at (r : Fin 2048) (l : Fin 1024) : out A W (ix2 r l) = ∑ x : Fin 1024, A (ix2 r x) * W (ix2 x l) := by
  pointwise [out]
end

end Cert.Reference11Ideal.Mq

namespace Cert.Kernel11Ideal.Mq

open Cert.Kernel11Ideal Cert.Kernel11Ideal.Gen Cert.Kernel11Ideal.Value Idealize.ShloMosaic Idealize.ShloMosaic.TcCoe Idealize.SL.Sem
open Cert.Reference11Ideal.Mq (out out_at)

theorem blk_at (a : Vec Ideal S2048x1024 .bf16) (b : Vec Ideal S4x256x512 .bf16) (r : Fin 2048) (l : Fin 512) : out0_2 (F := Ideal) a b (ix2 r l)
    = ∑ x : Fin 256, a (ix2 r ⟨x, by omega⟩) * b (ix3 0 x l) + ∑ x : Fin 256, a (ix2 r ⟨256 + x, by omega⟩) * b (ix3 1 x l)
      + ∑ x : Fin 256, a (ix2 r ⟨512 + x, by omega⟩) * b (ix3 2 x l) + ∑ x : Fin 256, a (ix2 r ⟨768 + x, by omega⟩) * b (ix3 3 x l) := by
  unfold out0_2
  frame_out
  pointwise [k0_pay1]

variable (m : (ℓ : Loc nD τ sig) → Buf (Elt Ideal) ℓ) (g : Dev nD → PrngReg) (c : Dev nD)

theorem idx_val : ∀ t : Fin cfg0.N, win0_0.index t = ![0, 0] ∧ win0_1.index t = ![0, 0, t.val] ∧ win0_2.index t = ![0, t.val] :=
  (by decide +kernel : ∀ t : Fin grid0.N, _)

theorem in0 (t : Fin cfg0.N) (r : Fin 2048) (x : Fin 1024) : iblk m c 0 t (ix2 r x) = m ((c.tc : Thread nD τ).loc main_arg0) (ix2 r x) := by
  blk_ext! [iblk, V, idx_val t]

theorem in1 (t : Fin cfg0.N) (j : Fin 4) (x : Fin 256) (l : Fin 512) : iblk m c 1 t (ix3 j x l) = m ((c.tc : Thread nD τ).loc main_arg1) (ix2 ⟨j * 256 + x, by omega⟩ ⟨t.val * 512 + l, by have : t.val < 2 := t.isLt; omega⟩) := by
  blk_ext! [iblk, V, idx_val t]

theorem final_2 : (dats m 0 c).arrAt 2 (cfgs 0).N = out (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (((View.whole main_v2).slice (win0_2.rect t)).emb (ix2 y0 y1)) = ix2 y0 ⟨t.val * 512 + y1, by have : t.val < 2 := t.isLt; omega⟩ := by blk_ext [idx_val t]
  rw [e]
  refine (blk_at _ _ y0 y1).trans (Eq.trans ?_ (out_at ..).symm)
  rw [Cert.Mm.sum_four 256 1024 rfl]
  simp only [in0 m c t, in1 m c t]
  rfl

end Cert.Kernel11Ideal.Mq

namespace Cert.Proof.Mq

open Idealize.ShloMosaic Idealize.SL.Sem
open Cert.Reference11Ideal.Mq (out)

/-- The kernel and the reference leave equal arrays. -/
theorem algebraic : Cert.algebraic_Kernel11Ideal_Reference11Ideal := by
  intro m g m' g' hpre hagree
  refine ⟨fun c => out (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    (θ_run _ _ _).mono (fun r h c => ?_) (Cert.Kernel11Ideal.Value.run_blocks m g),
    (θ_run _ _ _).mono (fun r h c => ?_) (Cert.Reference11Ideal.Value.run m' g')⟩
  · obtain ⟨h0, h⟩ := h c
    exact ⟨h0.trans (Cert.Kernel11Ideal.Mq.final_2 m c), h⟩
  · have h' := h c
    rw [(hagree c).1, (hagree c).2] at h'
    rw [(hagree c).1, (hagree c).2]
    exact h'

/-- The reference leaves its arguments as they were. -/
theorem frame_r : Cert.quiescent_Reference11Ideal := fun m g _ =>
  (θ_run Cert.Reference11Ideal.defs _ _).mono (fun r h => ⟨fun c => (h c).2, sem_eq_zero_of_no_sems (by decide) r.2⟩) (Cert.Reference11Ideal.Value.run m g)

end Cert.Proof.Mq
-- ==== Proof.Mk.lean ====
module

public import proofs.«01_k».proof.Defs
public import proofs.«01_k».proof.Proof.Gen.Kernel12Ideal.Value
public import proofs.«01_k».proof.Proof.Gen.Reference12Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The keys of the memory attention; also its values. -/

namespace Cert.Reference12Ideal.Mk

open Cert.Reference12Ideal Cert.Reference12Ideal.Gen Idealize.ShloMosaic Idealize.ShloMosaic.TcCoe Idealize.SL.Sem

section
variable (A : FVec Ideal S256x1024 .bf16) (W : FVec Ideal S1024x1024 .f32)

/-- The reference's result. -/
def out : FVec Ideal S256x1024 .bf16 := truncf .bf16 (Host.dotGeneral dot_S256x1024_S1024x1024_S256x1024_1_0_0_1_n_n none (extf .f32 A bitsLt_bf16_f32) W) bitsLt_bf16_f32

theorem out_at (r : Fin 256) (l : Fin 1024) : out A W (ix2 r l) = ∑ x : Fin 1024, A (ix2 r x) * W (ix2 x l) := by
  pointwise [out]
end

end Cert.Reference12Ideal.Mk

namespace Cert.Kernel12Ideal.Mk

open Cert.Kernel12Ideal Cert.Kernel12Ideal.Gen Cert.Kernel12Ideal.Value Idealize.ShloMosaic Idealize.ShloMosaic.TcCoe Idealize.SL.Sem
open Cert.Reference12Ideal.Mk (out out_at)

theorem blk_at (a : Vec Ideal S256x1024 .bf16) (b : Vec Ideal S4x256x512 .bf16) (r : Fin 256) (l : Fin 512) : out0_2 (F := Ideal) a b (ix2 r l)
    = ∑ x : Fin 256, a (ix2 r ⟨x, by omega⟩) * b (ix3 0 x l) + ∑ x : Fin 256, a (ix2 r ⟨256 + x, by omega⟩) * b (ix3 1 x l)
      + ∑ x : Fin 256, a (ix2 r ⟨512 + x, by omega⟩) * b (ix3 2 x l) + ∑ x : Fin 256, a (ix2 r ⟨768 + x, by omega⟩) * b (ix3 3 x l) := by
  unfold out0_2
  frame_out
  pointwise [k0_pay1]

variable (m : (ℓ : Loc nD τ sig) → Buf (Elt Ideal) ℓ) (g : Dev nD → PrngReg) (c : Dev nD)

theorem idx_val : ∀ t : Fin cfg0.N, win0_0.index t = ![0, 0] ∧ win0_1.index t = ![0, 0, t.val] ∧ win0_2.index t = ![0, t.val] :=
  (by decide +kernel : ∀ t : Fin grid0.N, _)

theorem in0 (t : Fin cfg0.N) (r : Fin 256) (x : Fin 1024) : iblk m c 0 t (ix2 r x) = m ((c.tc : Thread nD τ).loc main_arg0) (ix2 r x) := by
  blk_ext! [iblk, V, idx_val t]

theorem in1 (t : Fin cfg0.N) (j : Fin 4) (x : Fin 256) (l : Fin 512) : iblk m c 1 t (ix3 j x l) = m ((c.tc : Thread nD τ).loc main_arg1) (ix2 ⟨j * 256 + x, by omega⟩ ⟨t.val * 512 + l, by have : t.val < 2 := t.isLt; omega⟩) := by
  blk_ext! [iblk, V, idx_val t]

theorem final_2 : (dats m 0 c).arrAt 2 (cfgs 0).N = out (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (((View.whole main_v2).slice (win0_2.rect t)).emb (ix2 y0 y1)) = ix2 y0 ⟨t.val * 512 + y1, by have : t.val < 2 := t.isLt; omega⟩ := by blk_ext [idx_val t]
  rw [e]
  refine (blk_at _ _ y0 y1).trans (Eq.trans ?_ (out_at ..).symm)
  rw [Cert.Mm.sum_four 256 1024 rfl]
  simp only [in0 m c t, in1 m c t]
  rfl

end Cert.Kernel12Ideal.Mk

namespace Cert.Proof.Mk

open Idealize.ShloMosaic Idealize.SL.Sem
open Cert.Reference12Ideal.Mk (out)

/-- The kernel and the reference leave equal arrays. -/
theorem algebraic : Cert.algebraic_Kernel12Ideal_Reference12Ideal := by
  intro m g m' g' hpre hagree
  refine ⟨fun c => out (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    (θ_run _ _ _).mono (fun r h c => ?_) (Cert.Kernel12Ideal.Value.run_blocks m g),
    (θ_run _ _ _).mono (fun r h c => ?_) (Cert.Reference12Ideal.Value.run m' g')⟩
  · obtain ⟨h0, h⟩ := h c
    exact ⟨h0.trans (Cert.Kernel12Ideal.Mk.final_2 m c), h⟩
  · have h' := h c
    rw [(hagree c).1, (hagree c).2] at h'
    rw [(hagree c).1, (hagree c).2]
    exact h'

/-- The reference leaves its arguments as they were. -/
theorem frame_r : Cert.quiescent_Reference12Ideal := fun m g _ =>
  (θ_run Cert.Reference12Ideal.defs _ _).mono (fun r h => ⟨fun c => (h c).2, sem_eq_zero_of_no_sems (by decide) r.2⟩) (Cert.Reference12Ideal.Value.run m g)

end Cert.Proof.Mk
-- ==== Proof.Dmo.lean ====
module

public import proofs.«01_k».proof.Defs
public import proofs.«01_k».proof.Proof.Gen.Kernel13Ideal.Value
public import proofs.«01_k».proof.Proof.Gen.Reference13Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The gradient of a square weight from 2048 rows. -/

namespace Cert.Reference13Ideal.Dmo

open Cert.Reference13Ideal Cert.Reference13Ideal.Gen Idealize.ShloMosaic Idealize.ShloMosaic.TcCoe Idealize.SL.Sem

section
variable (A : FVec Ideal S2048x1024 .bf16) (Y : FVec Ideal S2048x1024 .bf16)

/-- The reference's result. -/
def out : FVec Ideal S1024x1024 .bf16 := truncf .bf16 (transpose S1024x1024 [1, 0] (Host.dotGeneral dot_S2048x1024_S2048x1024_S1024x1024_0_0_1_1_n_n none (extf .f32 Y bitsLt_bf16_f32) (extf .f32 A bitsLt_bf16_f32)) transposes_S1024x1024_S1024x1024_1_0) bitsLt_bf16_f32

theorem out_at (r l : Fin 1024) : out A Y (ix2 r l) = ∑ x : Fin 2048, A (ix2 x r) * Y (ix2 x l) := by
  pointwise [out]
  exact Finset.sum_congr rfl fun _ _ => mul_comm _ _
end

end Cert.Reference13Ideal.Dmo

namespace Cert.Kernel13Ideal.Dmo

open Cert.Kernel13Ideal Cert.Kernel13Ideal.Gen Cert.Kernel13Ideal.Value Idealize.ShloMosaic Idealize.ShloMosaic.TcCoe Idealize.SL.Sem
open Cert.Reference13Ideal.Dmo (out out_at)

theorem blk_at (a : Vec Ideal S2048x1024 .bf16) (b : Vec Ideal S2048x512 .bf16) (r : Fin 1024) (l : Fin 512) : out0_2 (F := Ideal) a b (ix2 r l)
    = ∑ x : Fin 2048, a (ix2 x r) * b (ix2 x l) := by
  unfold out0_2
  frame_out
  pointwise [k0_pay1]

variable (m : (ℓ : Loc nD τ sig) → Buf (Elt Ideal) ℓ) (g : Dev nD → PrngReg) (c : Dev nD)

theorem idx_val : ∀ t : Fin cfg0.N, win0_0.index t = ![0, 0] ∧ win0_1.index t = ![0, t.val] ∧ win0_2.index t = ![0, t.val] :=
  (by decide +kernel : ∀ t : Fin grid0.N, _)

theorem in0 (t : Fin cfg0.N) (x : Fin 2048) (r : Fin 1024) : iblk m c 0 t (ix2 x r) = m ((c.tc : Thread nD τ).loc main_arg0) (ix2 x r) := by
  blk_ext! [iblk, V, idx_val t]

theorem in1 (t : Fin cfg0.N) (x : Fin 2048) (l : Fin 512) : iblk m c 1 t (ix2 x l) = m ((c.tc : Thread nD τ).loc main_arg1) (ix2 x ⟨t.val * 512 + l, by have : t.val < 2 := t.isLt; omega⟩) := by
  blk_ext! [iblk, V, idx_val t]

theorem final_2 : (dats m 0 c).arrAt 2 (cfgs 0).N = out (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (((View.whole main_v0).slice (win0_2.rect t)).emb (ix2 y0 y1)) = ix2 y0 ⟨t.val * 512 + y1, by have : t.val < 2 := t.isLt; omega⟩ := by blk_ext [idx_val t]
  rw [e]
  refine (blk_at _ _ y0 y1).trans (Eq.trans ?_ (out_at ..).symm)
  simp only [in0 m c t, in1 m c t]

end Cert.Kernel13Ideal.Dmo

namespace Cert.Proof.Dmo

open Idealize.ShloMosaic Idealize.SL.Sem
open Cert.Reference13Ideal.Dmo (out)

/-- The kernel and the reference leave equal arrays. -/
theorem algebraic : Cert.algebraic_Kernel13Ideal_Reference13Ideal := by
  intro m g m' g' hpre hagree
  refine ⟨fun c => out (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
    (θ_run _ _ _).mono (fun r h c => ?_) (Cert.Kernel13Ideal.Value.run_blocks m g),
    (θ_run _ _ _).mono (fun r h c => ?_) (Cert.Reference13Ideal.Value.run m' g')⟩
  · obtain ⟨h0, h⟩ := h c
    exact ⟨h0.trans (Cert.Kernel13Ideal.Dmo.final_2 m c), h⟩
  · have h' := h c
    rw [(hagree c).1, (hagree c).2] at h'
    rw [(hagree c).1, (hagree c).2]
    exact h'

/-- The reference leaves its arguments as they were. -/
theorem frame_r : Cert.quiescent_Reference13Ideal := fun m g _ =>
  (θ_run Cert.Reference13Ideal.defs _ _).mono (fun r h => ⟨fun c => (h c).2, sem_eq_zero_of_no_sems (by decide) r.2⟩) (Cert.Reference13Ideal.Value.run m g)

end Cert.Proof.Dmo
-- ==== Proof.Do2.lean ====
module

public import proofs.«01_k».proof.Defs
public import proofs.«01_k».proof.Proof.Gen.Kernel14Ideal.Value
public import proofs.«01_k».proof.Proof.Gen.Reference14Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The gradient of the memory attention's output. -/

namespace Cert.Reference14Ideal.Do2

open Cert.Reference14Ideal Cert.Reference14Ideal.Gen Idealize.ShloMosaic Idealize.ShloMosaic.TcCoe Idealize.SL.Sem

section
variable (A : FVec Ideal S2048x1024 .bf16) (W : FVec Ideal S1024x1024 .f32)

/-- The reference's result. -/
def out : FVec Ideal S2048x1024 .bf16 := truncf .bf16 (Host.dotGeneral dot_S2048x1024_S1024x1024_S2048x1024_1_1_0_0_n_n none (extf .f32 A bitsLt_bf16_f32) W) bitsLt_bf16_f32

theorem out_at (r : Fin 2048) (l : Fin 1024) : out A W (ix2 r l) = ∑ x : Fin 1024, A (ix2 r x) * W (ix2 l x) := by
  pointwise [out]
end

end Cert.Reference14Ideal.Do2

namespace Cert.Kernel14Ideal.Do2

open Cert.Kernel14Ideal Cert.Kernel14Ideal.Gen Cert.Kernel14Ideal.Value Idealize.ShloMosaic Idealize.ShloMosaic.TcCoe Idealize.SL.Sem
open Cert.Reference14Ideal.Do2 (out out_at)

theorem blk_at (a : Vec Ideal S2048x1024 .bf16) (b : Vec Ideal S1x256x1024 .bf16) (r : Fin 2048) (l : Fin 256) : out0_2 (F := Ideal) a b (ix2 r l)
    = ∑ x : Fin 1024, a (ix2 r x) * b (ix3 0 l x) := by
  unfold out0_2
  frame_out
  pointwise [k0_pay1]

variable (m : (ℓ : Loc nD τ sig) → Buf (Elt Ideal) ℓ) (g : Dev nD → PrngReg) (c : Dev nD)

theorem idx_val : ∀ t : Fin cfg0.N, win0_0.index t = ![0, 0] ∧ win0_1.index t = ![t.val, 0, 0] ∧ win0_2.index t = ![0, t.val] :=
  (by decide +kernel : ∀ t : Fin grid0.N, _)

theorem in0 (t : Fin cfg0.N) (r : Fin 2048) (x : Fin 1024) : iblk m c 0 t (ix2 r x) = m ((c.tc : Thread nD τ).loc main_arg0) (ix2 r x) := by
  blk_ext! [iblk, V, idx_val t]

theorem in1 (t : Fin cfg0.N) (l : Fin 256) (x : Fin 1024) : iblk m c 1 t (ix3 0 l x) = m ((c.tc : Thread nD τ).loc main_arg1) (ix2 ⟨t.val * 256 + l, by have : t.val < 4 := t.isLt; omega⟩ x) := by
  blk_ext! [iblk, V, idx_val t]

theorem final_2 : (dats m 0 c).arrAt 2 (cfgs 0).N = out (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (((View.whole main_v2).slice (win0_2.rect t)).emb (ix2 y0 y1)) = ix2 y0 ⟨t.val * 256 + y1, by have : t.val < 4 := t.isLt; omega⟩ := by blk_ext [idx_val t]
  rw [e]
  refine (blk_at _ _ y0 y1).trans (Eq.trans ?_ (out_at ..).symm)
  simp only [in0 m c t, in1 m c t]

end Cert.Kernel14Ideal.Do2

namespace Cert.Proof.Do2

open Idealize.ShloMosaic Idealize.SL.Sem
open Cert.Reference14Ideal.Do2 (out)

/-- The kernel and the reference leave equal arrays. -/
theorem algebraic : Cert.algebraic_Kernel14Ideal_Reference14Ideal := by
  intro m g m' g' hpre hagree
  refine ⟨fun c => out (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)),
    (θ_run _ _ _).mono (fun r h c => ?_) (Cert.Kernel14Ideal.Value.run_blocks m g),
    (θ_run _ _ _).mono (fun r h c => ?_) (Cert.Reference14Ideal.Value.run m' g')⟩
  · obtain ⟨h0, h⟩ := h c
    exact ⟨h0.trans (Cert.Kernel14Ideal.Do2.final_2 m c), h⟩
  · have h' := h c
    rw [(hagree c).1, (hagree c).2] at h'
    rw [(hagree c).1, (hagree c).2]
    exact h'

/-- The reference leaves its arguments as they were. -/
theorem frame_r : Cert.quiescent_Reference14Ideal := fun m g _ =>
  (θ_run Cert.Reference14Ideal.defs _ _).mono (fun r h => ⟨fun c => (h c).2, sem_eq_zero_of_no_sems (by decide) r.2⟩) (Cert.Reference14Ideal.Value.run m g)

end Cert.Proof.Do2
-- ==== Proof.Dh2.lean ====
module

public import proofs.«01_k».proof.Defs
public import proofs.«01_k».proof.Proof.Gen.Kernel15Ideal.Value
public import proofs.«01_k».proof.Proof.Gen.Reference15Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The gradient of the input of a square product. -/

namespace Cert.Reference15Ideal.Dh2

open Cert.Reference15Ideal Cert.Reference15Ideal.Gen Idealize.ShloMosaic Idealize.ShloMosaic.TcCoe Idealize.SL.Sem

section
variable (A : FVec Ideal S2048x1024 .bf16) (W : FVec Ideal S1024x1024 .f32)

/-- The reference's result. -/
def out : FVec Ideal S2048x1024 .f32 := Host.dotGeneral dot_S2048x1024_S1024x1024_S2048x1024_1_1_0_0_n_n none (extf .f32 A bitsLt_bf16_f32) W

theorem out_at (r : Fin 2048) (l : Fin 1024) : out A W (ix2 r l) = ∑ x : Fin 1024, A (ix2 r x) * W (ix2 l x) := by
  pointwise [out]
end

end Cert.Reference15Ideal.Dh2

namespace Cert.Kernel15Ideal.Dh2

open Cert.Kernel15Ideal Cert.Kernel15Ideal.Gen Cert.Kernel15Ideal.Value Idealize.ShloMosaic Idealize.ShloMosaic.TcCoe Idealize.SL.Sem
open Cert.Reference15Ideal.Dh2 (out out_at)

theorem blk_at (a : Vec Ideal S2048x1024 .bf16) (b : Vec Ideal S1x256x1024 .bf16) (r : Fin 2048) (l : Fin 256) : out0_2 (F := Ideal) a b (ix2 r l)
    = ∑ x : Fin 1024, a (ix2 r x) * b (ix3 0 l x) := by
  unfold out0_2
  frame_out
  pointwise [k0_pay1]

variable (m : (ℓ : Loc nD τ sig) → Buf (Elt Ideal) ℓ) (g : Dev nD → PrngReg) (c : Dev nD)

theorem idx_val : ∀ t : Fin cfg0.N, win0_0.index t = ![0, 0] ∧ win0_1.index t = ![t.val, 0, 0] ∧ win0_2.index t = ![0, t.val] :=
  (by decide +kernel : ∀ t : Fin grid0.N, _)

theorem in0 (t : Fin cfg0.N) (r : Fin 2048) (x : Fin 1024) : iblk m c 0 t (ix2 r x) = m ((c.tc : Thread nD τ).loc main_arg0) (ix2 r x) := by
  blk_ext! [iblk, V, idx_val t]

theorem in1 (t : Fin cfg0.N) (l : Fin 256) (x : Fin 1024) : iblk m c 1 t (ix3 0 l x) = m ((c.tc : Thread nD τ).loc main_arg1) (ix2 ⟨t.val * 256 + l, by have : t.val < 4 := t.isLt; omega⟩ x) := by
  blk_ext! [iblk, V, idx_val t]

theorem final_2 : (dats m 0 c).arrAt 2 (cfgs 0).N = out (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (((View.whole main_v2).slice (win0_2.rect t)).emb (ix2 y0 y1)) = ix2 y0 ⟨t.val * 256 + y1, by have : t.val < 4 := t.isLt; omega⟩ := by blk_ext [idx_val t]
  rw [e]
  refine (blk_at _ _ y0 y1).trans (Eq.trans ?_ (out_at ..).symm)
  simp only [in0 m c t, in1 m c t]

end Cert.Kernel15Ideal.Dh2

namespace Cert.Proof.Dh2

open Idealize.ShloMosaic Idealize.SL.Sem
open Cert.Reference15Ideal.Dh2 (out)

/-- The kernel and the reference leave equal arrays. -/
theorem algebraic : Cert.algebraic_Kernel15Ideal_Reference15Ideal := by
  intro m g m' g' hpre hagree
  refine ⟨fun c => out (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
    (θ_run _ _ _).mono (fun r h c => ?_) (Cert.Kernel15Ideal.Value.run_blocks m g),
    (θ_run _ _ _).mono (fun r h c => ?_) (Cert.Reference15Ideal.Value.run m' g')⟩
  · obtain ⟨h0, h⟩ := h c
    exact ⟨h0.trans (Cert.Kernel15Ideal.Dh2.final_2 m c), h⟩
  · have h' := h c
    rw [(hagree c).1, (hagree c).2] at h'
    rw [(hagree c).1, (hagree c).2]
    exact h'

/-- The reference leaves its arguments as they were. -/
theorem frame_r : Cert.quiescent_Reference15Ideal := fun m g _ =>
  (θ_run Cert.Reference15Ideal.defs _ _).mono (fun r h => ⟨fun c => (h c).2, sem_eq_zero_of_no_sems (by decide) r.2⟩) (Cert.Reference15Ideal.Value.run m g)

end Cert.Proof.Dh2
-- ==== Proof.Dmk.lean ====
module

public import proofs.«01_k».proof.Defs
public import proofs.«01_k».proof.Proof.Gen.Kernel16Ideal.Value
public import proofs.«01_k».proof.Proof.Gen.Reference16Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The gradient of a square weight from the 256 memory rows. -/

namespace Cert.Reference16Ideal.Dmk

open Cert.Reference16Ideal Cert.Reference16Ideal.Gen Idealize.ShloMosaic Idealize.ShloMosaic.TcCoe Idealize.SL.Sem

section
variable (A : FVec Ideal S256x1024 .bf16) (Y : FVec Ideal S256x1024 .bf16)

/-- The reference's result. -/
def out : FVec Ideal S1024x1024 .bf16 := truncf .bf16 (transpose S1024x1024 [1, 0] (Host.dotGeneral dot_S256x1024_S256x1024_S1024x1024_0_0_1_1_n_n none (extf .f32 Y bitsLt_bf16_f32) (extf .f32 A bitsLt_bf16_f32)) transposes_S1024x1024_S1024x1024_1_0) bitsLt_bf16_f32

theorem out_at (r l : Fin 1024) : out A Y (ix2 r l) = ∑ x : Fin 256, A (ix2 x r) * Y (ix2 x l) := by
  pointwise [out]
  exact Finset.sum_congr rfl fun _ _ => mul_comm _ _
end

end Cert.Reference16Ideal.Dmk

namespace Cert.Kernel16Ideal.Dmk

open Cert.Kernel16Ideal Cert.Kernel16Ideal.Gen Cert.Kernel16Ideal.Value Idealize.ShloMosaic Idealize.ShloMosaic.TcCoe Idealize.SL.Sem
open Cert.Reference16Ideal.Dmk (out out_at)

theorem blk_at (a : Vec Ideal S256x1024 .bf16) (b : Vec Ideal S256x512 .bf16) (r : Fin 1024) (l : Fin 512) : out0_2 (F := Ideal) a b (ix2 r l)
    = ∑ x : Fin 256, a (ix2 x r) * b (ix2 x l) := by
  unfold out0_2
  frame_out
  pointwise [k0_pay1]

variable (m : (ℓ : Loc nD τ sig) → Buf (Elt Ideal) ℓ) (g : Dev nD → PrngReg) (c : Dev nD)

theorem idx_val : ∀ t : Fin cfg0.N, win0_0.index t = ![0, 0] ∧ win0_1.index t = ![0, t.val] ∧ win0_2.index t = ![0, t.val] :=
  (by decide +kernel : ∀ t : Fin grid0.N, _)

theorem in0 (t : Fin cfg0.N) (x : Fin 256) (r : Fin 1024) : iblk m c 0 t (ix2 x r) = m ((c.tc : Thread nD τ).loc main_arg0) (ix2 x r) := by
  blk_ext! [iblk, V, idx_val t]

theorem in1 (t : Fin cfg0.N) (x : Fin 256) (l : Fin 512) : iblk m c 1 t (ix2 x l) = m ((c.tc : Thread nD τ).loc main_arg1) (ix2 x ⟨t.val * 512 + l, by have : t.val < 2 := t.isLt; omega⟩) := by
  blk_ext! [iblk, V, idx_val t]

theorem final_2 : (dats m 0 c).arrAt 2 (cfgs 0).N = out (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (((View.whole main_v0).slice (win0_2.rect t)).emb (ix2 y0 y1)) = ix2 y0 ⟨t.val * 512 + y1, by have : t.val < 2 := t.isLt; omega⟩ := by blk_ext [idx_val t]
  rw [e]
  refine (blk_at _ _ y0 y1).trans (Eq.trans ?_ (out_at ..).symm)
  simp only [in0 m c t, in1 m c t]

end Cert.Kernel16Ideal.Dmk

namespace Cert.Proof.Dmk

open Idealize.ShloMosaic Idealize.SL.Sem
open Cert.Reference16Ideal.Dmk (out)

/-- The kernel and the reference leave equal arrays. -/
theorem algebraic : Cert.algebraic_Kernel16Ideal_Reference16Ideal := by
  intro m g m' g' hpre hagree
  refine ⟨fun c => out (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
    (θ_run _ _ _).mono (fun r h c => ?_) (Cert.Kernel16Ideal.Value.run_blocks m g),
    (θ_run _ _ _).mono (fun r h c => ?_) (Cert.Reference16Ideal.Value.run m' g')⟩
  · obtain ⟨h0, h⟩ := h c
    exact ⟨h0.trans (Cert.Kernel16Ideal.Dmk.final_2 m c), h⟩
  · have h' := h c
    rw [(hagree c).1, (hagree c).2] at h'
    rw [(hagree c).1, (hagree c).2]
    exact h'

/-- The reference leaves its arguments as they were. -/
theorem frame_r : Cert.quiescent_Reference16Ideal := fun m g _ =>
  (θ_run Cert.Reference16Ideal.defs _ _).mono (fun r h => ⟨fun c => (h c).2, sem_eq_zero_of_no_sems (by decide) r.2⟩) (Cert.Reference16Ideal.Value.run m g)

end Cert.Proof.Dmk
-- ==== Proof.Dmemk.lean ====
module

public import proofs.«01_k».proof.Defs
public import proofs.«01_k».proof.Proof.Gen.Kernel17Ideal.Value
public import proofs.«01_k».proof.Proof.Gen.Reference17Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The gradient of the normalised memory. -/

namespace Cert.Reference17Ideal.Dmemk

open Cert.Reference17Ideal Cert.Reference17Ideal.Gen Idealize.ShloMosaic Idealize.ShloMosaic.TcCoe Idealize.SL.Sem

section
variable (A : FVec Ideal S256x1024 .bf16) (W : FVec Ideal S1024x1024 .f32)

/-- The reference's result. -/
def out : FVec Ideal S256x1024 .f32 := Host.dotGeneral dot_S256x1024_S1024x1024_S256x1024_1_1_0_0_n_n none (extf .f32 A bitsLt_bf16_f32) W

theorem out_at (r : Fin 256) (l : Fin 1024) : out A W (ix2 r l) = ∑ x : Fin 1024, A (ix2 r x) * W (ix2 l x) := by
  pointwise [out]
end

end Cert.Reference17Ideal.Dmemk

namespace Cert.Kernel17Ideal.Dmemk

open Cert.Kernel17Ideal Cert.Kernel17Ideal.Gen Cert.Kernel17Ideal.Value Idealize.ShloMosaic Idealize.ShloMosaic.TcCoe Idealize.SL.Sem
open Cert.Reference17Ideal.Dmemk (out out_at)

theorem blk_at (a : Vec Ideal S256x1024 .bf16) (b : Vec Ideal S1x256x1024 .bf16) (r : Fin 256) (l : Fin 256) : out0_2 (F := Ideal) a b (ix2 r l)
    = ∑ x : Fin 1024, a (ix2 r x) * b (ix3 0 l x) := by
  unfold out0_2
  frame_out
  pointwise [k0_pay1]

variable (m : (ℓ : Loc nD τ sig) → Buf (Elt Ideal) ℓ) (g : Dev nD → PrngReg) (c : Dev nD)

theorem idx_val : ∀ t : Fin cfg0.N, win0_0.index t = ![0, 0] ∧ win0_1.index t = ![t.val, 0, 0] ∧ win0_2.index t = ![0, t.val] :=
  (by decide +kernel : ∀ t : Fin grid0.N, _)

theorem in0 (t : Fin cfg0.N) (r : Fin 256) (x : Fin 1024) : iblk m c 0 t (ix2 r x) = m ((c.tc : Thread nD τ).loc main_arg0) (ix2 r x) := by
  blk_ext! [iblk, V, idx_val t]

theorem in1 (t : Fin cfg0.N) (l : Fin 256) (x : Fin 1024) : iblk m c 1 t (ix3 0 l x) = m ((c.tc : Thread nD τ).loc main_arg1) (ix2 ⟨t.val * 256 + l, by have : t.val < 4 := t.isLt; omega⟩ x) := by
  blk_ext! [iblk, V, idx_val t]

theorem final_2 : (dats m 0 c).arrAt 2 (cfgs 0).N = out (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (((View.whole main_v2).slice (win0_2.rect t)).emb (ix2 y0 y1)) = ix2 y0 ⟨t.val * 256 + y1, by have : t.val < 4 := t.isLt; omega⟩ := by blk_ext [idx_val t]
  rw [e]
  refine (blk_at _ _ y0 y1).trans (Eq.trans ?_ (out_at ..).symm)
  simp only [in0 m c t, in1 m c t]

end Cert.Kernel17Ideal.Dmemk

namespace Cert.Proof.Dmemk

open Idealize.ShloMosaic Idealize.SL.Sem
open Cert.Reference17Ideal.Dmemk (out)

/-- The kernel and the reference leave equal arrays. -/
theorem algebraic : Cert.algebraic_Kernel17Ideal_Reference17Ideal := by
  intro m g m' g' hpre hagree
  refine ⟨fun c => out (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)),
    (θ_run _ _ _).mono (fun r h c => ?_) (Cert.Kernel17Ideal.Value.run_blocks m g),
    (θ_run _ _ _).mono (fun r h c => ?_) (Cert.Reference17Ideal.Value.run m' g')⟩
  · obtain ⟨h0, h⟩ := h c
    exact ⟨h0.trans (Cert.Kernel17Ideal.Dmemk.final_2 m c), h⟩
  · have h' := h c
    rw [(hagree c).1, (hagree c).2] at h'
    rw [(hagree c).1, (hagree c).2]
    exact h'

/-- The reference leaves its arguments as they were. -/
theorem frame_r : Cert.quiescent_Reference17Ideal := fun m g _ =>
  (θ_run Cert.Reference17Ideal.defs _ _).mono (fun r h => ⟨fun c => (h c).2, sem_eq_zero_of_no_sems (by decide) r.2⟩) (Cert.Reference17Ideal.Value.run m g)

end Cert.Proof.Dmemk
-- ==== Proof.Dwin.lean ====
module

public import proofs.«01_k».proof.Defs
public import proofs.«01_k».proof.Proof.Gen.Kernel18Ideal.Value
public import proofs.«01_k».proof.Proof.Gen.Reference18Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The gradient of the input projection. -/

namespace Cert.Reference18Ideal.Dwin

open Cert.Reference18Ideal Cert.Reference18Ideal.Gen Idealize.ShloMosaic Idealize.ShloMosaic.TcCoe Idealize.SL.Sem

section
variable (Y : FVec Ideal S2048x3200 .bf16) (H : FVec Ideal S2048x1024 .bf16)

/-- The reference's result. -/
def out : FVec Ideal S3200x1024 .bf16 := truncf .bf16 (transpose S3200x1024 [1, 0] (transpose S1024x3200 [1, 0] (Host.dotGeneral dot_S2048x3200_S2048x1024_S3200x1024_0_0_1_1_n_n none (extf .f32 Y bitsLt_bf16_f32) (extf .f32 H bitsLt_bf16_f32)) transposes_S3200x1024_S1024x3200_1_0) transposes_S1024x3200_S3200x1024_1_0) bitsLt_bf16_f32

theorem out_at (r : Fin 3200) (l : Fin 1024) : out Y H (ix2 r l) = ∑ x : Fin 2048, Y (ix2 x r) * H (ix2 x l) := by
  pointwise [out]
end

end Cert.Reference18Ideal.Dwin

namespace Cert.Kernel18Ideal.Dwin

open Cert.Kernel18Ideal Cert.Kernel18Ideal.Gen Cert.Kernel18Ideal.Value Idealize.ShloMosaic Idealize.ShloMosaic.TcCoe Idealize.SL.Sem
open Cert.Reference18Ideal.Dwin (out out_at)

theorem blk_at (a : Vec Ideal S2048x640 .bf16) (b : Vec Ideal S2048x1024 .bf16) (r : Fin 640) (l : Fin 1024) : out0_2 (F := Ideal) a b (ix2 r l)
    = ∑ x : Fin 2048, a (ix2 x r) * b (ix2 x l) := by
  unfold out0_2
  frame_out
  pointwise [k0_pay1]

variable (m : (ℓ : Loc nD τ sig) → Buf (Elt Ideal) ℓ) (g : Dev nD → PrngReg) (c : Dev nD)

theorem idx_val : ∀ t : Fin cfg0.N, win0_0.index t = ![0, t.val] ∧ win0_1.index t = ![0, 0] ∧ win0_2.index t = ![t.val, 0] :=
  (by decide +kernel : ∀ t : Fin grid0.N, _)

theorem in0 (t : Fin cfg0.N) (x : Fin 2048) (r : Fin 640) : iblk m c 0 t (ix2 x r) = m ((c.tc : Thread nD τ).loc main_arg0) (ix2 x ⟨t.val * 640 + r, by have : t.val < 5 := t.isLt; omega⟩) := by
  blk_ext! [iblk, V, idx_val t]

theorem in1 (t : Fin cfg0.N) (x : Fin 2048) (l : Fin 1024) : iblk m c 1 t (ix2 x l) = m ((c.tc : Thread nD τ).loc main_arg1) (ix2 x l) := by
  blk_ext! [iblk, V, idx_val t]

theorem final_2 : (dats m 0 c).arrAt 2 (cfgs 0).N = out (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (((View.whole main_v0).slice (win0_2.rect t)).emb (ix2 y0 y1)) = ix2 ⟨t.val * 640 + y0, by have : t.val < 5 := t.isLt; omega⟩ y1 := by blk_ext [idx_val t]
  rw [e]
  refine (blk_at _ _ y0 y1).trans (Eq.trans ?_ (out_at ..).symm)
  simp only [in0 m c t, in1 m c t]

end Cert.Kernel18Ideal.Dwin

namespace Cert.Proof.Dwin

open Idealize.ShloMosaic Idealize.SL.Sem
open Cert.Reference18Ideal.Dwin (out)

/-- The kernel and the reference leave equal arrays. -/
theorem algebraic : Cert.algebraic_Kernel18Ideal_Reference18Ideal := by
  intro m g m' g' hpre hagree
  refine ⟨fun c => out (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)),
    (θ_run _ _ _).mono (fun r h c => ?_) (Cert.Kernel18Ideal.Value.run_blocks m g),
    (θ_run _ _ _).mono (fun r h c => ?_) (Cert.Reference18Ideal.Value.run m' g')⟩
  · obtain ⟨h0, h⟩ := h c
    exact ⟨h0.trans (Cert.Kernel18Ideal.Dwin.final_2 m c), h⟩
  · have h' := h c
    rw [(hagree c).1, (hagree c).2] at h'
    rw [(hagree c).1, (hagree c).2]
    exact h'

/-- The reference leaves its arguments as they were. -/
theorem frame_r : Cert.quiescent_Reference18Ideal := fun m g _ =>
  (θ_run Cert.Reference18Ideal.defs _ _).mono (fun r h => ⟨fun c => (h c).2, sem_eq_zero_of_no_sems (by decide) r.2⟩) (Cert.Reference18Ideal.Value.run m g)

end Cert.Proof.Dwin
-- ==== Proof.Dh1.lean ====
module

public import proofs.«01_k».proof.Defs
public import proofs.«01_k».proof.Proof.Gen.Kernel19Ideal.Value
public import proofs.«01_k».proof.Proof.Gen.Reference19Ideal.Run
public import proofs.«01_k».proof.Proof.MmMath
public import Idealize.ShloMosaic.Lib.Claim
public import Idealize.ShloMosaic.Lib.IdealHost
public import Idealize.ShloMosaic.Lib.Pipeline.ValueKit.Point

@[expose] public section

set_option maxRecDepth 16384

noncomputable section

/-! The gradient of the input of the projection. -/

namespace Cert.Reference19Ideal.Dh1

open Cert.Reference19Ideal Cert.Reference19Ideal.Gen Idealize.ShloMosaic Idealize.ShloMosaic.TcCoe Idealize.SL.Sem

section
variable (Y : FVec Ideal S2048x3200 .bf16) (W : FVec Ideal S3200x1024 .bf16)

/-- The reference's result. -/
def out : FVec Ideal S2048x1024 .f32 := Host.dotGeneral dot_S2048x3200_S1024x3200_S2048x1024_1_1_0_0_n_n none (extf .f32 Y bitsLt_bf16_f32) (extf .f32 (transpose S1024x3200 [1, 0] W transposes_S3200x1024_S1024x3200_1_0) bitsLt_bf16_f32)

theorem out_at (r : Fin 2048) (l : Fin 1024) : out Y W (ix2 r l) = ∑ x : Fin 3200, Y (ix2 r x) * W (ix2 x l) := by
  pointwise [out]
end

end Cert.Reference19Ideal.Dh1

namespace Cert.Kernel19Ideal.Dh1

open Cert.Kernel19Ideal Cert.Kernel19Ideal.Gen Cert.Kernel19Ideal.Value Idealize.ShloMosaic Idealize.ShloMosaic.TcCoe Idealize.SL.Sem
open Cert.Reference19Ideal.Dh1 (out out_at)

theorem blk_at (a : Vec Ideal S1024x3200 .bf16) (b : Vec Ideal S3200x512 .bf16) (r : Fin 1024) (l : Fin 512) : out0_2 (F := Ideal) a b (ix2 r l)
    = ∑ x : Fin 3200, a (ix2 r x) * b (ix2 x l) := by
  unfold out0_2
  frame_out
  pointwise [k0_pay1]

variable (m : (ℓ : Loc nD τ sig) → Buf (Elt Ideal) ℓ) (g : Dev nD → PrngReg) (c : Dev nD)

theorem idx_val : ∀ t : Fin cfg0.N, win0_0.index t = ![t.val / 2, 0] ∧ win0_1.index t = ![0, t.val % 2] ∧ win0_2.index t = ![t.val / 2, t.val % 2] :=
  (by decide +kernel : ∀ t : Fin grid0.N, _)

theorem in0 (t : Fin cfg0.N) (r : Fin 1024) (x : Fin 3200) : iblk m c 0 t (ix2 r x) = m ((c.tc : Thread nD τ).loc main_arg0) (ix2 ⟨t.val / 2 * 1024 + r, by have : t.val < 4 := t.isLt; omega⟩ x) := by
  blk_ext! [iblk, V, idx_val t]

theorem in1 (t : Fin cfg0.N) (x : Fin 3200) (l : Fin 512) : iblk m c 1 t (ix2 x l) = m ((c.tc : Thread nD τ).loc main_arg1) (ix2 x ⟨t.val % 2 * 512 + l, by omega⟩) := by
  blk_ext! [iblk, V, idx_val t]

theorem final_2 : (dats m 0 c).arrAt 2 (cfgs 0).N = out (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  have e : (((View.whole main_v0).slice (win0_2.rect t)).emb (ix2 y0 y1)) = ix2 ⟨t.val / 2 * 1024 + y0, by have : t.val < 4 := t.isLt; omega⟩ ⟨t.val % 2 * 512 + y1, by omega⟩ := by blk_ext [idx_val t]
  rw [e]
  refine (blk_at _ _ y0 y1).trans (Eq.trans ?_ (out_at ..).symm)
  simp only [in0 m c t, in1 m c t]

end Cert.Kernel19Ideal.Dh1

namespace Cert.Proof.Dh1

open Idealize.ShloMosaic Idealize.SL.Sem
open Cert.Reference19Ideal.Dh1 (out)

/-- The kernel and the reference leave equal arrays. -/
theorem algebraic : Cert.algebraic_Kernel19Ideal_Reference19Ideal := by
  intro m g m' g' hpre hagree
  refine ⟨fun c => out (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    (θ_run _ _ _).mono (fun r h c => ?_) (Cert.Kernel19Ideal.Value.run_blocks m g),
    (θ_run _ _ _).mono (fun r h c => ?_) (Cert.Reference19Ideal.Value.run m' g')⟩
  · obtain ⟨h0, h⟩ := h c
    exact ⟨h0.trans (Cert.Kernel19Ideal.Dh1.final_2 m c), h⟩
  · have h' := h c
    rw [(hagree c).1, (hagree c).2] at h'
    rw [(hagree c).1, (hagree c).2]
    exact h'

/-- The reference leaves its arguments as they were. -/
theorem frame_r : Cert.quiescent_Reference19Ideal := fun m g _ =>
  (θ_run Cert.Reference19Ideal.defs _ _).mono (fun r h => ⟨fun c => (h c).2, sem_eq_zero_of_no_sems (by decide) r.2⟩) (Cert.Reference19Ideal.Value.run m g)

end Cert.Proof.Dh1
-- ==== Proof.MemFwd.lean ====
module

public import proofs.«01_k».proof.Defs
public import proofs.«01_k».proof.Proof.Gen.Kernel20Ideal.Value
public import proofs.«01_k».proof.Proof.Gen.Reference20Ideal.Run
public import proofs.«01_k».proof.Proof.MemRef
public import proofs.«01_k».proof.Proof.MemMath
public import Idealize.ShloMosaic.Lib.Claim
public import Idealize.ShloMosaic.Lib.IdealHost
public import Idealize.ShloMosaic.Lib.Pipeline.ValueKit.Point

@[expose] public section

set_option maxRecDepth 16384

noncomputable section

/-! The memory attention itself. -/

namespace Cert.Reference20Ideal.MemFwd

open Cert.Reference20Ideal Cert.Reference20Ideal.Gen Idealize.ShloMosaic Idealize.ShloMosaic.TcCoe Idealize.SL.Sem
open Cert.ReferenceIdeal.Mem (prob)

section
variable (Q : FVec Ideal S2048x1024 .bf16) (K V : FVec Ideal S256x1024 .bf16)

/-- The reference's result: the probabilities' average of the values. -/
def out : FVec Ideal S2048x1024 .bf16 :=
  truncf .bf16 (shapeCast S2048x1024 (transpose S2048x4x256 [2, 0, 1] (Host.dotGeneral dot_S256x4x256_S4x2048x256_S4x256x2048_0_2_2_1_1_0 none (shapeCast S256x4x256 (extf .f32 V bitsLt_bf16_f32) shapeCasts_S256x1024_S256x4x256) (prob Q K)) transposes_S4x256x2048_S2048x4x256_2_0_1) shapeCasts_S2048x4x256_S2048x1024) bitsLt_bf16_f32

theorem out_at (r : Fin 2048) (l : Fin 1024) : out Q K V (ix2 r l) = ∑ x : Fin 256, V (ix2 x l) * prob Q K (ix3 ⟨l / 256, by omega⟩ r x) := by
  pointwise [out]

/-- The same, at column `l` of head `h`. -/
theorem out_head (h : Fin 4) (r : Fin 2048) (l : Fin 256) : out Q K V (ix2 r ⟨h * 256 + l, by omega⟩)
    = ∑ x : Fin 256, V (ix2 x ⟨h * 256 + l, by omega⟩) * prob Q K (ix3 h r x) := by
  rw [out_at]
  have e : (⟨((⟨h * 256 + l, by omega⟩ : Fin 1024) : ℕ) / 256, by omega⟩ : Fin 4) = h := by
    apply Fin.ext; show (h.val * 256 + l.val) / 256 = h.val; omega
  rw [e]
end

end Cert.Reference20Ideal.MemFwd

namespace Cert.Kernel20Ideal.MemFwd

open Cert.Kernel20Ideal Cert.Kernel20Ideal.Gen Cert.Kernel20Ideal.Value Idealize.ShloMosaic Idealize.ShloMosaic.TcCoe Idealize.SL.Sem Cert.Soft
open Cert.Reference20Ideal.MemFwd (out out_head)
open Cert.ReferenceIdeal.Mem (logit top expo total prob logit_at top_at expo_at total_at prob_at)

section
variable (q : Vec Ideal S2048x256 .bf16) (k v : Vec Ideal S256x256 .bf16)

/-- The kernel's logit. -/
def klogit (r : Fin 2048) (j : Fin 256) : EReal := ∑ x : Fin 256, q (ix2 r x) * Ideal.ofBits .bf16 0x3D80#16 * k (ix2 j x)
/-- The row's maximum. -/
def ktop (r : Fin 2048) : EReal := Finset.univ.fold max (Ideal.ofBits .f32 0xFF800000#32) fun y : Fin 256 => klogit q k r y
/-- The kernel's probability. -/
def kprob (r : Fin 2048) (j : Fin 256) : EReal :=
  Ideal.div (Ideal.exp (klogit q k r j - ktop q k r)) (∑ i : Fin 256, Ideal.exp (klogit q k r i - ktop q k r))

theorem blk_at (r : Fin 2048) (l : Fin 256) : out0_3 (F := Ideal) q k v (ix2 r l) = ∑ x : Fin 256, kprob q k r x * v (ix2 x l) := by
  unfold out0_3
  frame_out
  pointwise [k0_pay1, kprob, ktop, klogit]

variable (Q : FVec Ideal S2048x1024 .bf16) (K V : FVec Ideal S256x1024 .bf16) (h : Fin 4)
  (hq : ∀ r x, q (ix2 r x) = Q (ix2 r ⟨h * 256 + x, by omega⟩)) (hk : ∀ r x, k (ix2 r x) = K (ix2 r ⟨h * 256 + x, by omega⟩))
include hq hk

theorem klogit_eq (r : Fin 2048) (j : Fin 256) : klogit q k r j = logit Q K (ix3 h r j) := by
  unfold klogit
  rw [logit_at, bits_sixteenth, Ideal.ofBits_sixteenth_bf16, mul_comm, coe_mul_sum _ _ (by norm_num)]
  refine Finset.sum_congr rfl fun x _ => ?_
  rw [hq, hk, mul_comm (Q _), mul_assoc]

theorem kprob_eq (r : Fin 2048) (j : Fin 256) : kprob q k r j = prob Q K (ix3 h r j) := by
  have e : ktop q k r = top Q K (ix2 h r) := by
    unfold ktop
    rw [top_at, bits_neg_top]
    simp only [klogit_eq q k Q K h hq hk]
    exact (max_eq_right bot_le).symm
  unfold kprob
  rw [prob_at, total_at]
  simp only [expo_at, e, klogit_eq q k Q K h hq hk]
end

variable (m : (ℓ : Loc nD τ sig) → Buf (Elt Ideal) ℓ) (g : Dev nD → PrngReg) (c : Dev nD)

theorem idx_val : ∀ t : Fin cfg0.N, win0_0.index t = ![0, t.val] ∧ win0_1.index t = ![0, t.val] ∧ win0_2.index t = ![0, t.val] ∧ win0_3.index t = ![0, t.val] :=
  (by decide +kernel : ∀ t : Fin grid0.N, _)

/-- The head of grid point `t`. -/
abbrev head (t : Fin cfg0.N) : Fin 4 := ⟨t.val, t.isLt⟩
/-- Column `x` of head `h`. -/
abbrev hcol (h : Fin 4) (x : Fin 256) : Fin 1024 := ⟨h * 256 + x, by omega⟩

theorem in0 (t : Fin cfg0.N) (r : Fin 2048) (x : Fin 256) : iblk m c 0 t (ix2 r x) = m ((c.tc : Thread nD τ).loc main_arg0) (ix2 r (hcol (head t) x)) := by
  blk_ext! [iblk, V, idx_val t]
theorem in1 (t : Fin cfg0.N) (r x : Fin 256) : iblk m c 1 t (ix2 r x) = m ((c.tc : Thread nD τ).loc main_arg1) (ix2 r (hcol (head t) x)) := by
  blk_ext! [iblk, V, idx_val t]
theorem in2 (t : Fin cfg0.N) (r x : Fin 256) : iblk m c 2 t (ix2 r x) = m ((c.tc : Thread nD τ).loc main_arg2) (ix2 r (hcol (head t) x)) := by
  blk_ext! [iblk, V, idx_val t]

theorem final_3 : (dats m 0 c).arrAt 3 (cfgs 0).N = out (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  idx_vars y
  have e : (((View.whole main_v0).slice (win0_3.rect t)).emb (ix2 y0 y1)) = ix2 y0 (hcol (head t) y1) := by blk_ext [idx_val t]
  rw [e]
  refine (blk_at _ _ _ y0 y1).trans (Eq.trans ?_ (out_head _ _ _ (head t) y0 y1).symm)
  refine Finset.sum_congr rfl fun x _ => ?_
  rw [kprob_eq _ _ _ _ (head t) (in0 m c t) (in1 m c t), in2, mul_comm]

end Cert.Kernel20Ideal.MemFwd

namespace Cert.Proof.MemFwd

open Idealize.ShloMosaic Idealize.SL.Sem
open Cert.Reference20Ideal.MemFwd (out)

/-- The kernel and the reference leave equal arrays. -/
theorem algebraic : Cert.algebraic_Kernel20Ideal_Reference20Ideal := by
  intro m g m' g' hpre hagree
  refine ⟨fun c => out (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)),
    (θ_run _ _ _).mono (fun r h c => ?_) (Cert.Kernel20Ideal.Value.run_blocks m g),
    (θ_run _ _ _).mono (fun r h c => ?_) (Cert.Reference20Ideal.Value.run m' g')⟩
  · obtain ⟨h0, h⟩ := h c
    exact ⟨h0.trans (Cert.Kernel20Ideal.MemFwd.final_3 m c), h⟩
  · have h' := h c
    obtain ⟨a0, a1, a2⟩ := hagree c
    rw [a0, a1, a2] at h'
    rw [a0, a1, a2]
    exact h'

/-- The reference leaves its arguments as they were. -/
theorem frame_r : Cert.quiescent_Reference20Ideal := fun m g _ =>
  (θ_run Cert.Reference20Ideal.defs _ _).mono (fun r h => ⟨fun c => (h c).2, sem_eq_zero_of_no_sems (by decide) r.2⟩) (Cert.Reference20Ideal.Value.run m g)

end Cert.Proof.MemFwd
-- ==== Proof.AdamFf.lean ====
module

public import proofs.«01_k».proof.Defs
public import proofs.«01_k».proof.Proof.Gen.Kernel21Ideal.Value
public import proofs.«01_k».proof.Proof.Gen.Reference21Ideal.Run
public import proofs.«01_k».proof.Proof.AdamMath
public import Idealize.ShloMosaic.Lib.Claim
public import Idealize.ShloMosaic.Lib.IdealHost
public import Idealize.ShloMosaic.Lib.Pipeline.ValueKit.Point

@[expose] public section

set_option maxRecDepth 16384

noncomputable section

/-! The optimiser on the weights of the squared-ReLU network. -/

namespace Cert.Kernel21Ideal.AdamFf

open Cert.Kernel21Ideal Cert.Kernel21Ideal.Gen Cert.Kernel21Ideal.Value Idealize.ShloMosaic Idealize.ShloMosaic.TcCoe Idealize.SL.Sem Cert.Adam

section
variable (x0 x1 x2 x3 x4 x5 x6 x7 : Vec Ideal S256x1024 .f32) (r : Fin 256) (l : Fin 1024)

theorem blk8_at : out0_8 (F := Ideal) x0 x1 x2 x3 x4 x5 x6 x7 (ix2 r l) = x1 (ix2 r l) := by
  unfold out0_8
  frame_out

theorem blk9_at : out0_9 (F := Ideal) x0 x1 x2 x3 x4 x5 x6 x7 (ix2 r l) = step (x0 (ix2 r l)) (x1 (ix2 r l)) (x2 (ix2 r l)) (x3 (ix2 r l)) := by
  unfold out0_9
  frame_out
  pointwise [k0_pay3, k0_pay1, k0_pay2, step, newM, newV]

theorem blk10_at : out0_10 (F := Ideal) x0 x1 x2 x3 x4 x5 x6 x7 (ix2 r l) = newM (x1 (ix2 r l)) (x2 (ix2 r l)) := by
  unfold out0_10
  frame_out
  pointwise [k0_pay1, step, newM, newV]

theorem blk11_at : out0_11 (F := Ideal) x0 x1 x2 x3 x4 x5 x6 x7 (ix2 r l) = newV (x1 (ix2 r l)) (x3 (ix2 r l)) := by
  unfold out0_11
  frame_out
  pointwise [k0_pay2, step, newM, newV]

theorem blk12_at : out0_12 (F := Ideal) x0 x1 x2 x3 x4 x5 x6 x7 (ix2 r l) = x5 (ix2 r l) := by
  unfold out0_12
  frame_out

theorem blk13_at : out0_13 (F := Ideal) x0 x1 x2 x3 x4 x5 x6 x7 (ix2 r l) = step (x4 (ix2 r l)) (x5 (ix2 r l)) (x6 (ix2 r l)) (x7 (ix2 r l)) := by
  unfold out0_13
  frame_out
  pointwise [k0_pay6, k0_pay4, k0_pay5, step, newM, newV]

theorem blk14_at : out0_14 (F := Ideal) x0 x1 x2 x3 x4 x5 x6 x7 (ix2 r l) = newM (x5 (ix2 r l)) (x6 (ix2 r l)) := by
  unfold out0_14
  frame_out
  pointwise [k0_pay4, step, newM, newV]

theorem blk15_at : out0_15 (F := Ideal) x0 x1 x2 x3 x4 x5 x6 x7 (ix2 r l) = newV (x5 (ix2 r l)) (x7 (ix2 r l)) := by
  unfold out0_15
  frame_out
  pointwise [k0_pay5, step, newM, newV]
end

variable (m : (ℓ : Loc nD τ sig) → Buf (Elt Ideal) ℓ) (g : Dev nD → PrngReg) (c : Dev nD)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

/-- Row `r` of tile `t`. -/
abbrev row (t : Fin cfg0.N) (r : Fin 256) : Fin 1024 := ⟨t.val * 256 + r, by have : t.val < 4 := t.isLt; omega⟩

theorem in0 (t : Fin cfg0.N) (r : Fin 256) (l : Fin 1024) : iblk m c 0 t (ix2 r l) = m ((c.tc : Thread nD τ).loc main_arg0) (ix2 (row t r) l) := by
  blk_ext! [iblk, V, idx_val t]

theorem in1 (t : Fin cfg0.N) (r : Fin 256) (l : Fin 1024) : iblk m c 1 t (ix2 r l) = m ((c.tc : Thread nD τ).loc main_arg1) (ix2 (row t r) l) := by
  blk_ext! [iblk, V, idx_val t]

theorem in2 (t : Fin cfg0.N) (r : Fin 256) (l : Fin 1024) : iblk m c 2 t (ix2 r l) = m ((c.tc : Thread nD τ).loc main_arg2) (ix2 (row t r) l) := by
  blk_ext! [iblk, V, idx_val t]

theorem in3 (t : Fin cfg0.N) (r : Fin 256) (l : Fin 1024) : iblk m c 3 t (ix2 r l) = m ((c.tc : Thread nD τ).loc main_arg3) (ix2 (row t r) l) := by
  blk_ext! [iblk, V, idx_val t]

theorem in4 (t : Fin cfg0.N) (r : Fin 256) (l : Fin 1024) : iblk m c 4 t (ix2 r l) = m ((c.tc : Thread nD τ).loc main_arg4) (ix2 (row t r) l) := by
  blk_ext! [iblk, V, idx_val t]

theorem in5 (t : Fin cfg0.N) (r : Fin 256) (l : Fin 1024) : iblk m c 5 t (ix2 r l) = m ((c.tc : Thread nD τ).loc main_arg5) (ix2 (row t r) l) := by
  blk_ext! [iblk, V, idx_val t]

theorem in6 (t : Fin cfg0.N) (r : Fin 256) (l : Fin 1024) : iblk m c 6 t (ix2 r l) = m ((c.tc : Thread nD τ).loc main_arg6) (ix2 (row t r) l) := by
  blk_ext! [iblk, V, idx_val t]

theorem in7 (t : Fin cfg0.N) (r : Fin 256) (l : Fin 1024) : iblk m c 7 t (ix2 r l) = m ((c.tc : Thread nD τ).loc main_arg7) (ix2 (row t r) l) := by
  blk_ext! [iblk, V, idx_val t]

theorem final_8 : (dats m 0 c).arrAt 8 (cfgs 0).N = (m ((c.tc : Thread nD τ).loc main_arg1)) := by
  refine (dats m 0 c).arrAt_eq_of_covers 8 _ (by decide +kernel) fun t hf y => ?_
  blk_simp
  rw [after0_8]
  idx_vars y
  have e : (((View.whole main_v0_0).slice (win0_8.rect t)).emb (ix2 y0 y1)) = ix2 (row t y0) y1 := by blk_ext [idx_val t]
  rw [e]
  refine (blk8_at _ _ _ _ _ _ _ _ y0 y1).trans (Eq.trans ?_ rfl)
  simp only [in1 m c t]

theorem final_9 : (dats m 0 c).arrAt 9 (cfgs 0).N = (hostStep Cert.Reference21Ideal.Gen.bcast_S_S1024x1024 (m ((c.tc : Thread nD τ).loc main_arg0)) (m ((c.tc : Thread nD τ).loc main_arg1)) (m ((c.tc : Thread nD τ).loc main_arg2)) (m ((c.tc : Thread nD τ).loc main_arg3))) := by
  refine (dats m 0 c).arrAt_eq_of_covers 9 _ (by decide +kernel) fun t hf y => ?_
  blk_simp
  rw [after0_9]
  idx_vars y
  have e : (((View.whole main_v0_1).slice (win0_9.rect t)).emb (ix2 y0 y1)) = ix2 (row t y0) y1 := by blk_ext [idx_val t]
  rw [e]
  refine (blk9_at _ _ _ _ _ _ _ _ y0 y1).trans (Eq.trans ?_ (hostStep_at ..).symm)
  simp only [in0 m c t, in1 m c t, in2 m c t, in3 m c t]

theorem final_10 : (dats m 0 c).arrAt 10 (cfgs 0).N = (hostM Cert.Reference21Ideal.Gen.bcast_S_S1024x1024 (m ((c.tc : Thread nD τ).loc main_arg1)) (m ((c.tc : Thread nD τ).loc main_arg2))) := by
  refine (dats m 0 c).arrAt_eq_of_covers 10 _ (by decide +kernel) fun t hf y => ?_
  blk_simp
  rw [after0_10]
  idx_vars y
  have e : (((View.whole main_v0_2).slice (win0_10.rect t)).emb (ix2 y0 y1)) = ix2 (row t y0) y1 := by blk_ext [idx_val t]
  rw [e]
  refine (blk10_at _ _ _ _ _ _ _ _ y0 y1).trans (Eq.trans ?_ (hostM_at ..).symm)
  simp only [in1 m c t, in2 m c t]

theorem final_11 : (dats m 0 c).arrAt 11 (cfgs 0).N = (hostV Cert.Reference21Ideal.Gen.bcast_S_S1024x1024 (m ((c.tc : Thread nD τ).loc main_arg1)) (m ((c.tc : Thread nD τ).loc main_arg3))) := by
  refine (dats m 0 c).arrAt_eq_of_covers 11 _ (by decide +kernel) fun t hf y => ?_
  blk_simp
  rw [after0_11]
  idx_vars y
  have e : (((View.whole main_v0_3).slice (win0_11.rect t)).emb (ix2 y0 y1)) = ix2 (row t y0) y1 := by blk_ext [idx_val t]
  rw [e]
  refine (blk11_at _ _ _ _ _ _ _ _ y0 y1).trans (Eq.trans ?_ (hostV_at ..).symm)
  simp only [in1 m c t, in3 m c t]

theorem final_12 : (dats m 0 c).arrAt 12 (cfgs 0).N = (m ((c.tc : Thread nD τ).loc main_arg5)) := by
  refine (dats m 0 c).arrAt_eq_of_covers 12 _ (by decide +kernel) fun t hf y => ?_
  blk_simp
  rw [after0_12]
  idx_vars y
  have e : (((View.whole main_v0_4).slice (win0_12.rect t)).emb (ix2 y0 y1)) = ix2 (row t y0) y1 := by blk_ext [idx_val t]
  rw [e]
  refine (blk12_at _ _ _ _ _ _ _ _ y0 y1).trans (Eq.trans ?_ rfl)
  simp only [in5 m c t]

theorem final_13 : (dats m 0 c).arrAt 13 (cfgs 0).N = (hostStep Cert.Reference21Ideal.Gen.bcast_S_S1024x1024 (m ((c.tc : Thread nD τ).loc main_arg4)) (m ((c.tc : Thread nD τ).loc main_arg5)) (m ((c.tc : Thread nD τ).loc main_arg6)) (m ((c.tc : Thread nD τ).loc main_arg7))) := by
  refine (dats m 0 c).arrAt_eq_of_covers 13 _ (by decide +kernel) fun t hf y => ?_
  blk_simp
  rw [after0_13]
  idx_vars y
  have e : (((View.whole main_v0_5).slice (win0_13.rect t)).emb (ix2 y0 y1)) = ix2 (row t y0) y1 := by blk_ext [idx_val t]
  rw [e]
  refine (blk13_at _ _ _ _ _ _ _ _ y0 y1).trans (Eq.trans ?_ (hostStep_at ..).symm)
  simp only [in4 m c t, in5 m c t, in6 m c t, in7 m c t]

theorem final_14 : (dats m 0 c).arrAt 14 (cfgs 0).N = (hostM Cert.Reference21Ideal.Gen.bcast_S_S1024x1024 (m ((c.tc : Thread nD τ).loc main_arg5)) (m ((c.tc : Thread nD τ).loc main_arg6))) := by
  refine (dats m 0 c).arrAt_eq_of_covers 14 _ (by decide +kernel) fun t hf y => ?_
  blk_simp
  rw [after0_14]
  idx_vars y
  have e : (((View.whole main_v0_6).slice (win0_14.rect t)).emb (ix2 y0 y1)) = ix2 (row t y0) y1 := by blk_ext [idx_val t]
  rw [e]
  refine (blk14_at _ _ _ _ _ _ _ _ y0 y1).trans (Eq.trans ?_ (hostM_at ..).symm)
  simp only [in5 m c t, in6 m c t]

theorem final_15 : (dats m 0 c).arrAt 15 (cfgs 0).N = (hostV Cert.Reference21Ideal.Gen.bcast_S_S1024x1024 (m ((c.tc : Thread nD τ).loc main_arg5)) (m ((c.tc : Thread nD τ).loc main_arg7))) := by
  refine (dats m 0 c).arrAt_eq_of_covers 15 _ (by decide +kernel) fun t hf y => ?_
  blk_simp
  rw [after0_15]
  idx_vars y
  have e : (((View.whole main_v0_7).slice (win0_15.rect t)).emb (ix2 y0 y1)) = ix2 (row t y0) y1 := by blk_ext [idx_val t]
  rw [e]
  refine (blk15_at _ _ _ _ _ _ _ _ y0 y1).trans (Eq.trans ?_ (hostV_at ..).symm)
  simp only [in5 m c t, in7 m c t]

end Cert.Kernel21Ideal.AdamFf

namespace Cert.Proof.AdamFf

open Idealize.ShloMosaic Idealize.SL.Sem Cert.Adam

/-- The kernel and the reference leave equal arrays. -/
theorem algebraic : Cert.algebraic_Kernel21Ideal_Reference21Ideal := by
  intro m g m' g' hpre hagree
  refine ⟨fun c => (m ((c.tc : Thread Cert.Kernel21Ideal.nD Cert.Kernel21Ideal.τ).loc Cert.Kernel21Ideal.main_arg1)), fun c => (hostStep Cert.Reference21Ideal.Gen.bcast_S_S1024x1024 (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))), fun c => (hostM Cert.Reference21Ideal.Gen.bcast_S_S1024x1024 (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2))), fun c => (hostV Cert.Reference21Ideal.Gen.bcast_S_S1024x1024 (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg3))), fun c => (m ((c.tc : Thread Cert.Kernel21Ideal.nD Cert.Kernel21Ideal.τ).loc Cert.Kernel21Ideal.main_arg5)), fun c => (hostStep Cert.Reference21Ideal.Gen.bcast_S_S1024x1024 (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))), fun c => (hostM Cert.Reference21Ideal.Gen.bcast_S_S1024x1024 (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6))), fun c => (hostV Cert.Reference21Ideal.Gen.bcast_S_S1024x1024 (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg7))),
    (θ_run _ _ _).mono (fun r h c => ?_) (Cert.Kernel21Ideal.Value.run_blocks m g),
    (θ_run _ _ _).mono (fun r h c => ?_) (Cert.Reference21Ideal.Value.run m' g')⟩
  · obtain ⟨h0, h1, h2, h3, h4, h5, h6, h7, h⟩ := h c
    exact ⟨h0.trans (Cert.Kernel21Ideal.AdamFf.final_8 m c), h1.trans (Cert.Kernel21Ideal.AdamFf.final_9 m c), h2.trans (Cert.Kernel21Ideal.AdamFf.final_10 m c), h3.trans (Cert.Kernel21Ideal.AdamFf.final_11 m c), h4.trans (Cert.Kernel21Ideal.AdamFf.final_12 m c), h5.trans (Cert.Kernel21Ideal.AdamFf.final_13 m c), h6.trans (Cert.Kernel21Ideal.AdamFf.final_14 m c), h7.trans (Cert.Kernel21Ideal.AdamFf.final_15 m c), h⟩
  · have h' := h c
    obtain ⟨a0, a1, a2, a3, a4, a5, a6, a7⟩ := hagree c
    rw [a0, a1, a2, a3, a4, a5, a6, a7] at h'
    rw [a0, a1, a2, a3, a4, a5, a6, a7]
    exact h'

/-- The reference leaves its arguments as they were. -/
theorem frame_r : Cert.quiescent_Reference21Ideal := fun m g _ =>
  (θ_run Cert.Reference21Ideal.defs _ _).mono (fun r h => ⟨fun c => (h c).2.2.2.2.2.2.2.2, sem_eq_zero_of_no_sems (by decide) r.2⟩) (Cert.Reference21Ideal.Value.run m g)

end Cert.Proof.AdamFf
-- ==== Proof.AdamIn.lean ====
module

public import proofs.«01_k».proof.Defs
public import proofs.«01_k».proof.Proof.Gen.Kernel22Ideal.Value
public import proofs.«01_k».proof.Proof.Gen.Reference22Ideal.Run
public import proofs.«01_k».proof.Proof.AdamMath
public import Idealize.ShloMosaic.Lib.Claim
public import Idealize.ShloMosaic.Lib.IdealHost
public import Idealize.ShloMosaic.Lib.Pipeline.ValueKit.Point

@[expose] public section

set_option maxRecDepth 16384

noncomputable section

/-! The optimiser on the input projection, whose weight and moments the kernel takes transposed. -/

namespace Cert.Kernel22Ideal.AdamIn

open Cert.Kernel22Ideal Cert.Kernel22Ideal.Gen Cert.Kernel22Ideal.Value Idealize.ShloMosaic Idealize.ShloMosaic.TcCoe Idealize.SL.Sem Cert.Adam

section
variable (x0 : Vec Ideal S770x512 .f32) (x1 : Vec Ideal S800x512 .f32) (x2 x3 : Vec Ideal S770x512 .f32) (r : Fin 770) (l : Fin 512)

/-- The row of the padded gradient that row `r` takes. -/
abbrev up (r : Fin 770) : Fin 800 := ⟨r.val, by omega⟩

theorem blk4_at : out0_4 (F := Ideal) x0 x1 x2 x3 (ix2 r l) = x1 (ix2 (up r) l) := by
  unfold out0_4
  frame_out
  pointwise [step, newM, newV]

theorem blk5_at : out0_5 (F := Ideal) x0 x1 x2 x3 (ix2 r l) = step (x0 (ix2 r l)) (x1 (ix2 (up r) l)) (x2 (ix2 r l)) (x3 (ix2 r l)) := by
  unfold out0_5
  frame_out
  pointwise [k0_pay3, k0_pay1, k0_pay2, step, newM, newV]

theorem blk6_at : out0_6 (F := Ideal) x0 x1 x2 x3 (ix2 r l) = newM (x1 (ix2 (up r) l)) (x2 (ix2 r l)) := by
  unfold out0_6
  frame_out
  pointwise [k0_pay1, step, newM, newV]

theorem blk7_at : out0_7 (F := Ideal) x0 x1 x2 x3 (ix2 r l) = newV (x1 (ix2 (up r) l)) (x3 (ix2 r l)) := by
  unfold out0_7
  frame_out
  pointwise [k0_pay2, step, newM, newV]
end

variable (m : (ℓ : Loc nD τ sig) → Buf (Elt Ideal) ℓ) (g : Dev nD → PrngReg) (c : Dev nD)

theorem idx_val : ∀ t : Fin cfg0.N, win0_0.index t = ![0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] :=
  (by decide +kernel : ∀ t : Fin grid0.N, _)

/-- Column `l` of tile `t`. -/
abbrev col (t : Fin cfg0.N) (l : Fin 512) : Fin 1024 := ⟨t.val * 512 + l, by have : t.val < 2 := t.isLt; omega⟩

theorem in0 (t : Fin cfg0.N) (r : Fin 770) (l : Fin 512) : iblk m c 0 t (ix2 r l) = m ((c.tc : Thread nD τ).loc main_arg0) (ix2 (col t l) r) := by
  blk_ext! [iblk, V, idx_val t]

theorem in1 (t : Fin cfg0.N) (r : Fin 800) (l : Fin 512) : iblk m c 1 t (ix2 r l) = m ((c.tc : Thread nD τ).loc main_arg1) (ix2 r (col t l)) := by
  blk_ext! [iblk, V, idx_val t]

theorem in2 (t : Fin cfg0.N) (r : Fin 770) (l : Fin 512) : iblk m c 2 t (ix2 r l) = m ((c.tc : Thread nD τ).loc main_arg2) (ix2 (col t l) r) := by
  blk_ext! [iblk, V, idx_val t]

theorem in3 (t : Fin cfg0.N) (r : Fin 770) (l : Fin 512) : iblk m c 3 t (ix2 r l) = m ((c.tc : Thread nD τ).loc main_arg3) (ix2 (col t l) r) := by
  blk_ext! [iblk, V, idx_val t]

theorem final_4 : (dats m 0 c).arrAt 4 (cfgs 0).N = (transpose Cert.Reference22Ideal.S770x1024 [1, 0] (transpose Cert.Reference22Ideal.S1024x770 [1, 0] (extractStridedSlice Cert.Reference22Ideal.S770x1024 ![0, 0] (m ((c.tc : Thread nD τ).loc main_arg1)) Cert.Reference22Ideal.Gen.slices_S800x1024_S770x1024_0_0) Cert.Reference22Ideal.Gen.transposes_S770x1024_S1024x770_1_0) Cert.Reference22Ideal.Gen.transposes_S1024x770_S770x1024_1_0) := by
  refine (dats m 0 c).arrAt_eq_of_covers 4 _ (by decide +kernel) fun t hf y => ?_
  blk_simp
  rw [after0_4]
  idx_vars y
  have e : (((View.whole main_v3_0).slice (win0_4.rect t)).emb (ix2 y0 y1)) = ix2 y0 (col t y1) := by blk_ext [idx_val t]
  rw [e]
  refine (blk4_at _ _ _ _ y0 y1).trans (Eq.trans (b := (m ((c.tc : Thread nD τ).loc main_arg1)) (ix2 (up y0) (col t y1))) ?_ ?_)
  · simp only [in1 m c t]
  · pointwise [hostM, hostV, hostStep, step, newM, newV]

theorem final_5 : (dats m 0 c).arrAt 5 (cfgs 0).N = (transpose Cert.Reference22Ideal.S770x1024 [1, 0] (hostStep Cert.Reference22Ideal.Gen.bcast_S_S1024x770 (m ((c.tc : Thread nD τ).loc main_arg0)) (transpose Cert.Reference22Ideal.S1024x770 [1, 0] (extractStridedSlice Cert.Reference22Ideal.S770x1024 ![0, 0] (m ((c.tc : Thread nD τ).loc main_arg1)) Cert.Reference22Ideal.Gen.slices_S800x1024_S770x1024_0_0) Cert.Reference22Ideal.Gen.transposes_S770x1024_S1024x770_1_0) (m ((c.tc : Thread nD τ).loc main_arg2)) (m ((c.tc : Thread nD τ).loc main_arg3))) Cert.Reference22Ideal.Gen.transposes_S1024x770_S770x1024_1_0) := by
  refine (dats m 0 c).arrAt_eq_of_covers 5 _ (by decide +kernel) fun t hf y => ?_
  blk_simp
  rw [after0_5]
  idx_vars y
  have e : (((View.whole main_v3_1).slice (win0_5.rect t)).emb (ix2 y0 y1)) = ix2 y0 (col t y1) := by blk_ext [idx_val t]
  rw [e]
  refine (blk5_at _ _ _ _ y0 y1).trans (Eq.trans (b := step ((m ((c.tc : Thread nD τ).loc main_arg0)) (ix2 (col t y1) y0)) ((m ((c.tc : Thread nD τ).loc main_arg1)) (ix2 (up y0) (col t y1))) ((m ((c.tc : Thread nD τ).loc main_arg2)) (ix2 (col t y1) y0)) ((m ((c.tc : Thread nD τ).loc main_arg3)) (ix2 (col t y1) y0))) ?_ ?_)
  · simp only [in0 m c t, in1 m c t, in2 m c t, in3 m c t]
  · pointwise [hostM, hostV, hostStep, step, newM, newV]

theorem final_6 : (dats m 0 c).arrAt 6 (cfgs 0).N = (transpose Cert.Reference22Ideal.S770x1024 [1, 0] (hostM Cert.Reference22Ideal.Gen.bcast_S_S1024x770 (transpose Cert.Reference22Ideal.S1024x770 [1, 0] (extractStridedSlice Cert.Reference22Ideal.S770x1024 ![0, 0] (m ((c.tc : Thread nD τ).loc main_arg1)) Cert.Reference22Ideal.Gen.slices_S800x1024_S770x1024_0_0) Cert.Reference22Ideal.Gen.transposes_S770x1024_S1024x770_1_0) (m ((c.tc : Thread nD τ).loc main_arg2))) Cert.Reference22Ideal.Gen.transposes_S1024x770_S770x1024_1_0) := by
  refine (dats m 0 c).arrAt_eq_of_covers 6 _ (by decide +kernel) fun t hf y => ?_
  blk_simp
  rw [after0_6]
  idx_vars y
  have e : (((View.whole main_v3_2).slice (win0_6.rect t)).emb (ix2 y0 y1)) = ix2 y0 (col t y1) := by blk_ext [idx_val t]
  rw [e]
  refine (blk6_at _ _ _ _ y0 y1).trans (Eq.trans (b := newM ((m ((c.tc : Thread nD τ).loc main_arg1)) (ix2 (up y0) (col t y1))) ((m ((c.tc : Thread nD τ).loc main_arg2)) (ix2 (col t y1) y0))) ?_ ?_)
  · simp only [in1 m c t, in2 m c t]
  · pointwise [hostM, hostV, hostStep, step, newM, newV]

theorem final_7 : (dats m 0 c).arrAt 7 (cfgs 0).N = (transpose Cert.Reference22Ideal.S770x1024 [1, 0] (hostV Cert.Reference22Ideal.Gen.bcast_S_S1024x770 (transpose Cert.Reference22Ideal.S1024x770 [1, 0] (extractStridedSlice Cert.Reference22Ideal.S770x1024 ![0, 0] (m ((c.tc : Thread nD τ).loc main_arg1)) Cert.Reference22Ideal.Gen.slices_S800x1024_S770x1024_0_0) Cert.Reference22Ideal.Gen.transposes_S770x1024_S1024x770_1_0) (m ((c.tc : Thread nD τ).loc main_arg3))) Cert.Reference22Ideal.Gen.transposes_S1024x770_S770x1024_1_0) := by
  refine (dats m 0 c).arrAt_eq_of_covers 7 _ (by decide +kernel) fun t hf y => ?_
  blk_simp
  rw [after0_7]
  idx_vars y
  have e : (((View.whole main_v3_3).slice (win0_7.rect t)).emb (ix2 y0 y1)) = ix2 y0 (col t y1) := by blk_ext [idx_val t]
  rw [e]
  refine (blk7_at _ _ _ _ y0 y1).trans (Eq.trans (b := newV ((m ((c.tc : Thread nD τ).loc main_arg1)) (ix2 (up y0) (col t y1))) ((m ((c.tc : Thread nD τ).loc main_arg3)) (ix2 (col t y1) y0))) ?_ ?_)
  · simp only [in1 m c t, in3 m c t]
  · pointwise [hostM, hostV, hostStep, step, newM, newV]

end Cert.Kernel22Ideal.AdamIn

namespace Cert.Proof.AdamIn

open Idealize.ShloMosaic Idealize.SL.Sem Cert.Adam

/-- The kernel and the reference leave equal arrays. -/
theorem algebraic : Cert.algebraic_Kernel22Ideal_Reference22Ideal := by
  intro m g m' g' hpre hagree
  refine ⟨fun c => (transpose Cert.Reference22Ideal.S770x1024 [1, 0] (transpose Cert.Reference22Ideal.S1024x770 [1, 0] (extractStridedSlice Cert.Reference22Ideal.S770x1024 ![0, 0] (m ((c.tc : Thread Cert.Kernel22Ideal.nD Cert.Kernel22Ideal.τ).loc Cert.Kernel22Ideal.main_arg1)) Cert.Reference22Ideal.Gen.slices_S800x1024_S770x1024_0_0) Cert.Reference22Ideal.Gen.transposes_S770x1024_S1024x770_1_0) Cert.Reference22Ideal.Gen.transposes_S1024x770_S770x1024_1_0), fun c => (transpose Cert.Reference22Ideal.S770x1024 [1, 0] (hostStep Cert.Reference22Ideal.Gen.bcast_S_S1024x770 (m ((c.tc : Thread Cert.Kernel22Ideal.nD Cert.Kernel22Ideal.τ).loc Cert.Kernel22Ideal.main_arg0)) (transpose Cert.Reference22Ideal.S1024x770 [1, 0] (extractStridedSlice Cert.Reference22Ideal.S770x1024 ![0, 0] (m ((c.tc : Thread Cert.Kernel22Ideal.nD Cert.Kernel22Ideal.τ).loc Cert.Kernel22Ideal.main_arg1)) Cert.Reference22Ideal.Gen.slices_S800x1024_S770x1024_0_0) Cert.Reference22Ideal.Gen.transposes_S770x1024_S1024x770_1_0) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))) Cert.Reference22Ideal.Gen.transposes_S1024x770_S770x1024_1_0), fun c => (transpose Cert.Reference22Ideal.S770x1024 [1, 0] (hostM Cert.Reference22Ideal.Gen.bcast_S_S1024x770 (transpose Cert.Reference22Ideal.S1024x770 [1, 0] (extractStridedSlice Cert.Reference22Ideal.S770x1024 ![0, 0] (m ((c.tc : Thread Cert.Kernel22Ideal.nD Cert.Kernel22Ideal.τ).loc Cert.Kernel22Ideal.main_arg1)) Cert.Reference22Ideal.Gen.slices_S800x1024_S770x1024_0_0) Cert.Reference22Ideal.Gen.transposes_S770x1024_S1024x770_1_0) (m ((c.tc : Thread Cert.Kernel22Ideal.nD Cert.Kernel22Ideal.τ).loc Cert.Kernel22Ideal.main_arg2))) Cert.Reference22Ideal.Gen.transposes_S1024x770_S770x1024_1_0), fun c => (transpose Cert.Reference22Ideal.S770x1024 [1, 0] (hostV Cert.Reference22Ideal.Gen.bcast_S_S1024x770 (transpose Cert.Reference22Ideal.S1024x770 [1, 0] (extractStridedSlice Cert.Reference22Ideal.S770x1024 ![0, 0] (m ((c.tc : Thread Cert.Kernel22Ideal.nD Cert.Kernel22Ideal.τ).loc Cert.Kernel22Ideal.main_arg1)) Cert.Reference22Ideal.Gen.slices_S800x1024_S770x1024_0_0) Cert.Reference22Ideal.Gen.transposes_S770x1024_S1024x770_1_0) (m ((c.tc : Thread Cert.Kernel22Ideal.nD Cert.Kernel22Ideal.τ).loc Cert.Kernel22Ideal.main_arg3))) Cert.Reference22Ideal.Gen.transposes_S1024x770_S770x1024_1_0),
    (θ_run _ _ _).mono (fun r h c => ?_) (Cert.Kernel22Ideal.Value.run_blocks m g),
    (θ_run _ _ _).mono (fun r h c => ?_) (Cert.Reference22Ideal.Value.run m' g')⟩
  · obtain ⟨h0, h1, h2, h3, h⟩ := h c
    exact ⟨h0.trans (Cert.Kernel22Ideal.AdamIn.final_4 m c), h1.trans (Cert.Kernel22Ideal.AdamIn.final_5 m c), h2.trans (Cert.Kernel22Ideal.AdamIn.final_6 m c), h3.trans (Cert.Kernel22Ideal.AdamIn.final_7 m c), h⟩
  · have h' := h c
    obtain ⟨a0, a1, a2, a3⟩ := hagree c
    rw [a0, a1, a2, a3] at h'
    rw [a0, a1, a2, a3]
    exact h'

/-- The reference leaves its arguments as they were. -/
theorem frame_r : Cert.quiescent_Reference22Ideal := fun m g _ =>
  (θ_run Cert.Reference22Ideal.defs _ _).mono (fun r h => ⟨fun c => (h c).2.2.2.2, sem_eq_zero_of_no_sems (by decide) r.2⟩) (Cert.Reference22Ideal.Value.run m g)

end Cert.Proof.AdamIn
-- ==== Proof.GradMath.lean ====
module

public import proofs.«01_k».proof.Proof.MemMath

@[expose] public section

noncomputable section

/-! The gradient of a row divided by its root mean square, in extended reals: the reference's form and the collected one. -/

namespace Cert.Grad

open Idealize.ShloMosaic

theorem bits_1024 : Ideal.ofBits .f32 0x44800000#32 = ((1024 : ℝ) : EReal) := by
  simp [Ideal.ofBits, Ideal.ieee]; norm_cast; norm_num

theorem bits_neg_half : Ideal.ofBits .f32 0xBF000000#32 = ((-1 / 2 : ℝ) : EReal) := by
  have h : ((-1 / 2 : ℝ) : EReal) = ((-(1 / 2) : ℝ) : EReal) := by norm_num
  rw [h]
  simp [Ideal.ofBits, Ideal.ieee]
  norm_cast
  norm_num

theorem bits_eps : ∃ e : ℝ, 0 < e ∧ Ideal.ofBits .f32 0x358637BD#32 = (e : EReal) := by
  refine ⟨(Ideal.ofBits .f32 0x358637BD#32).toReal, ?_, ?_⟩ <;> simp [Ideal.ofBits, Ideal.ieee] <;> norm_cast <;> norm_num

/-- Division by 1024. -/
theorem div_1024 (x : EReal) : Ideal.div x ((1024 : ℝ) : EReal) = x * ((1 / 1024 : ℝ) : EReal) := by
  have h : ((1024 : ℝ) : EReal) ≠ 0 := by norm_cast
  unfold Ideal.div
  rw [if_neg h, ← EReal.coe_inv]
  norm_num

/-- A square is not negative. -/
theorem square_nonneg (x : EReal) : 0 ≤ x * x := by
  induction x with
  | bot => simp
  | top => simp
  | coe r => rw [← EReal.coe_mul]; exact EReal.coe_nonneg.2 (mul_self_nonneg r)

/-- The mean of squares, with the small constant added. -/
def mean (s : EReal) : EReal := Ideal.div s (Ideal.ofBits .f32 0x44800000#32) + Ideal.ofBits .f32 0x358637BD#32

/-- One over the root mean square is a nonnegative real, and divided by the mean square it is that real's cube. -/
theorem root (s : EReal) (hs : 0 ≤ s) : ∃ r : ℝ, 0 ≤ r ∧ Ideal.rsqrt (mean s) = r ∧ Ideal.div (Ideal.rsqrt (mean s)) (mean s) = ((r * (r * r) : ℝ) : EReal) := by
  obtain ⟨e, he, h⟩ := bits_eps
  unfold mean
  rw [h, bits_1024, div_1024]
  induction s with
  | bot => simp at hs
  | top =>
    refine ⟨0, le_rfl, ?_⟩
    rw [EReal.top_mul_coe_of_pos (by norm_num), EReal.top_add_coe]
    have hr : Ideal.rsqrt ⊤ = ((0 : ℝ) : EReal) := rfl
    rw [hr]
    refine ⟨rfl, ?_⟩
    simp [Ideal.div]
  | coe q =>
    have hq : 0 ≤ q := EReal.coe_nonneg.1 hs
    rw [← EReal.coe_mul, ← EReal.coe_add]
    have ht : 0 < q * (1 / 1024) + e := by positivity
    generalize q * (1 / 1024) + e = t at ht
    have hr : Ideal.rsqrt (t : EReal) = (((Real.sqrt t)⁻¹ : ℝ) : EReal) := by
      show (if t < 0 then ⊥ else if t = 0 then ⊤ else (((Real.sqrt t)⁻¹ : ℝ) : EReal)) = _
      rw [if_neg (not_lt.2 ht.le), if_neg ht.ne']
    refine ⟨(Real.sqrt t)⁻¹, by positivity, hr, ?_⟩
    have hn : (t : EReal) ≠ 0 := by exact_mod_cast ht.ne'
    rw [hr]
    unfold Ideal.div
    rw [if_neg hn, ← EReal.coe_inv, ← EReal.coe_mul]
    rw [← mul_inv (Real.sqrt t) (Real.sqrt t), Real.mul_self_sqrt ht.le]

/-- Twice an extended real. -/
theorem add_self (y : EReal) : y + y = y * ((2 : ℝ) : EReal) := by
  induction y with
  | bot => rw [EReal.bot_mul_coe_of_pos (by norm_num)]; rfl
  | top => rw [EReal.top_mul_coe_of_pos (by norm_num)]; rfl
  | coe r => rw [← EReal.coe_add, ← EReal.coe_mul]; norm_num [mul_two]

/-- The two forms of the gradient of one entry: `s` the sum of squares, `x` the entry, `a` the incoming gradient times the
weight there, `S` the sum of such products against the row. -/
theorem entry {s : EReal} (hs : 0 ≤ s) {n : ℕ} (X A : Fin n → EReal) (x a : EReal) :
    Ideal.rsqrt (mean s) * (a - x * Ideal.rsqrt (mean s) * Ideal.div (∑ i, A i * (X i * Ideal.rsqrt (mean s))) (Ideal.ofBits .f32 0x44800000#32))
      = a * Ideal.rsqrt (mean s)
          + x * Ideal.div ((∑ i, X i * A i) * (Ideal.ofBits .f32 0xBF000000#32 * Ideal.div (Ideal.rsqrt (mean s)) (mean s))) (Ideal.ofBits .f32 0x44800000#32)
          + x * Ideal.div ((∑ i, X i * A i) * (Ideal.ofBits .f32 0xBF000000#32 * Ideal.div (Ideal.rsqrt (mean s)) (mean s))) (Ideal.ofBits .f32 0x44800000#32) := by
  obtain ⟨r, hr, h1, h2⟩ := root s hs
  rw [h2, h1, bits_1024, bits_neg_half, div_1024, div_1024]
  have hS : ∑ i, A i * (X i * (r : EReal)) = (r : EReal) * ∑ i, X i * A i := by
    rw [Soft.coe_mul_sum _ r hr]
    refine Finset.sum_congr rfl fun i _ => ?_
    rw [mul_comm (A i), mul_comm (X i), mul_assoc]
  rw [hS, add_assoc, add_self, sub_eq_add_neg, Soft.coe_mul_add hr, mul_comm a]
  congr 1
  generalize ∑ i, X i * A i = S
  have e1 : x * (S * (((-1 / 2 : ℝ) : EReal) * ((r * (r * r) : ℝ) : EReal)) * ((1 / 1024 : ℝ) : EReal)) * ((2 : ℝ) : EReal)
      = x * S * ((-(r * r * r * (1 / 1024)) : ℝ) : EReal) := by
    have : (-(r * r * r * (1 / 1024)) : ℝ) = ((-1 / 2) * (r * (r * r))) * (1 / 1024) * 2 := by ring
    rw [this]
    simp only [EReal.coe_mul, mul_assoc]
  rw [e1, EReal.coe_neg, mul_neg, mul_neg]
  congr 1
  simp only [EReal.coe_mul]
  ac_rfl

/-- A sum over `2 * n` indices, block by block. -/
theorem sum_two {M : Type*} [AddCommMonoid M] (n N : ℕ) (h : N = n + n) (f : Fin N → M) :
    ∑ i, f i = ∑ x : Fin n, f ⟨x, by omega⟩ + ∑ x : Fin n, f ⟨n + x, by omega⟩ := by
  subst h
  rw [Fin.sum_univ_add]
  rfl

end Cert.Grad
-- ==== Proof.GradX.lean ====
module

public import proofs.«01_k».proof.Defs
public import proofs.«01_k».proof.Proof.Gen.Kernel23Ideal.Value
public import proofs.«01_k».proof.Proof.Gen.Reference23Ideal.Run
public import proofs.«01_k».proof.Proof.GradMath
public import Idealize.ShloMosaic.Lib.WritesUnit
public import Idealize.ShloMosaic.Lib.Claim
public import Idealize.ShloMosaic.Lib.IdealHost
public import Idealize.ShloMosaic.Lib.Pipeline.ValueKit.Point

@[expose] public section

set_option maxRecDepth 16384

noncomputable section

/-! The gradient of the step's input and of its first norm's weight. -/

namespace Cert.Reference23Ideal.GradX

open Cert.Reference23Ideal Cert.Reference23Ideal.Gen Idealize.ShloMosaic Idealize.ShloMosaic.TcCoe Idealize.SL.Sem

section
variable (d x h : FVec Ideal S2048x1024 .f32) (g : FVec Ideal S1x1024 .f32)

/-- The mean square of each row, the small constant added. -/
def sq : FVec Ideal S2048x1 .f32 := addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

/-- What the root mean square's own gradient contributes, before the factor of the row. -/
def cor : FVec Ideal S2048x1024 .f32 := broadcastInDim S2048x1024 ![0] bcast_S2048_S2048x1024_0 (Host.reduceAdd (Host.divf (mulf (shapeCast _ (Host.reduceAdd (mulf x (mulf h (broadcastInDim S2048x1024 ![0, 1] bcast_S1x1024_S2048x1024_0_1 g))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (sq x)) (sq x)))) (broadcastInDim S2048x1 ![] bcast_S_S2048x1 (constant S_ .f32 0x44800000#32))) (constant S_ .f32 0x00000000#32) reducesTo_S2048x1_S2048_d1 h_S_)

/-- The reference's first result. -/
def outDx : FVec Ideal S2048x1024 .f32 := addf d (addf (addf (mulf (mulf h (broadcastInDim S2048x1024 ![0, 1] bcast_S1x1024_S2048x1024_0_1 g)) (broadcastInDim S2048x1024 ![0, 1] bcast_S2048x1_S2048x1024_0_1 (Host.rsqrt (sq x)))) (mulf x (cor x h g))) (mulf (cor x h g) x))

/-- The reference's second result. -/
def outDg : FVec Ideal S8x1024 .f32 := pad S8x1024 ![0, 0] ![7, 0] ![0, 0] (shapeCast _ (Host.reduceAdd (mulf (mulf x (broadcastInDim S2048x1024 ![0, 1] bcast_S2048x1_S2048x1024_0_1 (Host.rsqrt (sq x)))) h) (constant S_ .f32 0x00000000#32) reducesTo_S2048x1024_S1024_d0 h_S_) shapeCasts_S1024_S1x1024) (sitofp .f32 (constantI S_ 32 0#32)) pads_S1x1024_S8x1024_070_000 h_S_

/-- The sum of a row's squares. -/
def ss (r : Fin 2048) : EReal := ∑ i : Fin 1024, x (ix2 r i) * x (ix2 r i)

theorem sq_at (r : Fin 2048) : sq x (ix2 r 0) = Grad.mean (ss x r) := by
  pointwise [sq]
  rfl

theorem ss_nonneg (r : Fin 2048) : 0 ≤ ss x r := Finset.sum_nonneg fun _ _ => Grad.square_nonneg _

theorem cor_at (r : Fin 2048) (l : Fin 1024) : cor x h g (ix2 r l)
    = Ideal.div ((∑ i : Fin 1024, x (ix2 r i) * (h (ix2 r i) * g (ix2 0 i)))
        * (Ideal.ofBits .f32 0xBF000000#32 * Ideal.div (Ideal.rsqrt (Grad.mean (ss x r))) (Grad.mean (ss x r)))) (Ideal.ofBits .f32 0x44800000#32) := by
  have e : cor x h g (ix2 r l) = ∑ y : Fin 1, Ideal.div ((∑ i : Fin 1024, x (ix2 r i) * (h (ix2 r i) * g (ix2 0 i)))
        * (Ideal.ofBits .f32 0xBF000000#32 * Ideal.div (Ideal.rsqrt (sq x (ix2 r y))) (sq x (ix2 r y)))) (Ideal.ofBits .f32 0x44800000#32) := by
    pointwise [cor]
  rw [e, Fin.sum_univ_one, sq_at]

/-- One entry of the gradient of the input, collected. -/
def entryDx (r : Fin 2048) (l : Fin 1024) : EReal :=
  d (ix2 r l) + Ideal.rsqrt (Grad.mean (ss x r)) * (h (ix2 r l) * g (ix2 0 l) - x (ix2 r l) * Ideal.rsqrt (Grad.mean (ss x r))
    * Ideal.div (∑ i : Fin 1024, h (ix2 r i) * g (ix2 0 i) * (x (ix2 r i) * Ideal.rsqrt (Grad.mean (ss x r)))) (Ideal.ofBits .f32 0x44800000#32))

theorem outDx_at (r : Fin 2048) (l : Fin 1024) : outDx d x h g (ix2 r l) = entryDx d x h g r l := by
  have e : outDx d x h g (ix2 r l) = d (ix2 r l) + (h (ix2 r l) * g (ix2 0 l) * Ideal.rsqrt (sq x (ix2 r 0)) + x (ix2 r l) * cor x h g (ix2 r l)
      + cor x h g (ix2 r l) * x (ix2 r l)) := by
    pointwise [outDx]
  rw [e, mul_comm (cor x h g (ix2 r l)), cor_at, sq_at]
  unfold entryDx
  rw [Grad.entry (ss_nonneg x r) (fun i => x (ix2 r i)) (fun i => h (ix2 r i) * g (ix2 0 i)) (x (ix2 r l)) (h (ix2 r l) * g (ix2 0 l))]

/-- One term of the gradient of the weight. -/
def term (i : Fin 2048) (l : Fin 1024) : EReal := h (ix2 i l) * (x (ix2 i l) * Ideal.rsqrt (Grad.mean (ss x i)))

theorem outDg_at (r : Fin 8) (l : Fin 1024) : outDg x h (ix2 r l) = if r.val = 0 then ∑ i : Fin 2048, term x h i l else 0 := by
  have e : outDg x h (ix2 r l) = if h_1 : r.val < 1 then ∑ i : Fin 2048, x (ix2 i l) * Ideal.rsqrt (sq x (ix2 i 0)) * h (ix2 i l)
      else FloatOps.sitofp (F := Ideal) .f32 0#32 := by
    pointwise [outDg]
  rw [e]
  by_cases h0 : r.val = 0
  · rw [dif_pos (by omega), if_pos h0]
    refine Finset.sum_congr rfl fun i _ => ?_
    rw [sq_at, mul_comm, term]
  · rw [dif_neg (by omega), if_neg h0]
    simp [FloatOps.sitofp, FloatOps.scalar]
end

end Cert.Reference23Ideal.GradX

namespace Cert.Kernel23Ideal.GradX

open Cert.Kernel23Ideal Cert.Kernel23Ideal.Gen Cert.Kernel23Ideal.Value Idealize.ShloMosaic Idealize.ShloMosaic.TcCoe Idealize.SL.Sem
open Cert.Reference23Ideal.GradX (outDx outDx_at outDg outDg_at entryDx term ss)

section
variable (v0 v2 v28 : Vec Ideal S1024x1024 .f32) (v1 : Vec Ideal S1x1024 .f32) (r l : Fin 1024)

theorem pay1_at : k0_pay1 (F := Ideal) v0 (ix2 r 0) = Ideal.rsqrt (Grad.mean (∑ x : Fin 1024, v0 (ix2 r x) * v0 (ix2 r x))) := by
  pointwise [k0_pay1]
  rfl

theorem pay3_at : k0_pay3 (F := Ideal) v0 v1 v2 v28 (ix2 r l)
    = v28 (ix2 r l) + k0_pay1 v0 (ix2 r 0) * (v2 (ix2 r l) * v1 (ix2 0 l) - v0 (ix2 r l) * k0_pay1 v0 (ix2 r 0)
      * Ideal.div (∑ x : Fin 1024, v2 (ix2 r x) * v1 (ix2 0 x) * (v0 (ix2 r x) * k0_pay1 v0 (ix2 r 0))) (Ideal.ofBits .f32 0x44800000#32)) := by
  pointwise [k0_pay3, k0_pay2]

theorem pay5_at (w : Vec Ideal S1x1024 .f32) : k0_pay5 (F := Ideal) v0 v2 w (ix2 0 l)
    = w (ix2 0 l) + ∑ x : Fin 1024, v2 (ix2 x l) * (v0 (ix2 x l) * k0_pay1 v0 (ix2 x 0)) := by
  pointwise [k0_pay5, k0_pay2]

theorem pay4_at (y : S8x1024.Idx) : k0_pay4 (F := Ideal) y = 0 := by
  idx_vars y
  pointwise [k0_pay4]
end

variable (m : (ℓ : Loc nD τ sig) → Buf (Elt Ideal) ℓ) (g : Dev nD → PrngReg) (c : Dev nD)

/-- The row of the array a row of point `t`'s block is. -/
def row (t : Fin cfg0.N) (r : Fin 1024) : Fin 2048 := ⟨t.val * 1024 + r, by have : t.val < 2 := t.isLt; omega⟩

theorem idx_val : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0] :=
  (by decide +kernel : ∀ t : Fin grid0.N, _)

theorem in0 (t : Fin cfg0.N) (r l : Fin 1024) : iblk m c 0 t (ix2 r l) = m ((c.tc : Thread nD τ).loc main_arg0) (ix2 (row t r) l) := by
  blk_ext! [iblk, V, row, idx_val t]

theorem in1 (t : Fin cfg0.N) (r l : Fin 1024) : iblk m c 1 t (ix2 r l) = m ((c.tc : Thread nD τ).loc main_arg1) (ix2 (row t r) l) := by
  blk_ext! [iblk, V, row, idx_val t]

theorem in2 (t : Fin cfg0.N) (r l : Fin 1024) : iblk m c 2 t (ix2 r l) = m ((c.tc : Thread nD τ).loc main_arg2) (ix2 (row t r) l) := by
  blk_ext! [iblk, V, row, idx_val t]

theorem in3 (t : Fin cfg0.N) (l : Fin 1024) : iblk m c 3 t (ix2 (0 : Fin 1) l) = m ((c.tc : Thread nD τ).loc main_arg3) (ix2 0 l) := by
  blk_ext! [iblk, V, idx_val t]

/-- The first output's block at any point. -/
theorem first (t : Fin cfg0.N) : (outsAt0 m c t.val t.isLt).1 = k0_pay3 (F := Ideal) (iblk m c 1 t) (iblk m c 3 t) (iblk m c 2 t) (iblk m c 0 t) := by
  by_cases h0 : t.val % 2 = 0
  · rw [outsAt0_A m c t h0]
    frame_out
  · rw [outsAt0_B m c t h0]
    frame_out

theorem final_4 : (dats m 0 c).arrAt 4 (cfgs 0).N = outDx (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4, first]
  idx_vars y
  have e : (((View.whole main_v0_0).slice (win0_4.rect t)).emb (ix2 y0 y1)) = ix2 (row t y0) y1 := by blk_ext [row, idx_val t]
  rw [e]
  refine (pay3_at _ _ _ _ y0 y1).trans (Eq.trans ?_ (outDx_at ..).symm)
  simp only [pay1_at, in0 m c t, in1 m c t, in2 m c t, in3 m c t]
  rfl

/-- One block's share of the weight's gradient. -/
theorem share (t : Fin cfg0.N) (l : Fin 1024) (v0 v2 : Vec Ideal S1024x1024 .f32) (h0 : v0 = iblk m c 1 t) (h2 : v2 = iblk m c 2 t) :
    ∑ x : Fin 1024, v2 (ix2 x l) * (v0 (ix2 x l) * k0_pay1 (F := Ideal) v0 (ix2 x 0))
    = ∑ x : Fin 1024, term (m ((c.tc : Thread nD τ).loc main_arg1)) (m ((c.tc : Thread nD τ).loc main_arg2)) (row t x) l := by
  subst h0 h2
  simp only [pay1_at, in1 m c t, in2 m c t]
  rfl

/-- What the first point leaves of the second output. -/
theorem second_A (t : Fin cfg0.N) (h0 : t.val % 2 = 0) (y0 : Fin 8) (y1 : Fin 1024) : (outsAt0 m c t.val t.isLt).2 (ix2 y0 y1)
    = if y0.val = 0 then ∑ x : Fin 1024, term (m ((c.tc : Thread nD τ).loc main_arg1)) (m ((c.tc : Thread nD τ).loc main_arg2)) (row t x) y1 else 0 := by
  rw [outsAt0_A m c t h0]
  frame_out
  have inb : ∀ a : Fin 2, (![0, 0] : Fin 2 → ℕ) a + (![1, 1024] : Fin 2 → ℕ) a ≤ S8x1024.size a := by decide
  by_cases hy : y0.val = 0
  · obtain rfl : y0 = 0 := Fin.ext hy
    rw [if_pos hy]
    have e : (ix2 0 y1 : S8x1024.Idx) = (Rect.unit (s := S8x1024) ![0, 0] ![1, 1024] inb).emb (ix2 0 y1) := by blk_ext
    rw [e]
    refine (View.canon_cons_emb (Rect.unit (s := S8x1024) ![0, 0] ![1, 1024] inb) _ _ _).trans ?_
    refine (pay5_at _ _ y1 _).trans ?_
    rw [share m c t y1 _ _ rfl rfl, View.readCov_eq_canon']
    frame_out
    rw [pay4_at, zero_add]
  · rw [if_neg hy]
    refine (View.canon_cons_of_not_mem _ _ ?_).trans ?_
    · rw [Rect.mem_set_unit]
      intro h
      have := (h 0).2
      exact hy (by simpa using this)
    frame_out
    exact pay4_at _

/-- What the second point leaves of it. -/
theorem second_B (t : Fin cfg0.N) (h0 : ¬t.val % 2 = 0) (y0 : Fin 8) (y1 : Fin 1024) : (outsAt0 m c t.val t.isLt).2 (ix2 y0 y1)
    = (outsAt0 m c (t.val - 1) (Nat.lt_of_le_of_lt (Nat.sub_le _ _) t.isLt)).2 (ix2 y0 y1)
      + if y0.val = 0 then ∑ x : Fin 1024, term (m ((c.tc : Thread nD τ).loc main_arg1)) (m ((c.tc : Thread nD τ).loc main_arg2)) (row t x) y1 else 0 := by
  rw [outsAt0_B m c t h0]
  frame_out
  have inb : ∀ a : Fin 2, (![0, 0] : Fin 2 → ℕ) a + (![1, 1024] : Fin 2 → ℕ) a ≤ S8x1024.size a := by decide
  by_cases hy : y0.val = 0
  · obtain rfl : y0 = 0 := Fin.ext hy
    rw [if_pos hy]
    have e : (ix2 0 y1 : S8x1024.Idx) = (Rect.unit (s := S8x1024) ![0, 0] ![1, 1024] inb).emb (ix2 0 y1) := by blk_ext
    refine (congrArg _ e).trans ?_
    refine (View.read_writes_cons_emb _ _ (Rect.unit (s := S8x1024) ![0, 0] ![1, 1024] inb) _ _ _).trans ?_
    refine (pay5_at _ _ y1 _).trans ?_
    rw [share m c t y1 _ _ rfl rfl]
    refine congrArg (· + _) (congrArg _ e.symm)
  · rw [if_neg hy, add_zero]
    rw [View.writes_cons, View.read_slice_write_of_not_mem]
    · exact congrFun (Memref.IsWhole.read_unread _ _) _
    · rw [Rect.map_emb_univ, Rect.mem_set_unit]
      intro h
      have := (h 0).2
      exact hy (by simpa using this)

theorem final_5 : (dats m 0 c).arrAt 5 (cfgs 0).N = outDg (m ((c.tc : Thread nD τ).loc main_arg1)) (m ((c.tc : Thread nD τ).loc main_arg2)) := by
  refine (dats m 0 c).arrAt_eq_of_covers 5 _ (by decide +kernel) fun t hf y => ?_
  have ht : t.val = 1 := (by decide +kernel : ∀ t : Fin grid0.N, win0_5.flush t = true → t.val = 1) t hf
  blk_simp
  rw [after0_5]
  idx_vars y
  have e : (((View.whole main_v0_1).slice (win0_5.rect t)).emb (ix2 y0 y1)) = ix2 y0 y1 := by blk_ext [idx_val t]
  rw [e, second_B m c t (by omega) y0 y1]
  refine Eq.trans ?_ (outDg_at ..).symm
  obtain rfl : t = ⟨1, by decide⟩ := Fin.ext ht
  rw [show outsAt0 m c ((⟨1, by decide⟩ : Fin cfg0.N).val - 1) _ = outsAt0 m c (⟨0, by decide⟩ : Fin cfg0.N).val (by decide) from rfl, second_A m c ⟨0, by decide⟩ rfl y0 y1]
  split
  · rw [Grad.sum_two 1024 2048 rfl]
    refine congrArg₂ (· + ·) (Finset.sum_congr rfl fun x _ => congrArg (fun i => term _ _ i y1) (Fin.ext ?_)) (Finset.sum_congr rfl fun x _ => congrArg (fun i => term _ _ i y1) (Fin.ext ?_))
    · show 0 * 1024 + x.val = x.val
      omega
    · show 1 * 1024 + x.val = 1024 + x.val
      omega
  · rw [add_zero]

end Cert.Kernel23Ideal.GradX

namespace Cert.Proof.GradX

open Idealize.ShloMosaic Idealize.SL.Sem
open Cert.Reference23Ideal.GradX (outDx outDg)

/-- The kernel and the reference leave equal arrays. -/
theorem algebraic : Cert.algebraic_Kernel23Ideal_Reference23Ideal := by
  intro m g m' g' hpre hagree
  refine ⟨fun c => outDx (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)), fun c => outDg (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)),
    (θ_run _ _ _).mono (fun r h c => ?_) (Cert.Kernel23Ideal.Value.run_blocks m g),
    (θ_run _ _ _).mono (fun r h c => ?_) (Cert.Reference23Ideal.Value.run m' g')⟩
  · obtain ⟨h0, h1, h⟩ := h c
    exact ⟨h0.trans (Cert.Kernel23Ideal.GradX.final_4 m c), h1.trans (Cert.Kernel23Ideal.GradX.final_5 m c), h⟩
  · have h' := h c
    obtain ⟨a0, a1, a2, a3⟩ := hagree c
    rw [a0, a1, a2, a3] at h'
    rw [a0, a1, a2, a3]
    exact h'

/-- The reference leaves its arguments as they were. -/
theorem frame_r : Cert.quiescent_Reference23Ideal := fun m g _ =>
  (θ_run Cert.Reference23Ideal.defs _ _).mono (fun r h => ⟨fun c => (h c).2.2, sem_eq_zero_of_no_sems (by decide) r.2⟩) (Cert.Reference23Ideal.Value.run m g)

end Cert.Proof.GradX
-- ==== Proof.Norm.lean ====
module

public import proofs.«01_k».proof.Defs
public import proofs.«01_k».proof.Proof.Gen.Kernel26Ideal.Value
public import proofs.«01_k».proof.Proof.Gen.Reference26Ideal.Run
public import proofs.«01_k».proof.Proof.GradMath
public import Idealize.ShloMosaic.Lib.Claim
public import Idealize.ShloMosaic.Lib.IdealHost
public import Idealize.ShloMosaic.Lib.Pipeline.ValueKit.Point

@[expose] public section

set_option maxRecDepth 16384

noncomputable section

/-! The norm of the memory's rows. -/

namespace Cert.Norm

open Idealize.ShloMosaic

/-- Entry `l` of a row divided by its root mean square, times the weight there. -/
def entry (X : Fin 1024 → EReal) (l : Fin 1024) (g : EReal) : EReal := X l * Ideal.rsqrt (Grad.mean (∑ i, X i * X i)) * g

end Cert.Norm

namespace Cert.Reference26Ideal.Norm

open Cert.Reference26Ideal Cert.Reference26Ideal.Gen Idealize.ShloMosaic Idealize.ShloMosaic.TcCoe

/-- The reference's result. -/
def out (x : FVec Ideal S256x1024 .f32) (g : FVec Ideal S1x1024 .f32) : FVec Ideal S256x1024 .bf16 := truncf .bf16 (mulf (mulf x (broadcastInDim S256x1024 ![0, 1] bcast_S256x1_S256x1024_0_1 (Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 g)) bitsLt_bf16_f32

theorem out_at (x : FVec Ideal S256x1024 .f32) (g : FVec Ideal S1x1024 .f32) (r : Fin 256) (l : Fin 1024) :
    out x g (ix2 r l) = Cert.Norm.entry (fun i => x (ix2 r i)) l (g (ix2 0 l)) := by
  pointwise [out]
  rfl

end Cert.Reference26Ideal.Norm

namespace Cert.Kernel26Ideal.Norm

open Cert.Kernel26Ideal Cert.Kernel26Ideal.Gen Cert.Kernel26Ideal.Value Idealize.ShloMosaic Idealize.ShloMosaic.TcCoe
open Cert.Reference26Ideal.Norm (out out_at)

theorem pay_at (x : Vec Ideal S256x1024 .f32) (g : Vec Ideal S1x1024 .f32) (r : Fin 256) (l : Fin 1024) :
    k0_pay1 (F := Ideal) x g (ix2 r l) = Cert.Norm.entry (fun i => x (ix2 r i)) l (g (ix2 0 l)) := by
  pointwise [k0_pay1]
  rfl

theorem same (x : Vec Ideal S256x1024 .f32) (g : Vec Ideal S1x1024 .f32) : G2 (F := Ideal) x g = out x g := by
  funext y
  idx_vars y
  exact (pay_at x g y0 y1).trans (out_at x g y0 y1).symm

end Cert.Kernel26Ideal.Norm

namespace Cert.Proof.Norm

open Idealize.ShloMosaic Idealize.SL.Sem
open Cert.Reference26Ideal.Norm (out)

/-- The kernel and the reference leave equal arrays. -/
theorem algebraic : Cert.algebraic_Kernel26Ideal_Reference26Ideal := by
  intro m g m' g' hpre hagree
  refine ⟨fun c => out (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)),
    (θ_run _ _ _).mono (fun r h c => ?_) (Cert.Kernel26Ideal.Value.run m g),
    (θ_run _ _ _).mono (fun r h c => ?_) (Cert.Reference26Ideal.Value.run m' g')⟩
  · obtain ⟨h0, h⟩ := h c
    exact ⟨h0.trans (Cert.Kernel26Ideal.Norm.same _ _), h⟩
  · have h' := h c
    obtain ⟨a0, a1⟩ := hagree c
    rw [a0, a1] at h'
    rw [a0, a1]
    exact h'

/-- The reference leaves its arguments as they were. -/
theorem frame_r : Cert.quiescent_Reference26Ideal := fun m g _ =>
  (θ_run Cert.Reference26Ideal.defs _ _).mono (fun r h => ⟨fun c => (h c).2, sem_eq_zero_of_no_sems (by decide) r.2⟩) (Cert.Reference26Ideal.Value.run m g)

end Cert.Proof.Norm
-- ==== Proof.Post.lean ====
module

public import proofs.«01_k».proof.Defs
public import proofs.«01_k».proof.Proof.Gen.Kernel27Ideal.Value
public import proofs.«01_k».proof.Proof.Gen.Reference27Ideal.Run
public import proofs.«01_k».proof.Proof.Norm
public import Idealize.ShloMosaic.Lib.Claim
public import Idealize.ShloMosaic.Lib.IdealHost
public import Idealize.ShloMosaic.Lib.Pipeline.ValueKit.Point

@[expose] public section

set_option maxRecDepth 16384

noncomputable section

/-! A sublayer's result normed and added to its input, and the norm of that. -/

namespace Cert.Reference27Ideal.Post

open Cert.Reference27Ideal Cert.Reference27Ideal.Gen Idealize.ShloMosaic Idealize.ShloMosaic.TcCoe

section
variable (x z : FVec Ideal S2048x1024 .f32) (g h : FVec Ideal S1x1024 .f32) (r : Fin 2048) (l : Fin 1024)

/-- The reference's first result. -/
def outY : FVec Ideal S2048x1024 .f32 := addf x (mulf (mulf z (broadcastInDim S2048x1024 ![0, 1] bcast_S2048x1_S2048x1024_0_1 (Host.rsqrt (addf (Host.divf (broadcastInDim S2048x1 ![0] bcast_S2048_S2048x1_0 (Host.reduceAdd (mulf z z) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 g))

/-- The norm the second result is. -/
def outN (y : FVec Ideal S2048x1024 .f32) : FVec Ideal S2048x1024 .bf16 := truncf .bf16 (mulf (mulf y (broadcastInDim S2048x1024 ![0, 1] bcast_S2048x1_S2048x1024_0_1 (Host.rsqrt (addf (Host.divf (broadcastInDim S2048x1 ![0] bcast_S2048_S2048x1_0 (Host.reduceAdd (mulf y y) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 h)) bitsLt_bf16_f32

/-- One entry of the first result. -/
def entryY : EReal := x (ix2 r l) + Cert.Norm.entry (fun i => z (ix2 r i)) l (g (ix2 0 l))

theorem outY_at : outY x z g (ix2 r l) = entryY x z g r l := by
  pointwise [outY]
  rfl

theorem outN_at (y : FVec Ideal S2048x1024 .f32) : outN h y (ix2 r l) = Cert.Norm.entry (fun i => y (ix2 r i)) l (h (ix2 0 l)) := by
  pointwise [outN]
  rfl
end

end Cert.Reference27Ideal.Post

namespace Cert.Kernel27Ideal.Post

open Cert.Kernel27Ideal Cert.Kernel27Ideal.Gen Cert.Kernel27Ideal.Value Idealize.ShloMosaic Idealize.ShloMosaic.TcCoe Idealize.SL.Sem
open Cert.Reference27Ideal.Post (outY outY_at outN outN_at entryY)

section
variable (x z : Vec Ideal S1024x1024 .f32) (g h : Vec Ideal S1x1024 .f32) (r l : Fin 1024)

theorem pay1_at : k0_pay1 (F := Ideal) x z g (ix2 r l) = x (ix2 r l) + Cert.Norm.entry (fun i => z (ix2 r i)) l (g (ix2 0 l)) := by
  pointwise [k0_pay1]
  rfl

theorem pay2_at : k0_pay2 (F := Ideal) x z g h (ix2 r l) = Cert.Norm.entry (fun i => k0_pay1 (F := Ideal) x z g (ix2 r i)) l (h (ix2 0 l)) := by
  pointwise [k0_pay2]
  rfl
end

variable (m : (ℓ : Loc nD τ sig) → Buf (Elt Ideal) ℓ) (c : Dev nD)

/-- The row of the array a row of point `t`'s block is. -/
def row (t : Fin cfg0.N) (r : Fin 1024) : Fin 2048 := ⟨t.val * 1024 + r, by have : t.val < 2 := t.isLt; omega⟩

theorem idx_val : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, _)

theorem in0 (t : Fin cfg0.N) (r l : Fin 1024) : iblk m c 0 t (ix2 r l) = m ((c.tc : Thread nD τ).loc main_arg0) (ix2 (row t r) l) := by
  blk_ext! [iblk, V, row, idx_val t]

theorem in1 (t : Fin cfg0.N) (r l : Fin 1024) : iblk m c 1 t (ix2 r l) = m ((c.tc : Thread nD τ).loc main_arg1) (ix2 (row t r) l) := by
  blk_ext! [iblk, V, row, idx_val t]

theorem in2 (t : Fin cfg0.N) (l : Fin 1024) : iblk m c 2 t (ix2 (0 : Fin 1) l) = m ((c.tc : Thread nD τ).loc main_arg2) (ix2 0 l) := by
  blk_ext! [iblk, V, idx_val t]

theorem in3 (t : Fin cfg0.N) (l : Fin 1024) : iblk m c 3 t (ix2 (0 : Fin 1) l) = m ((c.tc : Thread nD τ).loc main_arg3) (ix2 0 l) := by
  blk_ext! [iblk, V, idx_val t]

/-- The sum at a point, in terms of the arrays. -/
theorem sum_at (t : Fin cfg0.N) (r l : Fin 1024) : k0_pay1 (F := Ideal) (iblk m c 0 t) (iblk m c 1 t) (iblk m c 2 t) (ix2 r l)
    = outY (m ((c.tc : Thread nD τ).loc main_arg0)) (m ((c.tc : Thread nD τ).loc main_arg1)) (m ((c.tc : Thread nD τ).loc main_arg2)) (ix2 (row t r) l) := by
  refine (pay1_at _ _ _ r l).trans (Eq.trans ?_ (outY_at ..).symm)
  unfold entryY
  simp only [in0 m c t, in1 m c t, in2 m c t]

theorem final_4 : (dats m 0 c).arrAt 4 (cfgs 0).N = outY (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  idx_vars y
  have e : (((View.whole main_v0_0).slice (win0_4.rect t)).emb (ix2 y0 y1)) = ix2 (row t y0) y1 := by blk_ext [row, idx_val t]
  rw [e]
  frame_out
  exact sum_at m c t y0 y1

theorem final_5 : (dats m 0 c).arrAt 5 (cfgs 0).N = outN (m ((c.tc : Thread nD τ).loc main_arg3)) (outY (m ((c.tc : Thread nD τ).loc main_arg0)) (m ((c.tc : Thread nD τ).loc main_arg1)) (m ((c.tc : Thread nD τ).loc main_arg2))) := by
  refine (dats m 0 c).arrAt_eq_of_covers 5 _ (by decide +kernel) fun t hf y => ?_
  blk_simp
  rw [after0_5]
  idx_vars y
  have e : (((View.whole main_v0_1).slice (win0_5.rect t)).emb (ix2 y0 y1)) = ix2 (row t y0) y1 := by blk_ext [row, idx_val t]
  rw [e]
  frame_out
  refine (pay2_at _ _ _ _ y0 y1).trans (Eq.trans ?_ (outN_at ..).symm)
  rw [in3 m c t]
  exact congrArg (fun X => Cert.Norm.entry X y1 _) (funext fun i => sum_at m c t y0 i)

end Cert.Kernel27Ideal.Post

namespace Cert.Proof.Post

open Idealize.ShloMosaic Idealize.SL.Sem
open Cert.Reference27Ideal.Post (outY outN)

/-- The kernel and the reference leave equal arrays. -/
theorem algebraic : Cert.algebraic_Kernel27Ideal_Reference27Ideal := by
  intro m g m' g' hpre hagree
  refine ⟨fun c => outY (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)),
    fun c => outN (m ((c.tc : Thread Cert.Kernel27Ideal.nD Cert.Kernel27Ideal.τ).loc Cert.Kernel27Ideal.main_arg3)) (outY (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2))),
    (θ_run _ _ _).mono (fun r h c => ?_) (Cert.Kernel27Ideal.Value.run_blocks m g),
    (θ_run _ _ _).mono (fun r h c => ?_) (Cert.Reference27Ideal.Value.run m' g')⟩
  · obtain ⟨h0, h1, h⟩ := h c
    exact ⟨h0.trans (Cert.Kernel27Ideal.Post.final_4 m c), h1.trans (Cert.Kernel27Ideal.Post.final_5 m c), h⟩
  · have h' := h c
    obtain ⟨a0, a1, a2, a3⟩ := hagree c
    rw [a0, a1, a2, a3] at h'
    rw [a0, a1, a2, a3]
    exact h'

/-- The reference leaves its arguments as they were. -/
theorem frame_r : Cert.quiescent_Reference27Ideal := fun m g _ =>
  (θ_run Cert.Reference27Ideal.defs _ _).mono (fun r h => ⟨fun c => (h c).2.2, sem_eq_zero_of_no_sems (by decide) r.2⟩) (Cert.Reference27Ideal.Value.run m g)

end Cert.Proof.Post
-- ==== Proof.lean ====
module

public import proofs.«01_k».proof.Proof.AdamSmall
public import proofs.«01_k».proof.Proof.OptSmall
public import proofs.«01_k».proof.Proof.AdamLate
public import proofs.«01_k».proof.Proof.OptLate
public import proofs.«01_k».proof.Defs
public import proofs.«01_k».proof.Proof.Gen.Kernel
public import proofs.«01_k».proof.Proof.Gen.Kernel.Skeleton

public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton

public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.MemValue
public import proofs.«01_k».proof.Proof.MemRes
public import proofs.«01_k».proof.Proof.MemFinite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Ff1
public import proofs.«01_k».proof.Proof.Ff2
public import proofs.«01_k».proof.Proof.Dff2
public import proofs.«01_k».proof.Proof.Du
public import proofs.«01_k».proof.Proof.Dff1
public import proofs.«01_k».proof.Proof.Dh3
public import proofs.«01_k».proof.Proof.Proj
public import proofs.«01_k».proof.Proof.Gate
public import proofs.«01_k».proof.Proof.OutProj
public import proofs.«01_k».proof.Proof.Mq
public import proofs.«01_k».proof.Proof.Mk
public import proofs.«01_k».proof.Proof.Dmo
public import proofs.«01_k».proof.Proof.Do2
public import proofs.«01_k».proof.Proof.Dh2
public import proofs.«01_k».proof.Proof.Dmk
public import proofs.«01_k».proof.Proof.Dmemk
public import proofs.«01_k».proof.Proof.Dwin
public import proofs.«01_k».proof.Proof.Dh1
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.MemFwd
public import proofs.«01_k».proof.Proof.AdamFf
public import proofs.«01_k».proof.Proof.AdamIn
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.GradX
public import proofs.«01_k».proof.Proof.Norm
public import proofs.«01_k».proof.Proof.Post
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The gradient of the memory attention: the kernel and the reference leave equal arrays. -/
theorem mem_algebraic : Cert.algebraic_KernelIdeal_ReferenceIdeal_pre_finite := by
  intro m g m' g' hpre hagree
  refine ⟨fun c => Cert.ReferenceIdeal.Mem.outQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Mem.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.ReferenceIdeal.Mem.outV (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    (θ_run _ _ _).mono (fun r h c => ?_) (Cert.KernelIdeal.Value.run_blocks m g),
    (θ_run _ _ _).mono (fun r h c => ?_) (Cert.ReferenceIdeal.Mem.run m' g')⟩
  · have hq := Cert.Pre_finite.Mem.real_q _ _ _ _ (hpre c)
    have hk := Cert.Pre_finite.Mem.real_k _ _ _ _ (hpre c)
    obtain ⟨h4, h5, h6, h⟩ := h c
    exact ⟨h4.trans (Cert.KernelIdeal.Value.final_4 m c hq hk), h5.trans (Cert.KernelIdeal.Value.final_5 m c hq hk),
      h6.trans (Cert.KernelIdeal.Value.final_6 m c), h⟩
  · have := h c
    rw [(hagree c).1, (hagree c).2.1, (hagree c).2.2.1, (hagree c).2.2.2] at this
    rw [(hagree c).1, (hagree c).2.1, (hagree c).2.2.1, (hagree c).2.2.2]
    exact this

theorem frame_r : Cert.quiescent_ReferenceIdeal := fun m g _ =>
  (θ_run Cert.ReferenceIdeal.defs _ _).mono (fun r h => ⟨fun c => (h c).2.2.2, sem_eq_zero_of_no_sems (by decide) r.2⟩) (Cert.ReferenceIdeal.Mem.run m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_r,
  fun m g _ => frame_r m g trivial,
  fun m ρ _ => Cert.Kernel2.Gen.frame m ρ,
  fun m ρ _ => Cert.Kernel2Ideal.Gen.frame m ρ,
  Cert.Proof.Ff1.frame_r,
  fun m ρ _ => Cert.Kernel3.Gen.frame m ρ,
  fun m ρ _ => Cert.Kernel3Ideal.Gen.frame m ρ,
  Cert.Proof.Ff2.frame_r,
  fun m ρ _ => Cert.Kernel4.Gen.frame m ρ,
  fun m ρ _ => Cert.Kernel4Ideal.Gen.frame m ρ,
  Cert.Proof.Dff2.frame_r,
  fun m ρ _ => Cert.Kernel5.Gen.frame m ρ,
  fun m ρ _ => Cert.Kernel5Ideal.Gen.frame m ρ,
  Cert.Proof.Du.frame_r,
  fun m ρ _ => Cert.Kernel6.Gen.frame m ρ,
  fun m ρ _ => Cert.Kernel6Ideal.Gen.frame m ρ,
  Cert.Proof.Dff1.frame_r,
  fun m ρ _ => Cert.Kernel7.Gen.frame m ρ,
  fun m ρ _ => Cert.Kernel7Ideal.Gen.frame m ρ,
  Cert.Proof.Dh3.frame_r,
  fun m ρ _ => Cert.Kernel8.Gen.frame m ρ,
  fun m ρ _ => Cert.Kernel8Ideal.Gen.frame m ρ,
  Cert.Proof.Proj.frame_r,
  fun m ρ _ => Cert.Kernel9.Gen.frame m ρ,
  fun m ρ _ => Cert.Kernel9Ideal.Gen.frame m ρ,
  Cert.Proof.Gate.frame_r,
  fun m ρ _ => Cert.Kernel10.Gen.frame m ρ,
  fun m ρ _ => Cert.Kernel10Ideal.Gen.frame m ρ,
  Cert.Proof.OutProj.frame_r,
  fun m ρ _ => Cert.Kernel11.Gen.frame m ρ,
  fun m ρ _ => Cert.Kernel11Ideal.Gen.frame m ρ,
  Cert.Proof.Mq.frame_r,
  fun m ρ _ => Cert.Kernel12.Gen.frame m ρ,
  fun m ρ _ => Cert.Kernel12Ideal.Gen.frame m ρ,
  Cert.Proof.Mk.frame_r,
  fun m ρ _ => Cert.Kernel13.Gen.frame m ρ,
  fun m ρ _ => Cert.Kernel13Ideal.Gen.frame m ρ,
  Cert.Proof.Dmo.frame_r,
  fun m ρ _ => Cert.Kernel14.Gen.frame m ρ,
  fun m ρ _ => Cert.Kernel14Ideal.Gen.frame m ρ,
  Cert.Proof.Do2.frame_r,
  fun m ρ _ => Cert.Kernel15.Gen.frame m ρ,
  fun m ρ _ => Cert.Kernel15Ideal.Gen.frame m ρ,
  Cert.Proof.Dh2.frame_r,
  fun m ρ _ => Cert.Kernel16.Gen.frame m ρ,
  fun m ρ _ => Cert.Kernel16Ideal.Gen.frame m ρ,
  Cert.Proof.Dmk.frame_r,
  fun m ρ _ => Cert.Kernel17.Gen.frame m ρ,
  fun m ρ _ => Cert.Kernel17Ideal.Gen.frame m ρ,
  Cert.Proof.Dmemk.frame_r,
  fun m ρ _ => Cert.Kernel18.Gen.frame m ρ,
  fun m ρ _ => Cert.Kernel18Ideal.Gen.frame m ρ,
  Cert.Proof.Dwin.frame_r,
  fun m ρ _ => Cert.Kernel19.Gen.frame m ρ,
  fun m ρ _ => Cert.Kernel19Ideal.Gen.frame m ρ,
  Cert.Proof.Dh1.frame_r,
  fun m ρ _ => Cert.Kernel20.Gen.frame m ρ,
  fun m ρ _ => Cert.Kernel20Ideal.Gen.frame m ρ,
  Cert.Proof.MemFwd.frame_r,
  fun m ρ _ => Cert.Kernel21.Gen.frame m ρ,
  fun m ρ _ => Cert.Kernel21Ideal.Gen.frame m ρ,
  Cert.Proof.AdamFf.frame_r,
  fun m ρ _ => Cert.Kernel22.Gen.frame m ρ,
  fun m ρ _ => Cert.Kernel22Ideal.Gen.frame m ρ,
  Cert.Proof.AdamIn.frame_r,
  fun m ρ _ => Cert.Kernel23.Gen.frame m ρ,
  fun m ρ _ => Cert.Kernel23Ideal.Gen.frame m ρ,
  Cert.Proof.GradX.frame_r,
  fun m ρ _ => Cert.Kernel24.Opt.kept m ρ,
  fun m ρ _ => Cert.Kernel24Ideal.Opt.kept m ρ,
  Cert.Proof.AdamLate.frame_r,
  fun m ρ _ => Cert.Kernel25.Opt.kept m ρ,
  fun m ρ _ => Cert.Kernel25Ideal.Opt.kept m ρ,
  Cert.Proof.AdamSmall.frame_r,
  fun m ρ _ => Cert.Kernel26.Gen.frame m ρ,
  fun m ρ _ => Cert.Kernel26Ideal.Gen.frame m ρ,
  Cert.Proof.Norm.frame_r,
  fun m ρ _ => Cert.Kernel27.Gen.frame m ρ,
  fun m ρ _ => Cert.Kernel27Ideal.Gen.frame m ρ,
  Cert.Proof.Post.frame_r,
  trivial,
  mem_algebraic,
  trivial,
  Cert.Proof.Ff1.algebraic,
  trivial,
  Cert.Proof.Ff2.algebraic,
  trivial,
  Cert.Proof.Dff2.algebraic,
  trivial,
  Cert.Proof.Du.algebraic,
  trivial,
  Cert.Proof.Dff1.algebraic,
  trivial,
  Cert.Proof.Dh3.algebraic,
  trivial,
  Cert.Proof.Proj.algebraic,
  trivial,
  Cert.Proof.Gate.algebraic,
  trivial,
  Cert.Proof.OutProj.algebraic,
  trivial,
  Cert.Proof.Mq.algebraic,
  trivial,
  Cert.Proof.Mk.algebraic,
  trivial,
  Cert.Proof.Dmo.algebraic,
  trivial,
  Cert.Proof.Do2.algebraic,
  trivial,
  Cert.Proof.Dh2.algebraic,
  trivial,
  Cert.Proof.Dmk.algebraic,
  trivial,
  Cert.Proof.Dmemk.algebraic,
  trivial,
  Cert.Proof.Dwin.algebraic,
  trivial,
  Cert.Proof.Dh1.algebraic,
  trivial,
  Cert.Proof.MemFwd.algebraic,
  trivial,
  Cert.Proof.AdamFf.algebraic,
  trivial,
  Cert.Proof.AdamIn.algebraic,
  trivial,
  Cert.Proof.GradX.algebraic,
  trivial,
  Cert.Proof.AdamLate.algebraic,
  trivial,
  Cert.Proof.AdamSmall.algebraic,
  trivial,
  Cert.Proof.Norm.algebraic,
  trivial,
  Cert.Proof.Post.algebraic⟩

end Cert.Proof

end
